-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_swiglu [hPre_finite_swiglu : Cert.Pre_finite_swiglu.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))) = (fun _ => 1#1)

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluReferenceIdeal_finite_swiglu [hPre_finite_swiglu : Cert.Pre_finite_swiglu.Facts] (m : (ℓ : Loc Cert.SwigluReferenceIdeal.nD Cert.SwigluReferenceIdeal.τ Cert.SwigluReferenceIdeal.sig) → Buf (Elt Ideal) ℓ) : Prop :=
  ∀ c : Dev Cert.SwigluReferenceIdeal.nD,
    (Cert.Pre_finite_swiglu.fn (F := Ideal) (m ((c.tc : Thread Cert.SwigluReferenceIdeal.nD Cert.SwigluReferenceIdeal.τ).loc Cert.SwigluReferenceIdeal.main_arg0)) (m ((c.tc : Thread Cert.SwigluReferenceIdeal.nD Cert.SwigluReferenceIdeal.τ).loc Cert.SwigluReferenceIdeal.main_arg1)) (m ((c.tc : Thread Cert.SwigluReferenceIdeal.nD Cert.SwigluReferenceIdeal.τ).loc Cert.SwigluReferenceIdeal.main_arg2))) = (fun _ => 1#1)

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_HiddenGrad (m : (ℓ : Loc Cert.HiddenGrad.nD Cert.HiddenGrad.τ Cert.HiddenGrad.sig) → Buf (Elt Bits) ℓ) : Prop :=
  True

def Pre_HiddenGradIdeal (m : (ℓ : Loc Cert.HiddenGradIdeal.nD Cert.HiddenGradIdeal.τ Cert.HiddenGradIdeal.sig) → Buf (Elt Ideal) ℓ) : Prop :=
  True

def Pre_HiddenGradReferenceIdeal (m : (ℓ : Loc Cert.HiddenGradReferenceIdeal.nD Cert.HiddenGradReferenceIdeal.τ Cert.HiddenGradReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaReferenceIdeal (m : (ℓ : Loc Cert.GlaReferenceIdeal.nD Cert.GlaReferenceIdeal.τ Cert.GlaReferenceIdeal.sig) → Buf (Elt Ideal) ℓ) : Prop :=
  True

def Pre_MemForward (m : (ℓ : Loc Cert.MemForward.nD Cert.MemForward.τ Cert.MemForward.sig) → Buf (Elt Bits) ℓ) : Prop :=
  True

def Pre_MemForwardIdeal (m : (ℓ : Loc Cert.MemForwardIdeal.nD Cert.MemForwardIdeal.τ Cert.MemForwardIdeal.sig) → Buf (Elt Ideal) ℓ) : Prop :=
  True

def Pre_MemForwardIdeal_finite_mem [hPre_finite_mem : Cert.Pre_finite_mem.Facts] (m : (ℓ : Loc Cert.MemForwardIdeal.nD Cert.MemForwardIdeal.τ Cert.MemForwardIdeal.sig) → Buf (Elt Ideal) ℓ) : Prop :=
  ∀ c : Dev Cert.MemForwardIdeal.nD,
    (Cert.Pre_finite_mem.fn (F := Ideal) (m ((c.tc : Thread Cert.MemForwardIdeal.nD Cert.MemForwardIdeal.τ).loc Cert.MemForwardIdeal.main_arg0)) (m ((c.tc : Thread Cert.MemForwardIdeal.nD Cert.MemForwardIdeal.τ).loc Cert.MemForwardIdeal.main_arg1)) (m ((c.tc : Thread Cert.MemForwardIdeal.nD Cert.MemForwardIdeal.τ).loc Cert.MemForwardIdeal.main_arg2))) = (fun _ => 1#1)

def Pre_MemForwardReferenceIdeal (m : (ℓ : Loc Cert.MemForwardReferenceIdeal.nD Cert.MemForwardReferenceIdeal.τ Cert.MemForwardReferenceIdeal.sig) → Buf (Elt Ideal) ℓ) : Prop :=
  True

def Pre_MemForwardReferenceIdeal_finite_mem [hPre_finite_mem : Cert.Pre_finite_mem.Facts] (m : (ℓ : Loc Cert.MemForwardReferenceIdeal.nD Cert.MemForwardReferenceIdeal.τ Cert.MemForwardReferenceIdeal.sig) → Buf (Elt Ideal) ℓ) : Prop :=
  ∀ c : Dev Cert.MemForwardReferenceIdeal.nD,
    (Cert.Pre_finite_mem.fn (F := Ideal) (m ((c.tc : Thread Cert.MemForwardReferenceIdeal.nD Cert.MemForwardReferenceIdeal.τ).loc Cert.MemForwardReferenceIdeal.main_arg0)) (m ((c.tc : Thread Cert.MemForwardReferenceIdeal.nD Cert.MemForwardReferenceIdeal.τ).loc Cert.MemForwardReferenceIdeal.main_arg1)) (m ((c.tc : Thread Cert.MemForwardReferenceIdeal.nD Cert.MemForwardReferenceIdeal.τ).loc Cert.MemForwardReferenceIdeal.main_arg2))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradReferenceIdeal (m : (ℓ : Loc Cert.NormGradReferenceIdeal.nD Cert.NormGradReferenceIdeal.τ Cert.NormGradReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_KvWeightGrad (m : (ℓ : Loc Cert.KvWeightGrad.nD Cert.KvWeightGrad.τ Cert.KvWeightGrad.sig) → Buf (Elt Bits) ℓ) : Prop :=
  True

def Pre_KvWeightGradIdeal (m : (ℓ : Loc Cert.KvWeightGradIdeal.nD Cert.KvWeightGradIdeal.τ Cert.KvWeightGradIdeal.sig) → Buf (Elt Ideal) ℓ) : Prop :=
  True

def Pre_KvWeightGradReferenceIdeal (m : (ℓ : Loc Cert.KvWeightGradReferenceIdeal.nD Cert.KvWeightGradReferenceIdeal.τ Cert.KvWeightGradReferenceIdeal.sig) → Buf (Elt Ideal) ℓ) : Prop :=
  True

def Pre_KvInputGrad (m : (ℓ : Loc Cert.KvInputGrad.nD Cert.KvInputGrad.τ Cert.KvInputGrad.sig) → Buf (Elt Bits) ℓ) : Prop :=
  True

def Pre_KvInputGradIdeal (m : (ℓ : Loc Cert.KvInputGradIdeal.nD Cert.KvInputGradIdeal.τ Cert.KvInputGradIdeal.sig) → Buf (Elt Ideal) ℓ) : Prop :=
  True

def Pre_KvInputGradReferenceIdeal (m : (ℓ : Loc Cert.KvInputGradReferenceIdeal.nD Cert.KvInputGradReferenceIdeal.τ Cert.KvInputGradReferenceIdeal.sig) → Buf (Elt Ideal) ℓ) : Prop :=
  True

def Pre_GlaForward (m : (ℓ : Loc Cert.GlaForward.nD Cert.GlaForward.τ Cert.GlaForward.sig) → Buf (Elt Bits) ℓ) : Prop :=
  True

def Pre_GlaForwardIdeal (m : (ℓ : Loc Cert.GlaForwardIdeal.nD Cert.GlaForwardIdeal.τ Cert.GlaForwardIdeal.sig) → Buf (Elt Ideal) ℓ) : Prop :=
  True

def Pre_GlaForwardReferenceIdeal (m : (ℓ : Loc Cert.GlaForwardReferenceIdeal.nD Cert.GlaForwardReferenceIdeal.τ Cert.GlaForwardReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluIdeal_pre_finite_swiglu [hSwigluIdeal : Cert.SwigluIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_swiglu m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2))
      ∧ r.2.sem = fun _ => 0)

def quiescent_SwigluReferenceIdeal_pre_finite_swiglu [hSwigluReferenceIdeal : Cert.SwigluReferenceIdeal.Facts] [hPre_finite_swiglu : Cert.Pre_finite_swiglu.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal_finite_swiglu m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1))
      ∧ r.2.sem = fun _ => 0)

def quiescent_HiddenGrad [hHiddenGrad : Cert.HiddenGrad.Facts] : Prop :=
  ∀ (m : (ℓ : Loc Cert.HiddenGrad.nD Cert.HiddenGrad.τ Cert.HiddenGrad.sig) → Buf (Elt Bits) ℓ) (g : Dev Cert.HiddenGrad.nD → PrngReg), Pre_HiddenGrad m →
    θ_run (Cert.HiddenGrad.defs (F := Bits)) (onTc (τ := Cert.HiddenGrad.τ) (Cert.HiddenGrad.main (F := Bits))) ⟨m, fun _ => 0, g⟩ (fun r => (∀ c : Dev Cert.HiddenGrad.nD,
      r.2.mem ((c.tc : Thread Cert.HiddenGrad.nD Cert.HiddenGrad.τ).loc Cert.HiddenGrad.main_arg0) = m ((c.tc : Thread Cert.HiddenGrad.nD Cert.HiddenGrad.τ).loc Cert.HiddenGrad.main_arg0)
      ∧ r.2.mem ((c.tc : Thread Cert.HiddenGrad.nD Cert.HiddenGrad.τ).loc Cert.HiddenGrad.main_arg1) = m ((c.tc : Thread Cert.HiddenGrad.nD Cert.HiddenGrad.τ).loc Cert.HiddenGrad.main_arg1))
      ∧ r.2.sem = fun _ => 0)

def quiescent_HiddenGradIdeal [hHiddenGradIdeal : Cert.HiddenGradIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg), Pre_HiddenGradIdeal m →
    θ_run (Cert.HiddenGradIdeal.defs (F := Ideal)) (onTc (τ := Cert.HiddenGradIdeal.τ) (Cert.HiddenGradIdeal.main (F := Ideal))) ⟨m, fun _ => 0, g⟩ (fun r => (∀ c : Dev Cert.HiddenGradIdeal.nD,
      r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
      ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1))
      ∧ r.2.sem = fun _ => 0)

def quiescent_HiddenGradReferenceIdeal [hHiddenGradReferenceIdeal : Cert.HiddenGradReferenceIdeal.Facts] : Prop :=
  ∀ (m : (ℓ : Loc Cert.HiddenGradReferenceIdeal.nD Cert.HiddenGradReferenceIdeal.τ Cert.HiddenGradReferenceIdeal.sig) → Buf (Elt Ideal) ℓ) (g : Dev Cert.HiddenGradReferenceIdeal.nD → PrngReg), Pre_HiddenGradReferenceIdeal m →
    θ_run (Cert.HiddenGradReferenceIdeal.defs (F := Ideal)) (onTc (τ := Cert.HiddenGradReferenceIdeal.τ) (Cert.HiddenGradReferenceIdeal.main (F := Ideal))) ⟨m, fun _ => 0, g⟩ (fun r => (∀ c : Dev Cert.HiddenGradReferenceIdeal.nD,
      r.2.mem ((c.tc : Thread Cert.HiddenGradReferenceIdeal.nD Cert.HiddenGradReferenceIdeal.τ).loc Cert.HiddenGradReferenceIdeal.main_arg0) = m ((c.tc : Thread Cert.HiddenGradReferenceIdeal.nD Cert.HiddenGradReferenceIdeal.τ).loc Cert.HiddenGradReferenceIdeal.main_arg0)
      ∧ r.2.mem ((c.tc : Thread Cert.HiddenGradReferenceIdeal.nD Cert.HiddenGradReferenceIdeal.τ).loc Cert.HiddenGradReferenceIdeal.main_arg1) = m ((c.tc : Thread Cert.HiddenGradReferenceIdeal.nD Cert.HiddenGradReferenceIdeal.τ).loc Cert.HiddenGradReferenceIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4))
      ∧ r.2.sem = fun _ => 0)

def quiescent_MemForward [hMemForward : Cert.MemForward.Facts] : Prop :=
  ∀ (m : (ℓ : Loc Cert.MemForward.nD Cert.MemForward.τ Cert.MemForward.sig) → Buf (Elt Bits) ℓ) (g : Dev Cert.MemForward.nD → PrngReg), Pre_MemForward m →
    θ_run (Cert.MemForward.defs (F := Bits)) (onTc (τ := Cert.MemForward.τ) (Cert.MemForward.main (F := Bits))) ⟨m, fun _ => 0, g⟩ (fun r => (∀ c : Dev Cert.MemForward.nD,
      r.2.mem ((c.tc : Thread Cert.MemForward.nD Cert.MemForward.τ).loc Cert.MemForward.main_arg0) = m ((c.tc : Thread Cert.MemForward.nD Cert.MemForward.τ).loc Cert.MemForward.main_arg0)
      ∧ r.2.mem ((c.tc : Thread Cert.MemForward.nD Cert.MemForward.τ).loc Cert.MemForward.main_arg1) = m ((c.tc : Thread Cert.MemForward.nD Cert.MemForward.τ).loc Cert.MemForward.main_arg1)
      ∧ r.2.mem ((c.tc : Thread Cert.MemForward.nD Cert.MemForward.τ).loc Cert.MemForward.main_arg2) = m ((c.tc : Thread Cert.MemForward.nD Cert.MemForward.τ).loc Cert.MemForward.main_arg2))
      ∧ r.2.sem = fun _ => 0)

def quiescent_MemForwardIdeal [hMemForwardIdeal : Cert.MemForwardIdeal.Facts] : Prop :=
  ∀ (m : (ℓ : Loc Cert.MemForwardIdeal.nD Cert.MemForwardIdeal.τ Cert.MemForwardIdeal.sig) → Buf (Elt Ideal) ℓ) (g : Dev Cert.MemForwardIdeal.nD → PrngReg), Pre_MemForwardIdeal m →
    θ_run (Cert.MemForwardIdeal.defs (F := Ideal)) (onTc (τ := Cert.MemForwardIdeal.τ) (Cert.MemForwardIdeal.main (F := Ideal))) ⟨m, fun _ => 0, g⟩ (fun r => (∀ c : Dev Cert.MemForwardIdeal.nD,
      r.2.mem ((c.tc : Thread Cert.MemForwardIdeal.nD Cert.MemForwardIdeal.τ).loc Cert.MemForwardIdeal.main_arg0) = m ((c.tc : Thread Cert.MemForwardIdeal.nD Cert.MemForwardIdeal.τ).loc Cert.MemForwardIdeal.main_arg0)
      ∧ r.2.mem ((c.tc : Thread Cert.MemForwardIdeal.nD Cert.MemForwardIdeal.τ).loc Cert.MemForwardIdeal.main_arg1) = m ((c.tc : Thread Cert.MemForwardIdeal.nD Cert.MemForwardIdeal.τ).loc Cert.MemForwardIdeal.main_arg1)
      ∧ r.2.mem ((c.tc : Thread Cert.MemForwardIdeal.nD Cert.MemForwardIdeal.τ).loc Cert.MemForwardIdeal.main_arg2) = m ((c.tc : Thread Cert.MemForwardIdeal.nD Cert.MemForwardIdeal.τ).loc Cert.MemForwardIdeal.main_arg2))
      ∧ r.2.sem = fun _ => 0)

def quiescent_MemForwardIdeal_pre_finite_mem [hMemForwardIdeal : Cert.MemForwardIdeal.Facts] [hPre_finite_mem : Cert.Pre_finite_mem.Facts] : Prop :=
  ∀ (m : (ℓ : Loc Cert.MemForwardIdeal.nD Cert.MemForwardIdeal.τ Cert.MemForwardIdeal.sig) → Buf (Elt Ideal) ℓ) (g : Dev Cert.MemForwardIdeal.nD → PrngReg), Pre_MemForwardIdeal_finite_mem m →
    θ_run (Cert.MemForwardIdeal.defs (F := Ideal)) (onTc (τ := Cert.MemForwardIdeal.τ) (Cert.MemForwardIdeal.main (F := Ideal))) ⟨m, fun _ => 0, g⟩ (fun r => (∀ c : Dev Cert.MemForwardIdeal.nD,
      r.2.mem ((c.tc : Thread Cert.MemForwardIdeal.nD Cert.MemForwardIdeal.τ).loc Cert.MemForwardIdeal.main_arg0) = m ((c.tc : Thread Cert.MemForwardIdeal.nD Cert.MemForwardIdeal.τ).loc Cert.MemForwardIdeal.main_arg0)
      ∧ r.2.mem ((c.tc : Thread Cert.MemForwardIdeal.nD Cert.MemForwardIdeal.τ).loc Cert.MemForwardIdeal.main_arg1) = m ((c.tc : Thread Cert.MemForwardIdeal.nD Cert.MemForwardIdeal.τ).loc Cert.MemForwardIdeal.main_arg1)
      ∧ r.2.mem ((c.tc : Thread Cert.MemForwardIdeal.nD Cert.MemForwardIdeal.τ).loc Cert.MemForwardIdeal.main_arg2) = m ((c.tc : Thread Cert.MemForwardIdeal.nD Cert.MemForwardIdeal.τ).loc Cert.MemForwardIdeal.main_arg2))
      ∧ r.2.sem = fun _ => 0)

def quiescent_MemForwardReferenceIdeal [hMemForwardReferenceIdeal : Cert.MemForwardReferenceIdeal.Facts] : Prop :=
  ∀ (m : (ℓ : Loc Cert.MemForwardReferenceIdeal.nD Cert.MemForwardReferenceIdeal.τ Cert.MemForwardReferenceIdeal.sig) → Buf (Elt Ideal) ℓ) (g : Dev Cert.MemForwardReferenceIdeal.nD → PrngReg), Pre_MemForwardReferenceIdeal m →
    θ_run (Cert.MemForwardReferenceIdeal.defs (F := Ideal)) (onTc (τ := Cert.MemForwardReferenceIdeal.τ) (Cert.MemForwardReferenceIdeal.main (F := Ideal))) ⟨m, fun _ => 0, g⟩ (fun r => (∀ c : Dev Cert.MemForwardReferenceIdeal.nD,
      r.2.mem ((c.tc : Thread Cert.MemForwardReferenceIdeal.nD Cert.MemForwardReferenceIdeal.τ).loc Cert.MemForwardReferenceIdeal.main_arg0) = m ((c.tc : Thread Cert.MemForwardReferenceIdeal.nD Cert.MemForwardReferenceIdeal.τ).loc Cert.MemForwardReferenceIdeal.main_arg0)
      ∧ r.2.mem ((c.tc : Thread Cert.MemForwardReferenceIdeal.nD Cert.MemForwardReferenceIdeal.τ).loc Cert.MemForwardReferenceIdeal.main_arg1) = m ((c.tc : Thread Cert.MemForwardReferenceIdeal.nD Cert.MemForwardReferenceIdeal.τ).loc Cert.MemForwardReferenceIdeal.main_arg1)
      ∧ r.2.mem ((c.tc : Thread Cert.MemForwardReferenceIdeal.nD Cert.MemForwardReferenceIdeal.τ).loc Cert.MemForwardReferenceIdeal.main_arg2) = m ((c.tc : Thread Cert.MemForwardReferenceIdeal.nD Cert.MemForwardReferenceIdeal.τ).loc Cert.MemForwardReferenceIdeal.main_arg2))
      ∧ r.2.sem = fun _ => 0)

def quiescent_MemForwardReferenceIdeal_pre_finite_mem [hMemForwardReferenceIdeal : Cert.MemForwardReferenceIdeal.Facts] [hPre_finite_mem : Cert.Pre_finite_mem.Facts] : Prop :=
  ∀ (m : (ℓ : Loc Cert.MemForwardReferenceIdeal.nD Cert.MemForwardReferenceIdeal.τ Cert.MemForwardReferenceIdeal.sig) → Buf (Elt Ideal) ℓ) (g : Dev Cert.MemForwardReferenceIdeal.nD → PrngReg), Pre_MemForwardReferenceIdeal_finite_mem m →
    θ_run (Cert.MemForwardReferenceIdeal.defs (F := Ideal)) (onTc (τ := Cert.MemForwardReferenceIdeal.τ) (Cert.MemForwardReferenceIdeal.main (F := Ideal))) ⟨m, fun _ => 0, g⟩ (fun r => (∀ c : Dev Cert.MemForwardReferenceIdeal.nD,
      r.2.mem ((c.tc : Thread Cert.MemForwardReferenceIdeal.nD Cert.MemForwardReferenceIdeal.τ).loc Cert.MemForwardReferenceIdeal.main_arg0) = m ((c.tc : Thread Cert.MemForwardReferenceIdeal.nD Cert.MemForwardReferenceIdeal.τ).loc Cert.MemForwardReferenceIdeal.main_arg0)
      ∧ r.2.mem ((c.tc : Thread Cert.MemForwardReferenceIdeal.nD Cert.MemForwardReferenceIdeal.τ).loc Cert.MemForwardReferenceIdeal.main_arg1) = m ((c.tc : Thread Cert.MemForwardReferenceIdeal.nD Cert.MemForwardReferenceIdeal.τ).loc Cert.MemForwardReferenceIdeal.main_arg1)
      ∧ r.2.mem ((c.tc : Thread Cert.MemForwardReferenceIdeal.nD Cert.MemForwardReferenceIdeal.τ).loc Cert.MemForwardReferenceIdeal.main_arg2) = m ((c.tc : Thread Cert.MemForwardReferenceIdeal.nD Cert.MemForwardReferenceIdeal.τ).loc Cert.MemForwardReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_KvWeightGrad [hKvWeightGrad : Cert.KvWeightGrad.Facts] : Prop :=
  ∀ (m : (ℓ : Loc Cert.KvWeightGrad.nD Cert.KvWeightGrad.τ Cert.KvWeightGrad.sig) → Buf (Elt Bits) ℓ) (g : Dev Cert.KvWeightGrad.nD → PrngReg), Pre_KvWeightGrad m →
    θ_run (Cert.KvWeightGrad.defs (F := Bits)) (onTc (τ := Cert.KvWeightGrad.τ) (Cert.KvWeightGrad.main (F := Bits))) ⟨m, fun _ => 0, g⟩ (fun r => (∀ c : Dev Cert.KvWeightGrad.nD,
      r.2.mem ((c.tc : Thread Cert.KvWeightGrad.nD Cert.KvWeightGrad.τ).loc Cert.KvWeightGrad.main_arg0) = m ((c.tc : Thread Cert.KvWeightGrad.nD Cert.KvWeightGrad.τ).loc Cert.KvWeightGrad.main_arg0)
      ∧ r.2.mem ((c.tc : Thread Cert.KvWeightGrad.nD Cert.KvWeightGrad.τ).loc Cert.KvWeightGrad.main_arg1) = m ((c.tc : Thread Cert.KvWeightGrad.nD Cert.KvWeightGrad.τ).loc Cert.KvWeightGrad.main_arg1))
      ∧ r.2.sem = fun _ => 0)

def quiescent_KvWeightGradIdeal [hKvWeightGradIdeal : Cert.KvWeightGradIdeal.Facts] : Prop :=
  ∀ (m : (ℓ : Loc Cert.KvWeightGradIdeal.nD Cert.KvWeightGradIdeal.τ Cert.KvWeightGradIdeal.sig) → Buf (Elt Ideal) ℓ) (g : Dev Cert.KvWeightGradIdeal.nD → PrngReg), Pre_KvWeightGradIdeal m →
    θ_run (Cert.KvWeightGradIdeal.defs (F := Ideal)) (onTc (τ := Cert.KvWeightGradIdeal.τ) (Cert.KvWeightGradIdeal.main (F := Ideal))) ⟨m, fun _ => 0, g⟩ (fun r => (∀ c : Dev Cert.KvWeightGradIdeal.nD,
      r.2.mem ((c.tc : Thread Cert.KvWeightGradIdeal.nD Cert.KvWeightGradIdeal.τ).loc Cert.KvWeightGradIdeal.main_arg0) = m ((c.tc : Thread Cert.KvWeightGradIdeal.nD Cert.KvWeightGradIdeal.τ).loc Cert.KvWeightGradIdeal.main_arg0)
      ∧ r.2.mem ((c.tc : Thread Cert.KvWeightGradIdeal.nD Cert.KvWeightGradIdeal.τ).loc Cert.KvWeightGradIdeal.main_arg1) = m ((c.tc : Thread Cert.KvWeightGradIdeal.nD Cert.KvWeightGradIdeal.τ).loc Cert.KvWeightGradIdeal.main_arg1))
      ∧ r.2.sem = fun _ => 0)

def quiescent_KvWeightGradReferenceIdeal [hKvWeightGradReferenceIdeal : Cert.KvWeightGradReferenceIdeal.Facts] : Prop :=
  ∀ (m : (ℓ : Loc Cert.KvWeightGradReferenceIdeal.nD Cert.KvWeightGradReferenceIdeal.τ Cert.KvWeightGradReferenceIdeal.sig) → Buf (Elt Ideal) ℓ) (g : Dev Cert.KvWeightGradReferenceIdeal.nD → PrngReg), Pre_KvWeightGradReferenceIdeal m →
    θ_run (Cert.KvWeightGradReferenceIdeal.defs (F := Ideal)) (onTc (τ := Cert.KvWeightGradReferenceIdeal.τ) (Cert.KvWeightGradReferenceIdeal.main (F := Ideal))) ⟨m, fun _ => 0, g⟩ (fun r => (∀ c : Dev Cert.KvWeightGradReferenceIdeal.nD,
      r.2.mem ((c.tc : Thread Cert.KvWeightGradReferenceIdeal.nD Cert.KvWeightGradReferenceIdeal.τ).loc Cert.KvWeightGradReferenceIdeal.main_arg0) = m ((c.tc : Thread Cert.KvWeightGradReferenceIdeal.nD Cert.KvWeightGradReferenceIdeal.τ).loc Cert.KvWeightGradReferenceIdeal.main_arg0)
      ∧ r.2.mem ((c.tc : Thread Cert.KvWeightGradReferenceIdeal.nD Cert.KvWeightGradReferenceIdeal.τ).loc Cert.KvWeightGradReferenceIdeal.main_arg1) = m ((c.tc : Thread Cert.KvWeightGradReferenceIdeal.nD Cert.KvWeightGradReferenceIdeal.τ).loc Cert.KvWeightGradReferenceIdeal.main_arg1))
      ∧ r.2.sem = fun _ => 0)

def quiescent_KvInputGrad [hKvInputGrad : Cert.KvInputGrad.Facts] : Prop :=
  ∀ (m : (ℓ : Loc Cert.KvInputGrad.nD Cert.KvInputGrad.τ Cert.KvInputGrad.sig) → Buf (Elt Bits) ℓ) (g : Dev Cert.KvInputGrad.nD → PrngReg), Pre_KvInputGrad m →
    θ_run (Cert.KvInputGrad.defs (F := Bits)) (onTc (τ := Cert.KvInputGrad.τ) (Cert.KvInputGrad.main (F := Bits))) ⟨m, fun _ => 0, g⟩ (fun r => (∀ c : Dev Cert.KvInputGrad.nD,
      r.2.mem ((c.tc : Thread Cert.KvInputGrad.nD Cert.KvInputGrad.τ).loc Cert.KvInputGrad.main_arg0) = m ((c.tc : Thread Cert.KvInputGrad.nD Cert.KvInputGrad.τ).loc Cert.KvInputGrad.main_arg0)
      ∧ r.2.mem ((c.tc : Thread Cert.KvInputGrad.nD Cert.KvInputGrad.τ).loc Cert.KvInputGrad.main_arg1) = m ((c.tc : Thread Cert.KvInputGrad.nD Cert.KvInputGrad.τ).loc Cert.KvInputGrad.main_arg1))
      ∧ r.2.sem = fun _ => 0)

def quiescent_KvInputGradIdeal [hKvInputGradIdeal : Cert.KvInputGradIdeal.Facts] : Prop :=
  ∀ (m : (ℓ : Loc Cert.KvInputGradIdeal.nD Cert.KvInputGradIdeal.τ Cert.KvInputGradIdeal.sig) → Buf (Elt Ideal) ℓ) (g : Dev Cert.KvInputGradIdeal.nD → PrngReg), Pre_KvInputGradIdeal m →
    θ_run (Cert.KvInputGradIdeal.defs (F := Ideal)) (onTc (τ := Cert.KvInputGradIdeal.τ) (Cert.KvInputGradIdeal.main (F := Ideal))) ⟨m, fun _ => 0, g⟩ (fun r => (∀ c : Dev Cert.KvInputGradIdeal.nD,
      r.2.mem ((c.tc : Thread Cert.KvInputGradIdeal.nD Cert.KvInputGradIdeal.τ).loc Cert.KvInputGradIdeal.main_arg0) = m ((c.tc : Thread Cert.KvInputGradIdeal.nD Cert.KvInputGradIdeal.τ).loc Cert.KvInputGradIdeal.main_arg0)
      ∧ r.2.mem ((c.tc : Thread Cert.KvInputGradIdeal.nD Cert.KvInputGradIdeal.τ).loc Cert.KvInputGradIdeal.main_arg1) = m ((c.tc : Thread Cert.KvInputGradIdeal.nD Cert.KvInputGradIdeal.τ).loc Cert.KvInputGradIdeal.main_arg1))
      ∧ r.2.sem = fun _ => 0)

def quiescent_KvInputGradReferenceIdeal [hKvInputGradReferenceIdeal : Cert.KvInputGradReferenceIdeal.Facts] : Prop :=
  ∀ (m : (ℓ : Loc Cert.KvInputGradReferenceIdeal.nD Cert.KvInputGradReferenceIdeal.τ Cert.KvInputGradReferenceIdeal.sig) → Buf (Elt Ideal) ℓ) (g : Dev Cert.KvInputGradReferenceIdeal.nD → PrngReg), Pre_KvInputGradReferenceIdeal m →
    θ_run (Cert.KvInputGradReferenceIdeal.defs (F := Ideal)) (onTc (τ := Cert.KvInputGradReferenceIdeal.τ) (Cert.KvInputGradReferenceIdeal.main (F := Ideal))) ⟨m, fun _ => 0, g⟩ (fun r => (∀ c : Dev Cert.KvInputGradReferenceIdeal.nD,
      r.2.mem ((c.tc : Thread Cert.KvInputGradReferenceIdeal.nD Cert.KvInputGradReferenceIdeal.τ).loc Cert.KvInputGradReferenceIdeal.main_arg0) = m ((c.tc : Thread Cert.KvInputGradReferenceIdeal.nD Cert.KvInputGradReferenceIdeal.τ).loc Cert.KvInputGradReferenceIdeal.main_arg0)
      ∧ r.2.mem ((c.tc : Thread Cert.KvInputGradReferenceIdeal.nD Cert.KvInputGradReferenceIdeal.τ).loc Cert.KvInputGradReferenceIdeal.main_arg1) = m ((c.tc : Thread Cert.KvInputGradReferenceIdeal.nD Cert.KvInputGradReferenceIdeal.τ).loc Cert.KvInputGradReferenceIdeal.main_arg1))
      ∧ r.2.sem = fun _ => 0)

def quiescent_GlaForward [hGlaForward : Cert.GlaForward.Facts] : Prop :=
  ∀ (m : (ℓ : Loc Cert.GlaForward.nD Cert.GlaForward.τ Cert.GlaForward.sig) → Buf (Elt Bits) ℓ) (g : Dev Cert.GlaForward.nD → PrngReg), Pre_GlaForward m →
    θ_run (Cert.GlaForward.defs (F := Bits)) (onTc (τ := Cert.GlaForward.τ) (Cert.GlaForward.main (F := Bits))) ⟨m, fun _ => 0, g⟩ (fun r => (∀ c : Dev Cert.GlaForward.nD,
      r.2.mem ((c.tc : Thread Cert.GlaForward.nD Cert.GlaForward.τ).loc Cert.GlaForward.main_arg0) = m ((c.tc : Thread Cert.GlaForward.nD Cert.GlaForward.τ).loc Cert.GlaForward.main_arg0)
      ∧ r.2.mem ((c.tc : Thread Cert.GlaForward.nD Cert.GlaForward.τ).loc Cert.GlaForward.main_arg1) = m ((c.tc : Thread Cert.GlaForward.nD Cert.GlaForward.τ).loc Cert.GlaForward.main_arg1)
      ∧ r.2.mem ((c.tc : Thread Cert.GlaForward.nD Cert.GlaForward.τ).loc Cert.GlaForward.main_arg2) = m ((c.tc : Thread Cert.GlaForward.nD Cert.GlaForward.τ).loc Cert.GlaForward.main_arg2))
      ∧ r.2.sem = fun _ => 0)

def quiescent_GlaForwardIdeal [hGlaForwardIdeal : Cert.GlaForwardIdeal.Facts] : Prop :=
  ∀ (m : (ℓ : Loc Cert.GlaForwardIdeal.nD Cert.GlaForwardIdeal.τ Cert.GlaForwardIdeal.sig) → Buf (Elt Ideal) ℓ) (g : Dev Cert.GlaForwardIdeal.nD → PrngReg), Pre_GlaForwardIdeal m →
    θ_run (Cert.GlaForwardIdeal.defs (F := Ideal)) (onTc (τ := Cert.GlaForwardIdeal.τ) (Cert.GlaForwardIdeal.main (F := Ideal))) ⟨m, fun _ => 0, g⟩ (fun r => (∀ c : Dev Cert.GlaForwardIdeal.nD,
      r.2.mem ((c.tc : Thread Cert.GlaForwardIdeal.nD Cert.GlaForwardIdeal.τ).loc Cert.GlaForwardIdeal.main_arg0) = m ((c.tc : Thread Cert.GlaForwardIdeal.nD Cert.GlaForwardIdeal.τ).loc Cert.GlaForwardIdeal.main_arg0)
      ∧ r.2.mem ((c.tc : Thread Cert.GlaForwardIdeal.nD Cert.GlaForwardIdeal.τ).loc Cert.GlaForwardIdeal.main_arg1) = m ((c.tc : Thread Cert.GlaForwardIdeal.nD Cert.GlaForwardIdeal.τ).loc Cert.GlaForwardIdeal.main_arg1)
      ∧ r.2.mem ((c.tc : Thread Cert.GlaForwardIdeal.nD Cert.GlaForwardIdeal.τ).loc Cert.GlaForwardIdeal.main_arg2) = m ((c.tc : Thread Cert.GlaForwardIdeal.nD Cert.GlaForwardIdeal.τ).loc Cert.GlaForwardIdeal.main_arg2))
      ∧ r.2.sem = fun _ => 0)

def quiescent_GlaForwardReferenceIdeal [hGlaForwardReferenceIdeal : Cert.GlaForwardReferenceIdeal.Facts] : Prop :=
  ∀ (m : (ℓ : Loc Cert.GlaForwardReferenceIdeal.nD Cert.GlaForwardReferenceIdeal.τ Cert.GlaForwardReferenceIdeal.sig) → Buf (Elt Ideal) ℓ) (g : Dev Cert.GlaForwardReferenceIdeal.nD → PrngReg), Pre_GlaForwardReferenceIdeal m →
    θ_run (Cert.GlaForwardReferenceIdeal.defs (F := Ideal)) (onTc (τ := Cert.GlaForwardReferenceIdeal.τ) (Cert.GlaForwardReferenceIdeal.main (F := Ideal))) ⟨m, fun _ => 0, g⟩ (fun r => (∀ c : Dev Cert.GlaForwardReferenceIdeal.nD,
      r.2.mem ((c.tc : Thread Cert.GlaForwardReferenceIdeal.nD Cert.GlaForwardReferenceIdeal.τ).loc Cert.GlaForwardReferenceIdeal.main_arg0) = m ((c.tc : Thread Cert.GlaForwardReferenceIdeal.nD Cert.GlaForwardReferenceIdeal.τ).loc Cert.GlaForwardReferenceIdeal.main_arg0)
      ∧ r.2.mem ((c.tc : Thread Cert.GlaForwardReferenceIdeal.nD Cert.GlaForwardReferenceIdeal.τ).loc Cert.GlaForwardReferenceIdeal.main_arg1) = m ((c.tc : Thread Cert.GlaForwardReferenceIdeal.nD Cert.GlaForwardReferenceIdeal.τ).loc Cert.GlaForwardReferenceIdeal.main_arg1)
      ∧ r.2.mem ((c.tc : Thread Cert.GlaForwardReferenceIdeal.nD Cert.GlaForwardReferenceIdeal.τ).loc Cert.GlaForwardReferenceIdeal.main_arg2) = m ((c.tc : Thread Cert.GlaForwardReferenceIdeal.nD Cert.GlaForwardReferenceIdeal.τ).loc Cert.GlaForwardReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Swiglu_SwigluIdeal : Prop :=
  True

def algebraic_SwigluIdeal_SwigluReferenceIdeal_pre_finite_swiglu [hSwigluIdeal : Cert.SwigluIdeal.Facts] [hSwigluReferenceIdeal : Cert.SwigluReferenceIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal_finite_swiglu m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)
      ∧ m' ((c.tc : Thread Cert.SwigluReferenceIdeal.nD Cert.SwigluReferenceIdeal.τ).loc Cert.SwigluReferenceIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v18) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v16) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1))

def preserves_HiddenGrad_HiddenGradIdeal : Prop :=
  True

def algebraic_HiddenGradIdeal_HiddenGradReferenceIdeal [hHiddenGradIdeal : Cert.HiddenGradIdeal.Facts] [hHiddenGradReferenceIdeal : Cert.HiddenGradReferenceIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg)
    (m' : (ℓ : Loc Cert.HiddenGradReferenceIdeal.nD Cert.HiddenGradReferenceIdeal.τ Cert.HiddenGradReferenceIdeal.sig) → Buf (Elt Ideal) ℓ) (g' : Dev Cert.HiddenGradReferenceIdeal.nD → PrngReg), Pre_HiddenGradIdeal m →
    (∀ c : Dev Cert.HiddenGradIdeal.nD,
      m' ((c.tc : Thread Cert.HiddenGradReferenceIdeal.nD Cert.HiddenGradReferenceIdeal.τ).loc Cert.HiddenGradReferenceIdeal.main_arg0) = m ((c.tc : Thread Cert.HiddenGradIdeal.nD Cert.HiddenGradIdeal.τ).loc Cert.HiddenGradIdeal.main_arg0)
      ∧ m' ((c.tc : Thread Cert.HiddenGradReferenceIdeal.nD Cert.HiddenGradReferenceIdeal.τ).loc Cert.HiddenGradReferenceIdeal.main_arg1) = m ((c.tc : Thread Cert.HiddenGradIdeal.nD Cert.HiddenGradIdeal.τ).loc Cert.HiddenGradIdeal.main_arg1)) →
    ∃ (v0 : (c : Dev Cert.HiddenGradIdeal.nD) → Buf (Elt Ideal) ((c.tc : Thread Cert.HiddenGradIdeal.nD Cert.HiddenGradIdeal.τ).loc Cert.HiddenGradIdeal.main_v2)),
      θ_run (Cert.HiddenGradIdeal.defs (F := Ideal)) (onTc (τ := Cert.HiddenGradIdeal.τ) (Cert.HiddenGradIdeal.main (F := Ideal))) ⟨m, fun _ => 0, g⟩ (fun r => ∀ c : Dev Cert.HiddenGradIdeal.nD,
          r.2.mem ((c.tc : Thread Cert.HiddenGradIdeal.nD Cert.HiddenGradIdeal.τ).loc Cert.HiddenGradIdeal.main_v2) = v0 c
          ∧ r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
          ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1))
      ∧ θ_run (Cert.HiddenGradReferenceIdeal.defs (F := Ideal)) (onTc (τ := Cert.HiddenGradReferenceIdeal.τ) (Cert.HiddenGradReferenceIdeal.main (F := Ideal))) ⟨m', fun _ => 0, g'⟩ (fun r => ∀ c : Dev Cert.HiddenGradReferenceIdeal.nD,
          r.2.mem ((c.tc : Thread Cert.HiddenGradReferenceIdeal.nD Cert.HiddenGradReferenceIdeal.τ).loc Cert.HiddenGradReferenceIdeal.main_v12) = v0 c
          ∧ r.2.mem ((c.tc : Thread Cert.HiddenGradReferenceIdeal.nD Cert.HiddenGradReferenceIdeal.τ).loc Cert.HiddenGradReferenceIdeal.main_arg0) = m' ((c.tc : Thread Cert.HiddenGradReferenceIdeal.nD Cert.HiddenGradReferenceIdeal.τ).loc Cert.HiddenGradReferenceIdeal.main_arg0)
          ∧ r.2.mem ((c.tc : Thread Cert.HiddenGradReferenceIdeal.nD Cert.HiddenGradReferenceIdeal.τ).loc Cert.HiddenGradReferenceIdeal.main_arg1) = m' ((c.tc : Thread Cert.HiddenGradReferenceIdeal.nD Cert.HiddenGradReferenceIdeal.τ).loc Cert.HiddenGradReferenceIdeal.main_arg1))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v6) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v6) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_v11) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Gla_GlaIdeal : Prop :=
  True

def algebraic_GlaIdeal_GlaReferenceIdeal [hGlaIdeal : Cert.GlaIdeal.Facts] [hGlaReferenceIdeal : Cert.GlaReferenceIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)
      ∧ m' ((c.tc : Thread Cert.GlaReferenceIdeal.nD Cert.GlaReferenceIdeal.τ).loc Cert.GlaReferenceIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v20_1)) (v1 : (c : Dev Cert.GlaIdeal.nD) → Buf (Elt Ideal) ((c.tc : Thread Cert.GlaIdeal.nD Cert.GlaIdeal.τ).loc Cert.GlaIdeal.main_v20_2)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v20_1) = v0 c
          ∧ r.2.mem ((c.tc : Thread Cert.GlaIdeal.nD Cert.GlaIdeal.τ).loc Cert.GlaIdeal.main_v20_2) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v113) = v0 c
          ∧ r.2.mem ((c.tc : Thread Cert.GlaReferenceIdeal.nD Cert.GlaReferenceIdeal.τ).loc Cert.GlaReferenceIdeal.main_v114) = v1 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4))

def preserves_MemForward_MemForwardIdeal : Prop :=
  True

def algebraic_MemForwardIdeal_MemForwardReferenceIdeal_pre_finite_mem [hMemForwardIdeal : Cert.MemForwardIdeal.Facts] [hMemForwardReferenceIdeal : Cert.MemForwardReferenceIdeal.Facts] [hPre_finite_mem : Cert.Pre_finite_mem.Facts] : Prop :=
  ∀ (m : (ℓ : Loc Cert.MemForwardIdeal.nD Cert.MemForwardIdeal.τ Cert.MemForwardIdeal.sig) → Buf (Elt Ideal) ℓ) (g : Dev Cert.MemForwardIdeal.nD → PrngReg)
    (m' : (ℓ : Loc Cert.MemForwardReferenceIdeal.nD Cert.MemForwardReferenceIdeal.τ Cert.MemForwardReferenceIdeal.sig) → Buf (Elt Ideal) ℓ) (g' : Dev Cert.MemForwardReferenceIdeal.nD → PrngReg), Pre_MemForwardIdeal_finite_mem m →
    (∀ c : Dev Cert.MemForwardIdeal.nD,
      m' ((c.tc : Thread Cert.MemForwardReferenceIdeal.nD Cert.MemForwardReferenceIdeal.τ).loc Cert.MemForwardReferenceIdeal.main_arg0) = m ((c.tc : Thread Cert.MemForwardIdeal.nD Cert.MemForwardIdeal.τ).loc Cert.MemForwardIdeal.main_arg0)
      ∧ m' ((c.tc : Thread Cert.MemForwardReferenceIdeal.nD Cert.MemForwardReferenceIdeal.τ).loc Cert.MemForwardReferenceIdeal.main_arg1) = m ((c.tc : Thread Cert.MemForwardIdeal.nD Cert.MemForwardIdeal.τ).loc Cert.MemForwardIdeal.main_arg1)
      ∧ m' ((c.tc : Thread Cert.MemForwardReferenceIdeal.nD Cert.MemForwardReferenceIdeal.τ).loc Cert.MemForwardReferenceIdeal.main_arg2) = m ((c.tc : Thread Cert.MemForwardIdeal.nD Cert.MemForwardIdeal.τ).loc Cert.MemForwardIdeal.main_arg2)) →
    ∃ (v0 : (c : Dev Cert.MemForwardIdeal.nD) → Buf (Elt Ideal) ((c.tc : Thread Cert.MemForwardIdeal.nD Cert.MemForwardIdeal.τ).loc Cert.MemForwardIdeal.main_v0)),
      θ_run (Cert.MemForwardIdeal.defs (F := Ideal)) (onTc (τ := Cert.MemForwardIdeal.τ) (Cert.MemForwardIdeal.main (F := Ideal))) ⟨m, fun _ => 0, g⟩ (fun r => ∀ c : Dev Cert.MemForwardIdeal.nD,
          r.2.mem ((c.tc : Thread Cert.MemForwardIdeal.nD Cert.MemForwardIdeal.τ).loc Cert.MemForwardIdeal.main_v0) = v0 c
          ∧ r.2.mem ((c.tc : Thread Cert.MemForwardIdeal.nD Cert.MemForwardIdeal.τ).loc Cert.MemForwardIdeal.main_arg0) = m ((c.tc : Thread Cert.MemForwardIdeal.nD Cert.MemForwardIdeal.τ).loc Cert.MemForwardIdeal.main_arg0)
          ∧ r.2.mem ((c.tc : Thread Cert.MemForwardIdeal.nD Cert.MemForwardIdeal.τ).loc Cert.MemForwardIdeal.main_arg1) = m ((c.tc : Thread Cert.MemForwardIdeal.nD Cert.MemForwardIdeal.τ).loc Cert.MemForwardIdeal.main_arg1)
          ∧ r.2.mem ((c.tc : Thread Cert.MemForwardIdeal.nD Cert.MemForwardIdeal.τ).loc Cert.MemForwardIdeal.main_arg2) = m ((c.tc : Thread Cert.MemForwardIdeal.nD Cert.MemForwardIdeal.τ).loc Cert.MemForwardIdeal.main_arg2))
      ∧ θ_run (Cert.MemForwardReferenceIdeal.defs (F := Ideal)) (onTc (τ := Cert.MemForwardReferenceIdeal.τ) (Cert.MemForwardReferenceIdeal.main (F := Ideal))) ⟨m', fun _ => 0, g'⟩ (fun r => ∀ c : Dev Cert.MemForwardReferenceIdeal.nD,
          r.2.mem ((c.tc : Thread Cert.MemForwardReferenceIdeal.nD Cert.MemForwardReferenceIdeal.τ).loc Cert.MemForwardReferenceIdeal.main_v25) = v0 c
          ∧ r.2.mem ((c.tc : Thread Cert.MemForwardReferenceIdeal.nD Cert.MemForwardReferenceIdeal.τ).loc Cert.MemForwardReferenceIdeal.main_arg0) = m' ((c.tc : Thread Cert.MemForwardReferenceIdeal.nD Cert.MemForwardReferenceIdeal.τ).loc Cert.MemForwardReferenceIdeal.main_arg0)
          ∧ r.2.mem ((c.tc : Thread Cert.MemForwardReferenceIdeal.nD Cert.MemForwardReferenceIdeal.τ).loc Cert.MemForwardReferenceIdeal.main_arg1) = m' ((c.tc : Thread Cert.MemForwardReferenceIdeal.nD Cert.MemForwardReferenceIdeal.τ).loc Cert.MemForwardReferenceIdeal.main_arg1)
          ∧ r.2.mem ((c.tc : Thread Cert.MemForwardReferenceIdeal.nD Cert.MemForwardReferenceIdeal.τ).loc Cert.MemForwardReferenceIdeal.main_arg2) = m' ((c.tc : Thread Cert.MemForwardReferenceIdeal.nD Cert.MemForwardReferenceIdeal.τ).loc Cert.MemForwardReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_NormGrad_NormGradIdeal : Prop :=
  True

def algebraic_NormGradIdeal_NormGradReferenceIdeal [hNormGradIdeal : Cert.NormGradIdeal.Facts] [hNormGradReferenceIdeal : Cert.NormGradReferenceIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v1_0)) (v1 : (c : Dev Cert.NormGradIdeal.nD) → Buf (Elt Ideal) ((c.tc : Thread Cert.NormGradIdeal.nD Cert.NormGradIdeal.τ).loc Cert.NormGradIdeal.main_v1_1)) (v2 : (c : Dev Cert.NormGradIdeal.nD) → Buf (Elt Ideal) ((c.tc : Thread Cert.NormGradIdeal.nD Cert.NormGradIdeal.τ).loc Cert.NormGradIdeal.main_v1_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v1_0) = v0 c
          ∧ r.2.mem ((c.tc : Thread Cert.NormGradIdeal.nD Cert.NormGradIdeal.τ).loc Cert.NormGradIdeal.main_v1_1) = v1 c
          ∧ r.2.mem ((c.tc : Thread Cert.NormGradIdeal.nD Cert.NormGradIdeal.τ).loc Cert.NormGradIdeal.main_v1_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v36) = v0 c
          ∧ r.2.mem ((c.tc : Thread Cert.NormGradReferenceIdeal.nD Cert.NormGradReferenceIdeal.τ).loc Cert.NormGradReferenceIdeal.main_v37) = v1 c
          ∧ r.2.mem ((c.tc : Thread Cert.NormGradReferenceIdeal.nD Cert.NormGradReferenceIdeal.τ).loc Cert.NormGradReferenceIdeal.main_v38) = v2 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v2) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_KvWeightGrad_KvWeightGradIdeal : Prop :=
  True

def algebraic_KvWeightGradIdeal_KvWeightGradReferenceIdeal [hKvWeightGradIdeal : Cert.KvWeightGradIdeal.Facts] [hKvWeightGradReferenceIdeal : Cert.KvWeightGradReferenceIdeal.Facts] : Prop :=
  ∀ (m : (ℓ : Loc Cert.KvWeightGradIdeal.nD Cert.KvWeightGradIdeal.τ Cert.KvWeightGradIdeal.sig) → Buf (Elt Ideal) ℓ) (g : Dev Cert.KvWeightGradIdeal.nD → PrngReg)
    (m' : (ℓ : Loc Cert.KvWeightGradReferenceIdeal.nD Cert.KvWeightGradReferenceIdeal.τ Cert.KvWeightGradReferenceIdeal.sig) → Buf (Elt Ideal) ℓ) (g' : Dev Cert.KvWeightGradReferenceIdeal.nD → PrngReg), Pre_KvWeightGradIdeal m →
    (∀ c : Dev Cert.KvWeightGradIdeal.nD,
      m' ((c.tc : Thread Cert.KvWeightGradReferenceIdeal.nD Cert.KvWeightGradReferenceIdeal.τ).loc Cert.KvWeightGradReferenceIdeal.main_arg0) = m ((c.tc : Thread Cert.KvWeightGradIdeal.nD Cert.KvWeightGradIdeal.τ).loc Cert.KvWeightGradIdeal.main_arg0)
      ∧ m' ((c.tc : Thread Cert.KvWeightGradReferenceIdeal.nD Cert.KvWeightGradReferenceIdeal.τ).loc Cert.KvWeightGradReferenceIdeal.main_arg1) = m ((c.tc : Thread Cert.KvWeightGradIdeal.nD Cert.KvWeightGradIdeal.τ).loc Cert.KvWeightGradIdeal.main_arg1)) →
    ∃ (v0 : (c : Dev Cert.KvWeightGradIdeal.nD) → Buf (Elt Ideal) ((c.tc : Thread Cert.KvWeightGradIdeal.nD Cert.KvWeightGradIdeal.τ).loc Cert.KvWeightGradIdeal.main_v0)),
      θ_run (Cert.KvWeightGradIdeal.defs (F := Ideal)) (onTc (τ := Cert.KvWeightGradIdeal.τ) (Cert.KvWeightGradIdeal.main (F := Ideal))) ⟨m, fun _ => 0, g⟩ (fun r => ∀ c : Dev Cert.KvWeightGradIdeal.nD,
          r.2.mem ((c.tc : Thread Cert.KvWeightGradIdeal.nD Cert.KvWeightGradIdeal.τ).loc Cert.KvWeightGradIdeal.main_v0) = v0 c
          ∧ r.2.mem ((c.tc : Thread Cert.KvWeightGradIdeal.nD Cert.KvWeightGradIdeal.τ).loc Cert.KvWeightGradIdeal.main_arg0) = m ((c.tc : Thread Cert.KvWeightGradIdeal.nD Cert.KvWeightGradIdeal.τ).loc Cert.KvWeightGradIdeal.main_arg0)
          ∧ r.2.mem ((c.tc : Thread Cert.KvWeightGradIdeal.nD Cert.KvWeightGradIdeal.τ).loc Cert.KvWeightGradIdeal.main_arg1) = m ((c.tc : Thread Cert.KvWeightGradIdeal.nD Cert.KvWeightGradIdeal.τ).loc Cert.KvWeightGradIdeal.main_arg1))
      ∧ θ_run (Cert.KvWeightGradReferenceIdeal.defs (F := Ideal)) (onTc (τ := Cert.KvWeightGradReferenceIdeal.τ) (Cert.KvWeightGradReferenceIdeal.main (F := Ideal))) ⟨m', fun _ => 0, g'⟩ (fun r => ∀ c : Dev Cert.KvWeightGradReferenceIdeal.nD,
          r.2.mem ((c.tc : Thread Cert.KvWeightGradReferenceIdeal.nD Cert.KvWeightGradReferenceIdeal.τ).loc Cert.KvWeightGradReferenceIdeal.main_v6) = v0 c
          ∧ r.2.mem ((c.tc : Thread Cert.KvWeightGradReferenceIdeal.nD Cert.KvWeightGradReferenceIdeal.τ).loc Cert.KvWeightGradReferenceIdeal.main_arg0) = m' ((c.tc : Thread Cert.KvWeightGradReferenceIdeal.nD Cert.KvWeightGradReferenceIdeal.τ).loc Cert.KvWeightGradReferenceIdeal.main_arg0)
          ∧ r.2.mem ((c.tc : Thread Cert.KvWeightGradReferenceIdeal.nD Cert.KvWeightGradReferenceIdeal.τ).loc Cert.KvWeightGradReferenceIdeal.main_arg1) = m' ((c.tc : Thread Cert.KvWeightGradReferenceIdeal.nD Cert.KvWeightGradReferenceIdeal.τ).loc Cert.KvWeightGradReferenceIdeal.main_arg1))

def preserves_KvInputGrad_KvInputGradIdeal : Prop :=
  True

def algebraic_KvInputGradIdeal_KvInputGradReferenceIdeal [hKvInputGradIdeal : Cert.KvInputGradIdeal.Facts] [hKvInputGradReferenceIdeal : Cert.KvInputGradReferenceIdeal.Facts] : Prop :=
  ∀ (m : (ℓ : Loc Cert.KvInputGradIdeal.nD Cert.KvInputGradIdeal.τ Cert.KvInputGradIdeal.sig) → Buf (Elt Ideal) ℓ) (g : Dev Cert.KvInputGradIdeal.nD → PrngReg)
    (m' : (ℓ : Loc Cert.KvInputGradReferenceIdeal.nD Cert.KvInputGradReferenceIdeal.τ Cert.KvInputGradReferenceIdeal.sig) → Buf (Elt Ideal) ℓ) (g' : Dev Cert.KvInputGradReferenceIdeal.nD → PrngReg), Pre_KvInputGradIdeal m →
    (∀ c : Dev Cert.KvInputGradIdeal.nD,
      m' ((c.tc : Thread Cert.KvInputGradReferenceIdeal.nD Cert.KvInputGradReferenceIdeal.τ).loc Cert.KvInputGradReferenceIdeal.main_arg0) = m ((c.tc : Thread Cert.KvInputGradIdeal.nD Cert.KvInputGradIdeal.τ).loc Cert.KvInputGradIdeal.main_arg0)
      ∧ m' ((c.tc : Thread Cert.KvInputGradReferenceIdeal.nD Cert.KvInputGradReferenceIdeal.τ).loc Cert.KvInputGradReferenceIdeal.main_arg1) = m ((c.tc : Thread Cert.KvInputGradIdeal.nD Cert.KvInputGradIdeal.τ).loc Cert.KvInputGradIdeal.main_arg1)) →
    ∃ (v0 : (c : Dev Cert.KvInputGradIdeal.nD) → Buf (Elt Ideal) ((c.tc : Thread Cert.KvInputGradIdeal.nD Cert.KvInputGradIdeal.τ).loc Cert.KvInputGradIdeal.main_v0)),
      θ_run (Cert.KvInputGradIdeal.defs (F := Ideal)) (onTc (τ := Cert.KvInputGradIdeal.τ) (Cert.KvInputGradIdeal.main (F := Ideal))) ⟨m, fun _ => 0, g⟩ (fun r => ∀ c : Dev Cert.KvInputGradIdeal.nD,
          r.2.mem ((c.tc : Thread Cert.KvInputGradIdeal.nD Cert.KvInputGradIdeal.τ).loc Cert.KvInputGradIdeal.main_v0) = v0 c
          ∧ r.2.mem ((c.tc : Thread Cert.KvInputGradIdeal.nD Cert.KvInputGradIdeal.τ).loc Cert.KvInputGradIdeal.main_arg0) = m ((c.tc : Thread Cert.KvInputGradIdeal.nD Cert.KvInputGradIdeal.τ).loc Cert.KvInputGradIdeal.main_arg0)
          ∧ r.2.mem ((c.tc : Thread Cert.KvInputGradIdeal.nD Cert.KvInputGradIdeal.τ).loc Cert.KvInputGradIdeal.main_arg1) = m ((c.tc : Thread Cert.KvInputGradIdeal.nD Cert.KvInputGradIdeal.τ).loc Cert.KvInputGradIdeal.main_arg1))
      ∧ θ_run (Cert.KvInputGradReferenceIdeal.defs (F := Ideal)) (onTc (τ := Cert.KvInputGradReferenceIdeal.τ) (Cert.KvInputGradReferenceIdeal.main (F := Ideal))) ⟨m', fun _ => 0, g'⟩ (fun r => ∀ c : Dev Cert.KvInputGradReferenceIdeal.nD,
          r.2.mem ((c.tc : Thread Cert.KvInputGradReferenceIdeal.nD Cert.KvInputGradReferenceIdeal.τ).loc Cert.KvInputGradReferenceIdeal.main_v4) = v0 c
          ∧ r.2.mem ((c.tc : Thread Cert.KvInputGradReferenceIdeal.nD Cert.KvInputGradReferenceIdeal.τ).loc Cert.KvInputGradReferenceIdeal.main_arg0) = m' ((c.tc : Thread Cert.KvInputGradReferenceIdeal.nD Cert.KvInputGradReferenceIdeal.τ).loc Cert.KvInputGradReferenceIdeal.main_arg0)
          ∧ r.2.mem ((c.tc : Thread Cert.KvInputGradReferenceIdeal.nD Cert.KvInputGradReferenceIdeal.τ).loc Cert.KvInputGradReferenceIdeal.main_arg1) = m' ((c.tc : Thread Cert.KvInputGradReferenceIdeal.nD Cert.KvInputGradReferenceIdeal.τ).loc Cert.KvInputGradReferenceIdeal.main_arg1))

def preserves_GlaForward_GlaForwardIdeal : Prop :=
  True

def algebraic_GlaForwardIdeal_GlaForwardReferenceIdeal [hGlaForwardIdeal : Cert.GlaForwardIdeal.Facts] [hGlaForwardReferenceIdeal : Cert.GlaForwardReferenceIdeal.Facts] : Prop :=
  ∀ (m : (ℓ : Loc Cert.GlaForwardIdeal.nD Cert.GlaForwardIdeal.τ Cert.GlaForwardIdeal.sig) → Buf (Elt Ideal) ℓ) (g : Dev Cert.GlaForwardIdeal.nD → PrngReg)
    (m' : (ℓ : Loc Cert.GlaForwardReferenceIdeal.nD Cert.GlaForwardReferenceIdeal.τ Cert.GlaForwardReferenceIdeal.sig) → Buf (Elt Ideal) ℓ) (g' : Dev Cert.GlaForwardReferenceIdeal.nD → PrngReg), Pre_GlaForwardIdeal m →
    (∀ c : Dev Cert.GlaForwardIdeal.nD,
      m' ((c.tc : Thread Cert.GlaForwardReferenceIdeal.nD Cert.GlaForwardReferenceIdeal.τ).loc Cert.GlaForwardReferenceIdeal.main_arg0) = m ((c.tc : Thread Cert.GlaForwardIdeal.nD Cert.GlaForwardIdeal.τ).loc Cert.GlaForwardIdeal.main_arg0)
      ∧ m' ((c.tc : Thread Cert.GlaForwardReferenceIdeal.nD Cert.GlaForwardReferenceIdeal.τ).loc Cert.GlaForwardReferenceIdeal.main_arg1) = m ((c.tc : Thread Cert.GlaForwardIdeal.nD Cert.GlaForwardIdeal.τ).loc Cert.GlaForwardIdeal.main_arg1)
      ∧ m' ((c.tc : Thread Cert.GlaForwardReferenceIdeal.nD Cert.GlaForwardReferenceIdeal.τ).loc Cert.GlaForwardReferenceIdeal.main_arg2) = m ((c.tc : Thread Cert.GlaForwardIdeal.nD Cert.GlaForwardIdeal.τ).loc Cert.GlaForwardIdeal.main_arg2)) →
    ∃ (v0 : (c : Dev Cert.GlaForwardIdeal.nD) → Buf (Elt Ideal) ((c.tc : Thread Cert.GlaForwardIdeal.nD Cert.GlaForwardIdeal.τ).loc Cert.GlaForwardIdeal.main_v20_0)) (v1 : (c : Dev Cert.GlaForwardIdeal.nD) → Buf (Elt Ideal) ((c.tc : Thread Cert.GlaForwardIdeal.nD Cert.GlaForwardIdeal.τ).loc Cert.GlaForwardIdeal.main_v20_1)),
      θ_run (Cert.GlaForwardIdeal.defs (F := Ideal)) (onTc (τ := Cert.GlaForwardIdeal.τ) (Cert.GlaForwardIdeal.main (F := Ideal))) ⟨m, fun _ => 0, g⟩ (fun r => ∀ c : Dev Cert.GlaForwardIdeal.nD,
          r.2.mem ((c.tc : Thread Cert.GlaForwardIdeal.nD Cert.GlaForwardIdeal.τ).loc Cert.GlaForwardIdeal.main_v20_0) = v0 c
          ∧ r.2.mem ((c.tc : Thread Cert.GlaForwardIdeal.nD Cert.GlaForwardIdeal.τ).loc Cert.GlaForwardIdeal.main_v20_1) = v1 c
          ∧ r.2.mem ((c.tc : Thread Cert.GlaForwardIdeal.nD Cert.GlaForwardIdeal.τ).loc Cert.GlaForwardIdeal.main_arg0) = m ((c.tc : Thread Cert.GlaForwardIdeal.nD Cert.GlaForwardIdeal.τ).loc Cert.GlaForwardIdeal.main_arg0)
          ∧ r.2.mem ((c.tc : Thread Cert.GlaForwardIdeal.nD Cert.GlaForwardIdeal.τ).loc Cert.GlaForwardIdeal.main_arg1) = m ((c.tc : Thread Cert.GlaForwardIdeal.nD Cert.GlaForwardIdeal.τ).loc Cert.GlaForwardIdeal.main_arg1)
          ∧ r.2.mem ((c.tc : Thread Cert.GlaForwardIdeal.nD Cert.GlaForwardIdeal.τ).loc Cert.GlaForwardIdeal.main_arg2) = m ((c.tc : Thread Cert.GlaForwardIdeal.nD Cert.GlaForwardIdeal.τ).loc Cert.GlaForwardIdeal.main_arg2))
      ∧ θ_run (Cert.GlaForwardReferenceIdeal.defs (F := Ideal)) (onTc (τ := Cert.GlaForwardReferenceIdeal.τ) (Cert.GlaForwardReferenceIdeal.main (F := Ideal))) ⟨m', fun _ => 0, g'⟩ (fun r => ∀ c : Dev Cert.GlaForwardReferenceIdeal.nD,
          r.2.mem ((c.tc : Thread Cert.GlaForwardReferenceIdeal.nD Cert.GlaForwardReferenceIdeal.τ).loc Cert.GlaForwardReferenceIdeal.main_v93) = v0 c
          ∧ r.2.mem ((c.tc : Thread Cert.GlaForwardReferenceIdeal.nD Cert.GlaForwardReferenceIdeal.τ).loc Cert.GlaForwardReferenceIdeal.main_v97) = v1 c
          ∧ r.2.mem ((c.tc : Thread Cert.GlaForwardReferenceIdeal.nD Cert.GlaForwardReferenceIdeal.τ).loc Cert.GlaForwardReferenceIdeal.main_arg0) = m' ((c.tc : Thread Cert.GlaForwardReferenceIdeal.nD Cert.GlaForwardReferenceIdeal.τ).loc Cert.GlaForwardReferenceIdeal.main_arg0)
          ∧ r.2.mem ((c.tc : Thread Cert.GlaForwardReferenceIdeal.nD Cert.GlaForwardReferenceIdeal.τ).loc Cert.GlaForwardReferenceIdeal.main_arg1) = m' ((c.tc : Thread Cert.GlaForwardReferenceIdeal.nD Cert.GlaForwardReferenceIdeal.τ).loc Cert.GlaForwardReferenceIdeal.main_arg1)
          ∧ r.2.mem ((c.tc : Thread Cert.GlaForwardReferenceIdeal.nD Cert.GlaForwardReferenceIdeal.τ).loc Cert.GlaForwardReferenceIdeal.main_arg2) = m' ((c.tc : Thread Cert.GlaForwardReferenceIdeal.nD Cert.GlaForwardReferenceIdeal.τ).loc Cert.GlaForwardReferenceIdeal.main_arg2))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluReferenceIdeal : Cert.SwigluReferenceIdeal.Facts) (hUpGrad : Cert.UpGrad.Facts) (hUpGradIdeal : Cert.UpGradIdeal.Facts) (hUpGradReferenceIdeal : Cert.UpGradReferenceIdeal.Facts) (hHiddenGrad : Cert.HiddenGrad.Facts) (hHiddenGradIdeal : Cert.HiddenGradIdeal.Facts) (hHiddenGradReferenceIdeal : Cert.HiddenGradReferenceIdeal.Facts) (hDownGrad : Cert.DownGrad.Facts) (hDownGradIdeal : Cert.DownGradIdeal.Facts) (hDownGradReferenceIdeal : Cert.DownGradReferenceIdeal.Facts) (hOutGrad : Cert.OutGrad.Facts) (hOutGradIdeal : Cert.OutGradIdeal.Facts) (hOutGradReferenceIdeal : Cert.OutGradReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hProj : Cert.Proj.Facts) (hProjIdeal : Cert.ProjIdeal.Facts) (hProjReferenceIdeal : Cert.ProjReferenceIdeal.Facts) (hOut : Cert.Out.Facts) (hOutIdeal : Cert.OutIdeal.Facts) (hOutReferenceIdeal : Cert.OutReferenceIdeal.Facts) (hGla : Cert.Gla.Facts) (hGlaIdeal : Cert.GlaIdeal.Facts) (hGlaReferenceIdeal : Cert.GlaReferenceIdeal.Facts) (hMemForward : Cert.MemForward.Facts) (hMemForwardIdeal : Cert.MemForwardIdeal.Facts) (hMemForwardReferenceIdeal : Cert.MemForwardReferenceIdeal.Facts) (hNorm : Cert.Norm.Facts) (hNormIdeal : Cert.NormIdeal.Facts) (hNormReferenceIdeal : Cert.NormReferenceIdeal.Facts) (hNormGrad : Cert.NormGrad.Facts) (hNormGradIdeal : Cert.NormGradIdeal.Facts) (hNormGradReferenceIdeal : Cert.NormGradReferenceIdeal.Facts) (hMemKv : Cert.MemKv.Facts) (hMemKvIdeal : Cert.MemKvIdeal.Facts) (hMemKvReferenceIdeal : Cert.MemKvReferenceIdeal.Facts) (hKvWeightGrad : Cert.KvWeightGrad.Facts) (hKvWeightGradIdeal : Cert.KvWeightGradIdeal.Facts) (hKvWeightGradReferenceIdeal : Cert.KvWeightGradReferenceIdeal.Facts) (hKvInputGrad : Cert.KvInputGrad.Facts) (hKvInputGradIdeal : Cert.KvInputGradIdeal.Facts) (hKvInputGradReferenceIdeal : Cert.KvInputGradReferenceIdeal.Facts) (hGlaForward : Cert.GlaForward.Facts) (hGlaForwardIdeal : Cert.GlaForwardIdeal.Facts) (hGlaForwardReferenceIdeal : Cert.GlaForwardReferenceIdeal.Facts) (hPre_finite : Cert.Pre_finite.Facts) (hPre_finite_swiglu : Cert.Pre_finite_swiglu.Facts) (hPre_finite_mem : Cert.Pre_finite_mem.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Swiglu (hSwiglu := hSwiglu)
    ∧ quiescent_SwigluIdeal (hSwigluIdeal := hSwigluIdeal)
    ∧ quiescent_SwigluIdeal_pre_finite_swiglu (hSwigluIdeal := hSwigluIdeal) (hPre_finite_swiglu := hPre_finite_swiglu)
    ∧ quiescent_SwigluReferenceIdeal (hSwigluReferenceIdeal := hSwigluReferenceIdeal)
    ∧ quiescent_SwigluReferenceIdeal_pre_finite_swiglu (hSwigluReferenceIdeal := hSwigluReferenceIdeal) (hPre_finite_swiglu := hPre_finite_swiglu)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_HiddenGrad (hHiddenGrad := hHiddenGrad)
    ∧ quiescent_HiddenGradIdeal (hHiddenGradIdeal := hHiddenGradIdeal)
    ∧ quiescent_HiddenGradReferenceIdeal (hHiddenGradReferenceIdeal := hHiddenGradReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Out (hOut := hOut)
    ∧ quiescent_OutIdeal (hOutIdeal := hOutIdeal)
    ∧ quiescent_OutReferenceIdeal (hOutReferenceIdeal := hOutReferenceIdeal)
    ∧ quiescent_Gla (hGla := hGla)
    ∧ quiescent_GlaIdeal (hGlaIdeal := hGlaIdeal)
    ∧ quiescent_GlaReferenceIdeal (hGlaReferenceIdeal := hGlaReferenceIdeal)
    ∧ quiescent_MemForward (hMemForward := hMemForward)
    ∧ quiescent_MemForwardIdeal (hMemForwardIdeal := hMemForwardIdeal)
    ∧ quiescent_MemForwardIdeal_pre_finite_mem (hMemForwardIdeal := hMemForwardIdeal) (hPre_finite_mem := hPre_finite_mem)
    ∧ quiescent_MemForwardReferenceIdeal (hMemForwardReferenceIdeal := hMemForwardReferenceIdeal)
    ∧ quiescent_MemForwardReferenceIdeal_pre_finite_mem (hMemForwardReferenceIdeal := hMemForwardReferenceIdeal) (hPre_finite_mem := hPre_finite_mem)
    ∧ quiescent_Norm (hNorm := hNorm)
    ∧ quiescent_NormIdeal (hNormIdeal := hNormIdeal)
    ∧ quiescent_NormReferenceIdeal (hNormReferenceIdeal := hNormReferenceIdeal)
    ∧ quiescent_NormGrad (hNormGrad := hNormGrad)
    ∧ quiescent_NormGradIdeal (hNormGradIdeal := hNormGradIdeal)
    ∧ quiescent_NormGradReferenceIdeal (hNormGradReferenceIdeal := hNormGradReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_KvWeightGrad (hKvWeightGrad := hKvWeightGrad)
    ∧ quiescent_KvWeightGradIdeal (hKvWeightGradIdeal := hKvWeightGradIdeal)
    ∧ quiescent_KvWeightGradReferenceIdeal (hKvWeightGradReferenceIdeal := hKvWeightGradReferenceIdeal)
    ∧ quiescent_KvInputGrad (hKvInputGrad := hKvInputGrad)
    ∧ quiescent_KvInputGradIdeal (hKvInputGradIdeal := hKvInputGradIdeal)
    ∧ quiescent_KvInputGradReferenceIdeal (hKvInputGradReferenceIdeal := hKvInputGradReferenceIdeal)
    ∧ quiescent_GlaForward (hGlaForward := hGlaForward)
    ∧ quiescent_GlaForwardIdeal (hGlaForwardIdeal := hGlaForwardIdeal)
    ∧ quiescent_GlaForwardReferenceIdeal (hGlaForwardReferenceIdeal := hGlaForwardReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Swiglu_SwigluIdeal
    ∧ algebraic_SwigluIdeal_SwigluReferenceIdeal_pre_finite_swiglu (hSwigluIdeal := hSwigluIdeal) (hSwigluReferenceIdeal := hSwigluReferenceIdeal) (hPre_finite_swiglu := hPre_finite_swiglu)
    ∧ preserves_UpGrad_UpGradIdeal
    ∧ algebraic_UpGradIdeal_UpGradReferenceIdeal (hUpGradIdeal := hUpGradIdeal) (hUpGradReferenceIdeal := hUpGradReferenceIdeal)
    ∧ preserves_HiddenGrad_HiddenGradIdeal
    ∧ algebraic_HiddenGradIdeal_HiddenGradReferenceIdeal (hHiddenGradIdeal := hHiddenGradIdeal) (hHiddenGradReferenceIdeal := hHiddenGradReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Proj_ProjIdeal
    ∧ algebraic_ProjIdeal_ProjReferenceIdeal (hProjIdeal := hProjIdeal) (hProjReferenceIdeal := hProjReferenceIdeal)
    ∧ preserves_Out_OutIdeal
    ∧ algebraic_OutIdeal_OutReferenceIdeal (hOutIdeal := hOutIdeal) (hOutReferenceIdeal := hOutReferenceIdeal)
    ∧ preserves_Gla_GlaIdeal
    ∧ algebraic_GlaIdeal_GlaReferenceIdeal (hGlaIdeal := hGlaIdeal) (hGlaReferenceIdeal := hGlaReferenceIdeal)
    ∧ preserves_MemForward_MemForwardIdeal
    ∧ algebraic_MemForwardIdeal_MemForwardReferenceIdeal_pre_finite_mem (hMemForwardIdeal := hMemForwardIdeal) (hMemForwardReferenceIdeal := hMemForwardReferenceIdeal) (hPre_finite_mem := hPre_finite_mem)
    ∧ preserves_Norm_NormIdeal
    ∧ algebraic_NormIdeal_NormReferenceIdeal (hNormIdeal := hNormIdeal) (hNormReferenceIdeal := hNormReferenceIdeal)
    ∧ preserves_NormGrad_NormGradIdeal
    ∧ algebraic_NormGradIdeal_NormGradReferenceIdeal (hNormGradIdeal := hNormGradIdeal) (hNormGradReferenceIdeal := hNormGradReferenceIdeal)
    ∧ preserves_MemKv_MemKvIdeal
    ∧ algebraic_MemKvIdeal_MemKvReferenceIdeal (hMemKvIdeal := hMemKvIdeal) (hMemKvReferenceIdeal := hMemKvReferenceIdeal)
    ∧ preserves_KvWeightGrad_KvWeightGradIdeal
    ∧ algebraic_KvWeightGradIdeal_KvWeightGradReferenceIdeal (hKvWeightGradIdeal := hKvWeightGradIdeal) (hKvWeightGradReferenceIdeal := hKvWeightGradReferenceIdeal)
    ∧ preserves_KvInputGrad_KvInputGradIdeal
    ∧ algebraic_KvInputGradIdeal_KvInputGradReferenceIdeal (hKvInputGradIdeal := hKvInputGradIdeal) (hKvInputGradReferenceIdeal := hKvInputGradReferenceIdeal)
    ∧ preserves_GlaForward_GlaForwardIdeal
    ∧ algebraic_GlaForwardIdeal_GlaForwardReferenceIdeal (hGlaForwardIdeal := hGlaForwardIdeal) (hGlaForwardReferenceIdeal := hGlaForwardReferenceIdeal)
-- ==== Pre_finite.lean ====
abbrev S8192x512 : Shape := ⟨2, ![8192, 512]⟩
abbrev S256x512 : Shape := ⟨2, ![256, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x512 .bf16) (main_arg1 : FVec F S256x512 .bf16) (main_arg2 : FVec F S256x512 .bf16) (main_arg3 : FVec F S8192x512 .bf16) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S256x512 .f32 := (extf .f32 · bitsLt_bf16_f32) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  main_v10
-- ==== Pre_finite_mem.lean ====
abbrev S8192x512 : Shape := ⟨2, ![8192, 512]⟩
abbrev S256x512 : Shape := ⟨2, ![256, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x512 .bf16) (main_arg1 : FVec F S256x512 .bf16) (main_arg2 : FVec F S256x512 .bf16) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S256x512 .f32 := (extf .f32 · bitsLt_bf16_f32) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  main_v10
-- ==== Pre_finite_swiglu.lean ====
abbrev S8192x2048 : Shape := ⟨2, ![8192, 2048]⟩
abbrev S5632x2048 : Shape := ⟨2, ![5632, 2048]⟩
abbrev S2x8192x5632 : Shape := ⟨3, ![2, 8192, 5632]⟩
abbrev S_ : Shape := ⟨0, ![]⟩
abbrev S1x8192x5632 : Shape := ⟨3, ![1, 8192, 5632]⟩
abbrev S8192x5632 : Shape := ⟨2, ![8192, 5632]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  slices_S2x8192x5632_S1x8192x5632_1_0_0 : S2x8192x5632.Slices ![1, 0, 0] S1x8192x5632
  shapeCasts_S1x8192x5632_S8192x5632 : S1x8192x5632.ShapeCasts S8192x5632
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_v10 : IVec S_ 1) (main_v17 : IVec S_ 1) : IVec S_ 1 :=
  let main_v18 : IVec S_ 1 := andi main_v10 main_v17
  main_v18

def fn {F : FTy → Type} [FloatOps F] (main_arg0 : FVec F S8192x2048 .bf16) (main_arg1 : FVec F S5632x2048 .bf16) (main_arg2 : FVec F S2x8192x5632 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S1x8192x5632 .bf16 := (extractStridedSlice S1x8192x5632 ![1, 0, 0] · slices_S2x8192x5632_S1x8192x5632_1_0_0) main_arg2
  let main_v12 : FVec F S8192x5632 .bf16 := shapeCast S8192x5632 main_v11 shapeCasts_S1x8192x5632_S8192x5632
  let main_v13 : FVec F S8192x5632 .f32 := (extf .f32 · bitsLt_bf16_f32) main_v12
  let main_v14 : FVec F S8192x5632 .f32 := Host.absf main_v13
  let main_cst_2 : FVec F S_ .f32 := constant S_ .f32 0x7F800000#32
  let main_v15 : FVec F S8192x5632 .f32 := broadcastInDim S8192x5632 ![] bcast_S_S8192x5632 main_cst_2
  let main_v16 : IVec S8192x5632 1 := cmpf .olt main_v14 main_v15
  let main_c_3 : IVec S_ 1 := constantI S_ 1 1#1
  let main_v17 : IVec S_ 1 := (fun x v => Host.reduce IntOp.andi x v reducesTo_S8192x5632_S_d0_1 h_S_) main_v16 main_c_3
  fn_part1 (F := F) main_v10 main_v17
-- ==== Kernel.lean ====
abbrev S8192x512 : Shape := ⟨2, ![8192, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S256x512, .bf16⟩
  | .hbm, ⟨2, _⟩ => ⟨S256x512, .bf16⟩
  | .hbm, ⟨3, _⟩ => ⟨S8192x512, .bf16⟩
  | .hbm, ⟨4, _⟩ => ⟨S8192x512, .f32⟩
  | .hbm, ⟨5, _⟩ => ⟨S256x512, .f32⟩
  | .hbm, ⟨6, _⟩ => ⟨S256x512, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S256x512, .f32⟩
  | .local _ .vmem, ⟨9, _⟩ => ⟨S256x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x512 : Shape := ⟨2, ![8192, 512]⟩
abbrev S256x512 : Shape := ⟨2, ![256, 512]⟩
abbrev S8192x4x128 : Shape := ⟨3, ![8192, 4, 128]⟩
abbrev S4x8192x128 : Shape := ⟨3, ![4, 8192, 128]⟩
abbrev S256x4x128 : Shape := ⟨3, ![256, 4, 128]⟩
abbrev S4x256x128 : Shape := ⟨3, ![4, 256, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x256 : Shape := ⟨3, ![4, 128, 256]⟩

abbrev nBuf : Space → Nat
  | .hbm => 89
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S256x512, .bf16⟩
  | .hbm, ⟨2, _⟩ => ⟨S256x512, .bf16⟩
  | .hbm, ⟨3, _⟩ => ⟨S8192x512, .bf16⟩
  | .hbm, ⟨4, _⟩ => ⟨S8192x512, .f32⟩
  | .hbm, ⟨5, _⟩ => ⟨S256x512, .f32⟩
  | .hbm, ⟨6, _⟩ => ⟨S256x512, .f32⟩
  | .hbm, ⟨7, _⟩ => ⟨S8192x4x128, .f32⟩
  | .hbm, ⟨8, _⟩ => ⟨S4x8192x128, .f32⟩
  | .hbm, ⟨9, _⟩ => ⟨S256x4x128, .f32⟩
  | .hbm, ⟨10, _⟩ => ⟨S4x256x128, .f32⟩
  | .hbm, ⟨11, _⟩ => ⟨S256x4x128, .f32⟩
  | .hbm, ⟨12, _⟩ => ⟨S4x256x128, .f32⟩
  | .hbm, ⟨13, _⟩ => ⟨S4x8192x256, .f32⟩
  | .hbm, ⟨14, _⟩ => ⟨S_, .f32⟩
  | .hbm, ⟨15, _⟩ => ⟨S4x8192x256, .f32⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .i1⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S4x8192, .i1⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S_, .f32⟩
  | .hbm, ⟨39, _⟩ => ⟨S4x8192, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x256, .f32⟩
  | .hbm, ⟨50, _⟩ => ⟨S4x8192x256, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x8192x128, .f32⟩
  | .hbm, ⟨56, _⟩ => ⟨S8192x4x128, .f32⟩
  | .hbm, ⟨57, _⟩ => ⟨S8192x512, .f32⟩
  | .hbm, ⟨58, _⟩ => ⟨S8192x512, .f32⟩
  | .hbm, ⟨59, _⟩ => ⟨S8192x4x128, .f32⟩
  | .hbm, ⟨60, _⟩ => ⟨S4x8192x128, .f32⟩
  | .hbm, ⟨61, _⟩ => ⟨S4x128x256, .f32⟩
  | .hbm, ⟨62, _⟩ => ⟨S4x256x128, .f32⟩
  | .hbm, ⟨63, _⟩ => ⟨S4x8192x256, .f32⟩
  | .hbm, ⟨64, _⟩ => ⟨S4x8192x256, .f32⟩
  | .hbm, ⟨65, _⟩ => ⟨S4x8192x256, .f32⟩
  | .hbm, ⟨66, _⟩ => ⟨S4x8192x256, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S4x8192x1, .f32⟩
  | .hbm, ⟨71, _⟩ => ⟨S4x8192x256, .f32⟩
  | .hbm, ⟨72, _⟩ => ⟨S4x8192x256, .f32⟩
  | .hbm, ⟨73, _⟩ => ⟨S_, .f32⟩
  | .hbm, ⟨74, _⟩ => ⟨S4x8192, .f32⟩
  | .hbm, ⟨75, _⟩ => ⟨S4x8192x256, .f32⟩
  | .hbm, ⟨76, _⟩ => ⟨S4x8192x256, .f32⟩
  | .hbm, ⟨77, _⟩ => ⟨S4x8192x256, .f32⟩
  | .hbm, ⟨78, _⟩ => ⟨S_, .f32⟩
  | .hbm, ⟨79, _⟩ => ⟨S4x8192x256, .f32⟩
  | .hbm, ⟨80, _⟩ => ⟨S4x8192x256, .f32⟩
  | .hbm, ⟨81, _⟩ => ⟨S4x256x128, .f32⟩
  | .hbm, ⟨82, _⟩ => ⟨S4x8192x128, .f32⟩
  | .hbm, ⟨83, _⟩ => ⟨S256x4x128, .f32⟩
  | .hbm, ⟨84, _⟩ => ⟨S256x512, .f32⟩
  | .hbm, ⟨85, _⟩ => ⟨S256x4x128, .f32⟩
  | .hbm, ⟨86, _⟩ => ⟨S256x512, .f32⟩
  | .hbm, ⟨87, _⟩ => ⟨S8192x4x128, .f32⟩
  | .hbm, ⟨88, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Swiglu.lean ====
abbrev S8192x2048 : Shape := ⟨2, ![8192, 2048]⟩
abbrev S5632x2048 : Shape := ⟨2, ![5632, 2048]⟩
abbrev S2x8192x5632 : Shape := ⟨3, ![2, 8192, 5632]⟩
abbrev S1024x2048 : Shape := ⟨2, ![1024, 2048]⟩
abbrev S512x2048 : Shape := ⟨2, ![512, 2048]⟩
abbrev S1x1024x512 : Shape := ⟨3, ![1, 1024, 512]⟩
abbrev S2x1024x512 : Shape := ⟨3, ![2, 1024, 512]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2x8192x5632, .bf16⟩
  | .hbm, ⟨3, _⟩ => ⟨S2x8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S2x1024x512, .bf16⟩
  | .local _ .vmem, ⟨9, _⟩ => ⟨S2x1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluReferenceIdeal.lean ====
abbrev S8192x2048 : Shape := ⟨2, ![8192, 2048]⟩
abbrev S5632x2048 : Shape := ⟨2, ![5632, 2048]⟩
abbrev S2x8192x5632 : Shape := ⟨3, ![2, 8192, 5632]⟩
abbrev S1x8192x5632 : Shape := ⟨3, ![1, 8192, 5632]⟩
abbrev S8192x5632 : Shape := ⟨2, ![8192, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2x8192x5632, .bf16⟩
  | .hbm, ⟨3, _⟩ => ⟨S5632x2048, .f32⟩
  | .hbm, ⟨4, _⟩ => ⟨S1x8192x5632, .bf16⟩
  | .hbm, ⟨5, _⟩ => ⟨S8192x5632, .bf16⟩
  | .hbm, ⟨6, _⟩ => ⟨S8192x5632, .f32⟩
  | .hbm, ⟨7, _⟩ => ⟨S1x8192x5632, .bf16⟩
  | .hbm, ⟨8, _⟩ => ⟨S8192x5632, .bf16⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x2048, .f32⟩
  | .hbm, ⟨25, _⟩ => ⟨S8192x2048, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S1x8192x5632, .f32⟩
  | .hbm, ⟨34, _⟩ => ⟨S1x8192x5632, .f32⟩
  | .hbm, ⟨35, _⟩ => ⟨S2x8192x5632, .f32⟩
  | .hbm, ⟨36, _⟩ => ⟨S2x8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== UpGrad.lean ====
abbrev S8192x2048 : Shape := ⟨2, ![8192, 2048]⟩
abbrev S2x8192x5632 : Shape := ⟨3, ![2, 8192, 5632]⟩
abbrev S8x2048x1408 : Shape := ⟨3, ![8, 2048, 1408]⟩
abbrev S1024x2048 : Shape := ⟨2, ![1024, 2048]⟩
abbrev S1x1024x1408 : Shape := ⟨3, ![1, 1024, 1408]⟩
abbrev S1x2048x1408 : Shape := ⟨3, ![1, 2048, 1408]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradReferenceIdeal.lean ====
abbrev S8192x2048 : Shape := ⟨2, ![8192, 2048]⟩
abbrev S2x8192x5632 : Shape := ⟨3, ![2, 8192, 5632]⟩
abbrev S1x8192x5632 : Shape := ⟨3, ![1, 8192, 5632]⟩
abbrev S8192x5632 : Shape := ⟨2, ![8192, 5632]⟩
abbrev S_ : Shape := ⟨0, ![]⟩
abbrev S2048x11264 : Shape := ⟨2, ![2048, 11264]⟩
abbrev S8192x11264 : Shape := ⟨2, ![8192, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S1x8192x5632, .bf16⟩
  | .hbm, ⟨3, _⟩ => ⟨S8192x5632, .bf16⟩
  | .hbm, ⟨4, _⟩ => ⟨S8192x5632, .f32⟩
  | .hbm, ⟨5, _⟩ => ⟨S1x8192x5632, .bf16⟩
  | .hbm, ⟨6, _⟩ => ⟨S8192x5632, .bf16⟩
  | .hbm, ⟨7, _⟩ => ⟨S8192x5632, .f32⟩
  | .hbm, ⟨8, _⟩ => ⟨S_, .f32⟩
  | .hbm, ⟨9, _⟩ => ⟨S2048x11264, .f32⟩
  | .hbm, ⟨10, _⟩ => ⟨S8192x2048, .f32⟩
  | .hbm, ⟨11, _⟩ => ⟨S8192x11264, .f32⟩
  | .hbm, ⟨12, _⟩ => ⟨S8192x5632, .f32⟩
  | .hbm, ⟨13, _⟩ => ⟨S8192x5632, .f32⟩
  | .hbm, ⟨14, _⟩ => ⟨S8192x11264, .f32⟩
  | .hbm, ⟨15, _⟩ => ⟨S11264x2048, .f32⟩
  | .hbm, ⟨16, _⟩ => ⟨S2048x11264, .f32⟩
  | .hbm, ⟨17, _⟩ => ⟨S2048x11264, .bf16⟩
  | .hbm, ⟨18, _⟩ => ⟨S2048x8x1408, .bf16⟩
  | .hbm, ⟨19, _⟩ => ⟨S8x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== HiddenGrad.lean ====
abbrev S2x8192x5632 : Shape := ⟨3, ![2, 8192, 5632]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S8192x2048 : Shape := ⟨2, ![8192, 2048]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S8192x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiddenGradReferenceIdeal.lean ====
abbrev S2x8192x5632 : Shape := ⟨3, ![2, 8192, 5632]⟩
abbrev S2048x11264 : Shape := ⟨2, ![2048, 11264]⟩
abbrev S1x8192x5632 : Shape := ⟨3, ![1, 8192, 5632]⟩
abbrev S8192x5632 : Shape := ⟨2, ![8192, 5632]⟩
abbrev S_ : Shape := ⟨0, ![]⟩
abbrev S8192x2048 : Shape := ⟨2, ![8192, 2048]⟩
abbrev S8192x11264 : Shape := ⟨2, ![8192, 11264]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S1x8192x5632, .bf16⟩
  | .hbm, ⟨3, _⟩ => ⟨S8192x5632, .bf16⟩
  | .hbm, ⟨4, _⟩ => ⟨S8192x5632, .f32⟩
  | .hbm, ⟨5, _⟩ => ⟨S1x8192x5632, .bf16⟩
  | .hbm, ⟨6, _⟩ => ⟨S8192x5632, .bf16⟩
  | .hbm, ⟨7, _⟩ => ⟨S8192x5632, .f32⟩
  | .hbm, ⟨8, _⟩ => ⟨S_, .f32⟩
  | .hbm, ⟨9, _⟩ => ⟨S8192x2048, .f32⟩
  | .hbm, ⟨10, _⟩ => ⟨S2048x11264, .f32⟩
  | .hbm, ⟨11, _⟩ => ⟨S8192x11264, .f32⟩
  | .hbm, ⟨12, _⟩ => ⟨S8192x5632, .f32⟩
  | .hbm, ⟨13, _⟩ => ⟨S8192x5632, .f32⟩
  | .hbm, ⟨14, _⟩ => ⟨S8192x11264, .f32⟩
  | .hbm, ⟨15, _⟩ => ⟨S8192x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== DownGrad.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradReferenceIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutGrad.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S8192x2048 : Shape := ⟨2, ![8192, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2x8192x5632 : Shape := ⟨3, ![2, 8192, 5632]⟩
abbrev S8192x5632 : Shape := ⟨2, ![8192, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S2x8192x5632, .bf16⟩
  | .hbm, ⟨5, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpReferenceIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩
abbrev S2x8192x5632 : Shape := ⟨3, ![2, 8192, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S1x8192x5632, .f32⟩
  | .hbm, ⟨8, _⟩ => ⟨S1x8192x5632, .f32⟩
  | .hbm, ⟨9, _⟩ => ⟨S2x8192x5632, .f32⟩
  | .hbm, ⟨10, _⟩ => ⟨S2x8192x5632, .bf16⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj.lean ====
abbrev S8192x2048 : Shape := ⟨2, ![8192, 2048]⟩
abbrev S2048x5376 : Shape := ⟨2, ![2048, 5376]⟩
abbrev S8192x5376 : Shape := ⟨2, ![8192, 5376]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5376, .bf16⟩
  | .hbm, ⟨2, _⟩ => ⟨S8192x5376, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S8192x2048 : Shape := ⟨2, ![8192, 2048]⟩
abbrev S2048x5376 : Shape := ⟨2, ![2048, 5376]⟩
abbrev S8192x5376 : Shape := ⟨2, ![8192, 5376]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5376, .bf16⟩
  | .hbm, ⟨2, _⟩ => ⟨S8192x2048, .f32⟩
  | .hbm, ⟨3, _⟩ => ⟨S2048x5376, .f32⟩
  | .hbm, ⟨4, _⟩ => ⟨S8192x5376, .f32⟩
  | .hbm, ⟨5, _⟩ => ⟨S8192x5376, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gla.lean ====
abbrev S8192x5376 : Shape := ⟨2, ![8192, 5376]⟩
abbrev S16x512 : Shape := ⟨2, ![16, 512]⟩
abbrev S512 : Shape := ⟨1, ![512]⟩
abbrev S4x32x128x256 : Shape := ⟨4, ![4, 32, 128, 256]⟩
abbrev S8192x1024 : Shape := ⟨2, ![8192, 1024]⟩
abbrev S16x4x128 : Shape := ⟨3, ![16, 4, 128]⟩
abbrev S4x16x128 : Shape := ⟨3, ![4, 16, 128]⟩
abbrev S_ : Shape := ⟨0, ![]⟩
abbrev S4x128x128 : Shape := ⟨3, ![4, 128, 128]⟩
abbrev S4x1x128 : Shape := ⟨3, ![4, 1, 128]⟩
abbrev S256 : Shape := ⟨1, ![256]⟩
abbrev S4 : Shape := ⟨1, ![4]⟩
abbrev S4x64 : Shape := ⟨2, ![4, 64]⟩
abbrev S256x1 : Shape := ⟨2, ![256, 1]⟩
abbrev S1x256 : Shape := ⟨2, ![1, 256]⟩
abbrev S256x256 : Shape := ⟨2, ![256, 256]⟩
abbrev S8192x512 : Shape := ⟨2, ![8192, 512]⟩
abbrev S4x8192x128 : Shape := ⟨3, ![4, 8192, 128]⟩
abbrev S256x512 : Shape := ⟨2, ![256, 512]⟩
abbrev S256x1024 : Shape := ⟨2, ![256, 1024]⟩
abbrev S256x128 : Shape := ⟨2, ![256, 128]⟩
abbrev S4x1x128x256 : Shape := ⟨4, ![4, 1, 128, 256]⟩
abbrev S4x256x128 : Shape := ⟨3, ![4, 256, 128]⟩
abbrev S4x128x256 : Shape := ⟨3, ![4, 128, 256]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S1x1x128x256 : Shape := ⟨4, ![1, 1, 128, 256]⟩
abbrev S128x256 : Shape := ⟨2, ![128, 256]⟩
abbrev S64x128 : Shape := ⟨2, ![64, 128]⟩
abbrev S128 : Shape := ⟨1, ![128]⟩
abbrev S128x1 : Shape := ⟨2, ![128, 1]⟩
abbrev S64x256 : Shape := ⟨2, ![64, 256]⟩
abbrev S1x128x256 : Shape := ⟨3, ![1, 128, 256]⟩
abbrev S192x256 : Shape := ⟨2, ![192, 256]⟩
abbrev S192x128 : Shape := ⟨2, ![192, 128]⟩
abbrev S1x256x128 : Shape := ⟨3, ![1, 256, 128]⟩

abbrev nBuf : Space → Nat
  | .hbm => 33
  | .vmem => 27
  | .smem => 0
  | _ => 0

abbrev bufTy : (tb : Table) → Fin (tcTables nBuf tb) → BufTy
  | .hbm, ⟨0, _⟩ => ⟨S8192x5376, .bf16⟩
  | .hbm, ⟨1, _⟩ => ⟨S16x512, .f32⟩
  | .hbm, ⟨2, _⟩ => ⟨S512, .f32⟩
  | .hbm, ⟨3, _⟩ => ⟨S4x32x128x256, .f32⟩
  | .hbm, ⟨4, _⟩ => ⟨S8192x1024, .bf16⟩
  | .hbm, ⟨5, _⟩ => ⟨S16x4x128, .f32⟩
  | .hbm, ⟨6, _⟩ => ⟨S4x16x128, .f32⟩
  | .hbm, ⟨7, _⟩ => ⟨S_, .i32⟩
  | .hbm, ⟨8, _⟩ => ⟨S_, .f32⟩
  | .hbm, ⟨9, _⟩ => ⟨S4x128x128, .f32⟩
  | .hbm, ⟨10, _⟩ => ⟨S4x1x128, .f32⟩
  | .hbm, ⟨11, _⟩ => ⟨S256, .i32⟩
  | .hbm, ⟨12, _⟩ => ⟨S4, .i32⟩
  | .hbm, ⟨13, _⟩ => ⟨S4x64, .i32⟩
  | .hbm, ⟨14, _⟩ => ⟨S256, .i32⟩
  | .hbm, ⟨15, _⟩ => ⟨S256x1, .i32⟩
  | .hbm, ⟨16, _⟩ => ⟨S1x256, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S1x256, .i32⟩
  | .hbm, ⟨21, _⟩ => ⟨S256x1, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S256x256, .i1⟩
  | .hbm, ⟨26, _⟩ => ⟨S256x256, .f32⟩
  | .hbm, ⟨27, _⟩ => ⟨S8192x512, .bf16⟩
  | .hbm, ⟨28, _⟩ => ⟨S8192x512, .bf16⟩
  | .hbm, ⟨29, _⟩ => ⟨S8192x1024, .bf16⟩
  | .hbm, ⟨30, _⟩ => ⟨S4x8192x128, .bf16⟩
  | .hbm, ⟨31, _⟩ => ⟨S4x128x128, .f32⟩
  | .hbm, ⟨32, _⟩ => ⟨S4x1x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x128, .bf16⟩
  | .local _ .vmem, ⟨7, _⟩ => ⟨S256x128, .bf16⟩
  | .local _ .vmem, ⟨8, _⟩ => ⟨S4x128x128, .f32⟩
  | .local _ .vmem, ⟨9, _⟩ => ⟨S4x1x128, .f32⟩
  | .local _ .vmem, ⟨10, _⟩ => ⟨S256x256, .f32⟩
  | .local _ .vmem, ⟨11, _⟩ => ⟨S256x256, .f32⟩
  | .local _ .vmem, ⟨12, _⟩ => ⟨S4x1x128x256, .f32⟩
  | .local _ .vmem, ⟨13, _⟩ => ⟨S4x1x128x256, .f32⟩
  | .local _ .vmem, ⟨14, _⟩ => ⟨S256x1024, .bf16⟩
  | .local _ .vmem, ⟨15, _⟩ => ⟨S256x1024, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x1024, .bf16⟩
  | .local _ .vmem, ⟨21, _⟩ => ⟨S256x1024, .bf16⟩
  | .local _ .vmem, ⟨22, _⟩ => ⟨S4x256x128, .bf16⟩
  | .local _ .vmem, ⟨23, _⟩ => ⟨S4x256x128, .bf16⟩
  | .local _ .vmem, ⟨24, _⟩ => ⟨S4x128x128, .f32⟩
  | .local _ .vmem, ⟨25, _⟩ => ⟨S4x1x128, .f32⟩
  | .local _ .vmem, ⟨26, _⟩ => ⟨S4x128x256, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v20_3 : Ref sig .tc := ⟨.hbm, 30, rfl⟩
abbrev main_v20_4 : Ref sig .tc := ⟨.hbm, 31, rfl⟩
abbrev main_v20_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.addi c1_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c40_i32 : BitVec 32 := 40#32
  let c0_i32 : BitVec 32 := 0#32
  ![v0.toNat, c40_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_13 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S4x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== GlaReferenceIdeal.lean ====
abbrev S8192x5376 : Shape := ⟨2, ![8192, 5376]⟩
abbrev S16x512 : Shape := ⟨2, ![16, 512]⟩
abbrev S512 : Shape := ⟨1, ![512]⟩
abbrev S4x32x128x256 : Shape := ⟨4, ![4, 32, 128, 256]⟩
abbrev S8192x1024 : Shape := ⟨2, ![8192, 1024]⟩
abbrev S8192x16 : Shape := ⟨2, ![8192, 16]⟩
abbrev S8192x512 : Shape := ⟨2, ![8192, 512]⟩
abbrev S1x512 : Shape := ⟨2, ![1, 512]⟩
abbrev S_ : Shape := ⟨0, ![]⟩
abbrev S8192x4x128 : Shape := ⟨3, ![8192, 4, 128]⟩
abbrev S4x8192x128 : Shape := ⟨3, ![4, 8192, 128]⟩
abbrev S4x128x64x128 : Shape := ⟨4, ![4, 128, 64, 128]⟩
abbrev S4x128x1x128 : Shape := ⟨4, ![4, 128, 1, 128]⟩
abbrev S4x128x128 : Shape := ⟨3, ![4, 128, 128]⟩
abbrev S128x4x128 : Shape := ⟨3, ![128, 4, 128]⟩
abbrev S128x4x128x1 : Shape := ⟨4, ![128, 4, 128, 1]⟩
abbrev S4x128x256 : Shape := ⟨3, ![4, 128, 256]⟩
abbrev S8192x4x256 : Shape := ⟨3, ![8192, 4, 256]⟩
abbrev S4x8192x256 : Shape := ⟨3, ![4, 8192, 256]⟩
abbrev S4x128x64x256 : Shape := ⟨4, ![4, 128, 64, 256]⟩
abbrev S4x128x256x128 : Shape := ⟨4, ![4, 128, 256, 128]⟩
abbrev S128x4x128x256 : Shape := ⟨4, ![128, 4, 128, 256]⟩
abbrev S1x4x128x256 : Shape := ⟨4, ![1, 4, 128, 256]⟩
abbrev S1x4x128x1 : Shape := ⟨4, ![1, 4, 128, 1]⟩
abbrev S4x128x1 : Shape := ⟨3, ![4, 128, 1]⟩
abbrev S4x128x64x64 : Shape := ⟨4, ![4, 128, 64, 64]⟩
abbrev S64x64 : Shape := ⟨2, ![64, 64]⟩
abbrev S128x4x256x64 : Shape := ⟨4, ![128, 4, 256, 64]⟩
abbrev S128x4x128x64 : Shape := ⟨4, ![128, 4, 128, 64]⟩
abbrev S4x128x256x64 : Shape := ⟨4, ![4, 128, 256, 64]⟩

abbrev nBuf : Space → Nat
  | .hbm => 205
  | .vmem => 0
  | .smem => 0
  | _ => 0

abbrev hbmTy0_0 (i : Nat) : BufTy := match i % 128 with
  | 0 => ⟨S8192x5376, .bf16⟩
  | 1 => ⟨S16x512, .f32⟩
  | 2 => ⟨S512, .f32⟩
  | 3 => ⟨S4x32x128x256, .f32⟩
  | 4 => ⟨S8192x1024, .bf16⟩
  | 5 => ⟨S8192x16, .bf16⟩
  | 6 => ⟨S8192x16, .f32⟩
  | 7 => ⟨S8192x512, .f32⟩
  | 8 => ⟨S1x512, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S8192x512, .f32⟩
  | 17 => ⟨S8192x512, .i1⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x4x128, .f32⟩
  | 31 => ⟨S4x8192x128, .f32⟩
  | 32 => ⟨S4x128x64x128, .f32⟩
  | 33 => ⟨S_, .f32⟩
  | 34 => ⟨S_, .f32⟩
  | 35 => ⟨S4x128x64x128, .f32⟩
  | 36 => ⟨S8192x512, .bf16⟩
  | 37 => ⟨S8192x512, .f32⟩
  | 38 => ⟨S4x128x1x128, .f32⟩
  | 39 => ⟨S8192x4x128, .f32⟩
  | 40 => ⟨S4x8192x128, .f32⟩
  | 41 => ⟨S_, .f32⟩
  | 42 => ⟨S4x8192x128, .f32⟩
  | 43 => ⟨S4x8192x128, .f32⟩
  | 44 => ⟨S4x128x64x128, .f32⟩
  | 45 => ⟨S4x128x64x128, .f32⟩
  | 46 => ⟨S4x128x64x128, .f32⟩
  | 47 => ⟨S4x128x128, .f32⟩
  | 48 => ⟨S4x128x128, .f32⟩
  | 49 => ⟨S128x4x128, .f32⟩
  | 50 => ⟨S128x4x128x1, .f32⟩
  | 51 => ⟨S_, .f32⟩
  | 52 => ⟨S4x128x256, .f32⟩
  | 53 => ⟨S8192x1024, .f32⟩
  | 54 => ⟨S8192x4x256, .f32⟩
  | 55 => ⟨S4x8192x256, .f32⟩
  | 56 => ⟨S4x128x64x256, .f32⟩
  | 57 => ⟨S4x128x256x128, .f32⟩
  | 58 => ⟨S128x4x128x256, .f32⟩
  | 59 => ⟨S_, .f32⟩
  | 60 => ⟨S4x128x256, .f32⟩
  | 61 => ⟨S_, .f32⟩
  | 62 => ⟨S128x4x128x256, .f32⟩
  | 63 => ⟨S_, .i32⟩
  | 64 => ⟨S128x4x128x256, .f32⟩
  | 65 => ⟨S128x4x128x1, .f32⟩
  | 66 => ⟨S_, .i32⟩
  | 67 => ⟨S4x128x256, .f32⟩
  | 68 => ⟨S128x4x128x256, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S1x4x128x256, .f32⟩
  | 79 => ⟨S4x128x256, .f32⟩
  | 80 => ⟨S_, .i32⟩
  | 81 => ⟨S_, .i32⟩
  | 82 => ⟨S_, .i32⟩
  | 83 => ⟨S1x4x128x1, .f32⟩
  | 84 => ⟨S4x128x1, .f32⟩
  | 85 => ⟨S4x128x256, .f32⟩
  | 86 => ⟨S4x128x256, .f32⟩
  | 87 => ⟨S4x128x256, .f32⟩
  | 88 => ⟨S1x4x128x256, .f32⟩
  | 89 => ⟨S_, .i32⟩
  | 90 => ⟨S_, .i32⟩
  | 91 => ⟨S_, .i32⟩
  | 92 => ⟨S128x4x128x256, .f32⟩
  | 93 => ⟨S_, .i32⟩
  | 94 => ⟨S_, .i32⟩
  | 95 => ⟨S8192x512, .bf16⟩
  | 96 => ⟨S8192x512, .f32⟩
  | 97 => ⟨S8192x1024, .bf16⟩
  | 98 => ⟨S8192x1024, .f32⟩
  | 99 => ⟨S8192x16, .bf16⟩
  | 100 => ⟨S8192x16, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S8192x512, .f32⟩
  | 110 => ⟨S8192x512, .f32⟩
  | 111 => ⟨S8192x512, .i1⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S_, .f32⟩
  | 122 => ⟨S8192x512, .f32⟩
  | 123 => ⟨S8192x512, .f32⟩
  | 124 => ⟨S8192x4x128, .f32⟩
  | 125 => ⟨S4x8192x128, .f32⟩
  | 126 => ⟨S4x128x64x128, .f32⟩
  | 127 => ⟨S_, .f32⟩
  | _ => ⟨S8192x5376, .bf16⟩

abbrev hbmTy0_1 (i : Nat) : BufTy := match i % 128 with
  | 0 => ⟨S_, .f32⟩
  | 1 => ⟨S4x128x64x128, .f32⟩
  | 2 => ⟨S8192x512, .bf16⟩
  | 3 => ⟨S8192x512, .f32⟩
  | 4 => ⟨S4x128x1x128, .f32⟩
  | 5 => ⟨S8192x4x128, .f32⟩
  | 6 => ⟨S4x8192x128, .f32⟩
  | 7 => ⟨S_, .f32⟩
  | 8 => ⟨S4x8192x128, .f32⟩
  | 9 => ⟨S4x8192x128, .f32⟩
  | 10 => ⟨S4x128x64x128, .f32⟩
  | 11 => ⟨S4x128x64x128, .f32⟩
  | 12 => ⟨S4x128x64x128, .f32⟩
  | 13 => ⟨S8192x4x128, .f32⟩
  | 14 => ⟨S4x8192x128, .f32⟩
  | 15 => ⟨S4x128x64x128, .f32⟩
  | 16 => ⟨S8192x4x256, .f32⟩
  | 17 => ⟨S4x8192x256, .f32⟩
  | 18 => ⟨S4x128x64x256, .f32⟩
  | 19 => ⟨S4x128x64x128, .f32⟩
  | 20 => ⟨S4x128x64x128, .f32⟩
  | 21 => ⟨S4x128x64x128, .f32⟩
  | 22 => ⟨S4x128x64x128, .f32⟩
  | 23 => ⟨S4x128x64x128, .f32⟩
  | 24 => ⟨S4x128x64x128, .f32⟩
  | 25 => ⟨S4x128x64x128, .f32⟩
  | 26 => ⟨S4x128x64x64, .f32⟩
  | 27 => ⟨S_, .i1⟩
  | 28 => ⟨S64x64, .i1⟩
  | 29 => ⟨S64x64, .i32⟩
  | 30 => ⟨S_, .i32⟩
  | 31 => ⟨S64x64, .i32⟩
  | 32 => ⟨S64x64, .i32⟩
  | 33 => ⟨S64x64, .i32⟩
  | 34 => ⟨S64x64, .i1⟩
  | 35 => ⟨S_, .i1⟩
  | 36 => ⟨S64x64, .i1⟩
  | 37 => ⟨S64x64, .i1⟩
  | 38 => ⟨S_, .f32⟩
  | 39 => ⟨S_, .f32⟩
  | 40 => ⟨S4x128x64x64, .i1⟩
  | 41 => ⟨S4x128x64x64, .f32⟩
  | 42 => ⟨S4x128x64x64, .f32⟩
  | 43 => ⟨S_, .f32⟩
  | 44 => ⟨S4x128x64x64, .f32⟩
  | 45 => ⟨S4x128x64x256, .f32⟩
  | 46 => ⟨S4x8192x256, .f32⟩
  | 47 => ⟨S8192x4x256, .f32⟩
  | 48 => ⟨S8192x1024, .f32⟩
  | 49 => ⟨S128x4x128x256, .f32⟩
  | 50 => ⟨S8192x1024, .f32⟩
  | 51 => ⟨S128x4x256x64, .f32⟩
  | 52 => ⟨S4x128x64x256, .f32⟩
  | 53 => ⟨S128x4x128x64, .f32⟩
  | 54 => ⟨S4x128x64x128, .f32⟩
  | 55 => ⟨S8192x4x256, .f32⟩
  | 56 => ⟨S4x8192x256, .f32⟩
  | 57 => ⟨S4x128x64x256, .f32⟩
  | 58 => ⟨S4x128x256x64, .f32⟩
  | 59 => ⟨S4x128x64x256, .f32⟩
  | 60 => ⟨S4x128x64x256, .f32⟩
  | 61 => ⟨S4x128x64x64, .f32⟩
  | 62 => ⟨S_, .f32⟩
  | 63 => ⟨S4x128x64x64, .f32⟩
  | 64 => ⟨S4x128x64x64, .f32⟩
  | 65 => ⟨S4x128x64x128, .f32⟩
  | 66 => ⟨S4x128x64x128, .f32⟩
  | 67 => ⟨S4x128x64x128, .f32⟩
  | 68 => ⟨S4x128x64x128, .f32⟩
  | 69 => ⟨S4x8192x256, .f32⟩
  | 70 => ⟨S8192x4x256, .f32⟩
  | 71 => ⟨S8192x1024, .f32⟩
  | 72 => ⟨S4x8192x128, .f32⟩
  | 73 => ⟨S8192x4x128, .f32⟩
  | 74 => ⟨S8192x512, .f32⟩
  | 75 => ⟨S8192x512, .bf16⟩
  | 76 => ⟨S8192x1024, .bf16⟩
  | _ => ⟨S8192x5376, .bf16⟩

abbrev hbmTy (i : Nat) : BufTy := match i / 128 with
  | 0 => hbmTy0_0 i
  | 1 => hbmTy0_1 i
  | _ => ⟨S8192x5376, .bf16⟩

abbrev bufTy : (tb : Table) → Fin (tcTables nBuf tb) → BufTy
  | .hbm, ⟨i, _⟩ => hbmTy i
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_call0_cst : Ref sig .tc := ⟨.hbm, 33, rfl⟩
abbrev main_call1_call0_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_c : Ref sig .tc := ⟨.hbm, 63, rfl⟩
abbrev main_v38_0 : Ref sig .tc := ⟨.hbm, 64, rfl⟩
abbrev main_v38_1 : Ref sig .tc := ⟨.hbm, 65, rfl⟩
abbrev main_v38_2 : Ref sig .tc := ⟨.hbm, 66, rfl⟩
abbrev main_v38_3 : Ref sig .tc := ⟨.hbm, 67, rfl⟩
abbrev main_v38_4 : Ref sig .tc := ⟨.hbm, 68, rfl⟩
abbrev main_while0c_c_12 : Ref sig .tc := ⟨.hbm, 69, rfl⟩
abbrev main_while0c_v115 : Ref sig .tc := ⟨.hbm, 70, rfl⟩
abbrev main_while0b_c_12 : Ref sig .tc := ⟨.hbm, 71, rfl⟩
abbrev main_while0b_v115 : Ref sig .tc := ⟨.hbm, 72, rfl⟩
abbrev main_while0b_c_13 : Ref sig .tc := ⟨.hbm, 73, rfl⟩
abbrev main_while0b_v116 : Ref sig .tc := ⟨.hbm, 74, rfl⟩
abbrev main_while0b_call2_c : Ref sig .tc := ⟨.hbm, 75, rfl⟩
abbrev main_while0b_call2_c_0 : Ref sig .tc := ⟨.hbm, 76, rfl⟩
abbrev main_while0b_call2_c_1 : Ref sig .tc := ⟨.hbm, 77, rfl⟩
abbrev main_while0b_call2_v0 : Ref sig .tc := ⟨.hbm, 78, rfl⟩
abbrev main_while0b_v117 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_v0 : Ref sig .tc := ⟨.hbm, 83, rfl⟩
abbrev main_while0b_v118 : Ref sig .tc := ⟨.hbm, 84, rfl⟩
abbrev main_while0b_v119 : Ref sig .tc := ⟨.hbm, 85, rfl⟩
abbrev main_while0b_v120 : Ref sig .tc := ⟨.hbm, 86, rfl⟩
abbrev main_while0b_v121 : Ref sig .tc := ⟨.hbm, 87, rfl⟩
abbrev main_while0b_call4_v0 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_v122 : Ref sig .tc := ⟨.hbm, 92, rfl⟩
abbrev main_while0b_c_14 : Ref sig .tc := ⟨.hbm, 93, rfl⟩
abbrev main_while0b_v123 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_call5_cst : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_v5 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_v50 : Ref sig .tc := ⟨.hbm, 119, rfl⟩
abbrev main_v51 : Ref sig .tc := ⟨.hbm, 120, rfl⟩
abbrev main_cst_4 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_call6_call0_cst : Ref sig .tc := ⟨.hbm, 127, rfl⟩
abbrev main_call6_call0_v0 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_5 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_c_6 : Ref sig .tc := ⟨.hbm, 155, rfl⟩
abbrev main_v82 : Ref sig .tc := ⟨.hbm, 156, rfl⟩
abbrev main_call7_v0 : Ref sig .tc := ⟨.hbm, 157, rfl⟩
abbrev main_call7_c : Ref sig .tc := ⟨.hbm, 158, rfl⟩
abbrev main_call7_v1 : Ref sig .tc := ⟨.hbm, 159, rfl⟩
abbrev main_call7_v2 : Ref sig .tc := ⟨.hbm, 160, rfl⟩
abbrev main_call7_v3 : Ref sig .tc := ⟨.hbm, 161, rfl⟩
abbrev main_call7_v4 : Ref sig .tc := ⟨.hbm, 162, rfl⟩
abbrev main_call7_c_0 : Ref sig .tc := ⟨.hbm, 163, rfl⟩
abbrev main_call7_v5 : Ref sig .tc := ⟨.hbm, 164, rfl⟩
abbrev main_v83 : Ref sig .tc := ⟨.hbm, 165, rfl⟩
abbrev main_cst_7 : Ref sig .tc := ⟨.hbm, 166, rfl⟩
abbrev main_call8_v0 : Ref sig .tc := ⟨.hbm, 167, rfl⟩
abbrev main_v84_1 : Ref sig .tc := ⟨.hbm, 168, rfl⟩
abbrev main_call8_v2 : Ref sig .tc := ⟨.hbm, 169, rfl⟩
abbrev main_v84_0 : Ref sig .tc := ⟨.hbm, 170, rfl⟩
abbrev main_call8_cst : Ref sig .tc := ⟨.hbm, 171, rfl⟩
abbrev main_v84_2 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_call9_cst : Ref sig .tc := ⟨.hbm, 190, rfl⟩
abbrev main_call9_v0 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩

abbrev nD : Nat := 1
abbrev τ : Topo := Topo.v7x

variable {F : FTy → Type} [FloatOps F]

abbrev main_while0_count : Scf.Loop 32 := ⟨0#32, 128#32, 1#32⟩
-- ==== MemForward.lean ====
abbrev S8192x512 : Shape := ⟨2, ![8192, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S256x512, .bf16⟩
  | .hbm, ⟨2, _⟩ => ⟨S256x512, .bf16⟩
  | .hbm, ⟨3, _⟩ => ⟨S8192x512, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemForwardReferenceIdeal.lean ====
abbrev S8192x512 : Shape := ⟨2, ![8192, 512]⟩
abbrev S256x512 : Shape := ⟨2, ![256, 512]⟩
abbrev S8192x4x128 : Shape := ⟨3, ![8192, 4, 128]⟩
abbrev S4x8192x128 : Shape := ⟨3, ![4, 8192, 128]⟩
abbrev S256x4x128 : Shape := ⟨3, ![256, 4, 128]⟩
abbrev S4x256x128 : Shape := ⟨3, ![4, 256, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S256x512, .bf16⟩
  | .hbm, ⟨2, _⟩ => ⟨S256x512, .bf16⟩
  | .hbm, ⟨3, _⟩ => ⟨S8192x512, .f32⟩
  | .hbm, ⟨4, _⟩ => ⟨S256x512, .f32⟩
  | .hbm, ⟨5, _⟩ => ⟨S256x512, .f32⟩
  | .hbm, ⟨6, _⟩ => ⟨S8192x4x128, .f32⟩
  | .hbm, ⟨7, _⟩ => ⟨S4x8192x128, .f32⟩
  | .hbm, ⟨8, _⟩ => ⟨S256x4x128, .f32⟩
  | .hbm, ⟨9, _⟩ => ⟨S4x256x128, .f32⟩
  | .hbm, ⟨10, _⟩ => ⟨S256x4x128, .f32⟩
  | .hbm, ⟨11, _⟩ => ⟨S4x256x128, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S_, .f32⟩
  | .hbm, ⟨19, _⟩ => ⟨S4x8192, .f32⟩
  | .hbm, ⟨20, _⟩ => ⟨S4x8192, .f32⟩
  | .hbm, ⟨21, _⟩ => ⟨S4x8192x1, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x256, .f32⟩
  | .hbm, ⟨29, _⟩ => ⟨S4x8192x256, .f32⟩
  | .hbm, ⟨30, _⟩ => ⟨S4x8192x128, .f32⟩
  | .hbm, ⟨31, _⟩ => ⟨S8192x4x128, .f32⟩
  | .hbm, ⟨32, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormGrad.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MemKv.lean ====
abbrev S256x2048 : Shape := ⟨2, ![256, 2048]⟩
abbrev S2048x1024 : Shape := ⟨2, ![2048, 1024]⟩
abbrev S256x1024 : Shape := ⟨2, ![256, 1024]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S256x512, .f32⟩
  | .local _ .vmem, ⟨4, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvReferenceIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvWeightGrad.lean ====
abbrev S256x2048 : Shape := ⟨2, ![256, 2048]⟩
abbrev S256x1024 : Shape := ⟨2, ![256, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S2048x1024, .bf16⟩
  | .local _ .vmem, ⟨0, _⟩ => ⟨S256x2048, .bf16⟩
  | .local _ .vmem, ⟨1, _⟩ => ⟨S256x1024, .bf16⟩
  | .local _ .vmem, ⟨2, _⟩ => ⟨S2048x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvWeightGradReferenceIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvInputGrad.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvInputGradReferenceIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S_, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x1024, .f32⟩
  | .hbm, ⟨7, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GlaForward.lean ====
abbrev S8192x5376 : Shape := ⟨2, ![8192, 5376]⟩
abbrev S16x512 : Shape := ⟨2, ![16, 512]⟩
abbrev S512 : Shape := ⟨1, ![512]⟩
abbrev S16x4x128 : Shape := ⟨3, ![16, 4, 128]⟩
abbrev S4x16x128 : Shape := ⟨3, ![4, 16, 128]⟩
abbrev S_ : Shape := ⟨0, ![]⟩
abbrev S4x128x128 : Shape := ⟨3, ![4, 128, 128]⟩
abbrev S4x1x128 : Shape := ⟨3, ![4, 1, 128]⟩
abbrev S256 : Shape := ⟨1, ![256]⟩
abbrev S4 : Shape := ⟨1, ![4]⟩
abbrev S4x64 : Shape := ⟨2, ![4, 64]⟩
abbrev S256x1 : Shape := ⟨2, ![256, 1]⟩
abbrev S1x256 : Shape := ⟨2, ![1, 256]⟩
abbrev S256x256 : Shape := ⟨2, ![256, 256]⟩
abbrev S8192x1024 : Shape := ⟨2, ![8192, 1024]⟩
abbrev S4x32x128x256 : Shape := ⟨4, ![4, 32, 128, 256]⟩
abbrev S256x512 : Shape := ⟨2, ![256, 512]⟩
abbrev S256x1024 : Shape := ⟨2, ![256, 1024]⟩
abbrev S256x128 : Shape := ⟨2, ![256, 128]⟩
abbrev S4x1x128x256 : Shape := ⟨4, ![4, 1, 128, 256]⟩
abbrev S4x128x256 : Shape := ⟨3, ![4, 128, 256]⟩
abbrev S1x128x256 : Shape := ⟨3, ![1, 128, 256]⟩
abbrev S128x256 : Shape := ⟨2, ![128, 256]⟩
abbrev S1x1x128x256 : Shape := ⟨4, ![1, 1, 128, 256]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S64x128 : Shape := ⟨2, ![64, 128]⟩
abbrev S128 : Shape := ⟨1, ![128]⟩
abbrev S64x256 : Shape := ⟨2, ![64, 256]⟩
abbrev S128x1 : Shape := ⟨2, ![128, 1]⟩

abbrev nBuf : Space → Nat
  | .hbm => 27
  | .vmem => 17
  | .smem => 0
  | _ => 0

abbrev bufTy : (tb : Table) → Fin (tcTables nBuf tb) → BufTy
  | .hbm, ⟨0, _⟩ => ⟨S8192x5376, .bf16⟩
  | .hbm, ⟨1, _⟩ => ⟨S16x512, .f32⟩
  | .hbm, ⟨2, _⟩ => ⟨S512, .f32⟩
  | .hbm, ⟨3, _⟩ => ⟨S16x4x128, .f32⟩
  | .hbm, ⟨4, _⟩ => ⟨S4x16x128, .f32⟩
  | .hbm, ⟨5, _⟩ => ⟨S_, .i32⟩
  | .hbm, ⟨6, _⟩ => ⟨S_, .f32⟩
  | .hbm, ⟨7, _⟩ => ⟨S4x128x128, .f32⟩
  | .hbm, ⟨8, _⟩ => ⟨S4x1x128, .f32⟩
  | .hbm, ⟨9, _⟩ => ⟨S256, .i32⟩
  | .hbm, ⟨10, _⟩ => ⟨S4, .i32⟩
  | .hbm, ⟨11, _⟩ => ⟨S4x64, .i32⟩
  | .hbm, ⟨12, _⟩ => ⟨S256, .i32⟩
  | .hbm, ⟨13, _⟩ => ⟨S256x1, .i32⟩
  | .hbm, ⟨14, _⟩ => ⟨S1x256, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S1x256, .i32⟩
  | .hbm, ⟨19, _⟩ => ⟨S256x1, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .i1⟩
  | .hbm, ⟨24, _⟩ => ⟨S256x256, .f32⟩
  | .hbm, ⟨25, _⟩ => ⟨S8192x1024, .f32⟩
  | .hbm, ⟨26, _⟩ => ⟨S4x32x128x256, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x128, .bf16⟩
  | .local _ .vmem, ⟨7, _⟩ => ⟨S256x128, .bf16⟩
  | .local _ .vmem, ⟨8, _⟩ => ⟨S4x128x128, .f32⟩
  | .local _ .vmem, ⟨9, _⟩ => ⟨S4x1x128, .f32⟩
  | .local _ .vmem, ⟨10, _⟩ => ⟨S256x256, .f32⟩
  | .local _ .vmem, ⟨11, _⟩ => ⟨S256x256, .f32⟩
  | .local _ .vmem, ⟨12, _⟩ => ⟨S256x1024, .f32⟩
  | .local _ .vmem, ⟨13, _⟩ => ⟨S256x1024, .f32⟩
  | .local _ .vmem, ⟨14, _⟩ => ⟨S4x1x128x256, .f32⟩
  | .local _ .vmem, ⟨15, _⟩ => ⟨S4x1x128x256, .f32⟩
  | .local _ .vmem, ⟨16, _⟩ => ⟨S4x128x256, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let c0_i32 : BitVec 32 := 0#32
  ![arg1.toNat, c40_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GlaForwardReferenceIdeal.lean ====
abbrev S8192x5376 : Shape := ⟨2, ![8192, 5376]⟩
abbrev S16x512 : Shape := ⟨2, ![16, 512]⟩
abbrev S512 : Shape := ⟨1, ![512]⟩
abbrev S8192x16 : Shape := ⟨2, ![8192, 16]⟩
abbrev S8192x512 : Shape := ⟨2, ![8192, 512]⟩
abbrev S1x512 : Shape := ⟨2, ![1, 512]⟩
abbrev S_ : Shape := ⟨0, ![]⟩
abbrev S8192x4x128 : Shape := ⟨3, ![8192, 4, 128]⟩
abbrev S4x8192x128 : Shape := ⟨3, ![4, 8192, 128]⟩
abbrev S4x128x64x128 : Shape := ⟨4, ![4, 128, 64, 128]⟩
abbrev S4x128x1x128 : Shape := ⟨4, ![4, 128, 1, 128]⟩
abbrev S8192x1024 : Shape := ⟨2, ![8192, 1024]⟩
abbrev S8192x4x256 : Shape := ⟨3, ![8192, 4, 256]⟩
abbrev S4x8192x256 : Shape := ⟨3, ![4, 8192, 256]⟩
abbrev S4x128x64x256 : Shape := ⟨4, ![4, 128, 64, 256]⟩
abbrev S128x4x128x256 : Shape := ⟨4, ![128, 4, 128, 256]⟩
abbrev S4x128x128 : Shape := ⟨3, ![4, 128, 128]⟩
abbrev S128x4x128 : Shape := ⟨3, ![128, 4, 128]⟩
abbrev S4x128x256 : Shape := ⟨3, ![4, 128, 256]⟩
abbrev S1x4x128 : Shape := ⟨3, ![1, 4, 128]⟩
abbrev S4x128 : Shape := ⟨2, ![4, 128]⟩
abbrev S1x4x128x256 : Shape := ⟨4, ![1, 4, 128, 256]⟩
abbrev S4x128x1 : Shape := ⟨3, ![4, 128, 1]⟩
abbrev S4x128x64x64 : Shape := ⟨4, ![4, 128, 64, 64]⟩
abbrev S64x64 : Shape := ⟨2, ![64, 64]⟩
abbrev S32x4x4x128x256 : Shape := ⟨5, ![32, 4, 4, 128, 256]⟩
abbrev S32x1x4x128x256 : Shape := ⟨5, ![32, 1, 4, 128, 256]⟩
abbrev S32x4x128x256 : Shape := ⟨4, ![32, 4, 128, 256]⟩
abbrev S4x32x128x256 : Shape := ⟨4, ![4, 32, 128, 256]⟩

abbrev nBuf : Space → Nat
  | .hbm => 177
  | .vmem => 0
  | .smem => 0
  | _ => 0

abbrev hbmTy0_0 (i : Nat) : BufTy := match i % 128 with
  | 0 => ⟨S8192x5376, .bf16⟩
  | 1 => ⟨S16x512, .f32⟩
  | 2 => ⟨S512, .f32⟩
  | 3 => ⟨S8192x16, .bf16⟩
  | 4 => ⟨S8192x16, .f32⟩
  | 5 => ⟨S8192x512, .f32⟩
  | 6 => ⟨S1x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S8192x512, .f32⟩
  | 15 => ⟨S8192x512, .i1⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x4x128, .f32⟩
  | 29 => ⟨S4x8192x128, .f32⟩
  | 30 => ⟨S4x128x64x128, .f32⟩
  | 31 => ⟨S_, .f32⟩
  | 32 => ⟨S_, .f32⟩
  | 33 => ⟨S4x128x64x128, .f32⟩
  | 34 => ⟨S8192x512, .bf16⟩
  | 35 => ⟨S8192x512, .f32⟩
  | 36 => ⟨S4x128x1x128, .f32⟩
  | 37 => ⟨S8192x4x128, .f32⟩
  | 38 => ⟨S4x8192x128, .f32⟩
  | 39 => ⟨S_, .f32⟩
  | 40 => ⟨S4x8192x128, .f32⟩
  | 41 => ⟨S4x8192x128, .f32⟩
  | 42 => ⟨S4x128x64x128, .f32⟩
  | 43 => ⟨S4x128x64x128, .f32⟩
  | 44 => ⟨S4x128x64x128, .f32⟩
  | 45 => ⟨S8192x512, .bf16⟩
  | 46 => ⟨S8192x512, .f32⟩
  | 47 => ⟨S8192x1024, .bf16⟩
  | 48 => ⟨S8192x1024, .f32⟩
  | 49 => ⟨S8192x4x128, .f32⟩
  | 50 => ⟨S4x8192x128, .f32⟩
  | 51 => ⟨S4x128x64x128, .f32⟩
  | 52 => ⟨S8192x4x256, .f32⟩
  | 53 => ⟨S4x8192x256, .f32⟩
  | 54 => ⟨S4x128x64x256, .f32⟩
  | 55 => ⟨S4x128x64x128, .f32⟩
  | 56 => ⟨S4x128x64x128, .f32⟩
  | 57 => ⟨S4x128x64x128, .f32⟩
  | 58 => ⟨S4x128x64x128, .f32⟩
  | 59 => ⟨S128x4x128x256, .f32⟩
  | 60 => ⟨S4x128x128, .f32⟩
  | 61 => ⟨S4x128x128, .f32⟩
  | 62 => ⟨S128x4x128, .f32⟩
  | 63 => ⟨S_, .f32⟩
  | 64 => ⟨S4x128x256, .f32⟩
  | 65 => ⟨S_, .f32⟩
  | 66 => ⟨S128x4x128x256, .f32⟩
  | 67 => ⟨S_, .i32⟩
  | 68 => ⟨S128x4x128, .f32⟩
  | 69 => ⟨S128x4x128x256, .f32⟩
  | 70 => ⟨S_, .i32⟩
  | 71 => ⟨S4x128x256, .f32⟩
  | 72 => ⟨S128x4x128x256, .f32⟩
  | 73 => ⟨S_, .i32⟩
  | 74 => ⟨S_, .i1⟩
  | 75 => ⟨S_, .i32⟩
  | 76 => ⟨S_, .i32⟩
  | 77 => ⟨S1x4x128, .f32⟩
  | 78 => ⟨S4x128, .f32⟩
  | 79 => ⟨S_, .i32⟩
  | 80 => ⟨S_, .i32⟩
  | 81 => ⟨S_, .i32⟩
  | 82 => ⟨S1x4x128x256, .f32⟩
  | 83 => ⟨S4x128x256, .f32⟩
  | 84 => ⟨S4x128x1, .f32⟩
  | 85 => ⟨S4x128x256, .f32⟩
  | 86 => ⟨S4x128x256, .f32⟩
  | 87 => ⟨S4x128x256, .f32⟩
  | 88 => ⟨S1x4x128x256, .f32⟩
  | 89 => ⟨S_, .i32⟩
  | 90 => ⟨S_, .i32⟩
  | 91 => ⟨S_, .i32⟩
  | 92 => ⟨S128x4x128x256, .f32⟩
  | 93 => ⟨S_, .i32⟩
  | 94 => ⟨S_, .i32⟩
  | 95 => ⟨S8192x16, .bf16⟩
  | 96 => ⟨S8192x16, .f32⟩
  | 97 => ⟨S8192x512, .f32⟩
  | 98 => ⟨S1x512, .f32⟩
  | 99 => ⟨S8192x512, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S8192x512, .f32⟩
  | 106 => ⟨S8192x512, .f32⟩
  | 107 => ⟨S8192x512, .i1⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S8192x4x128, .f32⟩
  | 121 => ⟨S4x8192x128, .f32⟩
  | 122 => ⟨S4x128x64x128, .f32⟩
  | 123 => ⟨S_, .f32⟩
  | 124 => ⟨S_, .f32⟩
  | 125 => ⟨S4x128x64x128, .f32⟩
  | 126 => ⟨S8192x512, .bf16⟩
  | 127 => ⟨S8192x512, .f32⟩
  | _ => ⟨S8192x5376, .bf16⟩

abbrev hbmTy0_1 (i : Nat) : BufTy := match i % 128 with
  | 0 => ⟨S4x128x1x128, .f32⟩
  | 1 => ⟨S8192x4x128, .f32⟩
  | 2 => ⟨S4x8192x128, .f32⟩
  | 3 => ⟨S_, .f32⟩
  | 4 => ⟨S4x8192x128, .f32⟩
  | 5 => ⟨S4x8192x128, .f32⟩
  | 6 => ⟨S4x128x64x128, .f32⟩
  | 7 => ⟨S4x128x64x128, .f32⟩
  | 8 => ⟨S4x128x64x128, .f32⟩
  | 9 => ⟨S8192x512, .bf16⟩
  | 10 => ⟨S8192x512, .f32⟩
  | 11 => ⟨S8192x1024, .bf16⟩
  | 12 => ⟨S8192x1024, .f32⟩
  | 13 => ⟨S8192x4x128, .f32⟩
  | 14 => ⟨S4x8192x128, .f32⟩
  | 15 => ⟨S4x128x64x128, .f32⟩
  | 16 => ⟨S8192x4x256, .f32⟩
  | 17 => ⟨S4x8192x256, .f32⟩
  | 18 => ⟨S4x128x64x256, .f32⟩
  | 19 => ⟨S4x128x64x128, .f32⟩
  | 20 => ⟨S4x128x64x128, .f32⟩
  | 21 => ⟨S4x128x64x128, .f32⟩
  | 22 => ⟨S4x128x64x64, .f32⟩
  | 23 => ⟨S_, .i1⟩
  | 24 => ⟨S64x64, .i1⟩
  | 25 => ⟨S64x64, .i32⟩
  | 26 => ⟨S_, .i32⟩
  | 27 => ⟨S64x64, .i32⟩
  | 28 => ⟨S64x64, .i32⟩
  | 29 => ⟨S64x64, .i32⟩
  | 30 => ⟨S64x64, .i1⟩
  | 31 => ⟨S_, .i1⟩
  | 32 => ⟨S64x64, .i1⟩
  | 33 => ⟨S64x64, .i1⟩
  | 34 => ⟨S_, .f32⟩
  | 35 => ⟨S_, .f32⟩
  | 36 => ⟨S4x128x64x64, .i1⟩
  | 37 => ⟨S4x128x64x64, .f32⟩
  | 38 => ⟨S4x128x64x64, .f32⟩
  | 39 => ⟨S4x128x64x256, .f32⟩
  | 40 => ⟨S4x128x64x256, .f32⟩
  | 41 => ⟨S4x128x64x256, .f32⟩
  | 42 => ⟨S4x8192x256, .f32⟩
  | 43 => ⟨S8192x4x256, .f32⟩
  | 44 => ⟨S8192x1024, .f32⟩
  | 45 => ⟨S32x4x4x128x256, .f32⟩
  | 46 => ⟨S32x1x4x128x256, .f32⟩
  | 47 => ⟨S32x4x128x256, .f32⟩
  | 48 => ⟨S4x32x128x256, .f32⟩
  | _ => ⟨S8192x5376, .bf16⟩

abbrev hbmTy (i : Nat) : BufTy := match i / 128 with
  | 0 => hbmTy0_0 i
  | 1 => hbmTy0_1 i
  | _ => ⟨S8192x5376, .bf16⟩

abbrev bufTy : (tb : Table) → Fin (tcTables nBuf tb) → BufTy
  | .hbm, ⟨i, _⟩ => hbmTy i
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_call0_cst : Ref sig .tc := ⟨.hbm, 31, rfl⟩
abbrev main_call1_call0_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_1 : Ref sig .tc := ⟨.hbm, 63, rfl⟩
abbrev main_v43 : Ref sig .tc := ⟨.hbm, 64, rfl⟩
abbrev main_cst_2 : Ref sig .tc := ⟨.hbm, 65, rfl⟩
abbrev main_v44 : Ref sig .tc := ⟨.hbm, 66, rfl⟩
abbrev main_c : Ref sig .tc := ⟨.hbm, 67, rfl⟩
abbrev main_v45_0 : Ref sig .tc := ⟨.hbm, 68, rfl⟩
abbrev main_v45_1 : Ref sig .tc := ⟨.hbm, 69, rfl⟩
abbrev main_v45_2 : Ref sig .tc := ⟨.hbm, 70, rfl⟩
abbrev main_v45_3 : Ref sig .tc := ⟨.hbm, 71, rfl⟩
abbrev main_v45_4 : Ref sig .tc := ⟨.hbm, 72, rfl⟩
abbrev main_while0c_c_11 : Ref sig .tc := ⟨.hbm, 73, rfl⟩
abbrev main_while0c_v98 : Ref sig .tc := ⟨.hbm, 74, rfl⟩
abbrev main_while0b_call2_c : Ref sig .tc := ⟨.hbm, 75, rfl⟩
abbrev main_while0b_call2_c_0 : Ref sig .tc := ⟨.hbm, 76, rfl⟩
abbrev main_while0b_call2_v0 : Ref sig .tc := ⟨.hbm, 77, rfl⟩
abbrev main_while0b_v98 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_v0 : Ref sig .tc := ⟨.hbm, 82, rfl⟩
abbrev main_while0b_v99 : Ref sig .tc := ⟨.hbm, 83, rfl⟩
abbrev main_while0b_v100 : Ref sig .tc := ⟨.hbm, 84, rfl⟩
abbrev main_while0b_v101 : Ref sig .tc := ⟨.hbm, 85, rfl⟩
abbrev main_while0b_v102 : Ref sig .tc := ⟨.hbm, 86, rfl⟩
abbrev main_while0b_v103 : Ref sig .tc := ⟨.hbm, 87, rfl⟩
abbrev main_while0b_call4_v0 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_v104 : Ref sig .tc := ⟨.hbm, 92, rfl⟩
abbrev main_while0b_c_11 : Ref sig .tc := ⟨.hbm, 93, rfl⟩
abbrev main_while0b_v105 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_call5_cst : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_v53 : Ref sig .tc := ⟨.hbm, 115, rfl⟩
abbrev main_v54 : Ref sig .tc := ⟨.hbm, 116, rfl⟩
abbrev main_cst_3 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_call6_call0_cst : Ref sig .tc := ⟨.hbm, 123, rfl⟩
abbrev main_call6_call0_v0 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_4 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_c_5 : Ref sig .tc := ⟨.hbm, 151, rfl⟩
abbrev main_v85 : Ref sig .tc := ⟨.hbm, 152, rfl⟩
abbrev main_call7_v0 : Ref sig .tc := ⟨.hbm, 153, rfl⟩
abbrev main_call7_c : Ref sig .tc := ⟨.hbm, 154, rfl⟩
abbrev main_call7_v1 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_call7_c_0 : Ref sig .tc := ⟨.hbm, 159, rfl⟩
abbrev main_call7_v5 : Ref sig .tc := ⟨.hbm, 160, rfl⟩
abbrev main_v86 : Ref sig .tc := ⟨.hbm, 161, rfl⟩
abbrev main_cst_6 : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩

abbrev nD : Nat := 1
abbrev τ : Topo := Topo.v7x

variable {F : FTy → Type} [FloatOps F]

abbrev main_while0_count : Scf.Loop 32 := ⟨0#32, 128#32, 1#32⟩
-- ==== Proof.MemMath.lean ====
/-
  The mathematics of one row of softmax attention and of its gradient, over the extended reals: the weights of a row of
  logits, their probabilities, and the gradient of the logits in the two forms in which it is computed. The two forms
  agree when every logit of the row is a real number.
-/
module

public import Idealize.ShloMosaic.PureOps
public import Idealize.ShloMosaic.Lib.Pointwise
public import Mathlib.Data.EReal.Inv

@[expose] public section

noncomputable section

open Idealize.ShloMosaic

namespace Cert.Mem

/-- The reciprocal square root of the head width, as the f32 word both programs carry. -/
abbrev scale : EReal := Ideal.ofBits FTy.f32 1035273459#32

/-- The value both programs start a row's maximum from. -/
abbrev low : EReal := Ideal.ofBits FTy.f32 4286578688#32

/-- The greatest logit of a row. -/
def top {J : ℕ} (L : Fin J → EReal) : EReal := Finset.univ.fold max low L

/-- The exponential of a logit less the greatest of its row. -/
def weight {J : ℕ} (L : Fin J → EReal) (j : Fin J) : EReal := Ideal.exp (L j - top L)

/-- A weight over the sum of the weights of its row. -/
def prob {J : ℕ} (L : Fin J → EReal) (j : Fin J) : EReal := Ideal.div (weight L j) (∑ x, weight L x)

/-- The gradient of a logit, `X` being the gradient of the row's probabilities: the probability times the deviation of
    `X` from its mean under the probabilities. -/
def dscore {J : ℕ} (L X : Fin J → EReal) (j : Fin J) : EReal := prob L j * (X j - ∑ x, X x * prob L x)

/-- The same as differentiating the quotient gives it: through the numerator, and through the sum in the denominator. -/
def dquot {J : ℕ} (L X : Fin J → EReal) (j : Fin J) : EReal :=
  (Ideal.div (X j) (∑ x, weight L x)
    + -∑ x, X x * Ideal.div 1 ((∑ x, weight L x) * ∑ x, weight L x) * weight L x) * weight L j

/-- A real factor that is not negative distributes over a sum of two. -/
theorem add_mul_pos (a b : EReal) (c : ℝ) (hc : 0 ≤ c) : (a + b) * (c : EReal) = a * c + b * c :=
  EReal.right_distrib_of_nonneg_of_ne_top (by exact_mod_cast hc) (EReal.coe_ne_top c) a b

/-- A real factor that is not negative distributes over a finite sum. -/
theorem sum_mul_pos {ι : Type*} (s : Finset ι) (f : ι → EReal) (c : ℝ) (hc : 0 ≤ c) :
    (∑ i ∈ s, f i) * (c : EReal) = ∑ i ∈ s, f i * c := by
  classical
  induction s using Finset.induction_on with
  | empty => simp
  | insert a s ha ih => rw [Finset.sum_insert ha, Finset.sum_insert ha, add_mul_pos _ _ c hc, ih]

/-- The scale is a positive real. -/
theorem scale_pos : ∃ s : ℝ, 0 < s ∧ scale = s := by
  refine ⟨_, ?_, by simp [scale, Ideal.ofBits, Ideal.ieee, -EReal.coe_mul]; rfl⟩
  norm_num

/-- The starting value of a row's maximum is below everything. -/
theorem low_eq : low = ⊥ := by
  simp [low, Ideal.ofBits, Ideal.ieee]

/-- Finite sums of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of some reals, started from the least extended real, is that value or a real. -/
theorem fold_real {ι : Type*} (s : Finset ι) (L : ι → EReal) (l : ι → ℝ) (hL : ∀ j, L j = l j) :
    (s.fold max ⊥ L = ⊥ ∧ s = ∅) ∨ ∃ M : ℝ, s.fold max ⊥ L = M := by
  classical
  induction s using Finset.induction_on with
  | empty => exact .inl ⟨rfl, rfl⟩
  | insert a s ha ih =>
    right
    rw [Finset.fold_insert ha, hL a]
    rcases ih with ⟨h, -⟩ | ⟨M, h⟩
    · exact ⟨l a, by rw [h]; exact max_bot_right _⟩
    · exact ⟨max (l a) M, by rw [h]; exact (EReal.coe_strictMono.monotone.map_max).symm⟩

/-- The greatest of a nonempty row of reals is a real. -/
theorem top_real {J : ℕ} (hJ : 0 < J) (L : Fin J → EReal) (l : Fin J → ℝ) (hL : ∀ j, L j = l j) :
    ∃ M : ℝ, top L = M := by
  unfold top
  rw [low_eq]
  rcases fold_real Finset.univ L l hL with ⟨-, h⟩ | h
  · exact absurd (Finset.mem_univ (⟨0, hJ⟩ : Fin J)) (h ▸ Finset.notMem_empty _)
  · exact h

/-- Where every logit of a row is real, the two forms of the gradient of the logits agree, whatever `X` is. -/
theorem dquot_eq {J : ℕ} (hJ : 0 < J) (L X : Fin J → EReal) (l : Fin J → ℝ) (hL : ∀ j, L j = l j) (j : Fin J) :
    dquot L X j = dscore L X j := by
  obtain ⟨M, hM⟩ := top_real hJ L l hL
  have hw : ∀ x, weight L x = ((Real.exp (l x - M) : ℝ) : EReal) := fun x => by
    unfold weight; rw [hM, hL x, ← EReal.coe_sub]; rfl
  obtain ⟨u, hu, hw⟩ : ∃ u : Fin J → ℝ, (∀ x, 0 < u x) ∧ ∀ x, weight L x = (u x : EReal) :=
    ⟨fun x => Real.exp (l x - M), fun x => Real.exp_pos _, hw⟩
  have hs : ∑ x, weight L x = ((∑ x, u x : ℝ) : EReal) := by
    rw [coe_sum]; exact Finset.sum_congr rfl fun x _ => hw x
  have hpos : 0 < ∑ x, u x := Finset.sum_pos (fun x _ => hu x) ⟨⟨0, hJ⟩, Finset.mem_univ _⟩
  obtain ⟨c, hc, hd⟩ : ∃ c : ℝ, 0 < c ∧ c = 1 / ∑ x, u x := ⟨_, one_div_pos.mpr hpos, rfl⟩
  have hdd : (1 : ℝ) / ((∑ x, u x) * ∑ x, u x) = c * c := by rw [hd]; field_simp
  have hp : ∀ x, prob L x = ((u x * c : ℝ) : EReal) := fun x => by
    unfold prob; rw [hs, Ideal.div_coe hpos.ne', hw, ← EReal.coe_mul, ← hd]
  unfold dquot dscore
  rw [hs, Ideal.div_coe hpos.ne', ← EReal.coe_mul, Ideal.div_coe (mul_pos hpos hpos).ne', hdd, ← hd, one_mul]
  simp only [hp, hw]
  have hB : ∑ x, X x * ((c * c : ℝ) : EReal) * (u x : EReal) = (∑ x, X x * ((u x * c : ℝ) : EReal)) * (c : EReal) := by
    rw [sum_mul_pos _ _ c hc.le]
    refine Finset.sum_congr rfl fun x _ => ?_
    rw [EReal.coe_mul, EReal.coe_mul]
    ac_rfl
  rw [hB, ← EReal.neg_mul, ← add_mul_pos _ _ c hc.le, sub_eq_add_neg, EReal.coe_mul]
  ac_rfl

end Cert.Mem

end
-- ==== Proof.MemHead.lean ====
/-
  What the kernel computes for one head of one block of tokens: the rows of logits, the gradient of the logits, and the
  contributions to the three results. The payloads of the four heads are stated as the same four formulas.
-/
module

public import proofs.«01_k».proof.Proof.Gen.KernelIdeal.Skeleton
public import proofs.«01_k».proof.Proof.MemMath
public import Idealize.ShloMosaic.Lib.Pointwise

@[expose] public section

set_option maxRecDepth 16384

noncomputable section

open Idealize.ShloMosaic Idealize.ShloMosaic.TcCoe Idealize.SL.Sem

namespace Cert.Mem

open Cert.KernelIdeal Cert.KernelIdeal.Gen

/-- The scaled logits of one token against the memory slots. -/
def logit (q : Vec Ideal S512x128 .bf16) (k : Vec Ideal S256x128 .bf16) (r : Fin 512) (j : Fin 256) : EReal :=
  (∑ d, q (ix2 r d) * k (ix2 j d)) * scale

/-- The gradient of one token's probabilities: its cotangent against the values of the memory slots. -/
def pair (d : Vec Ideal S512x128 .bf16) (v : Vec Ideal S256x128 .bf16) (r : Fin 512) (j : Fin 256) : EReal :=
  ∑ e, d (ix2 r e) * v (ix2 j e)

/-- The gradient of one token's logits. -/
def headS (q : Vec Ideal S512x128 .bf16) (k : Vec Ideal S256x128 .bf16) (d : Vec Ideal S512x128 .bf16) (v : Vec Ideal S256x128 .bf16)
    (r : Fin 512) (j : Fin 256) : EReal := dscore (logit q k r) (pair d v r) j

/-- One head's gradient of the queries. -/
def headQ (q : Vec Ideal S512x128 .bf16) (k : Vec Ideal S256x128 .bf16) (d : Vec Ideal S512x128 .bf16) (v : Vec Ideal S256x128 .bf16)
    (r : Fin 512) (e : Fin 128) : EReal := (∑ j, headS q k d v r j * k (ix2 j e)) * scale

/-- One block's part of one head's gradient of the keys. -/
def headK (q : Vec Ideal S512x128 .bf16) (k : Vec Ideal S256x128 .bf16) (d : Vec Ideal S512x128 .bf16) (v : Vec Ideal S256x128 .bf16)
    (j : Fin 256) (e : Fin 128) : EReal := (∑ r, headS q k d v r j * q (ix2 r e)) * scale

/-- One block's part of one head's gradient of the values. -/
def headV (q : Vec Ideal S512x128 .bf16) (k : Vec Ideal S256x128 .bf16) (d : Vec Ideal S512x128 .bf16)
    (j : Fin 256) (e : Fin 128) : EReal := ∑ r, prob (logit q k r) j * d (ix2 r e)

variable (q : Vec Ideal S512x128 .bf16) (k : Vec Ideal S256x128 .bf16) (d : Vec Ideal S512x128 .bf16) (v : Vec Ideal S256x128 .bf16)
  (a : Vec Ideal S256x128 .f32) (r : Fin 512) (j : Fin 256) (e : Fin 128)

/-! The first head. -/

theorem pay3_apply : k0_pay3 (F := Ideal) q k (ix2 r j) = prob (logit q k r) j := by
  pointwise [k0_pay3]; rfl

theorem pay4_apply : k0_pay4 (F := Ideal) q k d v (ix2 r j) = headS q k d v r j := by
  pointwise [k0_pay4, pay3_apply]; rfl

theorem pay5_apply : k0_pay5 (F := Ideal) q k d v (ix2 r e) = headQ q k d v r e := by
  pointwise [k0_pay5, pay4_apply]; rfl

theorem pay8_apply : k0_pay8 (F := Ideal) q (k0_pay6 a) (k0_pay7 q k d v) (constant S256x128 .f32 0x00000000#32) (ix2 j e) = a (ix2 j e) + headK q k d v j e := by
  pointwise [k0_pay8, k0_pay6, k0_pay7, pay4_apply, zero_add]; rfl

theorem pay9_apply : k0_pay9 (F := Ideal) (k0_pay3 q k) d a (ix2 j e) = a (ix2 j e) + headV q k d j e := by
  pointwise [k0_pay9, pay3_apply]; rfl

/-! The second head. -/

theorem pay10_apply : k0_pay10 (F := Ideal) q k (ix2 r j) = prob (logit q k r) j := by
  pointwise [k0_pay10]; rfl

theorem pay11_apply : k0_pay11 (F := Ideal) q k d v (ix2 r j) = headS q k d v r j := by
  pointwise [k0_pay11, pay10_apply]; rfl

theorem pay13_apply : k0_pay13 (F := Ideal) k (k0_pay12 q k d v) (constant S512x128 .f32 0x00000000#32) (ix2 r e) = headQ q k d v r e := by
  pointwise [k0_pay13, k0_pay12, pay11_apply, zero_add]; rfl

theorem pay14_apply : k0_pay14 (F := Ideal) q (k0_pay11 q k d v) a (ix2 j e) = a (ix2 j e) + headK q k d v j e := by
  pointwise [k0_pay14, pay11_apply]; rfl

theorem pay15_apply : k0_pay15 (F := Ideal) (k0_pay10 q k) d a (ix2 j e) = a (ix2 j e) + headV q k d j e := by
  pointwise [k0_pay15, pay10_apply]; rfl

/-! The third head. -/

theorem pay16_apply : k0_pay16 (F := Ideal) q k (ix2 r j) = prob (logit q k r) j := by
  pointwise [k0_pay16]; rfl

theorem pay17_apply : k0_pay17 (F := Ideal) (k0_pay16 q k) d v (ix2 r j) = headS q k d v r j := by
  pointwise [k0_pay17, pay16_apply]; rfl

theorem pay18_apply : k0_pay18 (F := Ideal) k (k0_pay16 q k) d v (ix2 r e) = headQ q k d v r e := by
  pointwise [k0_pay18, pay17_apply]; rfl

theorem pay19_apply : k0_pay19 (F := Ideal) q (k0_pay16 q k) d v a (ix2 j e) = a (ix2 j e) + headK q k d v j e := by
  pointwise [k0_pay19, pay17_apply]; rfl

theorem pay20_apply : k0_pay20 (F := Ideal) (k0_pay16 q k) d a (ix2 j e) = a (ix2 j e) + headV q k d j e := by
  pointwise [k0_pay20, pay16_apply]; rfl

/-! The fourth head. -/

theorem pay22_apply : k0_pay22 (F := Ideal) (k0_pay21 q k) (ix2 r j) = prob (logit q k r) j := by
  pointwise [k0_pay22, k0_pay21]; rfl

theorem pay23_apply : k0_pay23 (F := Ideal) (k0_pay21 q k) d v (ix2 r j) = headS q k d v r j := by
  pointwise [k0_pay23, pay22_apply]; rfl

theorem pay24_apply : k0_pay24 (F := Ideal) k (k0_pay21 q k) d v (ix2 r e) = headQ q k d v r e := by
  pointwise [k0_pay24, pay23_apply]; rfl

theorem pay25_apply : k0_pay25 (F := Ideal) q (k0_pay21 q k) d v a (ix2 j e) = a (ix2 j e) + headK q k d v j e := by
  pointwise [k0_pay25, pay23_apply]; rfl

theorem pay26_apply : k0_pay26 (F := Ideal) (k0_pay21 q k) d a (ix2 j e) = a (ix2 j e) + headV q k d j e := by
  pointwise [k0_pay26, pay22_apply]; rfl

end Cert.Mem

end
-- ==== Proof.MemBlock.lean ====
/-
  What the kernel's body leaves at one grid point: the block of the gradient of the queries, and the running sums of the
  gradients of the keys and of the values, as formulas in the blocks it loads.
-/
module

public import proofs.«01_k».proof.Proof.MemHead
public import proofs.«01_k».proof.Proof.Gen.KernelIdeal.Value
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem

namespace Cert.Mem

open Cert.KernelIdeal Cert.KernelIdeal.Gen

/-- The columns `o, …, o + 127` of a block of tokens. -/
def cutT (x : Vec Ideal S512x512 .bf16) (o : ℕ) (h : o + 128 ≤ 512) : Vec Ideal S512x128 .bf16 :=
  fun i => x (ix2 (i 0) ⟨o + (i 1).val, by have h1 : (i 1).val < 128 := (i 1).isLt; omega⟩)

/-- The columns `o, …, o + 127` of an array over the memory slots. -/
def cutM {e : EltTy} (x : Vec Ideal S256x512 e) (o : ℕ) (h : o + 128 ≤ 512) : Vec Ideal S256x128 e :=
  fun i => x (ix2 (i 0) ⟨o + (i 1).val, by have h1 : (i 1).val < 128 := (i 1).isLt; omega⟩)

/-- A load of 128 columns of a block of tokens. -/
theorem ld_tok (x : Vec Ideal S512x512 .bf16) (o : ℕ) (inb : ∀ a, (![0, o] : Fin 2 → ℕ) a + S512x128.size a ≤ S512x512.size a) (h : o + 128 ≤ 512) :
    View.ld x (Rect.unit (s := S512x512) ![0, o] S512x128.size inb) = cutT x o h := by
  funext i
  refine congrArg x (funext fun a => Fin.ext ?_)
  match a with
  | ⟨0, _⟩ => show 0 + 1 * (i 0).val = (i 0).val; omega
  | ⟨1, _⟩ => show o + 1 * (i 1).val = o + (i 1).val; omega

/-- A load of 128 columns of an array over the memory slots. -/
theorem ld_mem {e : EltTy} (x : Vec Ideal S256x512 e) (o : ℕ) (inb : ∀ a, (![0, o] : Fin 2 → ℕ) a + S256x128.size a ≤ S256x512.size a) (h : o + 128 ≤ 512) :
    View.ld x (Rect.unit (s := S256x512) ![0, o] S256x128.size inb) = cutM x o h := by
  funext i
  refine congrArg x (funext fun a => Fin.ext ?_)
  match a with
  | ⟨0, _⟩ => show 0 + 1 * (i 0).val = (i 0).val; omega
  | ⟨1, _⟩ => show o + 1 * (i 1).val = o + (i 1).val; omega

/-- The first column of the head that column `l` belongs to. -/
def first (l : Fin 512) : ℕ := l.val / 128 * 128

theorem first_le (l : Fin 512) : first l + 128 ≤ 512 := by unfold first; omega

/-- The place of column `l` within its head. -/
def lane (l : Fin 512) : Fin 128 := ⟨l.val % 128, by omega⟩

/-- The block of the gradient of the queries. -/
def blockQ (q : Vec Ideal S512x512 .bf16) (k v : Vec Ideal S256x512 .bf16) (d : Vec Ideal S512x512 .bf16) : Vec Ideal S512x512 .f32 :=
  fun y => headQ (cutT q (first (y 1)) (first_le _)) (cutM k (first (y 1)) (first_le _)) (cutT d (first (y 1)) (first_le _)) (cutM v (first (y 1)) (first_le _)) (y 0) (lane (y 1))

/-- One block's part of the gradient of the keys. -/
def blockK (q : Vec Ideal S512x512 .bf16) (k v : Vec Ideal S256x512 .bf16) (d : Vec Ideal S512x512 .bf16) : Vec Ideal S256x512 .f32 :=
  fun y => headK (cutT q (first (y 1)) (first_le _)) (cutM k (first (y 1)) (first_le _)) (cutT d (first (y 1)) (first_le _)) (cutM v (first (y 1)) (first_le _)) (y 0) (lane (y 1))

/-- One block's part of the gradient of the values. -/
def blockV (q : Vec Ideal S512x512 .bf16) (k : Vec Ideal S256x512 .bf16) (d : Vec Ideal S512x512 .bf16) : Vec Ideal S256x512 .f32 :=
  fun y => headV (cutT q (first (y 1)) (first_le _)) (cutM k (first (y 1)) (first_le _)) (cutT d (first (y 1)) (first_le _)) (y 0) (lane (y 1))

/-- The running sum for the keys after a block. -/
def sumK (q : Vec Ideal S512x512 .bf16) (k v : Vec Ideal S256x512 .bf16) (d : Vec Ideal S512x512 .bf16) (a : Vec Ideal S256x512 .f32) :
    Vec Ideal S256x512 .f32 := fun y => a y + blockK q k v d y

/-- The running sum for the values after a block. -/
def sumV (q : Vec Ideal S512x512 .bf16) (k : Vec Ideal S256x512 .bf16) (d : Vec Ideal S512x512 .bf16) (a : Vec Ideal S256x512 .f32) :
    Vec Ideal S256x512 .f32 := fun y => a y + blockV q k d y

/-- Column `128 h + e` belongs to head `h`, at place `e`. -/
theorem first_lane (l : Fin 512) (h : ℕ) (e : Fin 128) (hl : l.val = 128 * h + e.val) : first l = 128 * h ∧ lane l = e := by
  have := e.isLt
  exact ⟨by unfold first; omega, Fin.ext (by unfold lane; show l.val % 128 = e.val; omega)⟩

variable (q : Vec Ideal S512x512 .bf16) (k v : Vec Ideal S256x512 .bf16) (d : Vec Ideal S512x512 .bf16)

theorem blockQ_at (y : S512x512.Idx) (h o : ℕ) (ho : o + 128 ≤ 512) (hh : o = 128 * h) (r : Fin 512) (e : Fin 128) (h0 : y 0 = r)
    (h1 : (y 1).val = o + e.val) : blockQ q k v d y = headQ (cutT q o ho) (cutM k o ho) (cutT d o ho) (cutM v o ho) r e := by
  obtain ⟨hf, hl⟩ := first_lane (y 1) h e (by omega)
  subst hh h0
  have key : ∀ (o' : ℕ) (ho' : o' + 128 ≤ 512), o' = 128 * h → headQ (cutT q o' ho') (cutM k o' ho') (cutT d o' ho') (cutM v o' ho') (y 0) e = headQ (cutT q (128 * h) ho) (cutM k (128 * h) ho) (cutT d (128 * h) ho) (cutM v (128 * h) ho) (y 0) e := by
    rintro _ _ rfl; rfl
  unfold blockQ
  rw [hl]
  exact key _ _ hf

theorem blockK_at (y : S256x512.Idx) (h o : ℕ) (ho : o + 128 ≤ 512) (hh : o = 128 * h) (j : Fin 256) (e : Fin 128) (h0 : y 0 = j)
    (h1 : (y 1).val = o + e.val) : blockK q k v d y = headK (cutT q o ho) (cutM k o ho) (cutT d o ho) (cutM v o ho) j e := by
  obtain ⟨hf, hl⟩ := first_lane (y 1) h e (by omega)
  subst hh h0
  have key : ∀ (o' : ℕ) (ho' : o' + 128 ≤ 512), o' = 128 * h → headK (cutT q o' ho') (cutM k o' ho') (cutT d o' ho') (cutM v o' ho') (y 0) e = headK (cutT q (128 * h) ho) (cutM k (128 * h) ho) (cutT d (128 * h) ho) (cutM v (128 * h) ho) (y 0) e := by
    rintro _ _ rfl; rfl
  unfold blockK
  rw [hl]
  exact key _ _ hf

theorem blockV_at (y : S256x512.Idx) (h o : ℕ) (ho : o + 128 ≤ 512) (hh : o = 128 * h) (j : Fin 256) (e : Fin 128) (h0 : y 0 = j)
    (h1 : (y 1).val = o + e.val) : blockV q k d y = headV (cutT q o ho) (cutM k o ho) (cutT d o ho) j e := by
  obtain ⟨hf, hl⟩ := first_lane (y 1) h e (by omega)
  subst hh h0
  have key : ∀ (o' : ℕ) (ho' : o' + 128 ≤ 512), o' = 128 * h → headV (cutT q o' ho') (cutM k o' ho') (cutT d o' ho') (y 0) e = headV (cutT q (128 * h) ho) (cutM k (128 * h) ho) (cutT d (128 * h) ho) (y 0) e := by
    rintro _ _ rfl; rfl
  unfold blockV
  rw [hl]
  exact key _ _ hf

/-- A store of one head's gradient of the queries is a piece of the block. -/
theorem pieceQ (h o : ℕ) (ho : o + 128 ≤ 512) (hh : o = 128 * h) (inb : ∀ a, (![0, o] : Fin 2 → ℕ) a + S512x128.size a ≤ S512x512.size a)
    (w : Vec Ideal S512x128 .f32)
    (hw : ∀ (r : Fin 512) (e : Fin 128), w (ix2 r e) = headQ (cutT q o ho) (cutM k o ho) (cutT d o ho) (cutM v o ho) r e) :
    ∀ x : S512x128.Idx, w x = blockQ q k v d ((Rect.unit (s := S512x512) ![0, o] S512x128.size inb).emb x) := by
  intro x
  have := hw (x 0) (x 1)
  rw [ix2_eta] at this
  exact this.trans (blockQ_at q k v d _ h o ho hh (x 0) (x 1) (Fin.ext (by show 0 + 1 * (x 0).val = (x 0).val; omega)) (by show o + 1 * (x 1).val = o + (x 1).val; omega)).symm

/-- A store of one head's running sum for the keys is a piece of the sum before plus the block's part. -/
theorem pieceK (a : Vec Ideal S256x512 .f32) (h o : ℕ) (ho : o + 128 ≤ 512) (hh : o = 128 * h)
    (inb : ∀ a, (![0, o] : Fin 2 → ℕ) a + S256x128.size a ≤ S256x512.size a) (w : Vec Ideal S256x128 .f32)
    (hw : ∀ (j : Fin 256) (e : Fin 128), w (ix2 j e) = cutM a o ho (ix2 j e) + headK (cutT q o ho) (cutM k o ho) (cutT d o ho) (cutM v o ho) j e) :
    ∀ x : S256x128.Idx, w x = sumK q k v d a ((Rect.unit (s := S256x512) ![0, o] S256x128.size inb).emb x) := by
  intro x
  show w x = a _ + blockK q k v d _
  rw [blockK_at q k v d _ h o ho hh (x 0) (x 1) (Fin.ext (by show 0 + 1 * (x 0).val = (x 0).val; omega)) (by show o + 1 * (x 1).val = o + (x 1).val; omega)]
  have := hw (x 0) (x 1)
  rw [ix2_eta, ← ld_mem a o inb ho] at this
  exact this

/-- A store of one head's running sum for the values is a piece of the sum before plus the block's part. -/
theorem pieceV (a : Vec Ideal S256x512 .f32) (h o : ℕ) (ho : o + 128 ≤ 512) (hh : o = 128 * h)
    (inb : ∀ a, (![0, o] : Fin 2 → ℕ) a + S256x128.size a ≤ S256x512.size a) (w : Vec Ideal S256x128 .f32)
    (hw : ∀ (j : Fin 256) (e : Fin 128), w (ix2 j e) = cutM a o ho (ix2 j e) + headV (cutT q o ho) (cutM k o ho) (cutT d o ho) j e) :
    ∀ x : S256x128.Idx, w x = sumV q k d a ((Rect.unit (s := S256x512) ![0, o] S256x128.size inb).emb x) := by
  intro x
  show w x = a _ + blockV q k d _
  rw [blockV_at q k d _ h o ho hh (x 0) (x 1) (Fin.ext (by show 0 + 1 * (x 0).val = (x 0).val; omega)) (by show o + 1 * (x 1).val = o + (x 1).val; omega)]
  have := hw (x 0) (x 1)
  rw [ix2_eta, ← ld_mem a o inb ho] at this
  exact this

/-- Four stores of 128 columns, at the first columns of the four heads, cover an array over the memory slots. -/
theorem cover_heads (w3 w2 w1 w0 : Vec Ideal S256x128 .f32) (y : S256x512.Idx) :
    ∃ p ∈ ([⟨Rect.unit ![0, 384] S256x128.size inb_S256x512_S256x128_0_384, w3⟩, ⟨Rect.unit ![0, 256] S256x128.size inb_S256x512_S256x128_0_256, w2⟩,
      ⟨Rect.unit ![0, 128] S256x128.size inb_S256x512_S256x128_0_128, w1⟩, ⟨Rect.unit ![0, 0] S256x128.size inb_S256x512_S256x128_0_0, w0⟩] : List (View.Piece (Elt Ideal) S256x512 .f32)),
      y ∈ p.1.set := by
  have h0 : (y 0).val < 256 := (y 0).isLt
  have h1 : (y 1).val < 512 := (y 1).isLt
  have key : ∀ (o : ℕ) (inb : ∀ a, (![0, o] : Fin 2 → ℕ) a + S256x128.size a ≤ S256x512.size a), o ≤ (y 1).val → (y 1).val < o + 128 →
      y ∈ (Rect.unit (s := S256x512) ![0, o] S256x128.size inb).set := by
    intro o inb ha hb
    rw [Rect.mem_set_unit]
    intro a
    match a with
    | ⟨0, _⟩ => exact ⟨Nat.zero_le _, by show (y 0).val < 0 + 256; omega⟩
    | ⟨1, _⟩ => exact ⟨ha, hb⟩
  rcases (by omega : 384 ≤ (y 1).val ∨ (256 ≤ (y 1).val ∧ (y 1).val < 384) ∨ (128 ≤ (y 1).val ∧ (y 1).val < 256) ∨ (y 1).val < 128) with h | h | h | h
  · exact ⟨_, List.mem_cons_self, key _ inb_S256x512_S256x128_0_384 h (by omega)⟩
  · exact ⟨_, List.mem_cons_of_mem _ List.mem_cons_self, key _ inb_S256x512_S256x128_0_256 h.1 (by omega)⟩
  · exact ⟨_, List.mem_cons_of_mem _ (List.mem_cons_of_mem _ List.mem_cons_self), key _ inb_S256x512_S256x128_0_128 h.1 (by omega)⟩
  · exact ⟨_, List.mem_cons_of_mem _ (List.mem_cons_of_mem _ (List.mem_cons_of_mem _ List.mem_cons_self)), key _ inb_S256x512_S256x128_0_0 (Nat.zero_le _) (by omega)⟩

/-- Stores of the four heads' running sums for the keys leave the running sum, whatever was stored before. -/
theorem heads_K (a : Vec Ideal S256x512 .f32) (w3 w2 w1 w0 : Vec Ideal S256x128 .f32) (L : List (View.Piece (Elt Ideal) S256x512 .f32))
    (h3 : ∀ (j : Fin 256) (e : Fin 128), w3 (ix2 j e) = cutM a 384 (by norm_num) (ix2 j e) + headK (cutT q 384 (by norm_num)) (cutM k 384 (by norm_num)) (cutT d 384 (by norm_num)) (cutM v 384 (by norm_num)) j e)
    (h2 : ∀ (j : Fin 256) (e : Fin 128), w2 (ix2 j e) = cutM a 256 (by norm_num) (ix2 j e) + headK (cutT q 256 (by norm_num)) (cutM k 256 (by norm_num)) (cutT d 256 (by norm_num)) (cutM v 256 (by norm_num)) j e)
    (h1 : ∀ (j : Fin 256) (e : Fin 128), w1 (ix2 j e) = cutM a 128 (by norm_num) (ix2 j e) + headK (cutT q 128 (by norm_num)) (cutM k 128 (by norm_num)) (cutT d 128 (by norm_num)) (cutM v 128 (by norm_num)) j e)
    (h0 : ∀ (j : Fin 256) (e : Fin 128), w0 (ix2 j e) = cutM a 0 (by norm_num) (ix2 j e) + headK (cutT q 0 (by norm_num)) (cutM k 0 (by norm_num)) (cutT d 0 (by norm_num)) (cutM v 0 (by norm_num)) j e)
    : View.canon (Val := Elt Ideal) (s := S256x512) (e := .f32) (⟨Rect.unit ![0, 384] S256x128.size inb_S256x512_S256x128_0_384, w3⟩ :: ⟨Rect.unit ![0, 256] S256x128.size inb_S256x512_S256x128_0_256, w2⟩ ::
      ⟨Rect.unit ![0, 128] S256x128.size inb_S256x512_S256x128_0_128, w1⟩ :: ⟨Rect.unit ![0, 0] S256x128.size inb_S256x512_S256x128_0_0, w0⟩ :: L) = sumK q k v d a := by
  funext y
  exact View.canon_append_of_piecesOf (sumK q k v d a) L [⟨Rect.unit ![0, 384] S256x128.size inb_S256x512_S256x128_0_384, w3⟩, ⟨Rect.unit ![0, 256] S256x128.size inb_S256x512_S256x128_0_256, w2⟩,
      ⟨Rect.unit ![0, 128] S256x128.size inb_S256x512_S256x128_0_128, w1⟩, ⟨Rect.unit ![0, 0] S256x128.size inb_S256x512_S256x128_0_0, w0⟩]
    ⟨pieceK q k v d a 3 _ _ (by norm_num) inb_S256x512_S256x128_0_384 _ h3, pieceK q k v d a 2 _ _ (by norm_num) inb_S256x512_S256x128_0_256 _ h2, pieceK q k v d a 1 _ _ (by norm_num) inb_S256x512_S256x128_0_128 _ h1, pieceK q k v d a 0 _ _ (by norm_num) inb_S256x512_S256x128_0_0 _ h0, trivial⟩ y (cover_heads w3 w2 w1 w0 y)

/-- Stores of the four heads' running sums for the values leave the running sum, whatever was stored before. -/
theorem heads_V (a : Vec Ideal S256x512 .f32) (w3 w2 w1 w0 : Vec Ideal S256x128 .f32) (L : List (View.Piece (Elt Ideal) S256x512 .f32))
    (h3 : ∀ (j : Fin 256) (e : Fin 128), w3 (ix2 j e) = cutM a 384 (by norm_num) (ix2 j e) + headV (cutT q 384 (by norm_num)) (cutM k 384 (by norm_num)) (cutT d 384 (by norm_num)) j e)
    (h2 : ∀ (j : Fin 256) (e : Fin 128), w2 (ix2 j e) = cutM a 256 (by norm_num) (ix2 j e) + headV (cutT q 256 (by norm_num)) (cutM k 256 (by norm_num)) (cutT d 256 (by norm_num)) j e)
    (h1 : ∀ (j : Fin 256) (e : Fin 128), w1 (ix2 j e) = cutM a 128 (by norm_num) (ix2 j e) + headV (cutT q 128 (by norm_num)) (cutM k 128 (by norm_num)) (cutT d 128 (by norm_num)) j e)
    (h0 : ∀ (j : Fin 256) (e : Fin 128), w0 (ix2 j e) = cutM a 0 (by norm_num) (ix2 j e) + headV (cutT q 0 (by norm_num)) (cutM k 0 (by norm_num)) (cutT d 0 (by norm_num)) j e)
    : View.canon (Val := Elt Ideal) (s := S256x512) (e := .f32) (⟨Rect.unit ![0, 384] S256x128.size inb_S256x512_S256x128_0_384, w3⟩ :: ⟨Rect.unit ![0, 256] S256x128.size inb_S256x512_S256x128_0_256, w2⟩ ::
      ⟨Rect.unit ![0, 128] S256x128.size inb_S256x512_S256x128_0_128, w1⟩ :: ⟨Rect.unit ![0, 0] S256x128.size inb_S256x512_S256x128_0_0, w0⟩ :: L) = sumV q k d a := by
  funext y
  exact View.canon_append_of_piecesOf (sumV q k d a) L [⟨Rect.unit ![0, 384] S256x128.size inb_S256x512_S256x128_0_384, w3⟩, ⟨Rect.unit ![0, 256] S256x128.size inb_S256x512_S256x128_0_256, w2⟩,
      ⟨Rect.unit ![0, 128] S256x128.size inb_S256x512_S256x128_0_128, w1⟩, ⟨Rect.unit ![0, 0] S256x128.size inb_S256x512_S256x128_0_0, w0⟩]
    ⟨pieceV q k d a 3 _ _ (by norm_num) inb_S256x512_S256x128_0_384 _ h3, pieceV q k d a 2 _ _ (by norm_num) inb_S256x512_S256x128_0_256 _ h2, pieceV q k d a 1 _ _ (by norm_num) inb_S256x512_S256x128_0_128 _ h1, pieceV q k d a 0 _ _ (by norm_num) inb_S256x512_S256x128_0_0 _ h0, trivial⟩ y (cover_heads w3 w2 w1 w0 y)

variable (c : Dev nD) (i : grid0.Coords) (arg1 : Memref sig .tc .vmem S512x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S256x512 .f32) (harg6 : arg6.IsWhole) (arg7 : Memref sig .tc .vmem S256x512 .f32) (harg7 : arg7.IsWhole)

/-- The block of the gradient of the queries, at the first point. -/
theorem outA_Q (hc0 : cond0_0 i) :
    out0_A_4 c i arg1 harg1 arg2 harg2 arg3 harg3 arg4 harg4 arg5 harg5 arg6 harg6 arg7 harg7 hc0 q k v d = blockQ q k v d := by
  unfold out0_A_4
  rw [View.read_writes_eq_canon _ _ _ (cover0_A_4 c i arg1 harg1 arg2 harg2 arg3 harg3 arg4 harg4 arg5 harg5 arg6 harg6 arg7 harg7 hc0 q k v d)]
  funext y
  refine View.canon_apply_of_pieces _ _ (View.PiecesOf.mem ?_) y (cover0_A_4 c i arg1 harg1 arg2 harg2 arg3 harg3 arg4 harg4 arg5 harg5 arg6 harg6 arg7 harg7 hc0 q k v d y)
  unfold kernelRun0_A
  dsimp only
  sl_unfold_words
  simp (disch := decide) only [View.readCov_skip, View.readCov_fill, View.readAt_eq_ld, Memref.IsWhole.read_unread, ld_tok _ _ _ (by norm_num : 384 + 128 ≤ 512), ld_tok _ _ _ (by norm_num : 256 + 128 ≤ 512), ld_tok _ _ _ (by norm_num : 128 + 128 ≤ 512), ld_tok _ _ _ (by norm_num : 0 + 128 ≤ 512), ld_mem _ _ _ (by norm_num : 384 + 128 ≤ 512), ld_mem _ _ _ (by norm_num : 256 + 128 ≤ 512), ld_mem _ _ _ (by norm_num : 128 + 128 ≤ 512), ld_mem _ _ _ (by norm_num : 0 + 128 ≤ 512)]
  exact ⟨pieceQ q k v d 3 _ _ (by norm_num) inb_S512x512_S512x128_0_384 _ fun r e => pay24_apply _ _ _ _ r e,
    pieceQ q k v d 2 _ _ (by norm_num) inb_S512x512_S512x128_0_256 _ fun r e => pay18_apply _ _ _ _ r e,
    pieceQ q k v d 1 _ _ (by norm_num) inb_S512x512_S512x128_0_128 _ fun r e => pay13_apply _ _ _ _ r e,
    pieceQ q k v d 0 _ _ (by norm_num) inb_S512x512_S512x128_0_0 _ fun r e => pay5_apply _ _ _ _ r e, trivial⟩

/-- The running sum for the keys, at the first point. -/
theorem outA_K (hc0 : cond0_0 i) :
    out0_A_5 c i arg1 harg1 arg2 harg2 arg3 harg3 arg4 harg4 arg5 harg5 arg6 harg6 arg7 harg7 hc0 q k v d = sumK q k v d (k0_pay1 (F := Ideal)) := by
  unfold out0_A_5
  rw [View.read_writes_eq_canon _ _ _ (cover0_A_5 c i arg1 harg1 arg2 harg2 arg3 harg3 arg4 harg4 arg5 harg5 arg6 harg6 arg7 harg7 hc0 q k v d)]
  unfold kernelRun0_A
  dsimp only
  sl_unfold_words
  simp (disch := decide) only [View.readCov_skip, View.readCov_fill, View.readAt_eq_ld, Memref.IsWhole.read_unread, ld_tok _ _ _ (by norm_num : 384 + 128 ≤ 512), ld_tok _ _ _ (by norm_num : 256 + 128 ≤ 512), ld_tok _ _ _ (by norm_num : 128 + 128 ≤ 512), ld_tok _ _ _ (by norm_num : 0 + 128 ≤ 512), ld_mem _ _ _ (by norm_num : 384 + 128 ≤ 512), ld_mem _ _ _ (by norm_num : 256 + 128 ≤ 512), ld_mem _ _ _ (by norm_num : 128 + 128 ≤ 512), ld_mem _ _ _ (by norm_num : 0 + 128 ≤ 512)]
  exact heads_K q k v d (k0_pay1 (F := Ideal)) _ _ _ _ _ (fun j e => pay25_apply _ _ _ _ _ j e) (fun j e => pay19_apply _ _ _ _ _ j e) (fun j e => pay14_apply _ _ _ _ _ j e) (fun j e => pay8_apply _ _ _ _ _ j e)

/-- The running sum for the values, at the first point. -/
theorem outA_V (hc0 : cond0_0 i) :
    out0_A_6 c i arg1 harg1 arg2 harg2 arg3 harg3 arg4 harg4 arg5 harg5 arg6 harg6 arg7 harg7 hc0 q k v d = sumV q k d (k0_pay2 (F := Ideal)) := by
  unfold out0_A_6
  rw [View.read_writes_eq_canon _ _ _ (cover0_A_6 c i arg1 harg1 arg2 harg2 arg3 harg3 arg4 harg4 arg5 harg5 arg6 harg6 arg7 harg7 hc0 q k v d)]
  unfold kernelRun0_A
  dsimp only
  sl_unfold_words
  simp (disch := decide) only [View.readCov_skip, View.readCov_fill, View.readAt_eq_ld, Memref.IsWhole.read_unread, ld_tok _ _ _ (by norm_num : 384 + 128 ≤ 512), ld_tok _ _ _ (by norm_num : 256 + 128 ≤ 512), ld_tok _ _ _ (by norm_num : 128 + 128 ≤ 512), ld_tok _ _ _ (by norm_num : 0 + 128 ≤ 512), ld_mem _ _ _ (by norm_num : 384 + 128 ≤ 512), ld_mem _ _ _ (by norm_num : 256 + 128 ≤ 512), ld_mem _ _ _ (by norm_num : 128 + 128 ≤ 512), ld_mem _ _ _ (by norm_num : 0 + 128 ≤ 512)]
  exact heads_V q k d (k0_pay2 (F := Ideal)) _ _ _ _ _ (fun j e => pay26_apply _ _ _ _ j e) (fun j e => pay20_apply _ _ _ _ j e) (fun j e => pay15_apply _ _ _ _ j e) (fun j e => pay9_apply _ _ _ _ j e)

/-- The block of the gradient of the queries, at a later point. -/
theorem outB_Q (hc0 : ¬cond0_0 i) (xo5 xo6 : Vec Ideal S256x512 .f32) :
    out0_B_4 c i arg1 harg1 arg2 harg2 arg3 harg3 arg4 harg4 arg5 harg5 arg6 harg6 arg7 harg7 hc0 q k v d xo5 xo6 = blockQ q k v d := by
  unfold out0_B_4
  rw [View.read_writes_eq_canon _ _ _ (cover0_B_4 c i arg1 harg1 arg2 harg2 arg3 harg3 arg4 harg4 arg5 harg5 arg6 harg6 arg7 harg7 hc0 q k v d xo5 xo6)]
  funext y
  refine View.canon_apply_of_pieces _ _ (View.PiecesOf.mem ?_) y (cover0_B_4 c i arg1 harg1 arg2 harg2 arg3 harg3 arg4 harg4 arg5 harg5 arg6 harg6 arg7 harg7 hc0 q k v d xo5 xo6 y)
  unfold kernelRun0_B
  dsimp only
  sl_unfold_words
  simp (disch := decide) only [View.readCov_skip, View.readCov_fill, View.readAt_eq_ld, Memref.IsWhole.read_unread, ld_tok _ _ _ (by norm_num : 384 + 128 ≤ 512), ld_tok _ _ _ (by norm_num : 256 + 128 ≤ 512), ld_tok _ _ _ (by norm_num : 128 + 128 ≤ 512), ld_tok _ _ _ (by norm_num : 0 + 128 ≤ 512), ld_mem _ _ _ (by norm_num : 384 + 128 ≤ 512), ld_mem _ _ _ (by norm_num : 256 + 128 ≤ 512), ld_mem _ _ _ (by norm_num : 128 + 128 ≤ 512), ld_mem _ _ _ (by norm_num : 0 + 128 ≤ 512)]
  exact ⟨pieceQ q k v d 3 _ _ (by norm_num) inb_S512x512_S512x128_0_384 _ fun r e => pay24_apply _ _ _ _ r e,
    pieceQ q k v d 2 _ _ (by norm_num) inb_S512x512_S512x128_0_256 _ fun r e => pay18_apply _ _ _ _ r e,
    pieceQ q k v d 1 _ _ (by norm_num) inb_S512x512_S512x128_0_128 _ fun r e => pay13_apply _ _ _ _ r e,
    pieceQ q k v d 0 _ _ (by norm_num) inb_S512x512_S512x128_0_0 _ fun r e => pay5_apply _ _ _ _ r e, trivial⟩

/-- The running sum for the keys, at a later point. -/
theorem outB_K (hc0 : ¬cond0_0 i) (xo5 xo6 : Vec Ideal S256x512 .f32) :
    out0_B_5 c i arg1 harg1 arg2 harg2 arg3 harg3 arg4 harg4 arg5 harg5 arg6 harg6 arg7 harg7 hc0 q k v d xo5 xo6 = sumK q k v d xo5 := by
  unfold out0_B_5
  rw [View.read_writes_eq_canon _ _ _ (cover0_B_5 c i arg1 harg1 arg2 harg2 arg3 harg3 arg4 harg4 arg5 harg5 arg6 harg6 arg7 harg7 hc0 q k v d xo5 xo6)]
  unfold kernelRun0_B
  dsimp only
  sl_unfold_words
  simp (disch := decide) only [View.readCov_skip, View.readCov_fill, View.readAt_eq_ld, Memref.IsWhole.read_unread, ld_tok _ _ _ (by norm_num : 384 + 128 ≤ 512), ld_tok _ _ _ (by norm_num : 256 + 128 ≤ 512), ld_tok _ _ _ (by norm_num : 128 + 128 ≤ 512), ld_tok _ _ _ (by norm_num : 0 + 128 ≤ 512), ld_mem _ _ _ (by norm_num : 384 + 128 ≤ 512), ld_mem _ _ _ (by norm_num : 256 + 128 ≤ 512), ld_mem _ _ _ (by norm_num : 128 + 128 ≤ 512), ld_mem _ _ _ (by norm_num : 0 + 128 ≤ 512)]
  exact heads_K q k v d xo5 _ _ _ _ _ (fun j e => pay25_apply _ _ _ _ _ j e) (fun j e => pay19_apply _ _ _ _ _ j e) (fun j e => pay14_apply _ _ _ _ _ j e) (fun j e => pay8_apply _ _ _ _ _ j e)

/-- The running sum for the values, at a later point. -/
theorem outB_V (hc0 : ¬cond0_0 i) (xo5 xo6 : Vec Ideal S256x512 .f32) :
    out0_B_6 c i arg1 harg1 arg2 harg2 arg3 harg3 arg4 harg4 arg5 harg5 arg6 harg6 arg7 harg7 hc0 q k v d xo5 xo6 = sumV q k d xo6 := by
  unfold out0_B_6
  rw [View.read_writes_eq_canon _ _ _ (cover0_B_6 c i arg1 harg1 arg2 harg2 arg3 harg3 arg4 harg4 arg5 harg5 arg6 harg6 arg7 harg7 hc0 q k v d xo5 xo6)]
  unfold kernelRun0_B
  dsimp only
  sl_unfold_words
  simp (disch := decide) only [View.readCov_skip, View.readCov_fill, View.readAt_eq_ld, Memref.IsWhole.read_unread, ld_tok _ _ _ (by norm_num : 384 + 128 ≤ 512), ld_tok _ _ _ (by norm_num : 256 + 128 ≤ 512), ld_tok _ _ _ (by norm_num : 128 + 128 ≤ 512), ld_tok _ _ _ (by norm_num : 0 + 128 ≤ 512), ld_mem _ _ _ (by norm_num : 384 + 128 ≤ 512), ld_mem _ _ _ (by norm_num : 256 + 128 ≤ 512), ld_mem _ _ _ (by norm_num : 128 + 128 ≤ 512), ld_mem _ _ _ (by norm_num : 0 + 128 ≤ 512)]
  exact heads_V q k d xo6 _ _ _ _ _ (fun j e => pay26_apply _ _ _ _ j e) (fun j e => pay20_apply _ _ _ _ j e) (fun j e => pay15_apply _ _ _ _ j e) (fun j e => pay9_apply _ _ _ _ j e)

/-- The zero array the running sum for the keys starts from. -/
theorem zeroK_apply (y : S256x512.Idx) : k0_pay1 (F := Ideal) y = 0 := by pointwise [k0_pay1]

/-- The zero array the running sum for the values starts from. -/
theorem zeroV_apply (y : S256x512.Idx) : k0_pay2 (F := Ideal) y = 0 := by pointwise [k0_pay2]

end Cert.Mem

end
-- ==== Proof.MemArray.lean ====
/-
  What the kernel's three result arrays hold after the run: each entry as one formula in the entries of the four
  argument arrays. The gradient of the queries is written block by block; those of the keys and of the values are
  running sums over the sixteen blocks of tokens, written once.
-/
module

public import proofs.«01_k».proof.Proof.MemBlock
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Mem

open Cert.KernelIdeal Cert.KernelIdeal.Gen

/-- The column at place `e` of the head that column `l` belongs to. -/
def col (l : Fin 512) (e : Fin 128) : Fin 512 := ⟨first l + e.val, by have := first_le l; have := e.isLt; omega⟩

theorem col_lane (l : Fin 512) : col l (lane l) = l := Fin.ext (by show l.val / 128 * 128 + l.val % 128 = l.val; omega)

/-- The scaled logits of token `r` in the head of column `l`. -/
def logits (q : Vec Ideal S8192x512 .bf16) (k : Vec Ideal S256x512 .bf16) (l : Fin 512) (r : Fin 8192) (j : Fin 256) : EReal :=
  (∑ e, q (ix2 r (col l e)) * k (ix2 j (col l e))) * scale

/-- The gradient of the probabilities of token `r` in the head of column `l`. -/
def pairs (d : Vec Ideal S8192x512 .bf16) (v : Vec Ideal S256x512 .bf16) (l : Fin 512) (r : Fin 8192) (j : Fin 256) : EReal :=
  ∑ e, d (ix2 r (col l e)) * v (ix2 j (col l e))

/-- The gradient of the queries. -/
def gradQ (q : Vec Ideal S8192x512 .bf16) (k v : Vec Ideal S256x512 .bf16) (d : Vec Ideal S8192x512 .bf16) : Vec Ideal S8192x512 .f32 :=
  fun y => (∑ j, dscore (logits q k (y 1) (y 0)) (pairs d v (y 1) (y 0)) j * k (ix2 j (y 1))) * scale

/-- The gradient of the keys. -/
def gradK (q : Vec Ideal S8192x512 .bf16) (k v : Vec Ideal S256x512 .bf16) (d : Vec Ideal S8192x512 .bf16) : Vec Ideal S256x512 .f32 :=
  fun y => (∑ r, dscore (logits q k (y 1) r) (pairs d v (y 1) r) (y 0) * q (ix2 r (y 1))) * scale

/-- The gradient of the values. -/
def gradV (q : Vec Ideal S8192x512 .bf16) (k : Vec Ideal S256x512 .bf16) (d : Vec Ideal S8192x512 .bf16) : Vec Ideal S256x512 .f32 :=
  fun y => ∑ r, prob (logits q k (y 1) r) (y 0) * d (ix2 r (y 1))

/-- The rows `512 t, …, 512 t + 511` of an array over the tokens. -/
def tile (x : Vec Ideal S8192x512 .bf16) (t : Fin 16) : Vec Ideal S512x512 .bf16 :=
  fun y => x (ix2 ⟨t.val * 512 + (y 0).val, by have h0 : (y 0).val < 512 := (y 0).isLt; omega⟩ (y 1))

/-- A sum over the tokens, block by block. -/
theorem sum_tokens (f : Fin 8192 → EReal) :
    ∑ t : Fin 16, ∑ r : Fin 512, f ⟨t.val * 512 + r.val, by have := t.isLt; have := r.isLt; omega⟩ = ∑ x, f x :=
  (Fin.sum_univ_tiles (N := 8192) 16 512 (by norm_num) f).symm

variable (q : Vec Ideal S8192x512 .bf16) (k v : Vec Ideal S256x512 .bf16) (d : Vec Ideal S8192x512 .bf16)

/-- A block of the gradient of the queries is the rows of that block. -/
theorem blockQ_tile (t : Fin 16) (y : S512x512.Idx) :
    blockQ (tile q t) k v (tile d t) y = gradQ q k v d (ix2 ⟨t.val * 512 + (y 0).val, by have h0 : (y 0).val < 512 := (y 0).isLt; omega⟩ (y 1)) := by
  have h : ∀ l : Fin 512, (⟨first l + (lane l).val, by have := first_le l; have := (lane l).isLt; omega⟩ : Fin 512) = l := col_lane
  unfold blockQ headQ gradQ
  refine congrArg (· * scale) (Finset.sum_congr rfl fun j _ => ?_)
  exact congrArg (headS _ _ _ _ _ _ * k ·) (congrArg (ix2 j) (h (y 1)))

/-- The blocks' parts of the gradient of the keys add up to it. -/
theorem sum_blockK (y : S256x512.Idx) : ∑ t : Fin 16, blockK (tile q t) k v (tile d t) y = gradK q k v d y := by
  obtain ⟨s, hs, hsc⟩ := scale_pos
  have key : ∀ t : Fin 16, blockK (tile q t) k v (tile d t) y
      = (∑ r : Fin 512, (fun x : Fin 8192 => dscore (logits q k (y 1) x) (pairs d v (y 1) x) (y 0) * q (ix2 x (y 1)))
          ⟨t.val * 512 + r.val, by have := t.isLt; have := r.isLt; omega⟩) * scale := fun t => by
    unfold blockK headK
    refine congrArg (· * scale) (Finset.sum_congr rfl fun r _ => ?_)
    exact congrArg (headS _ _ _ _ _ _ * q ·) (congrArg (ix2 _) (col_lane (y 1)))
  rw [Finset.sum_congr rfl fun t _ => key t, hsc, ← sum_mul_pos _ _ s hs.le, ← hsc]
  exact congrArg (· * scale) (sum_tokens fun x => dscore (logits q k (y 1) x) (pairs d v (y 1) x) (y 0) * q (ix2 x (y 1)))

/-- The blocks' parts of the gradient of the values add up to it. -/
theorem sum_blockV (y : S256x512.Idx) : ∑ t : Fin 16, blockV (tile q t) k (tile d t) y = gradV q k d y := by
  have key : ∀ t : Fin 16, blockV (tile q t) k (tile d t) y
      = ∑ r : Fin 512, (fun x : Fin 8192 => prob (logits q k (y 1) x) (y 0) * d (ix2 x (y 1)))
          ⟨t.val * 512 + r.val, by have := t.isLt; have := r.isLt; omega⟩ := fun t => by
    unfold blockV headV
    refine Finset.sum_congr rfl fun r _ => ?_
    exact congrArg (prob _ _ * d ·) (congrArg (ix2 _) (col_lane (y 1)))
  rw [Finset.sum_congr rfl fun t _ => key t]
  exact sum_tokens fun x => prob (logits q k (y 1) x) (y 0) * d (ix2 x (y 1))

variable (m : (ℓ : Loc nD τ sig) → Buf (Elt Ideal) ℓ) (c : Dev nD)

/-- The four arguments, as arrays. -/
abbrev argQ : Vec Ideal S8192x512 .bf16 := m ((c.tc : Thread nD τ).loc main_arg0)
abbrev argK : Vec Ideal S256x512 .bf16 := m ((c.tc : Thread nD τ).loc main_arg1)
abbrev argV : Vec Ideal S256x512 .bf16 := m ((c.tc : Thread nD τ).loc main_arg2)
abbrev argD : Vec Ideal S8192x512 .bf16 := m ((c.tc : Thread nD τ).loc main_arg3)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])

/-- A grid point as a block number. -/
def blockNo (t : Fin cfg0.N) : Fin 16 := ⟨t.val, by have := t.isLt; have : cfg0.N = 16 := N_0; omega⟩

theorem iblk0 (t : Fin cfg0.N) : (iblk m c 0 t : Vec Ideal S512x512 .bf16) = tile (argQ m c) (blockNo t) := by
  funext y
  blk_simp [iblk]
  unfold V tile
  congr 1
  blk_ext [idx0, blockNo]

theorem iblk3 (t : Fin cfg0.N) : (iblk m c 3 t : Vec Ideal S512x512 .bf16) = tile (argD m c) (blockNo t) := by
  funext y
  blk_simp [iblk]
  unfold V tile
  congr 1
  blk_ext [idx3, blockNo]

theorem iblk1 (t : Fin cfg0.N) : (iblk m c 1 t : Vec Ideal S256x512 .bf16) = argK m c := by
  funext y
  blk_simp [iblk]
  unfold V
  congr 1
  blk_ext [idx1]

theorem iblk2 (t : Fin cfg0.N) : (iblk m c 2 t : Vec Ideal S256x512 .bf16) = argV m c := by
  funext y
  blk_simp [iblk]
  unfold V
  congr 1
  blk_ext [idx2]

/-- Block `s`'s part of the gradient of the keys, nothing past the last block. -/
def partK (s : ℕ) : Vec Ideal S256x512 .f32 :=
  if h : s < 16 then blockK (tile (argQ m c) ⟨s, h⟩) (argK m c) (argV m c) (tile (argD m c) ⟨s, h⟩) else fun _ => 0

/-- Block `s`'s part of the gradient of the values, nothing past the last block. -/
def partV (s : ℕ) : Vec Ideal S256x512 .f32 :=
  if h : s < 16 then blockV (tile (argQ m c) ⟨s, h⟩) (argK m c) (tile (argD m c) ⟨s, h⟩) else fun _ => 0

/-- What the body leaves after point `n`: the block of the gradient of the queries, and the sums of the parts so far. -/
theorem outsAt_eq : ∀ (n : ℕ) (h : n < cfg0.N),
    outsAt0 m c n h = (blockQ (tile (argQ m c) (blockNo ⟨n, h⟩)) (argK m c) (argV m c) (tile (argD m c) (blockNo ⟨n, h⟩)),
      (fun y => ∑ s ∈ Finset.range (n + 1), partK m c s y), (fun y => ∑ s ∈ Finset.range (n + 1), partV m c s y))
  | 0, h => by
    rw [outsAt0_A m c ⟨0, h⟩ rfl, outA_Q, outA_K, outA_V, iblk0, iblk1, iblk2, iblk3]
    refine Prod.ext rfl (Prod.ext (funext fun y => ?_) (funext fun y => ?_))
    · show k0_pay1 (F := Ideal) y + _ = _
      rw [zeroK_apply, zero_add]
      exact (Finset.sum_range_one (fun s => partK m c s y)).symm
    · show k0_pay2 (F := Ideal) y + _ = _
      rw [zeroV_apply, zero_add]
      exact (Finset.sum_range_one (fun s => partV m c s y)).symm
  | n + 1, h => by
    have hN : cfg0.N = 16 := N_0
    have hn : n + 1 < 16 := by omega
    have hB : ¬(⟨n + 1, h⟩ : Fin cfg0.N).val % 16 = 0 := by dsimp only; omega
    rw [outsAt0_B m c ⟨n + 1, h⟩ hB, outB_Q, outB_K, outB_V, iblk0, iblk1, iblk2, iblk3]
    have ih := outsAt_eq n (by omega)
    refine Prod.ext rfl (Prod.ext (funext fun y => ?_) (funext fun y => ?_))
    · show (outsAt0 m c n _).2.1 y + _ = _
      rw [ih]
      refine Eq.trans ?_ (Finset.sum_range_succ (fun s => partK m c s y) (n + 1)).symm
      refine congrArg ((∑ s ∈ Finset.range (n + 1), partK m c s y) + ·) ?_
      unfold partK
      rw [dif_pos hn]; rfl
    · show (outsAt0 m c n _).2.2 y + _ = _
      rw [ih]
      refine Eq.trans ?_ (Finset.sum_range_succ (fun s => partV m c s y) (n + 1)).symm
      refine congrArg ((∑ s ∈ Finset.range (n + 1), partV m c s y) + ·) ?_
      unfold partV
      rw [dif_pos hn]; rfl

/-- The gradient of the queries, after the run. -/
theorem final_Q : (dats m 0 c).arrAt 4 cfg0.N = gradQ (argQ m c) (argK m c) (argV m c) (argD m c) := by
  refine (dats m 0 c).arrAt_eq_of_covers 4 _ (by decide +kernel) fun t hf y => ?_
  blk_simp
  rw [after0_4, outsAt_eq]
  refine (blockQ_tile _ _ _ _ _ _).trans ?_
  congr 1
  blk_ext [idx4, blockNo]

/-- The gradient of the keys, after the run. -/
theorem final_K : (dats m 0 c).arrAt 5 cfg0.N = gradK (argQ m c) (argK m c) (argV m c) (argD m c) := by
  refine (dats m 0 c).arrAt_eq_of_after_last 5 t0_15 (by decide +kernel) _ fun y => ?_
  blk_simp
  rw [after0_5, outsAt_eq]
  show ∑ s ∈ Finset.range 16, partK m c s y = _
  rw [Finset.sum_range]
  refine Eq.trans (Finset.sum_congr rfl fun t _ => ?_) (sum_blockK _ _ _ _ y)
  unfold partK
  rw [dif_pos t.isLt]

/-- The gradient of the values, after the run. -/
theorem final_V : (dats m 0 c).arrAt 6 cfg0.N = gradV (argQ m c) (argK m c) (argD m c) := by
  refine (dats m 0 c).arrAt_eq_of_after_last 6 t0_15 (by decide +kernel) _ fun y => ?_
  blk_simp
  rw [after0_6, outsAt_eq]
  show ∑ s ∈ Finset.range 16, partV m c s y = _
  rw [Finset.sum_range]
  refine Eq.trans (Finset.sum_congr rfl fun t _ => ?_) (sum_blockV _ _ _ y)
  unfold partV
  rw [dif_pos t.isLt]

end Cert.Mem

end
-- ==== Proof.MemReference.lean ====
/-
  The reference program of the memory attention gradient, read at an index. The composed terms of its three results are
  cut into stages — heads split, logits, weights, probabilities, the gradient of the logits — and each stage is stated
  as a formula in the entries of the four arguments.
-/
module

public import proofs.«01_k».proof.Proof.MemArray
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Facts

/-- A token array cut into its four heads. -/
def tok (x : FVec Ideal S8192x512 .bf16) : FVec Ideal S4x8192x128 .f32 :=
  transpose S4x8192x128 [1, 0, 2] (shapeCast _ (extf .f32 x bitsLt_bf16_f32) shapeCasts_S8192x512_S8192x4x128) transposes_S8192x4x128_S4x8192x128_1_0_2

/-- A memory array cut into its four heads. -/
def slot (x : FVec Ideal S256x512 .bf16) : FVec Ideal S4x256x128 .f32 :=
  transpose S4x256x128 [1, 0, 2] (shapeCast _ (extf .f32 x bitsLt_bf16_f32) shapeCasts_S256x512_S256x4x128) transposes_S256x4x128_S4x256x128_1_0_2

/-- The scaled logits. -/
def logits (q : FVec Ideal S8192x512 .bf16) (k : FVec Ideal S256x512 .bf16) : FVec Ideal S4x8192x256 .f32 :=
  mulf (Host.dotGeneral dot_S4x8192x128_S4x256x128_S4x8192x256_2_2_1_1_0_0 none (tok q) (slot k)) (broadcastInDim S4x8192x256 ![] bcast_S_S4x8192x256 (constant S_ .f32 0x3DB504F3#32))

/-- The greatest logit of a row. -/
def greatest (s : FVec Ideal S4x8192x256 .f32) : FVec Ideal S4x8192 .f32 :=
  Host.reduce FloatOps.maximumf s (constant S_ .f32 0xFF800000#32) reducesTo_S4x8192x256_S4x8192_d2 h_S_

/-- What is taken off the logits of a row, from the greatest of each row. -/
def offset (g : FVec Ideal S4x8192 .f32) : FVec Ideal S4x8192x256 .f32 :=
  broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) g))

/-- The exponential of each logit less the offset of its row. -/
def expo (s o : FVec Ideal S4x8192x256 .f32) : FVec Ideal S4x8192x256 .f32 :=
  Host.exp (subf s o)

/-- The exponential of each logit less the greatest of its row. -/
def weights (s : FVec Ideal S4x8192x256 .f32) : FVec Ideal S4x8192x256 .f32 :=
  expo s (offset (greatest s))

/-- The sum of the weights of a row. -/
def total (u : FVec Ideal S4x8192x256 .f32) : FVec Ideal S4x8192x1 .f32 :=
  broadcastInDim S4x8192x1 ![0, 1] bcast_S4x8192_S4x8192x1_0_1 (Host.reduceAdd u (constant S_ .f32 0x00000000#32) reducesTo_S4x8192x256_S4x8192_d2 h_S_)

/-- The probabilities. -/
def probs (u : FVec Ideal S4x8192x256 .f32) : FVec Ideal S4x8192x256 .f32 :=
  Host.divf u (broadcastInDim S4x8192x256 ![0, 1, 2] bcast_S4x8192x1_S4x8192x256_0_1_2 (total u))

/-- The gradient of the probabilities. -/
def dprobs (d : FVec Ideal S8192x512 .bf16) (v : FVec Ideal S256x512 .bf16) : FVec Ideal S4x8192x256 .f32 :=
  Host.dotGeneral dot_S4x8192x128_S4x256x128_S4x8192x256_2_2_1_1_0_0 none (tok d) (slot v)

/-- The gradient of the products of queries and keys. -/
def dlogits (u dp : FVec Ideal S4x8192x256 .f32) : FVec Ideal S4x8192x256 .f32 :=
  mulf (mulf (addf (Host.divf dp (broadcastInDim S4x8192x256 ![0, 1, 2] bcast_S4x8192x1_S4x8192x256_0_1_2 (total u))) (broadcastInDim S4x8192x256 ![0, 1] bcast_S4x8192_S4x8192x256_0_1 (Host.reduceAdd (Host.negf (shapeCast _ (Host.reduceAdd (mulf (mulf dp (broadcastInDim S4x8192x256 ![0, 1, 2] bcast_S4x8192x1_S4x8192x256_0_1_2 (Host.divf (broadcastInDim S4x8192x1 ![] bcast_S_S4x8192x1 (constant S_ .f32 0x3F800000#32)) (mulf (total u) (total u))))) u) (constant S_ .f32 0x00000000#32) reducesTo_S4x8192x256_S4x8192_d2 h_S_) shapeCasts_S4x8192_S4x8192x1)) (constant S_ .f32 0x00000000#32) reducesTo_S4x8192x1_S4x8192_d2 h_S_))) u) (broadcastInDim S4x8192x256 ![] bcast_S_S4x8192x256 (constant S_ .f32 0x3DB504F3#32))

/-- The gradient of the queries. -/
def dq (q : FVec Ideal S8192x512 .bf16) (k v : FVec Ideal S256x512 .bf16) (d : FVec Ideal S8192x512 .bf16) : FVec Ideal S8192x512 .f32 :=
  shapeCast _ (transpose S8192x4x128 [1, 0, 2] (Host.dotGeneral dot_S4x8192x256_S4x256x128_S4x8192x128_2_1_1_2_0_0 none (dlogits (weights (logits q k)) (dprobs d v)) (slot k)) transposes_S4x8192x128_S8192x4x128_1_0_2) shapeCasts_S8192x4x128_S8192x512

/-- The gradient of the keys. -/
def dk (q : FVec Ideal S8192x512 .bf16) (k v : FVec Ideal S256x512 .bf16) (d : FVec Ideal S8192x512 .bf16) : FVec Ideal S256x512 .f32 :=
  shapeCast _ (transpose S256x4x128 [1, 0, 2] (Host.dotGeneral dot_S4x8192x256_S4x8192x128_S4x256x128_1_1_2_2_0_0 none (dlogits (weights (logits q k)) (dprobs d v)) (tok q)) transposes_S4x256x128_S256x4x128_1_0_2) shapeCasts_S256x4x128_S256x512

/-- The gradient of the values. -/
def dv (q : FVec Ideal S8192x512 .bf16) (k : FVec Ideal S256x512 .bf16) (d : FVec Ideal S8192x512 .bf16) : FVec Ideal S256x512 .f32 :=
  shapeCast _ (transpose S256x4x128 [1, 0, 2] (transpose S4x256x128 [0, 2, 1] (Host.dotGeneral dot_S4x8192x128_S4x8192x256_S4x128x256_1_1_2_2_0_0 none (tok d) (probs (weights (logits q k)))) transposes_S4x128x256_S4x256x128_0_2_1) transposes_S4x256x128_S256x4x128_1_0_2) shapeCasts_S256x4x128_S256x512

variable (m : (ℓ : Loc nD τ sig) → Buf (Elt Ideal) ℓ) (c : Dev nD)

/-- The greatest element of each row of an array of any extents. -/
theorem greatest_of {n0 n1 n2 : ℕ} (s : FVec Ideal ⟨3, ![n0, n1, n2]⟩ .f32) (u : FVec Ideal S_ .f32)
    (h : (⟨3, ![n0, n1, n2]⟩ : Shape).ReducesTo [2] ⟨2, ![n0, n1]⟩) (hu : 0 < S_.numel) (a : Fin n0) (b : Fin n1) :
    Host.reduce FloatOps.maximumf s u h hu (ix2 a b) = Finset.univ.fold max (u (Shape.Idx.first hu)) fun x => s (ix3 a b x) := by
  pointwise []

theorem tok_apply (x : FVec Ideal S8192x512 .bf16) (h : Fin 4) (t : Fin 8192) (e : Fin 128) :
    tok x (ix3 h t e) = x (ix2 t ⟨h.val * 128 + e.val, by have := h.isLt; have := e.isLt; omega⟩) := by
  pointwise [tok]

theorem slot_apply (x : FVec Ideal S256x512 .bf16) (h : Fin 4) (t : Fin 256) (e : Fin 128) :
    slot x (ix3 h t e) = x (ix2 t ⟨h.val * 128 + e.val, by have := h.isLt; have := e.isLt; omega⟩) := by
  pointwise [slot]

theorem logits_apply (q : FVec Ideal S8192x512 .bf16) (k : FVec Ideal S256x512 .bf16) (h : Fin 4) (t : Fin 8192) (e : Fin 256) :
    logits q k (ix3 h t e) = (∑ x, tok q (ix3 h t x) * slot k (ix3 h e x)) * Cert.Mem.scale := by
  pointwise [logits]

theorem dprobs_apply (d : FVec Ideal S8192x512 .bf16) (v : FVec Ideal S256x512 .bf16) (h : Fin 4) (t : Fin 8192) (e : Fin 256) :
    dprobs d v (ix3 h t e) = ∑ x, tok d (ix3 h t x) * slot v (ix3 h e x) := by
  pointwise [dprobs]

/-- The greatest logit of a row. -/
theorem greatest_apply (s : FVec Ideal S4x8192x256 .f32) (h : Fin 4) (t : Fin 8192) :
    greatest s (ix2 h t) = Cert.Mem.top fun x => s (ix3 h t x) :=
  greatest_of s _ _ _ h t

theorem offset_apply (g : FVec Ideal S4x8192 .f32) (h : Fin 4) (t : Fin 8192) (e : Fin 256) :
    offset g (ix3 h t e) = max Cert.Mem.low (g (ix2 h t)) := by
  pointwise [offset]

theorem expo_apply (s o : FVec Ideal S4x8192x256 .f32) (h : Fin 4) (t : Fin 8192) (e : Fin 256) :
    expo s o (ix3 h t e) = Ideal.exp (s (ix3 h t e) - o (ix3 h t e)) := by
  pointwise [expo]

/-- The weights of a row. -/
theorem weights_apply (s : FVec Ideal S4x8192x256 .f32) (h : Fin 4) (t : Fin 8192) (e : Fin 256) :
    weights s (ix3 h t e) = Cert.Mem.weight (fun x => s (ix3 h t x)) e := by
  unfold weights
  rw [expo_apply, offset_apply, greatest_apply]
  unfold Cert.Mem.weight
  rw [Cert.Mem.low_eq, max_bot_left]

/-- The probabilities of a row. -/
theorem probs_apply (s : FVec Ideal S4x8192x256 .f32) (h : Fin 4) (t : Fin 8192) (e : Fin 256) :
    probs (weights s) (ix3 h t e) = Cert.Mem.prob (fun x => s (ix3 h t x)) e := by
  pointwise [probs, total]
  simp only [weights_apply]
  rfl

/-- The gradient of the products of queries and keys, before the reference's quotients are brought together. -/
theorem dlogits_apply (s dp : FVec Ideal S4x8192x256 .f32) (h : Fin 4) (t : Fin 8192) (e : Fin 256) :
    dlogits (weights s) dp (ix3 h t e) = Cert.Mem.dquot (fun x => s (ix3 h t x)) (fun x => dp (ix3 h t x)) e * Cert.Mem.scale := by
  pointwise [dlogits, total]
  simp only [weights_apply, Finset.univ_unique, Finset.sum_singleton]
  rfl

variable (q : FVec Ideal S8192x512 .bf16) (k v : FVec Ideal S256x512 .bf16) (d : FVec Ideal S8192x512 .bf16)

/-- The head of a column. -/
def head (l : Fin 512) : Fin 4 := ⟨l.val / 128, by have := l.isLt; omega⟩

theorem dq_apply (r : Fin 8192) (l : Fin 512) :
    dq q k v d (ix2 r l) = ∑ x, dlogits (weights (logits q k)) (dprobs d v) (ix3 (head l) r x) * slot k (ix3 (head l) x (Cert.Mem.lane l)) := by
  pointwise [dq]
  rfl

theorem dk_apply (r : Fin 256) (l : Fin 512) :
    dk q k v d (ix2 r l) = ∑ x, dlogits (weights (logits q k)) (dprobs d v) (ix3 (head l) x r) * tok q (ix3 (head l) x (Cert.Mem.lane l)) := by
  pointwise [dk]
  rfl

theorem dv_apply (r : Fin 256) (l : Fin 512) :
    dv q k d (ix2 r l) = ∑ x, tok d (ix3 (head l) x (Cert.Mem.lane l)) * probs (weights (logits q k)) (ix3 (head l) x r) := by
  pointwise [dv]
  rfl

end Cert.ReferenceIdeal.Stage

end
-- ==== Proof.MemEquation.lean ====
/-
  The three results of the memory attention gradient agree between the kernel and the reference, where every entry of
  the queries and of the keys is a real number.
-/
module

public import proofs.«01_k».proof.Proof.MemReference

@[expose] public section

set_option maxRecDepth 16384

noncomputable section

open Idealize.ShloMosaic Idealize.ShloMosaic.TcCoe Idealize.SL.Sem

namespace Cert.Mem

open Cert.ReferenceIdeal (S8192x512 S256x512)
open Cert.ReferenceIdeal (Stage.tok Stage.slot Stage.head)

variable (q : FVec Ideal S8192x512 .bf16) (k v : FVec Ideal S256x512 .bf16) (d : FVec Ideal S8192x512 .bf16)

/-- Every logit is a real where the queries and the keys are. -/
theorem logits_real (hq : ∀ i, ∃ x : ℝ, q i = x) (hk : ∀ i, ∃ x : ℝ, k i = x) (l : Fin 512) (r : Fin 8192) :
    ∃ f : Fin 256 → ℝ, ∀ j, logits q k l r j = f j := by
  choose a ha using hq
  choose b hb using hk
  obtain ⟨s, -, hs⟩ := scale_pos
  refine ⟨fun j => (∑ e, a (ix2 r (col l e)) * b (ix2 j (col l e))) * s, fun j => ?_⟩
  unfold logits
  rw [hs, EReal.coe_mul, coe_sum]
  refine congrArg (· * (s : EReal)) (Finset.sum_congr rfl fun e _ => ?_)
  rw [EReal.coe_mul, ha, hb]

/-- The reference's logits of a row, in the head of a column. -/
theorem logits_row (l : Fin 512) (r : Fin 8192) :
    (fun x => Cert.ReferenceIdeal.Stage.logits q k (ix3 (Stage.head l) r x)) = logits q k l r := by
  funext x
  rw [Cert.ReferenceIdeal.Stage.logits_apply]
  unfold logits
  refine congrArg (· * scale) (Finset.sum_congr rfl fun e _ => ?_)
  rw [Cert.ReferenceIdeal.Stage.tok_apply, Cert.ReferenceIdeal.Stage.slot_apply]
  rfl

/-- The reference's gradients of the probabilities of a row, in the head of a column. -/
theorem pairs_row (l : Fin 512) (r : Fin 8192) :
    (fun x => Cert.ReferenceIdeal.Stage.dprobs d v (ix3 (Stage.head l) r x)) = pairs d v l r := by
  funext x
  rw [Cert.ReferenceIdeal.Stage.dprobs_apply]
  unfold pairs
  refine Finset.sum_congr rfl fun e _ => ?_
  rw [Cert.ReferenceIdeal.Stage.tok_apply, Cert.ReferenceIdeal.Stage.slot_apply]
  rfl

/-- The head of a column and its place in the head give the column of a token array back. -/
theorem tok_col (x : FVec Ideal S8192x512 .bf16) (l : Fin 512) (r : Fin 8192) :
    Stage.tok x (ix3 (Stage.head l) r (lane l)) = x (ix2 r l) := by
  rw [Cert.ReferenceIdeal.Stage.tok_apply]
  exact congrArg (fun l' => x (ix2 r l')) (col_lane l)

/-- The same for a memory array. -/
theorem slot_col (x : FVec Ideal S256x512 .bf16) (l : Fin 512) (j : Fin 256) :
    Stage.slot x (ix3 (Stage.head l) j (lane l)) = x (ix2 j l) := by
  rw [Cert.ReferenceIdeal.Stage.slot_apply]
  exact congrArg (fun l' => x (ix2 j l')) (col_lane l)

/-- The reference's gradient of a product of query and key is the kernel's, times the scale. -/
theorem dlogits_row (hq : ∀ i, ∃ x : ℝ, q i = x) (hk : ∀ i, ∃ x : ℝ, k i = x) (l : Fin 512) (r : Fin 8192) (j : Fin 256) :
    Cert.ReferenceIdeal.Stage.dlogits (Cert.ReferenceIdeal.Stage.weights (Cert.ReferenceIdeal.Stage.logits q k))
        (Cert.ReferenceIdeal.Stage.dprobs d v) (ix3 (Stage.head l) r j)
      = dscore (logits q k l r) (pairs d v l r) j * scale := by
  obtain ⟨f, hf⟩ := logits_real q k hq hk l r
  rw [Cert.ReferenceIdeal.Stage.dlogits_apply, logits_row, pairs_row, dquot_eq (by norm_num) _ _ f hf]

/-- The gradient of the queries agrees. -/
theorem gradQ_eq (hq : ∀ i, ∃ x : ℝ, q i = x) (hk : ∀ i, ∃ x : ℝ, k i = x) :
    Cert.ReferenceIdeal.Stage.dq q k v d = gradQ q k v d := by
  obtain ⟨s, hs, hsc⟩ := scale_pos
  funext i
  obtain ⟨r, l, rfl⟩ : ∃ (r : Fin 8192) (l : Fin 512), i = ix2 r l := ⟨i 0, i 1, (ix2_eta i).symm⟩
  rw [Cert.ReferenceIdeal.Stage.dq_apply]
  show _ = (∑ j, dscore (logits q k l r) (pairs d v l r) j * k (ix2 j l)) * scale
  rw [hsc, sum_mul_pos _ _ s hs.le, ← hsc]
  refine Finset.sum_congr rfl fun j _ => ?_
  rw [dlogits_row q k v d hq hk, slot_col]
  exact mul_right_comm _ _ _

/-- The gradient of the keys agrees. -/
theorem gradK_eq (hq : ∀ i, ∃ x : ℝ, q i = x) (hk : ∀ i, ∃ x : ℝ, k i = x) :
    Cert.ReferenceIdeal.Stage.dk q k v d = gradK q k v d := by
  obtain ⟨s, hs, hsc⟩ := scale_pos
  funext i
  obtain ⟨j, l, rfl⟩ : ∃ (j : Fin 256) (l : Fin 512), i = ix2 j l := ⟨i 0, i 1, (ix2_eta i).symm⟩
  rw [Cert.ReferenceIdeal.Stage.dk_apply]
  show _ = (∑ r, dscore (logits q k l r) (pairs d v l r) j * q (ix2 r l)) * scale
  rw [hsc, sum_mul_pos _ _ s hs.le, ← hsc]
  refine Finset.sum_congr rfl fun r _ => ?_
  rw [dlogits_row q k v d hq hk, tok_col]
  exact mul_right_comm _ _ _

/-- The gradient of the values agrees. -/
theorem gradV_eq : Cert.ReferenceIdeal.Stage.dv q k d = gradV q k d := by
  funext i
  obtain ⟨j, l, rfl⟩ : ∃ (j : Fin 256) (l : Fin 512), i = ix2 j l := ⟨i 0, i 1, (ix2_eta i).symm⟩
  rw [Cert.ReferenceIdeal.Stage.dv_apply]
  show _ = ∑ r, prob (logits q k l r) j * d (ix2 r l)
  refine Finset.sum_congr rfl fun r _ => ?_
  rw [Cert.ReferenceIdeal.Stage.probs_apply, logits_row, tok_col]
  exact mul_comm _ _

end Cert.Mem

end
-- ==== Proof.MemFinite.lean ====
/-
  What the precondition says: where it is all ones, every entry of the queries and of the keys is a real number.
-/
module

public import proofs.«01_k».proof.Pre_finite
public import proofs.«01_k».proof.Proof.MemEquation
public import Idealize.ShloMosaic.Lib.ReduceAll

@[expose] public section

set_option maxRecDepth 16384

noncomputable section

open Idealize.ShloMosaic Idealize.ShloMosaic.TcCoe Idealize.SL.Sem

namespace Cert.Pre_finite

/-- The shape relations the precondition's operations take. -/
instance facts : Cert.Pre_finite.Facts where
  bitsLt_bf16_f32 := by decide
  bcast_S_S8192x512 := by decide
  reducesTo_S8192x512_S_d0_1 := by decide
  h_S_ := by decide
  bcast_S_S256x512 := by decide
  reducesTo_S256x512_S_d0_1 := by decide

instance : Subsingleton S_.Idx := ⟨fun _ _ => funext fun a => a.elim0⟩

/-- A value whose absolute value is below the word of infinity is a real. -/
theorem real_of_lt (x : EReal) (h : Ideal.cmp .olt (max x (-x)) (Ideal.ofBits FTy.f32 0x7F800000#32) = 1#1) : ∃ r : ℝ, x = r := by
  have ht : Ideal.ofBits FTy.f32 0x7F800000#32 = ⊤ := by simp [Ideal.ofBits, Ideal.ieee]
  rw [ht] at h
  have hlt : max x (-x) < ⊤ := by
    by_contra hn
    simp [Ideal.cmp, hn] at h
  induction x with
  | bot => exact absurd hlt (by simp)
  | top => exact absurd hlt (by simp)
  | coe r => exact ⟨r, rfl⟩

/-- The precondition makes the queries and the keys real. -/
theorem real_of_fn (a : FVec Ideal S8192x512 .bf16) (b e : FVec Ideal S256x512 .bf16) (f : FVec Ideal S8192x512 .bf16)
    (h : fn (F := Ideal) a b e f = fun _ => 1#1) : (∀ i, ∃ x : ℝ, a i = x) ∧ ∀ i, ∃ x : ℝ, b i = x := by
  have h0 : IntOp.andi _ _ = 1#1 := congrFun h ix0
  obtain ⟨ha, hb⟩ := IntOp.andi_eq_one.1 h0
  exact ⟨fun i => real_of_lt _ (Host.reduce_andi_all _ _ _ _ _ ha i), fun i => real_of_lt _ (Host.reduce_andi_all _ _ _ _ _ hb i)⟩

end Cert.Pre_finite

end
-- ==== Proof.MemClaims.lean ====
/-
  The claims about the memory attention gradient: the frames of the kernel and of the reference, and the agreement of
  the three results.
-/
module

public import proofs.«01_k».proof.Defs
public import proofs.«01_k».proof.Proof.MemFinite
public import proofs.«01_k».proof.Proof.Gen.Kernel.Frame
public import proofs.«01_k».proof.Proof.Gen.KernelIdeal.Frame
public import Idealize.ShloMosaic.Adequacy
public import Idealize.ShloMosaic.Init

@[expose] public section

set_option maxRecDepth 16384

noncomputable section

open Idealize.ShloMosaic Idealize.ShloMosaic.TcCoe Idealize.SL.Sem

namespace Cert.Mem

/-- The kernel, on its own words, runs and leaves its arguments as they were. -/
theorem frame_kernel : Cert.quiescent_Kernel := fun m ρ _ => Cert.Kernel.Gen.frame m ρ

/-- The kernel over the extended reals runs and leaves its arguments as they were. -/
theorem frame_ideal : Cert.quiescent_KernelIdeal := fun m ρ _ => Cert.KernelIdeal.Gen.frame m ρ

/-- The same, read under the precondition. -/
theorem frame_ideal_finite : Cert.quiescent_KernelIdeal_pre_finite := fun m ρ _ => Cert.KernelIdeal.Gen.frame m ρ

/-- The reference runs and leaves its arguments as they were. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The same, read under the precondition. -/
theorem frame_reference_finite : Cert.quiescent_ReferenceIdeal_pre_finite := fun m ρ _ => frame_reference m ρ trivial

/-- The reference's first result is the gradient of the queries, as its stages state it. -/
theorem reference_Q (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v70 (F := Ideal) m c
      = Cert.ReferenceIdeal.Stage.dq (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3)) := rfl

/-- The reference's second result is the gradient of the keys, as its stages state it. -/
theorem reference_K (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v68 (F := Ideal) m c
      = Cert.ReferenceIdeal.Stage.dk (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3)) := rfl

/-- The kernel's three results are the reference's, wherever the queries and the keys are finite. -/
theorem algebraic : Cert.algebraic_KernelIdeal_ReferenceIdeal_pre_finite := fun m ρ m' ρ' hpre hag => by
  refine ⟨fun c => gradQ (argQ m c) (argK m c) (argV m c) (argD m c), fun c => gradK (argQ m c) (argK m c) (argV m c) (argD m c),
    fun c => gradV (argQ m c) (argK m c) (argD m c), ?_, ?_⟩
  · refine (θ_run Cert.KernelIdeal.defs _ _).mono (fun r h c => ?_) (Cert.KernelIdeal.Value.run_blocks (F := Ideal) m ρ)
    obtain ⟨h0, h1, h2, hrest⟩ := h c
    exact ⟨h0.trans (final_Q m c), h1.trans (final_K m c), h2.trans (final_V m c), hrest⟩
  · refine (θ_run Cert.ReferenceIdeal.defs _ _).mono (fun r h c => ?_) (Cert.ReferenceIdeal.Value.run (F := Ideal) m' ρ')
    obtain ⟨h0, h1, h2, hrest⟩ := h c
    obtain ⟨hq, hk⟩ := Cert.Pre_finite.real_of_fn _ _ _ _ (hpre c)
    obtain ⟨a0, a1, a2, a3⟩ := hag c
    refine ⟨h0.trans ((reference_Q m' c).trans ?_), h1.trans ((reference_K m' c).trans ?_), h2.trans ?_, hrest⟩
    · rw [a0, a1, a2, a3]; exact gradQ_eq _ _ _ _ hq hk
    · rw [a0, a1, a2, a3]; exact gradK_eq _ _ _ _ hq hk
    · rw [a0, a1, a3]; exact gradV_eq _ _ _

end Cert.Mem

end
-- ==== Proof.DownGradValue.lean ====
/-
  The gradient of the down projection's weights, as the kernel computes it: the product of the transposed activations and
  the incoming gradient, one block of the result at a time, the tokens in four parts.
-/
module

public import proofs.«01_k».proof.Proof.MemClaims
public import proofs.«01_k».proof.Proof.Gen.DownGradIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DownGradIdeal.Prod

open Cert.DownGradIdeal Cert.DownGradIdeal.Gen

/-- The transposed activations times the incoming gradient. -/
def grad (a : Vec Ideal S8192x5632 .bf16) (d : Vec Ideal S8192x2048 .bf16) : Vec Ideal S5632x2048 .bf16 :=
  fun y => ∑ k : Fin 8192, a (ix2 k (y 0)) * d (ix2 k (y 1))

theorem zero_apply (y : S1408x1024.Idx) : k0_pay1 (F := Ideal) y = 0 := by pointwise [k0_pay1]

/-- The product of two blocks. -/
def prod (x : Vec Ideal S2048x1408 .bf16) (w : Vec Ideal S2048x1024 .bf16) (y : S1408x1024.Idx) : EReal :=
  ∑ k : Fin 2048, x (ix2 k (y 0)) * w (ix2 k (y 1))

/-- One step adds the product of the two blocks. -/
theorem step_apply (a : Vec Ideal S1408x1024 .f32) (x : Vec Ideal S2048x1408 .bf16) (w : Vec Ideal S2048x1024 .bf16) (y : S1408x1024.Idx) :
    k0_pay2 (F := Ideal) a x w y = a y + prod x w y := by pointwise [k0_pay2, prod]

variable (m : (ℓ : Loc nD τ sig) → Buf (Elt Ideal) ℓ) (c : Dev nD)

/-- Where a block is written back, it is the running sum. -/
theorem out_eq (t : Fin cfg0.N) (h : t.val % 4 = 3) : (outsAt0 m c t.val t.isLt).1 = (outsAt0 m c t.val t.isLt).2 := by
  rw [outsAt0_C m c t (by omega) h]; frame_out; rfl

theorem idx0 : ∀ t : Fin cfg0.N, win0_0.index t = ![t.val % 4, t.val / 8] := (by decide +kernel : ∀ t : Fin grid0.N, win0_0.index t = ![t.val % 4, t.val / 8])
theorem idx1 : ∀ t : Fin cfg0.N, win0_1.index t = ![t.val % 4, t.val / 4 % 2] := (by decide +kernel : ∀ t : Fin grid0.N, win0_1.index t = ![t.val % 4, t.val / 4 % 2])
theorem idx2 : ∀ t : Fin cfg0.N, win0_2.index t = ![t.val / 8, t.val / 4 % 2] := (by decide +kernel : ∀ t : Fin grid0.N, win0_2.index t = ![t.val / 8, t.val / 4 % 2])

/-- The kernel's result array. -/
theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  blk_simp
  have h : t.val % 4 = 3 := (flush0_2 t).mp hf
  rw [after0_2, out_eq m c t h, Pipeline.eq_sum_fin_of_reset_step_apply_of_flush (fun n h => (outsAt0 m c n h).2) 4 (fun _ => 0) (fun t => prod (iblk m c 0 t) (iblk m c 1 t))
    (fun t h y => by rw [outsAt0_A m c t h (by omega)]; frame_out; rw [step_apply, zero_apply])
    (fun t h y => by
      by_cases h1 : t.val % 4 = 3
      · rw [outsAt0_C m c t h h1]; frame_out; rw [step_apply, read_unread_whole]
      · rw [outsAt0_B m c t h h1]; frame_out; rw [step_apply, read_unread_whole]) t h, zero_add]
  unfold grad prod
  refine Fin.sum_mul_add_congr fun s k hl => ?_
  congr 1 <;> blk_ext [iblk, V, idx0, idx1, idx2]
end Cert.DownGradIdeal.Prod

end
-- ==== Proof.DownGradClaims.lean ====
/-
  The claims about the gradient of the down projection's weights.
-/
module

public import proofs.«01_k».proof.Proof.DownGradValue
public import proofs.«01_k».proof.Proof.Gen.DownGrad.Frame
public import proofs.«01_k».proof.Proof.Gen.DownGradReferenceIdeal.Run

@[expose] public section

set_option maxRecDepth 16384

noncomputable section

open Idealize.ShloMosaic Idealize.ShloMosaic.TcCoe Idealize.SL.Sem

namespace Cert.DownGradProof

/-- The kernel, on its own words, runs and leaves its arguments as they were. -/
theorem frame_kernel : Cert.quiescent_DownGrad := fun m ρ _ => Cert.DownGrad.Gen.frame m ρ

/-- The kernel over the extended reals runs and leaves its arguments as they were. -/
theorem frame_ideal : Cert.quiescent_DownGradIdeal := fun m ρ _ => Cert.DownGradIdeal.Gen.frame m ρ

/-- The reference runs and leaves its arguments as they were. -/
theorem frame_reference : Cert.quiescent_DownGradReferenceIdeal := fun m ρ _ =>
  (θ_run Cert.DownGradReferenceIdeal.defs _ _).mono (fun r h => ⟨fun c => (h c).2, sem_eq_zero_of_no_sems (by decide) r.2⟩)
    (Cert.DownGradReferenceIdeal.Value.run (F := Ideal) m ρ)

open Cert.DownGradReferenceIdeal Cert.DownGradReferenceIdeal.Gen in
/-- The reference's product, transposed, is the kernel's. -/
theorem reference_eq (a : Vec Ideal S8192x5632 .bf16) (d : Vec Ideal S8192x2048 .bf16) :
    truncf (F := Ideal) .bf16 (transpose S5632x2048 [1, 0] (Host.dotGeneral dot_S8192x2048_S8192x5632_S2048x5632_0_0_1_1_n_n none (extf .f32 d bitsLt_bf16_f32) (extf .f32 a bitsLt_bf16_f32)) transposes_S2048x5632_S5632x2048_1_0) bitsLt_bf16_f32
      = Cert.DownGradIdeal.Prod.grad a d := by
  funext y
  unfold Cert.DownGradIdeal.Prod.grad
  pointwise
  exact Finset.sum_congr rfl fun k _ => mul_comm _ _

/-- The kernel's result is the reference's. -/
theorem algebraic : Cert.algebraic_DownGradIdeal_DownGradReferenceIdeal := fun m ρ m' ρ' _ hag => by
  refine ⟨fun c => Cert.DownGradIdeal.Prod.grad (m ((c.tc : Thread _ _).loc Cert.DownGradIdeal.main_arg0)) (m ((c.tc : Thread _ _).loc Cert.DownGradIdeal.main_arg1)), ?_, ?_⟩
  · refine (θ_run Cert.DownGradIdeal.defs _ _).mono (fun r h c => ?_) (Cert.DownGradIdeal.Value.run_blocks (F := Ideal) m ρ)
    exact ⟨(h c).1.trans (Cert.DownGradIdeal.Prod.final m c), (h c).2⟩
  · refine (θ_run Cert.DownGradReferenceIdeal.defs _ _).mono (fun r h c => ?_) (Cert.DownGradReferenceIdeal.Value.run (F := Ideal) m' ρ')
    obtain ⟨a0, a1⟩ := hag c
    refine ⟨(h c).1.trans ?_, (h c).2⟩
    rw [a0, a1]
    exact reference_eq _ _

end Cert.DownGradProof

end
-- ==== Proof.OutGradValue.lean ====
/-
  The gradient of the output projection's weights, as the kernel computes it: the product of the transposed inputs and the
  incoming gradient, one block of the result at a time, the tokens in four parts.
-/
module

public import proofs.«01_k».proof.Proof.DownGradClaims
public import proofs.«01_k».proof.Proof.Gen.OutGradIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutGradIdeal.Prod

open Cert.OutGradIdeal Cert.OutGradIdeal.Gen

/-- The transposed inputs times the incoming gradient. -/
def grad (a : Vec Ideal S8192x2048 .bf16) (d : Vec Ideal S8192x2048 .bf16) : Vec Ideal S2048x2048 .bf16 :=
  fun y => ∑ k : Fin 8192, a (ix2 k (y 0)) * d (ix2 k (y 1))

theorem zero_apply (y : S2048x1024.Idx) : k0_pay1 (F := Ideal) y = 0 := by pointwise [k0_pay1]

/-- The product of two blocks. -/
def prod (x : Vec Ideal S2048x2048 .bf16) (w : Vec Ideal S2048x1024 .bf16) (y : S2048x1024.Idx) : EReal :=
  ∑ k : Fin 2048, x (ix2 k (y 0)) * w (ix2 k (y 1))

/-- One step adds the product of the two blocks. -/
theorem step_apply (a : Vec Ideal S2048x1024 .f32) (x : Vec Ideal S2048x2048 .bf16) (w : Vec Ideal S2048x1024 .bf16) (y : S2048x1024.Idx) :
    k0_pay2 (F := Ideal) a x w y = a y + prod x w y := by pointwise [k0_pay2, prod]

variable (m : (ℓ : Loc nD τ sig) → Buf (Elt Ideal) ℓ) (c : Dev nD)

/-- Where a block is written back, it is the running sum. -/
theorem out_eq (t : Fin cfg0.N) (h : t.val % 4 = 3) : (outsAt0 m c t.val t.isLt).1 = (outsAt0 m c t.val t.isLt).2 := by
  rw [outsAt0_C m c t (by omega) h]; frame_out; rfl

theorem idx0 : ∀ t : Fin cfg0.N, win0_0.index t = ![t.val % 4, 0] := (by decide +kernel : ∀ t : Fin grid0.N, win0_0.index t = ![t.val % 4, 0])
theorem idx1 : ∀ t : Fin cfg0.N, win0_1.index t = ![t.val % 4, t.val / 4] := (by decide +kernel : ∀ t : Fin grid0.N, win0_1.index t = ![t.val % 4, t.val / 4])
theorem idx2 : ∀ t : Fin cfg0.N, win0_2.index t = ![0, t.val / 4] := (by decide +kernel : ∀ t : Fin grid0.N, win0_2.index t = ![0, t.val / 4])

/-- The kernel's result array. -/
theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  blk_simp
  have h : t.val % 4 = 3 := (flush0_2 t).mp hf
  rw [after0_2, out_eq m c t h, Pipeline.eq_sum_fin_of_reset_step_apply_of_flush (fun n h => (outsAt0 m c n h).2) 4 (fun _ => 0)
    (fun t => prod (iblk m c 0 t) (iblk m c 1 t))
    (fun t h y => by rw [outsAt0_A m c t h (by omega)]; frame_out; rw [step_apply, zero_apply])
    (fun t h y => by
      by_cases h1 : t.val % 4 = 3
      · rw [outsAt0_C m c t h h1]; frame_out; rw [step_apply, read_unread_whole]
      · rw [outsAt0_B m c t h h1]; frame_out; rw [step_apply, read_unread_whole]) t h, zero_add]
  unfold grad prod
  refine Fin.sum_mul_add_congr fun s k hl => ?_
  congr 1 <;> blk_ext [iblk, V, idx0, idx1, idx2]

end Cert.OutGradIdeal.Prod

end
-- ==== Proof.OutGradClaims.lean ====
/-
  The claims about the gradient of the output projection's weights.
-/
module

public import proofs.«01_k».proof.Proof.OutGradValue
public import proofs.«01_k».proof.Proof.Gen.OutGrad.Frame
public import proofs.«01_k».proof.Proof.Gen.OutGradReferenceIdeal.Run

@[expose] public section

set_option maxRecDepth 16384

noncomputable section

open Idealize.ShloMosaic Idealize.ShloMosaic.TcCoe Idealize.SL.Sem

namespace Cert.OutGradProof

/-- The kernel, on its own words, runs and leaves its arguments as they were. -/
theorem frame_kernel : Cert.quiescent_OutGrad := fun m ρ _ => Cert.OutGrad.Gen.frame m ρ

/-- The kernel over the extended reals runs and leaves its arguments as they were. -/
theorem frame_ideal : Cert.quiescent_OutGradIdeal := fun m ρ _ => Cert.OutGradIdeal.Gen.frame m ρ

/-- The reference runs and leaves its arguments as they were. -/
theorem frame_reference : Cert.quiescent_OutGradReferenceIdeal := fun m ρ _ =>
  (θ_run Cert.OutGradReferenceIdeal.defs _ _).mono (fun r h => ⟨fun c => (h c).2, sem_eq_zero_of_no_sems (by decide) r.2⟩)
    (Cert.OutGradReferenceIdeal.Value.run (F := Ideal) m ρ)

open Cert.OutGradReferenceIdeal Cert.OutGradReferenceIdeal.Gen in
/-- The reference's product, transposed, is the kernel's. -/
theorem reference_eq (a : Vec Ideal S8192x2048 .bf16) (d : Vec Ideal S8192x2048 .bf16) :
    truncf (F := Ideal) .bf16 (transpose S2048x2048 [1, 0] (Host.dotGeneral dot_S8192x2048_S8192x2048_S2048x2048_0_0_1_1_n_n none (extf .f32 d bitsLt_bf16_f32) (extf .f32 a bitsLt_bf16_f32)) transposes_S2048x2048_S2048x2048_1_0) bitsLt_bf16_f32
      = Cert.OutGradIdeal.Prod.grad a d := by
  funext y
  unfold Cert.OutGradIdeal.Prod.grad
  pointwise
  exact Finset.sum_congr rfl fun k _ => mul_comm _ _

/-- The kernel's result is the reference's. -/
theorem algebraic : Cert.algebraic_OutGradIdeal_OutGradReferenceIdeal := fun m ρ m' ρ' _ hag => by
  refine ⟨fun c => Cert.OutGradIdeal.Prod.grad (m ((c.tc : Thread _ _).loc Cert.OutGradIdeal.main_arg0)) (m ((c.tc : Thread _ _).loc Cert.OutGradIdeal.main_arg1)), ?_, ?_⟩
  · refine (θ_run Cert.OutGradIdeal.defs _ _).mono (fun r h c => ?_) (Cert.OutGradIdeal.Value.run_blocks (F := Ideal) m ρ)
    exact ⟨(h c).1.trans (Cert.OutGradIdeal.Prod.final m c), (h c).2⟩
  · refine (θ_run Cert.OutGradReferenceIdeal.defs _ _).mono (fun r h c => ?_) (Cert.OutGradReferenceIdeal.Value.run (F := Ideal) m' ρ')
    obtain ⟨a0, a1⟩ := hag c
    refine ⟨(h c).1.trans ?_, (h c).2⟩
    rw [a0, a1]
    exact reference_eq _ _

end Cert.OutGradProof

end
-- ==== Proof.ProjValue.lean ====
/-
  The input projection, as the kernel computes it: the product of the tokens and the weights, one block of the result at
  each grid point.
-/
module

public import proofs.«01_k».proof.Proof.OutGradClaims
public import proofs.«01_k».proof.Proof.Gen.ProjIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ProjIdeal.Prod

open Cert.ProjIdeal Cert.ProjIdeal.Gen

/-- The tokens times the weights. -/
def result (x : Vec Ideal S8192x2048 .bf16) (w : Vec Ideal S2048x5376 .bf16) : Vec Ideal S8192x5376 .bf16 :=
  fun y => ∑ k : Fin 2048, x (ix2 (y 0) k) * w (ix2 k (y 1))

/-- What one point writes is the product of its two blocks. -/
theorem block_apply (x : Vec Ideal S1024x2048 .bf16) (w : Vec Ideal S2048x768 .bf16) (y : S1024x768.Idx) :
    k0_pay1 (F := Ideal) x w y = ∑ k : Fin 2048, x (ix2 (y 0) k) * w (ix2 k (y 1)) := by pointwise [k0_pay1]

variable (m : (ℓ : Loc nD τ sig) → Buf (Elt Ideal) ℓ) (c : Dev nD)

theorem idx0 : ∀ t : Fin cfg0.N, win0_0.index t = ![t.val / 7, 0] := (by decide +kernel : ∀ t : Fin grid0.N, win0_0.index t = ![t.val / 7, 0])
theorem idx1 : ∀ t : Fin cfg0.N, win0_1.index t = ![0, t.val % 7] := (by decide +kernel : ∀ t : Fin grid0.N, win0_1.index t = ![0, t.val % 7])
theorem idx2 : ∀ t : Fin cfg0.N, win0_2.index t = ![t.val / 7, t.val % 7] := (by decide +kernel : ∀ t : Fin grid0.N, win0_2.index t = ![t.val / 7, t.val % 7])

/-- The kernel's result array. -/
theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [block_apply]
  unfold result
  refine Finset.sum_congr (M := EReal) rfl fun k _ => ?_
  congr 1 <;> blk_ext [iblk, V, idx0, idx1, idx2]

end Cert.ProjIdeal.Prod

end
-- ==== Proof.ProjClaims.lean ====
/-
  The claims about the input projection.
-/
module

public import proofs.«01_k».proof.Proof.ProjValue
public import proofs.«01_k».proof.Proof.Gen.Proj.Frame
public import proofs.«01_k».proof.Proof.Gen.ProjReferenceIdeal.Run

@[expose] public section

set_option maxRecDepth 16384

noncomputable section

open Idealize.ShloMosaic Idealize.ShloMosaic.TcCoe Idealize.SL.Sem

namespace Cert.ProjProof

/-- The kernel, on its own words, runs and leaves its arguments as they were. -/
theorem frame_kernel : Cert.quiescent_Proj := fun m ρ _ => Cert.Proj.Gen.frame m ρ

/-- The kernel over the extended reals runs and leaves its arguments as they were. -/
theorem frame_ideal : Cert.quiescent_ProjIdeal := fun m ρ _ => Cert.ProjIdeal.Gen.frame m ρ

/-- The reference runs and leaves its arguments as they were. -/
theorem frame_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

open Cert.ProjReferenceIdeal Cert.ProjReferenceIdeal.Gen in
/-- The reference's product is the kernel's. -/
theorem reference_eq (x : Vec Ideal S8192x2048 .bf16) (w : Vec Ideal S2048x5376 .bf16) :
    truncf (F := Ideal) .bf16 (Host.dotGeneral dot_S8192x2048_S2048x5376_S8192x5376_1_0_0_1_n_n none (extf .f32 x bitsLt_bf16_f32) (extf .f32 w bitsLt_bf16_f32)) bitsLt_bf16_f32
      = Cert.ProjIdeal.Prod.result x w := by
  funext y
  unfold Cert.ProjIdeal.Prod.result
  pointwise

/-- The kernel's result is the reference's. -/
theorem algebraic : Cert.algebraic_ProjIdeal_ProjReferenceIdeal := fun m ρ m' ρ' _ hag => by
  refine ⟨fun c => Cert.ProjIdeal.Prod.result (m ((c.tc : Thread _ _).loc Cert.ProjIdeal.main_arg0)) (m ((c.tc : Thread _ _).loc Cert.ProjIdeal.main_arg1)), ?_, ?_⟩
  · refine (θ_run Cert.ProjIdeal.defs _ _).mono (fun r h c => ?_) (Cert.ProjIdeal.Value.run_blocks (F := Ideal) m ρ)
    exact ⟨(h c).1.trans (Cert.ProjIdeal.Prod.final m c), (h c).2⟩
  · refine (θ_run Cert.ProjReferenceIdeal.defs _ _).mono (fun r h c => ?_) (Cert.ProjReferenceIdeal.Value.run (F := Ideal) m' ρ')
    obtain ⟨a0, a1⟩ := hag c
    refine ⟨(h c).1.trans ?_, (h c).2⟩
    rw [a0, a1]
    exact reference_eq _ _

end Cert.ProjProof

end
-- ==== Proof.OutValue.lean ====
/-
  The output projection, as the kernel computes it: the residual plus the product of the tokens and the weights, one block
  of the result at each grid point.
-/
module

public import proofs.«01_k».proof.Proof.ProjClaims
public import proofs.«01_k».proof.Proof.Gen.OutIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutIdeal.Prod

open Cert.OutIdeal Cert.OutIdeal.Gen

/-- The residual plus the tokens times the weights. -/
def result (x : Vec Ideal S8192x2048 .bf16) (w : Vec Ideal S2048x2048 .bf16) (r : Vec Ideal S8192x2048 .f32) : Vec Ideal S8192x2048 .f32 :=
  fun y => (∑ k : Fin 2048, x (ix2 (y 0) k) * w (ix2 k (y 1))) + r y

/-- What one point writes is the product of its two blocks and its block of the residual. -/
theorem block_apply (x : Vec Ideal S1024x2048 .bf16) (w : Vec Ideal S2048x1024 .bf16) (r : Vec Ideal S1024x1024 .f32) (y : S1024x1024.Idx) :
    k0_pay1 (F := Ideal) x w r y = (∑ k : Fin 2048, x (ix2 (y 0) k) * w (ix2 k (y 1))) + r y := by pointwise [k0_pay1]

variable (m : (ℓ : Loc nD τ sig) → Buf (Elt Ideal) ℓ) (c : Dev nD)

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![t.val / 2, t.val % 2] := (by decide +kernel : ∀ t : Fin grid0.N, win0_2.index t = ![t.val / 2, t.val % 2])
theorem idx3 : ∀ t : Fin cfg0.N, win0_3.index t = ![t.val / 2, t.val % 2] := (by decide +kernel : ∀ t : Fin grid0.N, win0_3.index t = ![t.val / 2, t.val % 2])

/-- The kernel's result array. -/
theorem final : (dats m 0 c).arrAt 3 cfg0.N
    = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  rw [block_apply]
  unfold result
  refine congrArg₂ (fun a b : EReal => a + b) (Finset.sum_congr rfl fun k _ => ?_) ?_
  · congr 1 <;> blk_ext [iblk, V, idx0, idx1, idx3]
  · blk_ext [iblk, V, idx2, idx3]

end Cert.OutIdeal.Prod

end
-- ==== Proof.OutClaims.lean ====
/-
  The claims about the output projection.
-/
module

public import proofs.«01_k».proof.Proof.OutValue
public import proofs.«01_k».proof.Proof.Gen.Out.Frame
public import proofs.«01_k».proof.Proof.Gen.OutReferenceIdeal.Run

@[expose] public section

set_option maxRecDepth 16384

noncomputable section

open Idealize.ShloMosaic Idealize.ShloMosaic.TcCoe Idealize.SL.Sem

namespace Cert.OutProof

/-- The kernel, on its own words, runs and leaves its arguments as they were. -/
theorem frame_kernel : Cert.quiescent_Out := fun m ρ _ => Cert.Out.Gen.frame m ρ

/-- The kernel over the extended reals runs and leaves its arguments as they were. -/
theorem frame_ideal : Cert.quiescent_OutIdeal := fun m ρ _ => Cert.OutIdeal.Gen.frame m ρ

/-- The reference runs and leaves its arguments as they were. -/
theorem frame_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

open Cert.OutReferenceIdeal Cert.OutReferenceIdeal.Gen in
/-- The reference's product is the kernel's. -/
theorem reference_eq (x : Vec Ideal S8192x2048 .bf16) (w : Vec Ideal S2048x2048 .bf16) (r : Vec Ideal S8192x2048 .f32) :
    addf (F := Ideal) r (Host.dotGeneral dot_S8192x2048_S2048x2048_S8192x2048_1_0_0_1_n_n none (extf .f32 x bitsLt_bf16_f32) (extf .f32 w bitsLt_bf16_f32))
      = Cert.OutIdeal.Prod.result x w r := by
  funext y
  unfold Cert.OutIdeal.Prod.result
  pointwise
  exact add_comm _ _

/-- The kernel's result is the reference's. -/
theorem algebraic : Cert.algebraic_OutIdeal_OutReferenceIdeal := fun m ρ m' ρ' _ hag => by
  refine ⟨fun c => Cert.OutIdeal.Prod.result (m ((c.tc : Thread _ _).loc Cert.OutIdeal.main_arg0)) (m ((c.tc : Thread _ _).loc Cert.OutIdeal.main_arg1)) (m ((c.tc : Thread _ _).loc Cert.OutIdeal.main_arg2)), ?_, ?_⟩
  · refine (θ_run Cert.OutIdeal.defs _ _).mono (fun r h c => ?_) (Cert.OutIdeal.Value.run_blocks (F := Ideal) m ρ)
    exact ⟨(h c).1.trans (Cert.OutIdeal.Prod.final m c), (h c).2⟩
  · refine (θ_run Cert.OutReferenceIdeal.defs _ _).mono (fun r h c => ?_) (Cert.OutReferenceIdeal.Value.run (F := Ideal) m' ρ')
    obtain ⟨a0, a1, a2⟩ := hag c
    refine ⟨(h c).1.trans ?_, (h c).2⟩
    rw [a0, a1, a2]
    exact reference_eq _ _ _

end Cert.OutProof

end
-- ==== Proof.DownValue.lean ====
/-
  The down projection, as the kernel computes it: the residual plus the product of the activations and the weights, one
  block of the result at a time, the hidden channels in two parts.
-/
module

public import proofs.«01_k».proof.Proof.OutClaims
public import proofs.«01_k».proof.Proof.Gen.DownIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DownIdeal.Prod

open Cert.DownIdeal Cert.DownIdeal.Gen

/-- The residual plus the activations times the weights. -/
def result (x : Vec Ideal S8192x5632 .bf16) (w : Vec Ideal S5632x2048 .bf16) (r : Vec Ideal S8192x2048 .f32) : Vec Ideal S8192x2048 .f32 :=
  fun y => (∑ k : Fin 5632, x (ix2 (y 0) k) * w (ix2 k (y 1))) + r y

theorem zero_apply (y : S1024x1024.Idx) : k0_pay1 (F := Ideal) y = 0 := by pointwise [k0_pay1]

/-- The product of two blocks. -/
def prod (x : Vec Ideal S1024x2816 .bf16) (w : Vec Ideal S2816x1024 .bf16) (y : S1024x1024.Idx) : EReal :=
  ∑ k : Fin 2816, x (ix2 (y 0) k) * w (ix2 k (y 1))

/-- One step adds the product of the two blocks. -/
theorem step_apply (a : Vec Ideal S1024x1024 .f32) (x : Vec Ideal S1024x2816 .bf16) (w : Vec Ideal S2816x1024 .bf16) (y : S1024x1024.Idx) :
    k0_pay2 (F := Ideal) a x w y = a y + prod x w y := by pointwise [k0_pay2, prod]

/-- The residual is added at the end. -/
theorem end_apply (a r : Vec Ideal S1024x1024 .f32) (y : S1024x1024.Idx) : k0_pay3 (F := Ideal) a r y = a y + r y := by pointwise [k0_pay3]

variable (m : (ℓ : Loc nD τ sig) → Buf (Elt Ideal) ℓ) (c : Dev nD)

theorem idx0 : ∀ t : Fin cfg0.N, win0_0.index t = ![t.val / 4, t.val % 2] := (by decide +kernel : ∀ t : Fin grid0.N, win0_0.index t = ![t.val / 4, t.val % 2])
theorem idx1 : ∀ t : Fin cfg0.N, win0_1.index t = ![t.val % 2, t.val / 2 % 2] := (by decide +kernel : ∀ t : Fin grid0.N, win0_1.index t = ![t.val % 2, t.val / 2 % 2])
theorem idx2 : ∀ t : Fin cfg0.N, win0_2.index t = ![t.val / 4, t.val / 2 % 2] := (by decide +kernel : ∀ t : Fin grid0.N, win0_2.index t = ![t.val / 4, t.val / 2 % 2])
theorem idx3 : ∀ t : Fin cfg0.N, win0_3.index t = ![t.val / 4, t.val / 2 % 2] := (by decide +kernel : ∀ t : Fin grid0.N, win0_3.index t = ![t.val / 4, t.val / 2 % 2])

/-- Where a block is written back, it is the running sum plus the block of the residual. -/
theorem out_eq (t : Fin cfg0.N) (h : t.val % 2 = 1) (y : S1024x1024.Idx) :
    (outsAt0 m c t.val t.isLt).1 y = (outsAt0 m c t.val t.isLt).2 y + (show Vec Ideal S1024x1024 .f32 from iblk m c 2 t) y := by
  rw [outsAt0_B m c t (by omega) h]; frame_out; exact end_apply _ _ y

/-- The kernel's result array. -/
theorem final : (dats m 0 c).arrAt 3 cfg0.N
    = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  have h : t.val % 2 = 1 := (flush0_3 t).mp hf
  rw [after0_3, out_eq m c t h, Pipeline.eq_sum_fin_of_reset_step_apply_of_flush (fun n h => (outsAt0 m c n h).2) 2 (fun _ => 0)
    (fun t => prod (iblk m c 0 t) (iblk m c 1 t))
    (fun t h y => by rw [outsAt0_A m c t h (by omega)]; frame_out; rw [step_apply, zero_apply])
    (fun t h y => by rw [outsAt0_B m c t h (by omega)]; frame_out; rw [step_apply, read_unread_whole]) t h, zero_add]
  unfold result prod
  refine congrArg₂ (fun a b : EReal => a + b) (Fin.sum_mul_add_congr fun s k hl => ?_) ?_
  · congr 1 <;> blk_ext [iblk, V, idx0, idx1, idx3]
  · blk_ext [iblk, V, idx2, idx3]

end Cert.DownIdeal.Prod

end
-- ==== Proof.DownClaims.lean ====
/-
  The claims about the down projection.
-/
module

public import proofs.«01_k».proof.Proof.DownValue
public import proofs.«01_k».proof.Proof.Gen.Down.Frame
public import proofs.«01_k».proof.Proof.Gen.DownReferenceIdeal.Run

@[expose] public section

set_option maxRecDepth 16384

noncomputable section

open Idealize.ShloMosaic Idealize.ShloMosaic.TcCoe Idealize.SL.Sem

namespace Cert.DownProof

/-- The kernel, on its own words, runs and leaves its arguments as they were. -/
theorem frame_kernel : Cert.quiescent_Down := fun m ρ _ => Cert.Down.Gen.frame m ρ

/-- The kernel over the extended reals runs and leaves its arguments as they were. -/
theorem frame_ideal : Cert.quiescent_DownIdeal := fun m ρ _ => Cert.DownIdeal.Gen.frame m ρ

/-- The reference runs and leaves its arguments as they were. -/
theorem frame_reference : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

open Cert.DownReferenceIdeal Cert.DownReferenceIdeal.Gen in
/-- The reference's product is the kernel's. -/
theorem reference_eq (x : Vec Ideal S8192x5632 .bf16) (w : Vec Ideal S5632x2048 .bf16) (r : Vec Ideal S8192x2048 .f32) :
    addf (F := Ideal) r (Host.dotGeneral dot_S8192x5632_S5632x2048_S8192x2048_1_0_0_1_n_n none (extf .f32 x bitsLt_bf16_f32) (extf .f32 w bitsLt_bf16_f32))
      = Cert.DownIdeal.Prod.result x w r := by
  funext y
  unfold Cert.DownIdeal.Prod.result
  pointwise
  exact add_comm _ _

/-- The kernel's result is the reference's. -/
theorem algebraic : Cert.algebraic_DownIdeal_DownReferenceIdeal := fun m ρ m' ρ' _ hag => by
  refine ⟨fun c => Cert.DownIdeal.Prod.result (m ((c.tc : Thread _ _).loc Cert.DownIdeal.main_arg0)) (m ((c.tc : Thread _ _).loc Cert.DownIdeal.main_arg1)) (m ((c.tc : Thread _ _).loc Cert.DownIdeal.main_arg2)), ?_, ?_⟩
  · refine (θ_run Cert.DownIdeal.defs _ _).mono (fun r h c => ?_) (Cert.DownIdeal.Value.run_blocks (F := Ideal) m ρ)
    exact ⟨(h c).1.trans (Cert.DownIdeal.Prod.final m c), (h c).2⟩
  · refine (θ_run Cert.DownReferenceIdeal.defs _ _).mono (fun r h c => ?_) (Cert.DownReferenceIdeal.Value.run (F := Ideal) m' ρ')
    obtain ⟨a0, a1, a2⟩ := hag c
    refine ⟨(h c).1.trans ?_, (h c).2⟩
    rw [a0, a1, a2]
    exact reference_eq _ _ _

end Cert.DownProof

end
-- ==== Proof.HiddenGradValue.lean ====
/-
  The gradient of the first product's inputs, as the kernel computes it: the gradients of the gate and the up half times
  the transposed weights, one block of the result at a time, the channels in eight parts.
-/
module

public import proofs.«01_k».proof.Proof.DownClaims
public import proofs.«01_k».proof.Proof.Gen.HiddenGradIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.HiddenGradIdeal.Prod

open Cert.HiddenGradIdeal Cert.HiddenGradIdeal.Gen

/-- The channels of the two halves side by side: channel `n` of token `r`. -/
def channel (g : Vec Ideal S2x8192x5632 .bf16) (r : Fin 8192) (n : Fin 11264) : EReal :=
  g (ix3 (⟨n.val / 5632, by omega⟩ : Fin 2) r (⟨n.val % 5632, by omega⟩ : Fin 5632))

/-- The gradients of both halves times the transposed weights. -/
def grad (g : Vec Ideal S2x8192x5632 .bf16) (w : Vec Ideal S2048x11264 .bf16) : Vec Ideal S8192x2048 .f32 :=
  fun y => ∑ n : Fin 11264, channel g (y 0) n * w (ix2 (y 1) n)

theorem zero_apply (y : S1024x1024.Idx) : k0_pay1 (F := Ideal) y = 0 := by pointwise [k0_pay1]

/-- The product of two blocks. -/
def prod (x : Vec Ideal S1x1024x1408 .bf16) (w : Vec Ideal S1x1024x1408 .bf16) (y : S1024x1024.Idx) : EReal :=
  ∑ k : Fin 1408, x (ix3 (0 : Fin 1) (y 0) k) * w (ix3 (0 : Fin 1) (y 1) k)

/-- One step adds the product of the two blocks. -/
theorem step_apply (a : Vec Ideal S1024x1024 .f32) (x : Vec Ideal S1x1024x1408 .bf16) (w : Vec Ideal S1x1024x1408 .bf16) (y : S1024x1024.Idx) :
    k0_pay2 (F := Ideal) a x w y = a y + prod x w y := by pointwise [k0_pay2, prod]

variable (m : (ℓ : Loc nD τ sig) → Buf (Elt Ideal) ℓ) (c : Dev nD)

/-- The weights as the host prepares them: eight blocks of columns. -/
theorem weights (y : S8x2048x1408.Idx) : (show Vec Ideal S8x2048x1408 .bf16 from V m c main_v1) y
    = (show Vec Ideal S2048x11264 .bf16 from m ((c.tc : Thread nD τ).loc main_arg1))
        (ix2 (y 1) (⟨(y 0).val * 1408 + (y 2).val, by have := (y 0).isLt; have := (y 2).isLt; dsimp at *; omega⟩ : Fin 11264)) := by
  have h : V m c main_v1 = transpose S8x2048x1408 [1, 0, 2] (shapeCast S2048x8x1408 (m ((c.tc : Thread nD τ).loc main_arg1)) shapeCasts_S2048x11264_S2048x8x1408) transposes_S2048x8x1408_S8x2048x1408_1_0_2 := by
    unfold V; after_results <;> rfl
  rw [h]
  pointwise

/-- Where a block is written back, it is the running sum. -/
theorem out_eq (t : Fin cfg0.N) (h : t.val % 8 = 7) : (outsAt0 m c t.val t.isLt).1 = (outsAt0 m c t.val t.isLt).2 := by
  rw [outsAt0_C m c t (by omega) h]; frame_out

theorem idx0 : ∀ t : Fin cfg0.N, win0_0.index t = ![t.val % 8 / 4, t.val / 16, t.val % 8 % 4] := (by decide +kernel : ∀ t : Fin grid0.N, win0_0.index t = ![t.val % 8 / 4, t.val / 16, t.val % 8 % 4])
theorem idx1 : ∀ t : Fin cfg0.N, win0_1.index t = ![t.val % 8, t.val / 8 % 2, 0] := (by decide +kernel : ∀ t : Fin grid0.N, win0_1.index t = ![t.val % 8, t.val / 8 % 2, 0])
theorem idx2 : ∀ t : Fin cfg0.N, win0_2.index t = ![t.val / 16, t.val / 8 % 2] := (by decide +kernel : ∀ t : Fin grid0.N, win0_2.index t = ![t.val / 16, t.val / 8 % 2])

/-- The kernel's result array. -/
theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  blk_simp
  have h : t.val % 8 = 7 := (flush0_2 t).mp hf
  rw [after0_2, out_eq m c t h, Pipeline.eq_sum_fin_of_reset_step_apply_of_flush (fun n h => (outsAt0 m c n h).2) 8 (fun _ => 0)
    (fun t => prod (iblk m c 0 t) (iblk m c 1 t))
    (fun t h y => by rw [outsAt0_A m c t h (by omega)]; frame_out; rw [step_apply, zero_apply])
    (fun t h y => by
      by_cases h1 : t.val % 8 = 7
      · rw [outsAt0_C m c t h h1]; frame_out; rw [step_apply, read_unread_whole]
      · rw [outsAt0_B m c t h h1]; frame_out; rw [step_apply, read_unread_whole]) t h, zero_add]
  unfold grad prod channel
  refine Fin.sum_mul_add_congr fun s k hl => ?_
  refine congrArg₂ (fun a b : EReal => a * b) ?_ ((weights m c _).trans ?_)
  · blk_ext [iblk, V, idx0, idx1, idx2]
  · blk_ext [iblk, V, idx0, idx1, idx2]

end Cert.HiddenGradIdeal.Prod

end
-- ==== Proof.HiddenGradClaims.lean ====
/-
  The claims about the gradient of the first product's inputs.
-/
module

public import proofs.«01_k».proof.Proof.HiddenGradValue
public import proofs.«01_k».proof.Proof.Gen.HiddenGrad.Frame
public import proofs.«01_k».proof.Proof.Gen.HiddenGradReferenceIdeal.Run

@[expose] public section

set_option maxRecDepth 16384

noncomputable section

open Idealize.ShloMosaic Idealize.ShloMosaic.TcCoe Idealize.SL.Sem

namespace Cert.HiddenGradProof

/-- The kernel, on its own words, runs and leaves its arguments as they were. -/
theorem frame_kernel : Cert.quiescent_HiddenGrad := fun m ρ _ => Cert.HiddenGrad.Gen.frame m ρ

/-- The kernel over the extended reals runs and leaves its arguments as they were. -/
theorem frame_ideal : Cert.quiescent_HiddenGradIdeal := fun m ρ _ => Cert.HiddenGradIdeal.Gen.frame m ρ

/-- The reference runs and leaves its arguments as they were. -/
theorem frame_reference : Cert.quiescent_HiddenGradReferenceIdeal := fun m ρ _ =>
  (θ_run Cert.HiddenGradReferenceIdeal.defs _ _).mono (fun r h => ⟨fun c => (h c).2, sem_eq_zero_of_no_sems (by decide) r.2⟩)
    (Cert.HiddenGradReferenceIdeal.Value.run (F := Ideal) m ρ)

open Cert.HiddenGradReferenceIdeal Cert.HiddenGradReferenceIdeal.Gen in
/-- The reference's two halves of the gradient, set side by side. -/
def both (g : Vec Ideal S2x8192x5632 .bf16) : FVec Ideal S8192x11264 .f32 :=
  concatenate S8192x11264 1 [⟨S8192x5632, (extf (F := Ideal) .f32 (shapeCast _ (extractStridedSlice S1x8192x5632 ![0, 0, 0] g slices_S2x8192x5632_S1x8192x5632_0_0_0) shapeCasts_S1x8192x5632_S8192x5632) bitsLt_bf16_f32)⟩, ⟨S8192x5632, (extf (F := Ideal) .f32 (shapeCast _ (extractStridedSlice S1x8192x5632 ![1, 0, 0] g slices_S2x8192x5632_S1x8192x5632_1_0_0) shapeCasts_S1x8192x5632_S8192x5632) bitsLt_bf16_f32)⟩] concatenates_S8192x5632_S8192x5632_S8192x11264_d1

open Cert.HiddenGradReferenceIdeal Cert.HiddenGradReferenceIdeal.Gen in
/-- Channel `n` of token `r` of the two halves set side by side. -/
theorem both_apply (g : Vec Ideal S2x8192x5632 .bf16) (r : Fin 8192) (n : Fin 11264) :
    both g (ix2 r n) = Cert.HiddenGradIdeal.Prod.channel g r n := by
  unfold both Cert.HiddenGradIdeal.Prod.channel
  by_cases h : n.val < 5632
  · pointwise [h]
    exact congrArg₂ (fun a b => g (ix3 a r b)) (Fin.ext (show 0 = n.val / 5632 by omega)) (Fin.ext (show n.val = n.val % 5632 by omega))
  · pointwise [h]
    exact congrArg₂ (fun a b => g (ix3 a r b)) (Fin.ext (show 1 = n.val / 5632 by omega))
      (Fin.ext (show n.val - 5632 = n.val % 5632 by omega))

open Cert.HiddenGradReferenceIdeal Cert.HiddenGradReferenceIdeal.Gen in
/-- The reference's product is the kernel's. -/
theorem reference_eq (g : Vec Ideal S2x8192x5632 .bf16) (w : Vec Ideal S2048x11264 .bf16) :
    Host.dotGeneral (F := Ideal) dot_S8192x11264_S2048x11264_S8192x2048_1_1_0_0_n_n none (both g) (extf .f32 w bitsLt_bf16_f32)
      = Cert.HiddenGradIdeal.Prod.grad g w := by
  funext y
  unfold Cert.HiddenGradIdeal.Prod.grad
  pointwise
  exact Finset.sum_congr rfl fun k _ => congrArg (· * _) (both_apply g _ k)

/-- The kernel's result is the reference's. -/
theorem algebraic : Cert.algebraic_HiddenGradIdeal_HiddenGradReferenceIdeal := fun m ρ m' ρ' _ hag => by
  refine ⟨fun c => Cert.HiddenGradIdeal.Prod.grad (m ((c.tc : Thread _ _).loc Cert.HiddenGradIdeal.main_arg0)) (m ((c.tc : Thread _ _).loc Cert.HiddenGradIdeal.main_arg1)), ?_, ?_⟩
  · refine (θ_run Cert.HiddenGradIdeal.defs _ _).mono (fun r h c => ?_) (Cert.HiddenGradIdeal.Value.run_blocks (F := Ideal) m ρ)
    exact ⟨(h c).1.trans (Cert.HiddenGradIdeal.Prod.final m c), (h c).2⟩
  · refine (θ_run Cert.HiddenGradReferenceIdeal.defs _ _).mono (fun r h c => ?_) (Cert.HiddenGradReferenceIdeal.Value.run (F := Ideal) m' ρ')
    obtain ⟨a0, a1⟩ := hag c
    refine ⟨(h c).1.trans ?_, (h c).2⟩
    rw [a0, a1]
    exact reference_eq _ _

end Cert.HiddenGradProof

end
-- ==== Proof.UpGradValue.lean ====
/-
  The gradient of the first product's weights, as the kernel computes it: the product of the transposed inputs and the
  gradients of the gate and the up half, one block of columns at a time, the tokens in eight parts.
-/
module

public import proofs.«01_k».proof.Proof.HiddenGradClaims
public import proofs.«01_k».proof.Proof.Gen.UpGradIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.UpGradIdeal.Prod

open Cert.UpGradIdeal Cert.UpGradIdeal.Gen

/-- The transposed inputs times the gradients of both halves, in eight blocks of columns: four of each half. -/
def grad (x : Vec Ideal S8192x2048 .bf16) (g : Vec Ideal S2x8192x5632 .bf16) : Vec Ideal S8x2048x1408 .bf16 :=
  fun y => ∑ k : Fin 8192, x (ix2 k (y 1)) * g (ix3 (⟨(y 0).val / 4, by have := (y 0).isLt; dsimp at this; omega⟩ : Fin 2) k
    (⟨(y 0).val % 4 * 1408 + (y 2).val, by have := (y 2).isLt; dsimp at this; omega⟩ : Fin 5632))

theorem zero_apply (y : S2048x1408.Idx) : k0_pay1 (F := Ideal) y = 0 := by pointwise [k0_pay1]

/-- The product of two blocks. -/
def prod (x : Vec Ideal S1024x2048 .bf16) (w : Vec Ideal S1x1024x1408 .bf16) (y : S2048x1408.Idx) : EReal :=
  ∑ k : Fin 1024, x (ix2 k (y 0)) * w (ix3 (0 : Fin 1) k (y 1))

/-- One step adds the product of the two blocks. -/
theorem step_apply (a : Vec Ideal S2048x1408 .f32) (x : Vec Ideal S1024x2048 .bf16) (w : Vec Ideal S1x1024x1408 .bf16) (y : S2048x1408.Idx) :
    k0_pay2 (F := Ideal) a x w y = a y + prod x w y := by pointwise [k0_pay2, prod]

/-- What is written is the running sum, as one block. -/
theorem end_apply (a : Vec Ideal S2048x1408 .f32) (y : S1x2048x1408.Idx) : k0_pay3 (F := Ideal) a y = a (ix2 (y 1) (y 2)) := by
  pointwise [k0_pay3]

variable (m : (ℓ : Loc nD τ sig) → Buf (Elt Ideal) ℓ) (c : Dev nD)

/-- Where a block is written back, it is the running sum. -/
theorem out_eq (t : Fin cfg0.N) (h : t.val % 8 = 7) (y : S1x2048x1408.Idx) :
    (outsAt0 m c t.val t.isLt).1 y = (outsAt0 m c t.val t.isLt).2 (ix2 (y 1) (y 2)) := by
  rw [outsAt0_C m c t (by omega) h]; frame_out; exact end_apply _ y

theorem idx0 : ∀ t : Fin cfg0.N, win0_0.index t = ![t.val % 8, 0] := (by decide +kernel : ∀ t : Fin grid0.N, win0_0.index t = ![t.val % 8, 0])
theorem idx1 : ∀ t : Fin cfg0.N, win0_1.index t = ![t.val / 8 / 4, t.val % 8, t.val / 8 % 4] := (by decide +kernel : ∀ t : Fin grid0.N, win0_1.index t = ![t.val / 8 / 4, t.val % 8, t.val / 8 % 4])
theorem idx2 : ∀ t : Fin cfg0.N, win0_2.index t = ![t.val / 8, 0, 0] := (by decide +kernel : ∀ t : Fin grid0.N, win0_2.index t = ![t.val / 8, 0, 0])

/-- The kernel's result array. -/
theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  blk_simp
  have h : t.val % 8 = 7 := (flush0_2 t).mp hf
  rw [after0_2, out_eq m c t h, Pipeline.eq_sum_fin_of_reset_step_apply_of_flush (fun n h => (outsAt0 m c n h).2) 8 (fun _ => 0)
    (fun t => prod (iblk m c 0 t) (iblk m c 1 t))
    (fun t h y => by rw [outsAt0_A m c t h (by omega)]; frame_out; rw [step_apply, zero_apply])
    (fun t h y => by
      by_cases h1 : t.val % 8 = 7
      · rw [outsAt0_C m c t h h1]; frame_out; rw [step_apply, read_unread_whole]
      · rw [outsAt0_B m c t h h1]; frame_out; rw [step_apply, read_unread_whole]) t h, zero_add]
  unfold grad prod
  refine Fin.sum_mul_add_congr fun s k hl => ?_
  congr 1 <;> blk_ext [iblk, V, idx0, idx1, idx2]

end Cert.UpGradIdeal.Prod

end
-- ==== Proof.UpGradClaims.lean ====
/-
  The claims about the gradient of the first product's weights.
-/
module

public import proofs.«01_k».proof.Proof.UpGradValue
public import proofs.«01_k».proof.Proof.Gen.UpGrad.Frame
public import proofs.«01_k».proof.Proof.Gen.UpGradReferenceIdeal.Run

@[expose] public section

set_option maxRecDepth 16384

noncomputable section

open Idealize.ShloMosaic Idealize.ShloMosaic.TcCoe Idealize.SL.Sem

namespace Cert.UpGradProof

/-- The kernel, on its own words, runs and leaves its arguments as they were. -/
theorem frame_kernel : Cert.quiescent_UpGrad := fun m ρ _ => Cert.UpGrad.Gen.frame m ρ

/-- The kernel over the extended reals runs and leaves its arguments as they were. -/
theorem frame_ideal : Cert.quiescent_UpGradIdeal := fun m ρ _ => Cert.UpGradIdeal.Gen.frame m ρ

/-- The reference runs and leaves its arguments as they were. -/
theorem frame_reference : Cert.quiescent_UpGradReferenceIdeal := fun m ρ _ =>
  (θ_run Cert.UpGradReferenceIdeal.defs _ _).mono (fun r h => ⟨fun c => (h c).2, sem_eq_zero_of_no_sems (by decide) r.2⟩)
    (Cert.UpGradReferenceIdeal.Value.run (F := Ideal) m ρ)

open Cert.UpGradReferenceIdeal Cert.UpGradReferenceIdeal.Gen in
/-- The reference's product is the kernel's. -/
theorem reference_eq (x : Vec Ideal S8192x2048 .bf16) (g : Vec Ideal S2x8192x5632 .bf16) :
    transpose S8x2048x1408 [1, 0, 2] (shapeCast S2048x8x1408 (truncf (F := Ideal) .bf16 (transpose S2048x11264 [1, 0] (Host.dotGeneral dot_S8192x11264_S8192x2048_S11264x2048_0_0_1_1_n_n none (Cert.HiddenGradProof.both g) (extf .f32 x bitsLt_bf16_f32)) transposes_S11264x2048_S2048x11264_1_0) bitsLt_bf16_f32) shapeCasts_S2048x11264_S2048x8x1408) transposes_S2048x8x1408_S8x2048x1408_1_0_2
      = Cert.UpGradIdeal.Prod.grad x g := by
  funext y
  unfold Cert.UpGradIdeal.Prod.grad
  pointwise
  have h0 : (y 0).val < 8 := (y 0).isLt
  have h2 : (y 2).val < 1408 := (y 2).isLt
  refine Finset.sum_congr rfl fun k _ => ?_
  rw [Cert.HiddenGradProof.both_apply, mul_comm]
  exact congrArg₂ (fun a b => x (ix2 k (y 1)) * g (ix3 a k b))
    (Fin.ext (show ((y 0).val * 1408 + (y 2).val) / 5632 = (y 0).val / 4 by omega))
    (Fin.ext (show ((y 0).val * 1408 + (y 2).val) % 5632 = (y 0).val % 4 * 1408 + (y 2).val by omega))

/-- The kernel's result is the reference's. -/
theorem algebraic : Cert.algebraic_UpGradIdeal_UpGradReferenceIdeal := fun m ρ m' ρ' _ hag => by
  refine ⟨fun c => Cert.UpGradIdeal.Prod.grad (m ((c.tc : Thread _ _).loc Cert.UpGradIdeal.main_arg0)) (m ((c.tc : Thread _ _).loc Cert.UpGradIdeal.main_arg1)), ?_, ?_⟩
  · refine (θ_run Cert.UpGradIdeal.defs _ _).mono (fun r h c => ?_) (Cert.UpGradIdeal.Value.run_blocks (F := Ideal) m ρ)
    exact ⟨(h c).1.trans (Cert.UpGradIdeal.Prod.final m c), (h c).2⟩
  · refine (θ_run Cert.UpGradReferenceIdeal.defs _ _).mono (fun r h c => ?_) (Cert.UpGradReferenceIdeal.Value.run (F := Ideal) m' ρ')
    obtain ⟨a0, a1⟩ := hag c
    refine ⟨(h c).1.trans ?_, (h c).2⟩
    rw [a0, a1]
    exact reference_eq _ _

end Cert.UpGradProof

end
-- ==== Proof.UpValue.lean ====
/-
  The first product and its gate, as the kernel computes them: the gate and the up half of the hidden channels, and the gated
  activation, one block of tokens and of channels at each grid point.
-/
module

public import proofs.«01_k».proof.Proof.UpGradClaims
public import proofs.«01_k».proof.Proof.Gen.UpIdeal.Value
public import Idealize.ShloMosaic.Lib.Pipeline.ValueKit
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.UpIdeal.Prod

open Cert.UpIdeal Cert.UpIdeal.Gen

/-- One half of the hidden channels: the tokens times that half of the weights' columns. -/
def half (x : Vec Ideal S8192x2048 .bf16) (w : Vec Ideal S2048x11264 .bf16) (b : Fin 2) (r : Fin 8192) (n : Fin 5632) : EReal :=
  ∑ k : Fin 2048, x (ix2 r k) * w (ix2 k (⟨b.val * 5632 + n.val, by omega⟩ : Fin 11264))

/-- Both halves, stacked. -/
def halves (x : Vec Ideal S8192x2048 .bf16) (w : Vec Ideal S2048x11264 .bf16) : Vec Ideal S2x8192x5632 .bf16 :=
  fun y => half x w (y 0) (y 1) (y 2)

/-- The gated activation: the gate half times its logistic, times the up half. -/
def gated (x : Vec Ideal S8192x2048 .bf16) (w : Vec Ideal S2048x11264 .bf16) : Vec Ideal S8192x5632 .bf16 :=
  fun y => half x w 0 (y 0) (y 1) * Ideal.logistic (half x w 0 (y 0) (y 1)) * half x w 1 (y 0) (y 1)

/-- A block of tokens times a block of columns. -/
def prod (x : Vec Ideal S512x2048 .bf16) (w : Vec Ideal S1x2048x1408 .bf16) (r : Fin 512) (n : Fin 1408) : EReal :=
  ∑ k : Fin 2048, x (ix2 r k) * w (ix3 (0 : Fin 1) k n)

theorem pay1_apply (x : Vec Ideal S512x2048 .bf16) (w : Vec Ideal S1x2048x1408 .bf16) (y : S512x1408.Idx) :
    k0_pay1 (F := Ideal) x w y = prod x w (y 0) (y 1) := by pointwise [k0_pay1, prod]

theorem pay2_apply (x : Vec Ideal S512x2048 .bf16) (w : Vec Ideal S1x2048x1408 .bf16) (y : S512x1408.Idx) :
    k0_pay2 (F := Ideal) x w y = prod x w (y 0) (y 1) := by pointwise [k0_pay2, prod]

theorem pay3_apply (x : Vec Ideal S512x2048 .bf16) (w : Vec Ideal S1x2048x1408 .bf16) (y : S1x512x1408.Idx) :
    k0_pay3 (F := Ideal) x w y = prod x w (y 1) (y 2) := by pointwise [k0_pay3, pay1_apply]

theorem pay4_apply (x : Vec Ideal S512x2048 .bf16) (w : Vec Ideal S1x2048x1408 .bf16) (y : S1x512x1408.Idx) :
    k0_pay4 (F := Ideal) x w y = prod x w (y 1) (y 2) := by pointwise [k0_pay4, pay2_apply]

/-- What one point writes into the stack of both halves. -/
theorem halves_block (x : Vec Ideal S512x2048 .bf16) (w0 w1 : Vec Ideal S1x2048x1408 .bf16) (y : S2x512x1408.Idx) :
    out0_3 (F := Ideal) x w0 w1 y = prod x (if (y 0).val = 0 then w0 else w1) (y 1) (y 2) := by
  canon_tiles z h using cover0_3 _ _ y
  · rw [View.ld_unit_zero (by decide), View.ld_unit_zero (by decide), pay4_apply, if_neg (by omega)]
    exact congrArg₂ (prod x w1) (Fin.ext h1.symm) (Fin.ext h2.symm)
  · rw [View.ld_unit_zero (by decide), View.ld_unit_zero (by decide), pay3_apply, if_pos (by omega)]
    exact congrArg₂ (prod x w0) (Fin.ext h1.symm) (Fin.ext h2.symm)

/-- What one point writes of the gated activation. -/
theorem gated_block (x : Vec Ideal S512x2048 .bf16) (w0 w1 : Vec Ideal S1x2048x1408 .bf16) (y : S512x1408.Idx) :
    k0_pay5 (F := Ideal) x w0 w1 y = prod x w0 (y 0) (y 1) * Ideal.logistic (prod x w0 (y 0) (y 1)) * prod x w1 (y 0) (y 1) := by
  pointwise [k0_pay5, pay1_apply, pay2_apply]

variable (m : (ℓ : Loc nD τ sig) → Buf (Elt Ideal) ℓ) (c : Dev nD)

/-- The tokens, as launched. -/
abbrev argX : Vec Ideal S8192x2048 .bf16 := m ((c.tc : Thread nD τ).loc main_arg0)
/-- The weights, as launched. -/
abbrev argW : Vec Ideal S2048x11264 .bf16 := m ((c.tc : Thread nD τ).loc main_arg1)

/-- The weights as the host prepares them: eight blocks of columns. -/
theorem weights (y : S8x2048x1408.Idx) : (show Vec Ideal S8x2048x1408 .bf16 from V m c main_v1) y
    = argW m c (ix2 (y 1) (⟨(y 0).val * 1408 + (y 2).val, by have := (y 0).isLt; have := (y 2).isLt; dsimp at *; omega⟩ : Fin 11264)) := by
  have h : V m c main_v1 = transpose S8x2048x1408 [1, 0, 2] (shapeCast S2048x8x1408 (m ((c.tc : Thread nD τ).loc main_arg1)) shapeCasts_S2048x11264_S2048x8x1408) transposes_S2048x8x1408_S8x2048x1408_1_0_2 := by
    unfold V; after_results <;> rfl
  rw [h]
  pointwise

theorem idx0 : ∀ t : Fin cfg0.N, win0_0.index t = ![t.val % 16, 0] := (by decide +kernel : ∀ t : Fin grid0.N, win0_0.index t = ![t.val % 16, 0])
theorem idx1 : ∀ t : Fin cfg0.N, win0_1.index t = ![t.val / 16, 0, 0] := (by decide +kernel : ∀ t : Fin grid0.N, win0_1.index t = ![t.val / 16, 0, 0])
theorem idx2 : ∀ t : Fin cfg0.N, win0_2.index t = ![t.val / 16 + 4, 0, 0] := (by decide +kernel : ∀ t : Fin grid0.N, win0_2.index t = ![t.val / 16 + 4, 0, 0])
theorem idx3 : ∀ t : Fin cfg0.N, win0_3.index t = ![0, t.val % 16, t.val / 16] := (by decide +kernel : ∀ t : Fin grid0.N, win0_3.index t = ![0, t.val % 16, t.val / 16])
theorem idx4 : ∀ t : Fin cfg0.N, win0_4.index t = ![t.val % 16, t.val / 16] := (by decide +kernel : ∀ t : Fin grid0.N, win0_4.index t = ![t.val % 16, t.val / 16])

/-- The block of the gate half that a point computes. -/
theorem prod_gate (t : Fin cfg0.N) (r : Fin 512) (n : Fin 1408) (R : Fin 8192) (N : Fin 5632) (hR : R.val = t.val % 16 * 512 + r.val)
    (hN : N.val = t.val / 16 * 1408 + n.val) : prod (iblk m c 0 t) (iblk m c 1 t) r n = half (argX m c) (argW m c) 0 R N := by
  unfold prod half
  refine Finset.sum_congr rfl fun k _ => congrArg₂ (fun a b : EReal => a * b) ?_ ((weights m c _).trans ?_)
  · blk_ext [iblk, V, idx0]
  · blk_ext [iblk, V, idx1]

/-- The block of the up half that a point computes. -/
theorem prod_up (t : Fin cfg0.N) (r : Fin 512) (n : Fin 1408) (R : Fin 8192) (N : Fin 5632) (hR : R.val = t.val % 16 * 512 + r.val)
    (hN : N.val = t.val / 16 * 1408 + n.val) : prod (iblk m c 0 t) (iblk m c 2 t) r n = half (argX m c) (argW m c) 1 R N := by
  unfold prod half
  refine Finset.sum_congr rfl fun k _ => congrArg₂ (fun a b : EReal => a * b) ?_ ((weights m c _).trans ?_)
  · blk_ext [iblk, V, idx0]
  · blk_ext [iblk, V, idx2]

/-- The array of both halves. -/
theorem final_halves : (dats m 0 c).arrAt 3 cfg0.N = halves (argX m c) (argW m c) := by
  refine (dats m 0 c).arrAt_eq_of_covers 3 _ (by decide +kernel) fun t hf y => ?_
  blk_simp
  rw [after0_3]
  refine (halves_block _ _ _ y).trans ?_
  have h0 : (y 0).val < 2 := (y 0).isLt
  have e1 : ((win0_3.blk t).view.emb y 1).val = t.val % 16 * 512 + (y 1).val := by blk_simp [idx3]
  have e2 : ((win0_3.blk t).view.emb y 2).val = t.val / 16 * 1408 + (y 2).val := by blk_simp [idx3]
  unfold halves
  by_cases h : (y 0).val = 0
  · have e0 : (show Fin 2 from (win0_3.blk t).view.emb y 0) = 0 := Fin.ext (by blk_simp [idx3]; exact h)
    rw [if_pos h, prod_gate m c t _ _ _ _ e1 e2]
    exact congrArg (fun b => half (argX m c) (argW m c) b _ _) e0.symm
  · have e0 : (show Fin 2 from (win0_3.blk t).view.emb y 0) = 1 := Fin.ext (by blk_simp [idx3]; show (y 0).val = 1; omega)
    rw [if_neg h, prod_up m c t _ _ _ _ e1 e2]
    exact congrArg (fun b => half (argX m c) (argW m c) b _ _) e0.symm

/-- The array of the gated activation. -/
theorem final_gated : (dats m 0 c).arrAt 4 cfg0.N = gated (argX m c) (argW m c) := by
  refine (dats m 0 c).arrAt_eq_of_covers 4 _ (by decide +kernel) fun t hf y => ?_
  blk_simp
  rw [after0_4]
  frame_out
  refine (gated_block _ _ _ y).trans ?_
  have e1 : ((win0_4.blk t).view.emb y 0).val = t.val % 16 * 512 + (y 0).val := by blk_simp [idx4]
  have e2 : ((win0_4.blk t).view.emb y 1).val = t.val / 16 * 1408 + (y 1).val := by blk_simp [idx4]
  rw [prod_gate m c t _ _ _ _ e1 e2, prod_up m c t _ _ _ _ e1 e2]
  rfl

end Cert.UpIdeal.Prod

end
-- ==== Proof.UpClaims.lean ====
/-
  The claims about the first product and its gate.
-/
module

public import proofs.«01_k».proof.Proof.UpValue
public import proofs.«01_k».proof.Proof.Gen.Up.Frame
public import proofs.«01_k».proof.Proof.Gen.UpReferenceIdeal.Run

@[expose] public section

set_option maxRecDepth 16384

noncomputable section

open Idealize.ShloMosaic Idealize.ShloMosaic.TcCoe Idealize.SL.Sem

namespace Cert.UpProof

/-- The kernel, on its own words, runs and leaves its arguments as they were. -/
theorem frame_kernel : Cert.quiescent_Up := fun m ρ _ => Cert.Up.Gen.frame m ρ

/-- The kernel over the extended reals runs and leaves its arguments as they were. -/
theorem frame_ideal : Cert.quiescent_UpIdeal := fun m ρ _ => Cert.UpIdeal.Gen.frame m ρ

/-- The reference runs and leaves its arguments as they were. -/
theorem frame_reference : Cert.quiescent_UpReferenceIdeal := fun m ρ _ =>
  (θ_run Cert.UpReferenceIdeal.defs _ _).mono (fun r h => ⟨fun c => (h c).2.2, sem_eq_zero_of_no_sems (by decide) r.2⟩)
    (Cert.UpReferenceIdeal.Value.run (F := Ideal) m ρ)

section reference

open Cert.UpReferenceIdeal Cert.UpReferenceIdeal.Gen

/-- The reference's product with the whole weights. -/
def both (x : Vec Ideal S8192x2048 .bf16) (w : Vec Ideal S2048x11264 .bf16) : FVec Ideal S8192x11264 .f32 :=
  Host.dotGeneral dot_S8192x2048_S2048x11264_S8192x11264_1_0_0_1_n_n none (extf (F := Ideal) .f32 x bitsLt_bf16_f32) (extf .f32 w bitsLt_bf16_f32)

theorem both_apply (x : Vec Ideal S8192x2048 .bf16) (w : Vec Ideal S2048x11264 .bf16) (y : S8192x11264.Idx) :
    both x w y = ∑ k : Fin 2048, x (ix2 (y 0) k) * w (ix2 k (y 1)) := by pointwise [both]

/-- Its first columns, the gate half. -/
theorem gate_apply (x : Vec Ideal S8192x2048 .bf16) (w : Vec Ideal S2048x11264 .bf16) (y : S8192x5632.Idx) :
    (extractStridedSlice S8192x5632 ![0, 0] (both x w) slices_S8192x11264_S8192x5632_0_0) y = Cert.UpIdeal.Prod.half x w 0 (y 0) (y 1) := by
  pointwise [both_apply]
  unfold Cert.UpIdeal.Prod.half
  exact Finset.sum_congr rfl fun k _ => congrArg (fun n => x (ix2 (y 0) k) * w (ix2 k n)) (Fin.ext (show (y 1).val = 0 * 5632 + (y 1).val by omega))

/-- Its last columns, the up half. -/
theorem up_apply (x : Vec Ideal S8192x2048 .bf16) (w : Vec Ideal S2048x11264 .bf16) (y : S8192x5632.Idx) :
    (extractStridedSlice S8192x5632 ![0, 5632] (both x w) slices_S8192x11264_S8192x5632_0_5632) y = Cert.UpIdeal.Prod.half x w 1 (y 0) (y 1) := by
  pointwise [both_apply]
  unfold Cert.UpIdeal.Prod.half
  exact Finset.sum_congr rfl fun k _ => congrArg (fun n => x (ix2 (y 0) k) * w (ix2 k n)) (Fin.ext (show 5632 + (y 1).val = 1 * 5632 + (y 1).val by omega))

/-- The reference's stack of both halves is the kernel's. -/
theorem halves_eq (x : Vec Ideal S8192x2048 .bf16) (w : Vec Ideal S2048x11264 .bf16) :
    truncf (F := Ideal) .bf16 (concatenate S2x8192x5632 0 [⟨S1x8192x5632, (broadcastInDim S1x8192x5632 ![1, 2] bcast_S8192x5632_S1x8192x5632_1_2 (extractStridedSlice S8192x5632 ![0, 0] (both x w) slices_S8192x11264_S8192x5632_0_0))⟩, ⟨S1x8192x5632, (broadcastInDim S1x8192x5632 ![1, 2] bcast_S8192x5632_S1x8192x5632_1_2 (extractStridedSlice S8192x5632 ![0, 5632] (both x w) slices_S8192x11264_S8192x5632_0_5632))⟩] concatenates_S1x8192x5632_S1x8192x5632_S2x8192x5632_d0) bitsLt_bf16_f32
      = Cert.UpIdeal.Prod.halves x w := by
  funext y
  unfold Cert.UpIdeal.Prod.halves
  have h2 : (y 0).val < 2 := (y 0).isLt
  by_cases h : (y 0).val < 1
  · pointwise [h, gate_apply]
    exact congrArg (fun b => Cert.UpIdeal.Prod.half x w b (y 1) (y 2)) (Fin.ext (show 0 = (y 0).val by omega))
  · pointwise [h, up_apply]
    exact congrArg (fun b => Cert.UpIdeal.Prod.half x w b (y 1) (y 2)) (Fin.ext (show 1 = (y 0).val by omega))

/-- The reference's gated activation is the kernel's. -/
theorem gated_eq (x : Vec Ideal S8192x2048 .bf16) (w : Vec Ideal S2048x11264 .bf16) :
    truncf (F := Ideal) .bf16 (mulf (mulf (extractStridedSlice S8192x5632 ![0, 0] (both x w) slices_S8192x11264_S8192x5632_0_0) (Host.divf (broadcastInDim S8192x5632 ![] bcast_S_S8192x5632 (constant (F := Ideal) S_ .f32 0x3F800000#32)) (addf (broadcastInDim S8192x5632 ![] bcast_S_S8192x5632 (constant (F := Ideal) S_ .f32 0x3F800000#32)) (Host.exp (Host.negf (extractStridedSlice S8192x5632 ![0, 0] (both x w) slices_S8192x11264_S8192x5632_0_0)))))) (extractStridedSlice S8192x5632 ![0, 5632] (both x w) slices_S8192x11264_S8192x5632_0_5632)) bitsLt_bf16_f32
      = Cert.UpIdeal.Prod.gated x w := by
  funext y
  unfold Cert.UpIdeal.Prod.gated
  rw [← gate_apply, ← up_apply]
  generalize extractStridedSlice S8192x5632 ![0, 0] (both x w) slices_S8192x11264_S8192x5632_0_0 = g
  generalize extractStridedSlice S8192x5632 ![0, 5632] (both x w) slices_S8192x11264_S8192x5632_0_5632 = u
  pointwise
  rfl

end reference

/-- The kernel's results are the reference's. -/
theorem algebraic : Cert.algebraic_UpIdeal_UpReferenceIdeal := fun m ρ m' ρ' _ hag => by
  refine ⟨fun c => Cert.UpIdeal.Prod.halves (Cert.UpIdeal.Prod.argX m c) (Cert.UpIdeal.Prod.argW m c),
    fun c => Cert.UpIdeal.Prod.gated (Cert.UpIdeal.Prod.argX m c) (Cert.UpIdeal.Prod.argW m c), ?_, ?_⟩
  · refine (θ_run Cert.UpIdeal.defs _ _).mono (fun r h c => ?_) (Cert.UpIdeal.Value.run_blocks (F := Ideal) m ρ)
    exact ⟨(h c).1.trans (Cert.UpIdeal.Prod.final_halves m c), (h c).2.1.trans (Cert.UpIdeal.Prod.final_gated m c), (h c).2.2⟩
  · refine (θ_run Cert.UpReferenceIdeal.defs _ _).mono (fun r h c => ?_) (Cert.UpReferenceIdeal.Value.run (F := Ideal) m' ρ')
    obtain ⟨a0, a1⟩ := hag c
    refine ⟨(h c).1.trans ?_, (h c).2.1.trans ?_, (h c).2.2⟩
    · rw [a0, a1]; exact halves_eq _ _
    · rw [a0, a1]; exact gated_eq _ _

end Cert.UpProof

end
-- ==== Proof.SwigluValue.lean ====
/-
  The gradient of the gated activation, as the kernel computes it: the incoming gradient is taken back through the second
  product's weights and then through the gate, one block of tokens and of channels at each grid point.
-/
module

public import proofs.«01_k».proof.Proof.UpClaims
public import proofs.«01_k».proof.Proof.Gen.SwigluIdeal.Value
public import Idealize.ShloMosaic.Lib.Pipeline.ValueKit
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.SwigluIdeal.Prod

open Cert.SwigluIdeal Cert.SwigluIdeal.Gen

/-- The gradient of the activation: the incoming gradient times the transposed weights. -/
def back (d : Vec Ideal S8192x2048 .bf16) (w : Vec Ideal S5632x2048 .bf16) (r : Fin 8192) (n : Fin 5632) : EReal :=
  ∑ k : Fin 2048, d (ix2 r k) * w (ix2 n k)

/-- The gradient of the gate, from the activation's gradient `a`, the gate `g` and the up half `u`. -/
def gateGrad (a g u : EReal) : EReal := a * u * (Ideal.logistic g * (1 + g * (1 - Ideal.logistic g)))

/-- The gradient of the up half, from the activation's gradient `a` and the gate `g`. -/
def upGrad (a g : EReal) : EReal := a * g * Ideal.logistic g

/-- The gradients of the gate and of the up half, stacked. -/
def grads (d : Vec Ideal S8192x2048 .bf16) (w : Vec Ideal S5632x2048 .bf16) (s : Vec Ideal S2x8192x5632 .bf16) : Vec Ideal S2x8192x5632 .bf16 :=
  fun y => if (y 0).val = 0 then gateGrad (back d w (y 1) (y 2)) (s (ix3 (0 : Fin 2) (y 1) (y 2))) (s (ix3 (1 : Fin 2) (y 1) (y 2)))
    else upGrad (back d w (y 1) (y 2)) (s (ix3 (0 : Fin 2) (y 1) (y 2)))

/-- A block of the incoming gradient times a block of the transposed weights. -/
def prod (x : Vec Ideal S1024x2048 .bf16) (w : Vec Ideal S512x2048 .bf16) (r : Fin 1024) (n : Fin 512) : EReal :=
  ∑ k : Fin 2048, x (ix2 r k) * w (ix2 n k)

theorem pay1_apply (x : Vec Ideal S1024x2048 .bf16) (w : Vec Ideal S512x2048 .bf16) (y : S1024x512.Idx) :
    k0_pay1 (F := Ideal) x w y = prod x w (y 0) (y 1) := by pointwise [k0_pay1, prod]

theorem pay2_apply (g : Vec Ideal S1x1024x512 .bf16) (y : S1024x512.Idx) : k0_pay2 (F := Ideal) g y = g (ix3 (0 : Fin 1) (y 0) (y 1)) := by
  pointwise [k0_pay2]

theorem pay3_apply (g : Vec Ideal S1x1024x512 .bf16) (y : S1024x512.Idx) :
    k0_pay3 (F := Ideal) g y = Ideal.logistic (g (ix3 (0 : Fin 1) (y 0) (y 1))) := by pointwise [k0_pay3, pay2_apply]

/-- The stored gradient of the gate. -/
theorem pay4_apply (x : Vec Ideal S1024x2048 .bf16) (w : Vec Ideal S512x2048 .bf16) (g u : Vec Ideal S1x1024x512 .bf16) (y : S1x1024x512.Idx) :
    k0_pay4 (F := Ideal) x w g u y = gateGrad (prod x w (y 1) (y 2)) (g (ix3 (0 : Fin 1) (y 1) (y 2))) (u (ix3 (0 : Fin 1) (y 1) (y 2))) := by
  pointwise [k0_pay4, pay1_apply, pay2_apply, pay3_apply, gateGrad]
  refine congrArg (fun v => prod x w (y 1) (y 2) * v * _) ?_
  blk_ext

/-- The stored gradient of the up half. -/
theorem pay5_apply (x : Vec Ideal S1024x2048 .bf16) (w : Vec Ideal S512x2048 .bf16) (g : Vec Ideal S1x1024x512 .bf16) (y : S1x1024x512.Idx) :
    k0_pay5 (F := Ideal) x w g y = upGrad (prod x w (y 1) (y 2)) (g (ix3 (0 : Fin 1) (y 1) (y 2))) := by
  pointwise [k0_pay5, pay1_apply, pay2_apply, pay3_apply, upGrad]

/-- What one point writes: the gradients of both halves at its block. -/
theorem grads_block (x : Vec Ideal S1024x2048 .bf16) (w : Vec Ideal S512x2048 .bf16) (g u : Vec Ideal S1x1024x512 .bf16) (y : S2x1024x512.Idx) :
    out0_4 (F := Ideal) x w g u y = if (y 0).val = 0 then gateGrad (prod x w (y 1) (y 2)) (g (ix3 (0 : Fin 1) (y 1) (y 2))) (u (ix3 (0 : Fin 1) (y 1) (y 2)))
      else upGrad (prod x w (y 1) (y 2)) (g (ix3 (0 : Fin 1) (y 1) (y 2))) := by
  canon_tiles z h using cover0_4 _ _ y
  · rw [View.ld_unit_zero (by decide), View.ld_unit_zero (by decide), View.ld_unit_zero (by decide), pay5_apply, if_neg (by omega)]
    exact congrArg₂ (fun r n => upGrad (prod x w r n) (g (ix3 (0 : Fin 1) r n))) (Fin.ext h1.symm) (Fin.ext h2.symm)
  · rw [View.ld_unit_zero (by decide), View.ld_unit_zero (by decide), View.ld_unit_zero (by decide), View.ld_unit_zero (by decide), pay4_apply, if_pos (by omega)]
    exact congrArg₂ (fun r n => gateGrad (prod x w r n) (g (ix3 (0 : Fin 1) r n)) (u (ix3 (0 : Fin 1) r n))) (Fin.ext h1.symm) (Fin.ext h2.symm)

variable (m : (ℓ : Loc nD τ sig) → Buf (Elt Ideal) ℓ) (c : Dev nD)

/-- The incoming gradient, as launched. -/
abbrev argD : Vec Ideal S8192x2048 .bf16 := m ((c.tc : Thread nD τ).loc main_arg0)
/-- The weights, as launched. -/
abbrev argW : Vec Ideal S5632x2048 .bf16 := m ((c.tc : Thread nD τ).loc main_arg1)
/-- The saved gate and up half, as launched. -/
abbrev argS : Vec Ideal S2x8192x5632 .bf16 := m ((c.tc : Thread nD τ).loc main_arg2)

theorem idx0 : ∀ t : Fin cfg0.N, win0_0.index t = ![t.val / 11, 0] := (by decide +kernel : ∀ t : Fin grid0.N, win0_0.index t = ![t.val / 11, 0])
theorem idx1 : ∀ t : Fin cfg0.N, win0_1.index t = ![t.val % 11, 0] := (by decide +kernel : ∀ t : Fin grid0.N, win0_1.index t = ![t.val % 11, 0])
theorem idx2 : ∀ t : Fin cfg0.N, win0_2.index t = ![0, t.val / 11, t.val % 11] := (by decide +kernel : ∀ t : Fin grid0.N, win0_2.index t = ![0, t.val / 11, t.val % 11])
theorem idx3 : ∀ t : Fin cfg0.N, win0_3.index t = ![1, t.val / 11, t.val % 11] := (by decide +kernel : ∀ t : Fin grid0.N, win0_3.index t = ![1, t.val / 11, t.val % 11])
theorem idx4 : ∀ t : Fin cfg0.N, win0_4.index t = ![0, t.val / 11, t.val % 11] := (by decide +kernel : ∀ t : Fin grid0.N, win0_4.index t = ![0, t.val / 11, t.val % 11])

/-- The block of the activation's gradient that a point computes. -/
theorem prod_eq (t : Fin cfg0.N) (r : Fin 1024) (n : Fin 512) (R : Fin 8192) (N : Fin 5632) (hR : R.val = t.val / 11 * 1024 + r.val)
    (hN : N.val = t.val % 11 * 512 + n.val) : prod (iblk m c 0 t) (iblk m c 1 t) r n = back (argD m c) (argW m c) R N := by
  unfold prod back
  refine Finset.sum_congr rfl fun k _ => congrArg₂ (fun a b : EReal => a * b) ?_ ?_
  · blk_ext [iblk, V, idx0]
  · blk_ext [iblk, V, idx1]

/-- The block of the gate that a point reads. -/
theorem gate_eq (t : Fin cfg0.N) (r : Fin 1024) (n : Fin 512) (R : Fin 8192) (N : Fin 5632) (hR : R.val = t.val / 11 * 1024 + r.val)
    (hN : N.val = t.val % 11 * 512 + n.val) :
    (show Vec Ideal S1x1024x512 .bf16 from iblk m c 2 t) (ix3 (0 : Fin 1) r n) = argS m c (ix3 (0 : Fin 2) R N) := by
  blk_ext [iblk, V, idx2]

/-- The block of the up half that a point reads. -/
theorem up_eq (t : Fin cfg0.N) (r : Fin 1024) (n : Fin 512) (R : Fin 8192) (N : Fin 5632) (hR : R.val = t.val / 11 * 1024 + r.val)
    (hN : N.val = t.val % 11 * 512 + n.val) :
    (show Vec Ideal S1x1024x512 .bf16 from iblk m c 3 t) (ix3 (0 : Fin 1) r n) = argS m c (ix3 (1 : Fin 2) R N) := by
  blk_ext [iblk, V, idx3]

/-- The kernel's result array. -/
theorem final : (dats m 0 c).arrAt 4 cfg0.N = grads (argD m c) (argW m c) (argS m c) := by
  refine (dats m 0 c).arrAt_eq_of_covers 4 _ (by decide +kernel) fun t hf y => ?_
  blk_simp
  rw [after0_4]
  refine (grads_block _ _ _ _ y).trans ?_
  have e0 : ((win0_4.blk t).view.emb y 0).val = (y 0).val := by blk_simp [idx4]
  have e1 : ((win0_4.blk t).view.emb y 1).val = t.val / 11 * 1024 + (y 1).val := by blk_simp [idx4]
  have e2 : ((win0_4.blk t).view.emb y 2).val = t.val % 11 * 512 + (y 2).val := by blk_simp [idx4]
  have p := prod_eq m c t _ _ _ _ e1 e2
  have g := gate_eq m c t _ _ _ _ e1 e2
  have u := up_eq m c t _ _ _ _ e1 e2
  by_cases h : (y 0).val = 0
  · rw [if_pos h]
    exact (congr (congrArg₂ gateGrad p g) u).trans (if_pos (e0.trans h)).symm
  · rw [if_neg h]
    exact (congrArg₂ upGrad p g).trans (if_neg fun e => h (e0.symm.trans e)).symm

end Cert.SwigluIdeal.Prod

end
-- ==== Proof.SwigluFinite.lean ====
/-
  What the precondition of the gated activation's gradient says: where it is all ones, every entry of the incoming
  gradient, of the weights and of the saved up half is a real number.
-/
module

public import proofs.«01_k».proof.Pre_finite_swiglu
public import proofs.«01_k».proof.Proof.SwigluValue

@[expose] public section

set_option maxRecDepth 16384

noncomputable section

open Idealize.ShloMosaic Idealize.ShloMosaic.TcCoe Idealize.SL.Sem

namespace Cert.Pre_finite_swiglu

/-- The shape relations the precondition's operations take. -/
instance facts : Cert.Pre_finite_swiglu.Facts where
  bitsLt_bf16_f32 := by decide
  bcast_S_S8192x2048 := by decide
  reducesTo_S8192x2048_S_d0_1 := by decide
  h_S_ := by decide
  bcast_S_S5632x2048 := by decide
  reducesTo_S5632x2048_S_d0_1 := by decide
  slices_S2x8192x5632_S1x8192x5632_1_0_0 := by decide
  shapeCasts_S1x8192x5632_S8192x5632 := by decide
  bcast_S_S8192x5632 := by decide
  reducesTo_S8192x5632_S_d0_1 := by decide

open Facts in
/-- The second of the two stacked arrays, as the precondition takes it out. -/
theorem second_apply (s : Vec Ideal S2x8192x5632 .bf16) (y : S8192x5632.Idx) :
    (shapeCast S8192x5632 (extractStridedSlice S1x8192x5632 ![1, 0, 0] s slices_S2x8192x5632_S1x8192x5632_1_0_0) shapeCasts_S1x8192x5632_S8192x5632) y
      = s (ix3 (1 : Fin 2) (y 0) (y 1)) := by pointwise

/-- The precondition makes the incoming gradient, the weights and the up half real. -/
theorem real_of_fn (d : FVec Ideal S8192x2048 .bf16) (w : FVec Ideal S5632x2048 .bf16) (s : FVec Ideal S2x8192x5632 .bf16)
    (h : fn (F := Ideal) d w s = fun _ => 1#1) :
    (∀ i, ∃ x : ℝ, d i = x) ∧ (∀ i, ∃ x : ℝ, w i = x) ∧ ∀ r n, ∃ x : ℝ, s (ix3 (1 : Fin 2) r n) = x := by
  have h0 : IntOp.andi (IntOp.andi _ _) _ = 1#1 := congrFun h ix0
  obtain ⟨hab, hc⟩ := IntOp.andi_eq_one.1 h0
  obtain ⟨ha, hb⟩ := IntOp.andi_eq_one.1 hab
  refine ⟨fun i => Cert.Pre_finite.real_of_lt _ (Host.reduce_andi_all _ _ _ _ _ ha i), fun i => Cert.Pre_finite.real_of_lt _ (Host.reduce_andi_all _ _ _ _ _ hb i), fun r n => ?_⟩
  obtain ⟨x, hx⟩ := Cert.Pre_finite.real_of_lt _ (Host.reduce_andi_all _ _ _ _ _ hc (ix2 r n))
  exact ⟨x, (second_apply s (ix2 r n)).symm.trans hx⟩

end Cert.Pre_finite_swiglu

end
-- ==== Proof.SwigluClaims.lean ====
/-
  The claims about the gradient of the gated activation.
-/
module

public import proofs.«01_k».proof.Proof.SwigluFinite
public import proofs.«01_k».proof.Proof.Gen.Swiglu.Frame
public import proofs.«01_k».proof.Proof.Gen.SwigluReferenceIdeal.Run

@[expose] public section

set_option maxRecDepth 16384

noncomputable section

open Idealize.ShloMosaic Idealize.ShloMosaic.TcCoe Idealize.SL.Sem

namespace Cert.SwigluProof

/-- The kernel, on its own words, runs and leaves its arguments as they were. -/
theorem frame_kernel : Cert.quiescent_Swiglu := fun m ρ _ => Cert.Swiglu.Gen.frame m ρ

/-- The kernel over the extended reals runs and leaves its arguments as they were. -/
theorem frame_ideal : Cert.quiescent_SwigluIdeal := fun m ρ _ => Cert.SwigluIdeal.Gen.frame m ρ

/-- The same where the arguments are finite. -/
theorem frame_ideal_finite : Cert.quiescent_SwigluIdeal_pre_finite_swiglu := fun m ρ _ => Cert.SwigluIdeal.Gen.frame m ρ

/-- The reference runs and leaves its arguments as they were. -/
theorem frame_reference : Cert.quiescent_SwigluReferenceIdeal := fun m ρ _ =>
  (θ_run Cert.SwigluReferenceIdeal.defs _ _).mono (fun r h => ⟨fun c => (h c).2, sem_eq_zero_of_no_sems (by decide) r.2⟩)
    (Cert.SwigluReferenceIdeal.Value.run (F := Ideal) m ρ)

/-- The same where the arguments are finite. -/
theorem frame_reference_finite : Cert.quiescent_SwigluReferenceIdeal_pre_finite_swiglu := fun m ρ _ => frame_reference m ρ trivial

section reference

open Cert.SwigluReferenceIdeal Cert.SwigluReferenceIdeal.Gen

/-- The reference's gradient of the activation. -/
def backR (d : Vec Ideal S8192x2048 .bf16) (w : Vec Ideal S5632x2048 .bf16) : FVec Ideal S8192x5632 .f32 :=
  Host.dotGeneral dot_S8192x2048_S5632x2048_S8192x5632_1_1_0_0_n_n none (extf (F := Ideal) .f32 d bitsLt_bf16_f32) (extf .f32 w bitsLt_bf16_f32)

theorem backR_apply (d : Vec Ideal S8192x2048 .bf16) (w : Vec Ideal S5632x2048 .bf16) (y : S8192x5632.Idx) :
    backR d w y = Cert.SwigluIdeal.Prod.back d w (y 0) (y 1) := by pointwise [backR, Cert.SwigluIdeal.Prod.back]

/-- The saved gate as the reference takes it out. -/
def gateR (s : Vec Ideal S2x8192x5632 .bf16) : FVec Ideal S8192x5632 .f32 :=
  extf (F := Ideal) .f32 (shapeCast S8192x5632 (extractStridedSlice S1x8192x5632 ![0, 0, 0] s slices_S2x8192x5632_S1x8192x5632_0_0_0) shapeCasts_S1x8192x5632_S8192x5632) bitsLt_bf16_f32

theorem gateR_apply (s : Vec Ideal S2x8192x5632 .bf16) (y : S8192x5632.Idx) : gateR s y = s (ix3 (0 : Fin 2) (y 0) (y 1)) := by
  pointwise [gateR]

/-- The saved up half as the reference takes it out. -/
def upR (s : Vec Ideal S2x8192x5632 .bf16) : FVec Ideal S8192x5632 .f32 :=
  extf (F := Ideal) .f32 (shapeCast S8192x5632 (extractStridedSlice S1x8192x5632 ![1, 0, 0] s slices_S2x8192x5632_S1x8192x5632_1_0_0) shapeCasts_S1x8192x5632_S8192x5632) bitsLt_bf16_f32

theorem upR_apply (s : Vec Ideal S2x8192x5632 .bf16) (y : S8192x5632.Idx) : upR s y = s (ix3 (1 : Fin 2) (y 0) (y 1)) := by
  pointwise [upR]

/-- The reference's logistic of an array. -/
def logisticR (g : FVec Ideal S8192x5632 .f32) : FVec Ideal S8192x5632 .f32 :=
  Host.divf (broadcastInDim S8192x5632 ![] bcast_S_S8192x5632 (constant (F := Ideal) S_ .f32 0x3F800000#32)) (addf (broadcastInDim S8192x5632 ![] bcast_S_S8192x5632 (constant (F := Ideal) S_ .f32 0x3F800000#32)) (Host.exp (Host.negf g)))

theorem logisticR_apply (g : FVec Ideal S8192x5632 .f32) (y : S8192x5632.Idx) : logisticR g y = Ideal.logistic (g y) := by
  pointwise [logisticR]
  rfl

/-- The reference's two gradients, stacked. -/
theorem stack_apply (p q : FVec Ideal S8192x5632 .f32) (y : S2x8192x5632.Idx) :
    truncf (F := Ideal) .bf16 (concatenate S2x8192x5632 0 [⟨S1x8192x5632, (broadcastInDim S1x8192x5632 ![1, 2] bcast_S8192x5632_S1x8192x5632_1_2 p)⟩, ⟨S1x8192x5632, (broadcastInDim S1x8192x5632 ![1, 2] bcast_S8192x5632_S1x8192x5632_1_2 q)⟩] concatenates_S1x8192x5632_S1x8192x5632_S2x8192x5632_d0) bitsLt_bf16_f32 y
      = if (y 0).val = 0 then p (ix2 (y 1) (y 2)) else q (ix2 (y 1) (y 2)) := by
  by_cases h : (y 0).val < 1
  · rw [if_pos (by omega)]; pointwise [h]
  · rw [if_neg (by omega)]; pointwise [h]

/-- The gate's gradient by the product rule is the factored one, for a real activation gradient and up half. -/
theorem gateGrad_eq (a u : ℝ) (g : EReal) :
    (a : EReal) * u * Ideal.logistic g + g * ((a : EReal) * u) * (Ideal.logistic g * (1 - Ideal.logistic g))
      = Cert.SwigluIdeal.Prod.gateGrad a g u := by
  unfold Cert.SwigluIdeal.Prod.gateGrad
  have one_sub_one : (1 : EReal) - 1 = 0 := by rw [← EReal.coe_one, ← EReal.coe_sub, sub_self, EReal.coe_zero]
  induction g with
  | bot => simp
  | top => rw [Ideal.logistic_top, one_sub_one]; simp
  | coe r =>
    rw [Ideal.logistic_coe]
    generalize (1 + Real.exp (-r))⁻¹ = l
    norm_cast
    ring

/-- The reference's gradients are the kernel's, for finite arguments. -/
theorem reference_eq (d : Vec Ideal S8192x2048 .bf16) (w : Vec Ideal S5632x2048 .bf16) (s : Vec Ideal S2x8192x5632 .bf16)
    (hd : ∀ i, ∃ x : ℝ, d i = x) (hw : ∀ i, ∃ x : ℝ, w i = x) (hs : ∀ r n, ∃ x : ℝ, s (ix3 (1 : Fin 2) r n) = x) :
    truncf (F := Ideal) .bf16 (concatenate S2x8192x5632 0 [⟨S1x8192x5632, (broadcastInDim S1x8192x5632 ![1, 2] bcast_S8192x5632_S1x8192x5632_1_2
        (addf (mulf (mulf (backR d w) (upR s)) (logisticR (gateR s))) (mulf (mulf (gateR s) (mulf (backR d w) (upR s))) (mulf (logisticR (gateR s)) (subf (broadcastInDim S8192x5632 ![] bcast_S_S8192x5632 (constant (F := Ideal) S_ .f32 0x3F800000#32)) (logisticR (gateR s)))))))⟩,
      ⟨S1x8192x5632, (broadcastInDim S1x8192x5632 ![1, 2] bcast_S8192x5632_S1x8192x5632_1_2 (mulf (mulf (gateR s) (logisticR (gateR s))) (backR d w)))⟩] concatenates_S1x8192x5632_S1x8192x5632_S2x8192x5632_d0) bitsLt_bf16_f32
      = Cert.SwigluIdeal.Prod.grads d w s := by
  funext y
  rw [stack_apply]
  unfold Cert.SwigluIdeal.Prod.grads
  refine if_congr Iff.rfl ?_ ?_
  · pointwise [backR_apply, upR_apply, gateR_apply, logisticR_apply]
    choose d' hd using hd
    choose w' hw using hw
    obtain ⟨u, hu⟩ := hs (y 1) (y 2)
    have hb : Cert.SwigluIdeal.Prod.back d w (y 1) (y 2) = ((∑ k : Fin 2048, d' (ix2 (y 1) k) * w' (ix2 (y 2) k) : ℝ) : EReal) := by
      unfold Cert.SwigluIdeal.Prod.back
      rw [Cert.Mem.coe_sum]
      exact Finset.sum_congr rfl fun k _ => by rw [hd, hw, EReal.coe_mul]
    rw [hb, hu]
    exact gateGrad_eq _ _ _
  · pointwise [backR_apply, gateR_apply, logisticR_apply]
    unfold Cert.SwigluIdeal.Prod.upGrad
    rw [mul_comm, mul_assoc]

end reference

/-- The kernel's result is the reference's, for finite arguments. -/
theorem algebraic : Cert.algebraic_SwigluIdeal_SwigluReferenceIdeal_pre_finite_swiglu := fun m ρ m' ρ' hp hag => by
  refine ⟨fun c => Cert.SwigluIdeal.Prod.grads (Cert.SwigluIdeal.Prod.argD m c) (Cert.SwigluIdeal.Prod.argW m c) (Cert.SwigluIdeal.Prod.argS m c), ?_, ?_⟩
  · refine (θ_run Cert.SwigluIdeal.defs _ _).mono (fun r h c => ?_) (Cert.SwigluIdeal.Value.run_blocks (F := Ideal) m ρ)
    exact ⟨(h c).1.trans (Cert.SwigluIdeal.Prod.final m c), (h c).2⟩
  · refine (θ_run Cert.SwigluReferenceIdeal.defs _ _).mono (fun r h c => ?_) (Cert.SwigluReferenceIdeal.Value.run (F := Ideal) m' ρ')
    obtain ⟨a0, a1, a2⟩ := hag c
    obtain ⟨hd, hw, hs⟩ := Cert.Pre_finite_swiglu.real_of_fn _ _ _ (hp c)
    refine ⟨(h c).1.trans ?_, (h c).2⟩
    rw [a0, a1, a2]
    exact reference_eq _ _ _ hd hw hs

end Cert.SwigluProof

end
-- ==== Proof.GlaMath.lean ====
/-
  The gradients of the keys and of the values of one head of the gated linear attention over one group of 256 tokens (four
  chunks of 64), as formulas over arrays of numbers.
-/
module

public import Idealize.ShloMosaic.Lib.Pointwise

@[expose] public section

noncomputable section

open Idealize.ShloMosaic Idealize.ShloMosaic.TcCoe Idealize.SL.Sem

namespace Cert.Gla

/-- A matrix of numbers. -/
abbrev Grid (n m : ℕ) := Fin n → Fin m → EReal

/-- Token `i` of chunk `g` of a group. -/
def row (g : Fin 4) (i : Fin 64) : Fin 256 := ⟨64 * g.val + i.val, by omega⟩

theorem row_val (g : Fin 4) (i : Fin 64) : (row g i).val = 64 * g.val + i.val := rfl

/-- A statement about the chunks of a group holds when it holds of each of the four. -/
theorem of_four {P : Fin 4 → Prop} (h0 : P 0) (h1 : P 1) (h2 : P 2) (h3 : P 3) (g : Fin 4) : P g := by
  fin_cases g
  · exact h0
  · exact h1
  · exact h2
  · exact h3

/-- The logarithm of a gate: that of the logistic function, over sixteen. -/
def gateLog (x : EReal) : EReal :=
  (min x 0 - Ideal.log (1 + Ideal.exp (0 - (max x (-x))))) * Ideal.ofBits FTy.f32 1031798784#32

/-- The sums of the gates' logarithms up to a token, by a matrix of zeros and ones; the second product is that of the rounding errors. -/
def cumOf (m : Grid 256 256) (l : Grid 256 128) : Grid 256 128 :=
  fun r j => ∑ x, m r x * l x j + ∑ x, m r x * (l x j - l x j)

/-- The sum of the gates' logarithms over a chunk. -/
def totOf (l : Grid 256 128) : Grid 4 128 := fun g j => ∑ i, l (row g i) j

/-- The queries with the gates up to the token. -/
def queryOf (q c : Grid 256 128) : Grid 256 128 := fun r j => q r j * Ideal.exp (c r j) * Ideal.ofBits FTy.f32 1035273459#32

/-- The state's gradient one chunk earlier: the later one decayed, and the chunk's own term. -/
def next (g : Fin 4) (x : Grid 256 128) (d : Grid 256 256) (s : Grid 4 128) (S : Grid 128 256) : Grid 128 256 :=
  fun j e => S j e * Ideal.exp (s g j) + ∑ i, x (row g i) j * d (row g i) e

/-- The state's gradient as it reaches chunk 3, 2, 1, 0 of a group, and as it leaves the group. -/
def held (x : Grid 256 128) (d : Grid 256 256) (s : Grid 4 128) (a : Grid 128 256) : ℕ → Grid 128 256
  | 0 => a
  | n + 1 => next ⟨3 - n, by omega⟩ x d s (held x d s a n)

/-- A score where the mask is set, else nothing. -/
def keep (m x : EReal) : EReal := if Ideal.ofBits FTy.f32 1056964608#32 < m then x else 0

/-- The gradient of the keys at token `i` of chunk `g`. -/
def keyOf (mk : Grid 256 256) (x c : Grid 256 128) (v d : Grid 256 256) (s : Grid 4 128) (S : Grid 128 256) (g : Fin 4) (i : Fin 64) (j : Fin 128) : EReal :=
  (∑ e, v (row g i) e * S j e) * Ideal.exp (s g j - c (row g i) j)
    + (∑ r, keep (mk r (row g i)) (∑ e, d r e * v (row g i) e) * x r j) * Ideal.exp (0 - c (row g i) j)

/-- The gradient of the values at token `i` of chunk `g`. -/
def valueOf (mk : Grid 256 256) (x c k : Grid 256 128) (d : Grid 256 256) (s : Grid 4 128) (S : Grid 128 256) (g : Fin 4) (i : Fin 64) (e : Fin 256) : EReal :=
  ∑ j, (k (row g i) j * Ideal.exp (s g j - c (row g i) j)) * S j e
    + ∑ r, keep (mk r (row g i)) (∑ j, x r j * (k (row g i) j * Ideal.exp (0 - c (row g i) j))) * d r e

end Cert.Gla

end
-- ==== Proof.GlaChunk.lean ====
/-
  The gradients of the keys and of the values of one head of the gated linear attention, as formulas over the 128 chunks of 64
  tokens, and the same formulas as one group of four chunks works them out.
-/
module

public import proofs.«01_k».proof.Proof.GlaMath

@[expose] public section

set_option maxRecDepth 16384

noncomputable section

open Idealize.ShloMosaic

namespace Cert.Gla

/-- One number for every chunk, token of the chunk and column. -/
abbrev Chunks (w : ℕ) := Fin 128 → Fin 64 → Fin w → EReal

/-- The gates' logarithms summed up to a token of its chunk, and over the chunk. -/
def upTo (l : Chunks 128) : Chunks 128 := fun n i j => ∑ x : Fin 64, if x ≤ i then l n x j else 0
def whole (l : Chunks 128) (n : Fin 128) (j : Fin 128) : EReal := ∑ i, l n i j

/-- The queries with the gates up to the token. -/
def gated (q l : Chunks 128) : Chunks 128 := fun n i j => q n i j * Ideal.exp (upTo l n i j) * Ideal.ofBits FTy.f32 1035273459#32

/-- The state's gradient after the last chunk, and before each of the last `m` chunks. -/
def carried (q l : Chunks 128) (d : Chunks 256) : ℕ → Grid 128 256
  | 0 => fun _ _ => 0
  | m + 1 => fun j e => carried q l d m j e * Ideal.exp (whole l ⟨127 - m, by omega⟩ j)
      + ∑ i, gated q l ⟨127 - m, by omega⟩ i j * d ⟨127 - m, by omega⟩ i e

/-- The gradient of the keys. -/
def keysGrad (q l : Chunks 128) (v d : Chunks 256) : Chunks 128 := fun n i j =>
  (∑ e, v n i e * carried q l d (127 - n.val) j e) * Ideal.exp (whole l n j - upTo l n i j)
    + (∑ r : Fin 64, (if i ≤ r then ∑ e, d n r e * v n i e else 0) * gated q l n r j) * Ideal.exp (-upTo l n i j)

/-- The gradient of the values. -/
def valuesGrad (q k l : Chunks 128) (d : Chunks 256) : Chunks 256 := fun n i e =>
  ∑ j, (k n i j * Ideal.exp (whole l n j - upTo l n i j)) * carried q l d (127 - n.val) j e
    + ∑ r : Fin 64, (if i ≤ r then ∑ j, gated q l n r j * (k n i j * Ideal.exp (-upTo l n i j)) else 0) * d n r e

/-- A sum over a group's tokens, chunk by chunk. -/
theorem sum_rows (f : Fin 256 → EReal) : ∑ x, f x = ∑ g, ∑ i, f (row g i) :=
  (Fin.sum_univ_tiles (N := 256) 4 64 (by norm_num) f).trans
    (Finset.sum_congr rfl fun g _ => Finset.sum_congr rfl fun i _ => congrArg f (Fin.ext (by show g.val * 64 + i.val = 64 * g.val + i.val; omega)))

/-- The matrix of zeros and ones that sums up to a token within its chunk. -/
def Lower (m : Grid 256 256) : Prop := ∀ (g : Fin 4) (i : Fin 64) (g' : Fin 4) (i' : Fin 64), m (row g i) (row g' i') = if g = g' ∧ i' ≤ i then 1 else 0

theorem add_sub_cancel_of_ne_top {x : EReal} (h : x ≠ ⊤) : x + (x - x) = x := by
  induction x with
  | bot => rfl
  | top => exact absurd rfl h
  | coe r => rw [← EReal.coe_sub, sub_self, EReal.coe_zero, add_zero]

/-- With that matrix, and no sum infinite upwards, the kernel's two products are the sums up to a token. -/
theorem cumOf_row (m : Grid 256 256) (hm : Lower m) (l : Grid 256 128) (hl : ∀ r j, l r j ≠ ⊤) (g : Fin 4) (i : Fin 64) (j : Fin 128) :
    cumOf m l (row g i) j = ∑ x : Fin 64, if x ≤ i then l (row g x) j else 0 := by
  unfold cumOf
  rw [← Finset.sum_add_distrib, sum_rows, Finset.sum_eq_single g]
  · refine Finset.sum_congr rfl fun x _ => ?_
    rw [hm]
    by_cases h : x ≤ i
    · rw [if_pos ⟨rfl, h⟩, if_pos h, one_mul, one_mul, add_sub_cancel_of_ne_top (hl _ _)]
    · rw [if_neg fun h' => h h'.2, if_neg h, zero_mul, zero_mul, add_zero]
  · intro g' _ hg
    refine Finset.sum_eq_zero fun x _ => ?_
    rw [hm, if_neg fun h' => hg h'.1.symm, zero_mul, zero_mul, add_zero]
  · intro h; exact absurd (Finset.mem_univ _) h

/-- Chunk `g` of the group that step `t` works on. -/
def chunkNo (t : Fin 32) (g : Fin 4) : Fin 128 := ⟨4 * (31 - t.val) + g.val, by omega⟩

/-- A group's rows of a number over the chunks. -/
def Is (t : Fin 32) {w : ℕ} (x : Grid 256 w) (X : Chunks w) : Prop := ∀ g i j, x (row g i) j = X (chunkNo t g) i j

section
variable {t : Fin 32} {cm : Grid 256 256} (hcm : Lower cm) {l : Grid 256 128} {L : Chunks 128} (hl : Is t l L) (hL : ∀ n i j, L n i j ≠ ⊤)

theorem ne_top_of_is (r : Fin 256) (j : Fin 128) (hl : Is t l L) (hL : ∀ n i j, L n i j ≠ ⊤) : l r j ≠ ⊤ := by
  have e : r = row ⟨r.val / 64, by omega⟩ ⟨r.val % 64, by omega⟩ := Fin.ext (by show r.val = 64 * (r.val / 64) + r.val % 64; omega)
  rw [e, hl]; exact hL _ _ _

include hcm hl hL in
theorem is_cum : Is t (cumOf cm l) (upTo L) := fun g i j => by
  rw [cumOf_row cm hcm l (fun r j => ne_top_of_is r j hl hL)]
  exact Finset.sum_congr rfl fun x _ => by rw [hl]

include hl in
theorem is_tot (g : Fin 4) (j : Fin 128) : totOf l g j = whole L (chunkNo t g) j := Finset.sum_congr rfl fun i _ => hl g i j

variable {q : Grid 256 128} {Q : Chunks 128} (hq : Is t q Q) {d : Grid 256 256} {D : Chunks 256} (hd : Is t d D)

include hcm hl hL hq in
theorem is_query : Is t (queryOf q (cumOf cm l)) (gated Q L) := fun g i j => by
  unfold queryOf gated
  rw [hq, is_cum hcm hl hL]

include hcm hl hL hq hd in
/-- What reaches each chunk of the group is the state's gradient carried from the later chunks. -/
theorem held_eq (a : Grid 128 256) (ha : a = carried Q L D (4 * t.val)) : ∀ n ≤ 4, held (queryOf q (cumOf cm l)) d (totOf l) a n = carried Q L D (4 * t.val + n)
  | 0, _ => ha
  | n + 1, h => by
    have ht := t.isLt
    have e : chunkNo t ⟨3 - n, by omega⟩ = ⟨127 - (4 * t.val + n), by omega⟩ := Fin.ext (by show 4 * (31 - t.val) + (3 - n) = 127 - (4 * t.val + n); omega)
    funext j f
    show next ⟨3 - n, _⟩ _ d _ (held _ d _ a n) j f = carried Q L D (4 * t.val + n) j f * Ideal.exp (whole L ⟨127 - (4 * t.val + n), _⟩ j)
      + ∑ i, gated Q L ⟨127 - (4 * t.val + n), _⟩ i j * D ⟨127 - (4 * t.val + n), _⟩ i f
    unfold next
    rw [held_eq a ha n (by omega), is_tot hl, e]
    refine congrArg (_ + ·) (Finset.sum_congr rfl fun i _ => ?_)
    rw [is_query hcm hl hL hq, hd, e]

variable {mk : Grid 256 256} (hmk : Lower mk) {k : Grid 256 128} {K : Chunks 128} (hk : Is t k K) {v : Grid 256 256} {W : Chunks 256} (hv : Is t v W)

theorem half_lt : Ideal.ofBits FTy.f32 1056964608#32 < 1 ∧ ¬Ideal.ofBits FTy.f32 1056964608#32 < 0 := by
  have h : Ideal.ofBits FTy.f32 1056964608#32 = ((1 / 2 : ℝ) : EReal) := by
    simp [Ideal.ofBits, Ideal.ieee, -EReal.coe_mul]; norm_num
  rw [h, ← EReal.coe_one, ← EReal.coe_zero, EReal.coe_lt_coe_iff, EReal.coe_lt_coe_iff]
  norm_num

include hmk in
/-- A masked sum over a group's tokens is one over the chunk's tokens from that token on. -/
theorem sum_keep (g : Fin 4) (i : Fin 64) (f h : Fin 256 → EReal) :
    ∑ r, keep (mk r (row g i)) (f r) * h r = ∑ x : Fin 64, (if i ≤ x then f (row g x) else 0) * h (row g x) := by
  rw [sum_rows, Finset.sum_eq_single g]
  · refine Finset.sum_congr rfl fun x _ => congrArg (· * h (row g x)) ?_
    unfold keep
    rw [hmk]
    by_cases hx : i ≤ x
    · rw [if_pos (⟨rfl, hx⟩ : g = g ∧ i ≤ x), if_pos half_lt.1, if_pos hx]
    · rw [if_neg (fun h' => hx h'.2 : ¬(g = g ∧ i ≤ x)), if_neg half_lt.2, if_neg hx]
  · intro g' _ hg
    refine Finset.sum_eq_zero fun x _ => ?_
    unfold keep
    rw [hmk, if_neg (fun h' => hg h'.1 : ¬(g' = g ∧ i ≤ x)), if_neg half_lt.2, zero_mul]
  · intro h; exact absurd (Finset.mem_univ _) h

theorem carried_index (g : Fin 4) : 4 * t.val + (3 - g.val) = 127 - (chunkNo t g).val := by
  have := t.isLt
  show _ = 127 - (4 * (31 - t.val) + g.val)
  omega

include hcm hl hL hq hd hmk hv in
/-- The gradient of the keys, as a group works it out. -/
theorem keyOf_eq (a : Grid 128 256) (ha : a = carried Q L D (4 * t.val)) (g : Fin 4) (i : Fin 64) (j : Fin 128) :
    keyOf mk (queryOf q (cumOf cm l)) (cumOf cm l) v d (totOf l) (held (queryOf q (cumOf cm l)) d (totOf l) a (3 - g.val)) g i j
      = keysGrad Q L W D (chunkNo t g) i j := by
  unfold keyOf keysGrad
  rw [held_eq hcm hl hL hq hd a ha _ (by omega), is_tot hl, is_cum hcm hl hL, carried_index, zero_sub,
    sum_keep hmk g i (fun r => ∑ e, d r e * v (row g i) e) (fun r => queryOf q (cumOf cm l) r j)]
  refine congrArg₂ (fun a b : EReal => a * _ + b * _) (Finset.sum_congr rfl fun e _ => by rw [hv]) (Finset.sum_congr rfl fun x _ => ?_)
  rw [is_query hcm hl hL hq]
  refine congrArg (fun z : EReal => (if i ≤ x then z else 0) * _) (Finset.sum_congr rfl fun e _ => by rw [hd, hv])

include hcm hl hL hq hd hmk hk in
/-- The gradient of the values, as a group works it out. -/
theorem valueOf_eq (a : Grid 128 256) (ha : a = carried Q L D (4 * t.val)) (g : Fin 4) (i : Fin 64) (e : Fin 256) :
    valueOf mk (queryOf q (cumOf cm l)) (cumOf cm l) k d (totOf l) (held (queryOf q (cumOf cm l)) d (totOf l) a (3 - g.val)) g i e
      = valuesGrad Q K L D (chunkNo t g) i e := by
  unfold valueOf valuesGrad
  rw [held_eq hcm hl hL hq hd a ha _ (by omega), carried_index,
    sum_keep hmk g i (fun r => ∑ j, queryOf q (cumOf cm l) r j * (k (row g i) j * Ideal.exp (0 - cumOf cm l (row g i) j))) (fun r => d r e)]
  refine congrArg₂ (fun a b : EReal => a + b) (Finset.sum_congr rfl fun j _ => by rw [hk, is_tot hl, is_cum hcm hl hL]) (Finset.sum_congr rfl fun x _ => ?_)
  rw [hd]
  refine congrArg (fun z : EReal => (if i ≤ x then z else 0) * _) (Finset.sum_congr rfl fun j _ => ?_)
  rw [is_query hcm hl hL hq, hk, is_cum hcm hl hL, zero_sub]

end

/-- The logarithm of a gate is at most nought, so never infinite upwards. -/
theorem gateLog_ne_top (x : EReal) : gateLog x ≠ ⊤ := by
  have hc : Ideal.ofBits FTy.f32 1031798784#32 = ((1 / 16 : ℝ) : EReal) := by
    simp [Ideal.ofBits, Ideal.ieee, -EReal.coe_mul]; norm_num
  unfold gateLog
  rw [hc]
  induction x with
  | bot => simp [EReal.bot_mul_coe_of_pos]
  | top =>
    have h : Ideal.log 1 = 0 := by rw [← EReal.coe_one, Ideal.log_coe, if_neg (by norm_num), Real.log_one, EReal.coe_zero]
    simp [h]
  | coe r =>
    have h1 : max (r : EReal) (-(r : EReal)) = ((|r| : ℝ) : EReal) := by
      rw [← EReal.coe_neg, abs_eq_max_neg]; exact (EReal.coe_strictMono.monotone.map_max).symm
    have h2 : min (r : EReal) 0 = ((min r 0 : ℝ) : EReal) := by
      rw [← EReal.coe_zero]; exact (EReal.coe_strictMono.monotone.map_min).symm
    rw [h1, h2, zero_sub, ← EReal.coe_neg, Ideal.exp_coe, ← EReal.coe_one, ← EReal.coe_add, Ideal.log_coe,
      if_neg (by have := Real.exp_pos (-|r|); linarith), ← EReal.coe_sub, ← EReal.coe_mul]
    exact EReal.coe_ne_top _

end Cert.Gla

end
-- ==== Proof.GlaHead.lean ====
/-
  One head of the gated linear attention's backward body at one group of tokens: what the three values it stores hold, entry by
  entry, as formulas in the arrays it loads.
-/
module

public import proofs.«01_k».proof.Proof.Gen.GlaIdeal.Skeleton
public import proofs.«01_k».proof.Proof.GlaMath
public import Idealize.ShloMosaic.Lib.Pointwise

@[expose] public section

set_option maxRecDepth 16384

noncomputable section

open Idealize.ShloMosaic Idealize.ShloMosaic.TcCoe Idealize.SL.Sem

namespace Cert.Gla
open Cert.GlaIdeal Cert.GlaIdeal.Gen

variable (q k : Vec Ideal S256x128 .bf16) (v d : Vec Ideal S256x256 .bf16) (t : Vec Ideal S256x128 .bf16) (w : Vec Ideal S1x128x128 .f32)
  (b : Vec Ideal S1x1x128 .f32) (cm mk : Vec Ideal S256x256 .f32) (a : Vec Ideal S1x128x256 .f32)

/-- A loaded matrix as a matrix of numbers. -/
abbrev mat {n m : ℕ} (x : (⟨2, ![n, m]⟩ : Shape).Idx → EReal) : Grid n m := fun r j => x (ix2 r j)

/-- The logarithms of the gates. -/
def logs : Grid 256 128 := fun r j => gateLog (∑ x, t (ix2 r x) * w (ix3 0 x j) + b (ix3 0 0 j))

/-- The kernel's values for the logarithms of the gates, their running sums, and the sums over the chunks. -/
abbrev kZ := k0_pay15 t w b
abbrev kM := k0_pay16 t w b
abbrev kC := k0_pay23 (k0_pay8 cm) (kZ t w b) (kM t w b)

theorem kLog_apply (r : Fin 256) (j : Fin 128) : k0_pay22 (kZ t w b) (kM t w b) (ix2 r j) = logs t w b r j := by
  pointwise [k0_pay22, k0_pay21, k0_pay20, k0_pay15, k0_pay16, k0_pay7, k0_pay13, k0_pay14]
  rfl

theorem kC_apply (r : Fin 256) (j : Fin 128) : kC t w b cm (ix2 r j) = cumOf (mat cm) (logs t w b) r j := by
  pointwise [k0_pay23, kLog_apply, k0_pay8]
  rfl

theorem kTot_0 (j : Fin 128) : k0_pay24 (kZ t w b) (kM t w b) (ix2 0 j) = totOf (logs t w b) 0 j := by
  pointwise [k0_pay24, kLog_apply]
  exact Finset.sum_congr rfl fun i _ => congrArg (fun r => logs t w b r j) (Fin.ext (by simp [row]))

theorem kTot_1 (j : Fin 128) : k0_pay25 (kZ t w b) (kM t w b) (ix2 0 j) = totOf (logs t w b) 1 j := by
  pointwise [k0_pay25, kLog_apply]
  rfl

theorem kTot_2 (j : Fin 128) : k0_pay26 (kZ t w b) (kM t w b) (ix2 0 j) = totOf (logs t w b) 2 j := by
  pointwise [k0_pay26, kLog_apply]
  rfl

theorem kTot_3 (j : Fin 128) : k0_pay27 (kZ t w b) (kM t w b) (ix2 0 j) = totOf (logs t w b) 3 j := by
  pointwise [k0_pay27, kLog_apply]
  rfl

/-- The decay from a token to the end of its chunk. -/
abbrev kD := k0_pay36 (kC t w b cm) (k0_pay28 (kZ t w b) (kM t w b)) (k0_pay29 (kZ t w b) (kM t w b)) (k0_pay30 (kZ t w b) (kM t w b))
  (k0_pay31 (kZ t w b) (kM t w b))

theorem kD_apply (g : Fin 4) (i : Fin 64) (j : Fin 128) :
    kD t w b cm (ix2 (row g i) j) = Ideal.exp (totOf (logs t w b) g j - cumOf (mat cm) (logs t w b) (row g i) j) := by
  have hi := i.isLt
  pointwise [k0_pay36, kC_apply, k0_pay28, k0_pay29, k0_pay30, k0_pay31, kTot_0, kTot_1, kTot_2, kTot_3]
  refine congrArg (fun x => Ideal.exp (x - cumOf (mat cm) (logs t w b) (row g i) j)) ?_
  revert g
  refine of_four ?_ ?_ ?_ ?_
  · have h : (row 0 i).val = 0 + i.val := by simp [row]
    rw [dif_pos (by omega)]
  · have h : (row 1 i).val = 64 + i.val := rfl
    rw [dif_neg (by omega), dif_pos (by omega)]
  · have h : (row 2 i).val = 128 + i.val := rfl
    rw [dif_neg (by omega), dif_neg (by omega), dif_pos (by omega)]
  · have h : (row 3 i).val = 192 + i.val := rfl
    rw [dif_neg (by omega), dif_neg (by omega), dif_neg (by omega)]

/-- The queries with their gates. -/
abbrev kQ := k0_pay33 (k0_pay10 q) (kC t w b cm)
abbrev sC : Grid 256 128 := cumOf (mat cm) (logs t w b)
abbrev sQ : Grid 256 128 := queryOf (mat q) (sC t w b cm)
abbrev sT : Grid 4 128 := totOf (logs t w b)
abbrev sA : Grid 128 256 := fun j e => a (ix3 0 j e)
abbrev sS : ℕ → Grid 128 256 := held (sQ q t w b cm) (mat d) (sT t w b) (sA a)

theorem kQ_apply (r : Fin 256) (j : Fin 128) : kQ q t w b cm (ix2 r j) = sQ q t w b cm r j := by
  pointwise [k0_pay33, k0_pay32, k0_pay10, kC_apply]
  rfl

theorem kQ_0 (i : Fin 64) (j : Fin 128) : k0_pay40 (k0_pay10 q) (kC t w b cm) (ix2 i j) = sQ q t w b cm (row 0 i) j := by
  pointwise [k0_pay40, kQ_apply]
  exact congrArg (fun r => sQ q t w b cm r j) (Fin.ext (by simp [row]))

theorem kQ_1 (i : Fin 64) (j : Fin 128) : k0_pay46 (k0_pay10 q) (kC t w b cm) (ix2 i j) = sQ q t w b cm (row 1 i) j := by
  pointwise [k0_pay46, kQ_apply]
  rfl

theorem kQ_2 (i : Fin 64) (j : Fin 128) : k0_pay52 (k0_pay10 q) (kC t w b cm) (ix2 i j) = sQ q t w b cm (row 2 i) j := by
  pointwise [k0_pay52, kQ_apply]
  rfl

/-- The rows of the output's gradient, chunk by chunk. -/
theorem kO_0 (i : Fin 64) (e : Fin 256) : k0_pay63 d (ix2 i e) = mat d (row 0 i) e := by
  pointwise [k0_pay63, k0_pay61]
  exact congrArg (fun r => mat d r e) (Fin.ext (by simp [row]))

theorem kO_1 (i : Fin 64) (e : Fin 256) : k0_pay64 d (ix2 i e) = mat d (row 1 i) e := by
  pointwise [k0_pay64, k0_pay61]
  rfl

theorem kO_2 (i : Fin 64) (e : Fin 256) : k0_pay65 d (ix2 i e) = mat d (row 2 i) e := by
  pointwise [k0_pay65, k0_pay61]
  rfl

theorem kO_3 (i : Fin 64) (e : Fin 256) : k0_pay66 d (ix2 i e) = mat d (row 3 i) e := by
  pointwise [k0_pay66, k0_pay61]
  rfl

/-- The state's gradient at chunks 2, 1, 0 and on leaving the group. -/
abbrev kS1 := k0_pay72 (k0_pay27 (kZ t w b) (kM t w b)) (kQ q t w b cm) d a
abbrev kS2 := k0_pay77 (k0_pay52 (k0_pay10 q) (kC t w b cm)) (k0_pay54 (k0_pay26 (kZ t w b) (kM t w b))) (k0_pay65 d) (kS1 q d t w b cm a)
abbrev kS3 := k0_pay83 (k0_pay46 (k0_pay10 q) (kC t w b cm)) (k0_pay48 (k0_pay25 (kZ t w b) (kM t w b))) (k0_pay64 d) (kS2 q d t w b cm a)
abbrev kS4 := k0_pay87 (k0_pay40 (k0_pay10 q) (kC t w b cm)) (k0_pay42 (k0_pay24 (kZ t w b) (kM t w b))) (k0_pay46 (k0_pay10 q) (kC t w b cm))
  (k0_pay48 (k0_pay25 (kZ t w b) (kM t w b))) (k0_pay63 d) (k0_pay64 d) (kS2 q d t w b cm a)

theorem kS1_apply (j : Fin 128) (e : Fin 256) : kS1 q d t w b cm a (ix2 j e) = sS q d t w b cm a 1 j e := by
  pointwise [k0_pay72, k0_pay67, k0_pay62, k0_pay60, kTot_3, kQ_apply, kO_3]
  rfl

theorem kS2_apply (j : Fin 128) (e : Fin 256) : kS2 q d t w b cm a (ix2 j e) = sS q d t w b cm a 2 j e := by
  pointwise [k0_pay77, kS1_apply, k0_pay54, k0_pay53, kTot_2, kQ_2, kO_2]
  rfl

theorem kS3_apply (j : Fin 128) (e : Fin 256) : kS3 q d t w b cm a (ix2 j e) = sS q d t w b cm a 3 j e := by
  pointwise [k0_pay83, kS2_apply, k0_pay48, k0_pay47, kTot_1, kQ_1, kO_1]
  rfl

theorem kS4_apply (j : Fin 128) (e : Fin 256) : kS4 q d t w b cm a (ix2 j e) = sS q d t w b cm a 4 j e := by
  pointwise [k0_pay87, kS3_apply, k0_pay42, k0_pay41, kTot_0, kQ_0, kO_0]
  rfl

/-- The head's new state's gradient, as it is stored. -/
def kState : Vec Ideal S1x128x256 .f32 := k0_pay115 (kS4 q d t w b cm a)

theorem kState_apply (j : Fin 128) (e : Fin 256) : kState q d t w b cm a (ix3 0 j e) = sS q d t w b cm a 4 j e := by
  rw [kState]
  pointwise [k0_pay115, kS4_apply]

/-- The keys with the decay from a token to the end of its chunk. -/
abbrev kE := k0_pay37 (k0_pay11 k) (kC t w b cm) (k0_pay28 (kZ t w b) (kM t w b)) (k0_pay29 (kZ t w b) (kM t w b)) (k0_pay30 (kZ t w b) (kM t w b))
  (k0_pay31 (kZ t w b) (kM t w b))
abbrev sE : Fin 4 → Fin 64 → Fin 128 → EReal := fun g i j => mat k (row g i) j * Ideal.exp (sT t w b g j - sC t w b cm (row g i) j)

theorem kE_apply (g : Fin 4) (i : Fin 64) (j : Fin 128) : kE k t w b cm (ix2 (row g i) j) = sE k t w b cm g i j := by
  pointwise [k0_pay37, k0_pay11, kD_apply]

theorem kE_0 (i : Fin 64) (j : Fin 128) : k0_pay43 (k0_pay11 k) (kC t w b cm) (k0_pay28 (kZ t w b) (kM t w b)) (k0_pay29 (kZ t w b) (kM t w b))
    (k0_pay30 (kZ t w b) (kM t w b)) (k0_pay31 (kZ t w b) (kM t w b)) (ix2 i j) = sE k t w b cm 0 i j := by
  rw [← kE_apply]
  pointwise [k0_pay43]
  exact congrArg (fun r => kE k t w b cm (ix2 r j)) (Fin.ext (by simp [row]))

theorem kE_1 (i : Fin 64) (j : Fin 128) : k0_pay49 (k0_pay11 k) (kC t w b cm) (k0_pay28 (kZ t w b) (kM t w b)) (k0_pay29 (kZ t w b) (kM t w b))
    (k0_pay30 (kZ t w b) (kM t w b)) (k0_pay31 (kZ t w b) (kM t w b)) (ix2 i j) = sE k t w b cm 1 i j := by
  rw [← kE_apply]
  pointwise [k0_pay49]
  rfl

theorem kE_2 (i : Fin 64) (j : Fin 128) : k0_pay56 (k0_pay11 k) (kC t w b cm) (k0_pay28 (kZ t w b) (kM t w b)) (k0_pay29 (kZ t w b) (kM t w b))
    (k0_pay30 (kZ t w b) (kM t w b)) (k0_pay31 (kZ t w b) (kM t w b)) (ix2 i j) = sE k t w b cm 2 i j := by
  rw [← kE_apply]
  pointwise [k0_pay56]
  rfl

/-- Where a position in one chunk of a group is the token's place in that chunk. -/
theorem at_row (i : Fin 64) (n o : ℕ) (h : n = o + i.val) (hb : n - o < 64) : (⟨n - o, hb⟩ : Fin 64) = i := Fin.ext (by subst h; simp)

/-- The part of the values' gradient that comes from the state. -/
abbrev kV := k0_pay84 (k0_pay43 (k0_pay11 k) (kC t w b cm) (k0_pay28 (kZ t w b) (kM t w b)) (k0_pay29 (kZ t w b) (kM t w b)) (k0_pay30 (kZ t w b) (kM t w b)) (k0_pay31 (kZ t w b) (kM t w b)))
  (k0_pay46 (k0_pay10 q) (kC t w b cm)) (k0_pay48 (k0_pay25 (kZ t w b) (kM t w b))) (k0_pay64 d) (kS2 q d t w b cm a)
  (k0_pay79 (k0_pay49 (k0_pay11 k) (kC t w b cm) (k0_pay28 (kZ t w b) (kM t w b)) (k0_pay29 (kZ t w b) (kM t w b)) (k0_pay30 (kZ t w b) (kM t w b)) (k0_pay31 (kZ t w b) (kM t w b)))
    (k0_pay52 (k0_pay10 q) (kC t w b cm)) (k0_pay54 (k0_pay26 (kZ t w b) (kM t w b))) (k0_pay65 d) (k0_pay69 (kE k t w b cm) a) (kS1 q d t w b cm a)
    (k0_pay75 (k0_pay56 (k0_pay11 k) (kC t w b cm) (k0_pay28 (kZ t w b) (kM t w b)) (k0_pay29 (kZ t w b) (kM t w b)) (k0_pay30 (kZ t w b) (kM t w b)) (k0_pay31 (kZ t w b) (kM t w b)))))

theorem kV_apply (g : Fin 4) (i : Fin 64) (e : Fin 256) :
    kV q k d t w b cm a (ix2 (row g i) e) = ∑ j, sE k t w b cm g i j * sS q d t w b cm a (3 - g.val) j e := by
  have hi := i.isLt
  pointwise [k0_pay84, k0_pay79, k0_pay69, k0_pay75, kE_0, kE_1, kE_2, kS1_apply, kS2_apply, kS3_apply, k0_pay68, k0_pay62]
  revert g
  refine of_four ?_ ?_ ?_ ?_
  · have h : (row 0 i).val = 0 + i.val := by simp [row]
    have h64 : (row 0 i).val < 64 := by omega
    have h128 : (row 0 i).val < 128 := by omega
    have h192 : (row 0 i).val < 192 := by omega
    simp only [h64, h128, h192, ↓reduceDIte, zero_add, add_zero]
    exact Finset.sum_congr rfl fun x _ => congrArg (fun y => sE k t w b cm 0 y x * sS q d t w b cm a 3 x e) (Fin.ext (by simp [row]))
  · have h : (row 1 i).val = 64 + i.val := rfl
    have h64 : ¬ (row 1 i).val < 64 := by omega
    have h128 : (row 1 i).val < 128 := by omega
    have h192 : (row 1 i).val < 192 := by omega
    simp only [h64, h128, h192, ↓reduceDIte, zero_add, add_zero]
    exact Finset.sum_congr rfl fun x _ => congrArg (fun y => sE k t w b cm 1 y x * sS q d t w b cm a 2 x e) (at_row i _ 64 h _)
  · have h : (row 2 i).val = 128 + i.val := rfl
    have h64 : ¬ (row 2 i).val < 64 := by omega
    have h128 : ¬ (row 2 i).val < 128 := by omega
    have h192 : (row 2 i).val < 192 := by omega
    simp only [h64, h128, h192, ↓reduceDIte, zero_add, add_zero]
    exact Finset.sum_congr rfl fun x _ => congrArg (fun y => sE k t w b cm 2 y x * sS q d t w b cm a 1 x e) (at_row i _ 128 h _)
  · have h : (row 3 i).val = 192 + i.val := rfl
    have h64 : ¬ (row 3 i).val < 64 := by omega
    have h128 : ¬ (row 3 i).val < 128 := by omega
    have h192 : ¬ (row 3 i).val < 192 := by omega
    simp only [h64, h128, h192, ↓reduceDIte, zero_add, add_zero]
    refine Finset.sum_congr rfl fun x _ => ?_
    rw [← kE_apply]
    exact congrArg (fun y => kE k t w b cm (ix2 y x) * a (ix3 0 x e)) (Fin.ext (by simp only [h]; omega))

/-- The part of the keys' gradient that comes from the state, before the decay. -/
abbrev kK := k0_pay85 (k0_pay44 (k0_pay12 v)) (k0_pay46 (k0_pay10 q) (kC t w b cm)) (k0_pay48 (k0_pay25 (kZ t w b) (kM t w b))) (k0_pay64 d) (kS2 q d t w b cm a)
  (k0_pay80 (k0_pay50 (k0_pay12 v)) (k0_pay52 (k0_pay10 q) (kC t w b cm)) (k0_pay54 (k0_pay26 (kZ t w b) (kM t w b))) (k0_pay65 d) (k0_pay70 (k0_pay12 v) a) (kS1 q d t w b cm a)
    (k0_pay74 (k0_pay27 (kZ t w b) (kM t w b)) (kQ q t w b cm) (k0_pay57 (k0_pay12 v)) d a))

theorem kK_apply (g : Fin 4) (i : Fin 64) (j : Fin 128) :
    kK q v d t w b cm a (ix2 (row g i) j) = ∑ e, mat v (row g i) e * sS q d t w b cm a (3 - g.val) j e := by
  have hi := i.isLt
  pointwise [k0_pay85, k0_pay80, k0_pay70, k0_pay74, k0_pay44, k0_pay50, k0_pay57, k0_pay12, kS1_apply, kS2_apply, kS3_apply, k0_pay68, k0_pay62]
  revert g
  refine of_four ?_ ?_ ?_ ?_
  · have h : (row 0 i).val = 0 + i.val := by simp [row]
    have h64 : (row 0 i).val < 64 := by omega
    have h128 : (row 0 i).val < 128 := by omega
    have h192 : (row 0 i).val < 192 := by omega
    simp only [h64, h128, h192, ↓reduceDIte, zero_add, add_zero]
    rfl
  · have h : (row 1 i).val = 64 + i.val := rfl
    have h64 : ¬ (row 1 i).val < 64 := by omega
    have h128 : (row 1 i).val < 128 := by omega
    have h192 : (row 1 i).val < 192 := by omega
    simp only [h64, h128, h192, ↓reduceDIte, zero_add, add_zero]
    exact Finset.sum_congr rfl fun x _ => congrArg (fun y => v (ix2 y x) * sS q d t w b cm a 2 j x) (Fin.ext (by simp only [h]; omega))
  · have h : (row 2 i).val = 128 + i.val := rfl
    have h64 : ¬ (row 2 i).val < 64 := by omega
    have h128 : ¬ (row 2 i).val < 128 := by omega
    have h192 : (row 2 i).val < 192 := by omega
    simp only [h64, h128, h192, ↓reduceDIte, zero_add, add_zero]
    exact Finset.sum_congr rfl fun x _ => congrArg (fun y => v (ix2 y x) * sS q d t w b cm a 1 j x) (Fin.ext (by simp only [h]; omega))
  · have h : (row 3 i).val = 192 + i.val := rfl
    have h64 : ¬ (row 3 i).val < 64 := by omega
    have h128 : ¬ (row 3 i).val < 128 := by omega
    have h192 : ¬ (row 3 i).val < 192 := by omega
    simp only [h64, h128, h192, ↓reduceDIte, zero_add, add_zero]
    exact Finset.sum_congr rfl fun x _ => congrArg (fun y => v (ix2 y x) * sS q d t w b cm a 0 j x) (Fin.ext (by simp only [h]; omega))

/-- The head's gradient of the keys, as it is stored. -/
def kKeys : Vec Ideal S256x128 .bf16 := k0_pay109 (k0_pay95 (kQ q t w b cm) (k0_pay34 (kC t w b cm)) (kD t w b cm) (k0_pay38 (k0_pay9 mk)) (kK q v d t w b cm a)
  (k0_pay89 (k0_pay61 d)) (k0_pay90 (k0_pay12 v)))

theorem kKeys_apply (g : Fin 4) (i : Fin 64) (j : Fin 128) :
    kKeys q v d t w b cm mk a (ix2 (row g i) j)
      = keyOf (mat mk) (sQ q t w b cm) (sC t w b cm) (mat v) (mat d) (sT t w b) (sS q d t w b cm a (3 - g.val)) g i j := by
  rw [kKeys]
  pointwise [k0_pay109, k0_pay95, k0_pay93, k0_pay92, k0_pay89, k0_pay90, k0_pay61, k0_pay12, k0_pay38, k0_pay9, k0_pay34, kQ_apply, kC_apply, kD_apply, kK_apply]
  rfl

/-- The head's gradient of the values, as it is stored. -/
def kValues : Vec Ideal S256x256 .bf16 := k0_pay110 (k0_pay91 (k0_pay39 (k0_pay9 mk) (k0_pay10 q) (k0_pay11 k) (kC t w b cm)) (k0_pay61 d) (kV q k d t w b cm a))

theorem kValues_apply (g : Fin 4) (i : Fin 64) (e : Fin 256) :
    kValues q k d t w b cm mk a (ix2 (row g i) e)
      = valueOf (mat mk) (sQ q t w b cm) (sC t w b cm) (mat k) (mat d) (sT t w b) (sS q d t w b cm a (3 - g.val)) g i e := by
  rw [kValues]
  pointwise [k0_pay110, k0_pay91, k0_pay39, k0_pay35, k0_pay34, k0_pay11, k0_pay61, k0_pay38, k0_pay9, kQ_apply, kC_apply, kV_apply]
  rfl

end Cert.Gla

end
-- ==== Proof.GlaBlock.lean ====
/-
  What the backward body of the gated linear attention leaves at one group of tokens, over all four heads: the block of the
  gradient of the keys, that of the values, and the state's gradient carried to the group before.
-/
module

public import proofs.«01_k».proof.Proof.GlaHead
public import proofs.«01_k».proof.Proof.Gen.GlaIdeal.Value
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem

namespace Cert.Gla

open Cert.GlaIdeal Cert.GlaIdeal.Gen

/-- Column `j` of head `h` among the keys' columns, and among the values'. -/
def colK (h : Fin 4) (j : Fin 128) : Fin 512 := ⟨128 * h.val + j.val, by omega⟩
def colV (h : Fin 4) (e : Fin 256) : Fin 1024 := ⟨256 * h.val + e.val, by omega⟩

/-- The head of a column, and its place in the head. -/
def headK (l : Fin 512) : Fin 4 := ⟨l.val / 128, by omega⟩
def laneK (l : Fin 512) : Fin 128 := ⟨l.val % 128, by omega⟩
def headV (l : Fin 1024) : Fin 4 := ⟨l.val / 256, by omega⟩
def laneV (l : Fin 1024) : Fin 256 := ⟨l.val % 256, by omega⟩

theorem headK_colK (h : Fin 4) (j : Fin 128) : headK (colK h j) = h := Fin.ext (by simp only [headK, colK]; omega)
theorem laneK_colK (h : Fin 4) (j : Fin 128) : laneK (colK h j) = j := Fin.ext (by simp only [laneK, colK]; omega)
theorem headV_colV (h : Fin 4) (e : Fin 256) : headV (colV h e) = h := Fin.ext (by simp only [headV, colV]; omega)
theorem laneV_colV (h : Fin 4) (e : Fin 256) : laneV (colV h e) = e := Fin.ext (by simp only [laneV, colV]; omega)
theorem colK_eta (l : Fin 512) : colK (headK l) (laneK l) = l := Fin.ext (by simp only [headK, laneK, colK]; omega)
theorem colV_eta (l : Fin 1024) : colV (headV l) (laneV l) = l := Fin.ext (by simp only [headV, laneV, colV]; omega)

/-- One head's part of each block. -/
def cutK (x : Vec Ideal S256x512 .bf16) (h : Fin 4) : Vec Ideal S256x128 .bf16 := fun i => x (ix2 (i 0) (colK h (i 1)))
def cutV (x : Vec Ideal S256x1024 .bf16) (h : Fin 4) : Vec Ideal S256x256 .bf16 := fun i => x (ix2 (i 0) (colV h (i 1)))
def cutW (x : Vec Ideal S4x128x128 .f32) (h : Fin 4) : Vec Ideal S1x128x128 .f32 := fun i => x (ix3 h (i 1) (i 2))
def cutB (x : Vec Ideal S4x1x128 .f32) (h : Fin 4) : Vec Ideal S1x1x128 .f32 := fun i => x (ix3 h (i 1) (i 2))
def cutS (x : Vec Ideal S4x128x256 .f32) (h : Fin 4) : Vec Ideal S1x128x256 .f32 := fun i => x (ix3 h (i 1) (i 2))

theorem ld_cutK (x : Vec Ideal S256x512 .bf16) (h : Fin 4) (o : ℕ) (ho : o = 128 * h.val) (inb : ∀ a, (![0, o] : Fin 2 → ℕ) a + S256x128.size a ≤ S256x512.size a) :
    View.ld x (Rect.unit (s := S256x512) ![0, o] S256x128.size inb) = cutK x h := by
  funext i
  refine congrArg x (funext fun a => Fin.ext ?_)
  match a with
  | ⟨0, _⟩ => show 0 + 1 * (i 0).val = (i 0).val; omega
  | ⟨1, _⟩ => show o + 1 * (i 1).val = 128 * h.val + (i 1).val; omega

theorem ld_cutV (x : Vec Ideal S256x1024 .bf16) (h : Fin 4) (o : ℕ) (ho : o = 256 * h.val) (inb : ∀ a, (![0, o] : Fin 2 → ℕ) a + S256x256.size a ≤ S256x1024.size a) :
    View.ld x (Rect.unit (s := S256x1024) ![0, o] S256x256.size inb) = cutV x h := by
  funext i
  refine congrArg x (funext fun a => Fin.ext ?_)
  match a with
  | ⟨0, _⟩ => show 0 + 1 * (i 0).val = (i 0).val; omega
  | ⟨1, _⟩ => show o + 1 * (i 1).val = 256 * h.val + (i 1).val; omega

theorem ld_cutW (x : Vec Ideal S4x128x128 .f32) (h : Fin 4) (o : ℕ) (ho : o = h.val) (inb : ∀ a, (![o, 0, 0] : Fin 3 → ℕ) a + S1x128x128.size a ≤ S4x128x128.size a) :
    View.ld x (Rect.unit (s := S4x128x128) ![o, 0, 0] S1x128x128.size inb) = cutW x h := by
  funext i
  refine congrArg x (funext fun a => Fin.ext ?_)
  match a with
  | ⟨0, _⟩ =>
    have h0 : (i 0).val < 1 := (i 0).isLt
    show o + 1 * (i 0).val = h.val
    omega
  | ⟨1, _⟩ => show 0 + 1 * (i 1).val = (i 1).val; omega
  | ⟨2, _⟩ => show 0 + 1 * (i 2).val = (i 2).val; omega

theorem ld_cutB (x : Vec Ideal S4x1x128 .f32) (h : Fin 4) (o : ℕ) (ho : o = h.val) (inb : ∀ a, (![o, 0, 0] : Fin 3 → ℕ) a + S1x1x128.size a ≤ S4x1x128.size a) :
    View.ld x (Rect.unit (s := S4x1x128) ![o, 0, 0] S1x1x128.size inb) = cutB x h := by
  funext i
  refine congrArg x (funext fun a => Fin.ext ?_)
  match a with
  | ⟨0, _⟩ =>
    have h0 : (i 0).val < 1 := (i 0).isLt
    show o + 1 * (i 0).val = h.val
    omega
  | ⟨1, _⟩ => show 0 + 1 * (i 1).val = (i 1).val; omega
  | ⟨2, _⟩ => show 0 + 1 * (i 2).val = (i 2).val; omega

theorem ld_cutS (x : Vec Ideal S4x128x256 .f32) (h : Fin 4) (o : ℕ) (ho : o = h.val) (inb : ∀ a, (![o, 0, 0] : Fin 3 → ℕ) a + S1x128x256.size a ≤ S4x128x256.size a) :
    View.ld x (Rect.unit (s := S4x128x256) ![o, 0, 0] S1x128x256.size inb) = cutS x h := by
  funext i
  refine congrArg x (funext fun a => Fin.ext ?_)
  match a with
  | ⟨0, _⟩ =>
    have h0 : (i 0).val < 1 := (i 0).isLt
    show o + 1 * (i 0).val = h.val
    omega
  | ⟨1, _⟩ => show 0 + 1 * (i 1).val = (i 1).val; omega
  | ⟨2, _⟩ => show 0 + 1 * (i 2).val = (i 2).val; omega

theorem off_zero : (![0, 0] : Fin 2 → ℕ) = fun _ => 0 := by decide

variable (x0 x1 : Vec Ideal S256x512 .bf16) (x2 : Vec Ideal S256x1024 .bf16) (x3 : Vec Ideal S256x128 .bf16) (x4 : Vec Ideal S4x128x128 .f32)
  (x5 : Vec Ideal S4x1x128 .f32) (x6 x7 : Vec Ideal S256x256 .f32) (x9 : Vec Ideal S256x1024 .bf16) (a : Vec Ideal S4x128x256 .f32)

/-- The block of the gradient of the keys. -/
def blockKeys : Vec Ideal S256x512 .bf16 := fun y =>
  kKeys (cutK x0 (headK (y 1))) (cutV x2 (headK (y 1))) (cutV x9 (headK (y 1))) x3 (cutW x4 (headK (y 1))) (cutB x5 (headK (y 1))) x6 x7 (cutS a (headK (y 1)))
    (ix2 (y 0) (laneK (y 1)))

/-- The block of the gradient of the values. -/
def blockValues : Vec Ideal S256x1024 .bf16 := fun y =>
  kValues (cutK x0 (headV (y 1))) (cutK x1 (headV (y 1))) (cutV x9 (headV (y 1))) x3 (cutW x4 (headV (y 1))) (cutB x5 (headV (y 1))) x6 x7 (cutS a (headV (y 1)))
    (ix2 (y 0) (laneV (y 1)))

/-- The state's gradient carried on. -/
def blockState : Vec Ideal S4x128x256 .f32 := fun y =>
  kState (cutK x0 (y 0)) (cutV x9 (y 0)) x3 (cutW x4 (y 0)) (cutB x5 (y 0)) x6 (cutS a (y 0)) (ix3 0 (y 1) (y 2))

/-- A store of one head's gradient of the keys is a piece of the block. -/
theorem pieceKeys (h : Fin 4) (o : ℕ) (ho : o = 128 * h.val) (inb : ∀ a, (![0, o] : Fin 2 → ℕ) a + S256x128.size a ≤ S256x512.size a) :
    ∀ x : S256x128.Idx, kKeys (cutK x0 h) (cutV x2 h) (cutV x9 h) x3 (cutW x4 h) (cutB x5 h) x6 x7 (cutS a h) x
      = blockKeys x0 x2 x3 x4 x5 x6 x7 x9 a ((Rect.unit (s := S256x512) ![0, o] S256x128.size inb).emb x) := by
  intro x
  obtain ⟨r, j, rfl⟩ : ∃ (r : Fin 256) (j : Fin 128), x = ix2 r j := ⟨x 0, x 1, (ix2_eta x).symm⟩
  have e : (Rect.unit (s := S256x512) ![0, o] S256x128.size inb).emb (ix2 r j) = ix2 r (colK h j) := by
    refine funext fun a => Fin.ext ?_
    match a with
    | ⟨0, _⟩ => show 0 + 1 * r.val = r.val; omega
    | ⟨1, _⟩ => show o + 1 * j.val = 128 * h.val + j.val; omega
  rw [e]
  show _ = kKeys (cutK x0 (headK (colK h j))) (cutV x2 (headK (colK h j))) (cutV x9 (headK (colK h j))) x3 (cutW x4 (headK (colK h j))) (cutB x5 (headK (colK h j))) x6 x7 (cutS a (headK (colK h j)))
    (ix2 r (laneK (colK h j)))
  rw [headK_colK, laneK_colK]

/-- A store of one head's gradient of the values is a piece of the block. -/
theorem pieceValues (h : Fin 4) (o : ℕ) (ho : o = 256 * h.val) (inb : ∀ a, (![0, o] : Fin 2 → ℕ) a + S256x256.size a ≤ S256x1024.size a) :
    ∀ x : S256x256.Idx, kValues (cutK x0 h) (cutK x1 h) (cutV x9 h) x3 (cutW x4 h) (cutB x5 h) x6 x7 (cutS a h) x
      = blockValues x0 x1 x3 x4 x5 x6 x7 x9 a ((Rect.unit (s := S256x1024) ![0, o] S256x256.size inb).emb x) := by
  intro x
  obtain ⟨r, j, rfl⟩ : ∃ (r j : Fin 256), x = ix2 r j := ⟨x 0, x 1, (ix2_eta x).symm⟩
  have e : (Rect.unit (s := S256x1024) ![0, o] S256x256.size inb).emb (ix2 r j) = ix2 r (colV h j) := by
    refine funext fun a => Fin.ext ?_
    match a with
    | ⟨0, _⟩ => show 0 + 1 * r.val = r.val; omega
    | ⟨1, _⟩ => show o + 1 * j.val = 256 * h.val + j.val; omega
  rw [e]
  show _ = kValues (cutK x0 (headV (colV h j))) (cutK x1 (headV (colV h j))) (cutV x9 (headV (colV h j))) x3 (cutW x4 (headV (colV h j))) (cutB x5 (headV (colV h j))) x6 x7 (cutS a (headV (colV h j)))
    (ix2 r (laneV (colV h j)))
  rw [headV_colV, laneV_colV]

/-- A store of one head's state's gradient is a piece of what is carried. -/
theorem pieceState (h : Fin 4) (o : ℕ) (ho : o = h.val) (inb : ∀ a, (![o, 0, 0] : Fin 3 → ℕ) a + S1x128x256.size a ≤ S4x128x256.size a) :
    ∀ x : S1x128x256.Idx, kState (cutK x0 h) (cutV x9 h) x3 (cutW x4 h) (cutB x5 h) x6 (cutS a h) x
      = blockState x0 x3 x4 x5 x6 x9 a ((Rect.unit (s := S4x128x256) ![o, 0, 0] S1x128x256.size inb).emb x) := by
  intro x
  obtain ⟨z, j, k, rfl⟩ : ∃ (z : Fin 1) (j : Fin 128) (k : Fin 256), x = ix3 z j k := ⟨x 0, x 1, x 2, (ix3_eta x).symm⟩
  obtain rfl : z = 0 := Subsingleton.elim _ _
  have e : (Rect.unit (s := S4x128x256) ![o, 0, 0] S1x128x256.size inb).emb (ix3 0 j k) = ix3 h j k := by
    refine funext fun a => Fin.ext ?_
    match a with
    | ⟨0, _⟩ => show o + 1 * 0 = h.val; omega
    | ⟨1, _⟩ => show 0 + 1 * j.val = j.val; omega
    | ⟨2, _⟩ => show 0 + 1 * k.val = k.val; omega
  rw [e]
  rfl

/-- Four stores of one head's state each, whatever was stored before, leave what the four pieces make. -/
theorem heads_state (G : Vec Ideal S4x128x256 .f32) (w3 w2 w1 w0 : Vec Ideal S1x128x256 .f32) (L : List (View.Piece (Elt Ideal) S4x128x256 .f32))
    (h3 : ∀ x, w3 x = G ((Rect.unit (s := S4x128x256) ![3, 0, 0] S1x128x256.size inb_S4x128x256_S1x128x256_3_0_0).emb x))
    (h2 : ∀ x, w2 x = G ((Rect.unit (s := S4x128x256) ![2, 0, 0] S1x128x256.size inb_S4x128x256_S1x128x256_2_0_0).emb x))
    (h1 : ∀ x, w1 x = G ((Rect.unit (s := S4x128x256) ![1, 0, 0] S1x128x256.size inb_S4x128x256_S1x128x256_1_0_0).emb x))
    (h0 : ∀ x, w0 x = G ((Rect.unit (s := S4x128x256) ![0, 0, 0] S1x128x256.size inb_S4x128x256_S1x128x256_0_0_0).emb x)) :
    View.canon (Val := Elt Ideal) (s := S4x128x256) (e := .f32) (⟨Rect.unit ![3, 0, 0] S1x128x256.size inb_S4x128x256_S1x128x256_3_0_0, w3⟩ ::
      ⟨Rect.unit ![2, 0, 0] S1x128x256.size inb_S4x128x256_S1x128x256_2_0_0, w2⟩ :: ⟨Rect.unit ![1, 0, 0] S1x128x256.size inb_S4x128x256_S1x128x256_1_0_0, w1⟩ ::
      ⟨Rect.unit ![0, 0, 0] S1x128x256.size inb_S4x128x256_S1x128x256_0_0_0, w0⟩ :: L) = G := by
  funext y
  refine View.canon_append_of_piecesOf G L [⟨Rect.unit ![3, 0, 0] S1x128x256.size inb_S4x128x256_S1x128x256_3_0_0, w3⟩,
      ⟨Rect.unit ![2, 0, 0] S1x128x256.size inb_S4x128x256_S1x128x256_2_0_0, w2⟩, ⟨Rect.unit ![1, 0, 0] S1x128x256.size inb_S4x128x256_S1x128x256_1_0_0, w1⟩,
      ⟨Rect.unit ![0, 0, 0] S1x128x256.size inb_S4x128x256_S1x128x256_0_0_0, w0⟩] ⟨h3, h2, h1, h0, trivial⟩ y ?_
  have b0 : (y 0).val < 4 := (y 0).isLt
  have b1 : (y 1).val < 128 := (y 1).isLt
  have b2 : (y 2).val < 256 := (y 2).isLt
  have key : ∀ (o : ℕ) (inb : ∀ a, (![o, 0, 0] : Fin 3 → ℕ) a + S1x128x256.size a ≤ S4x128x256.size a), (y 0).val = o →
      y ∈ (Rect.unit (s := S4x128x256) ![o, 0, 0] S1x128x256.size inb).set := by
    intro o inb ha
    rw [Rect.mem_set_unit]
    intro a
    match a with
    | ⟨0, _⟩ => exact ⟨le_of_eq ha.symm, by show (y 0).val < o + 1; omega⟩
    | ⟨1, _⟩ => exact ⟨Nat.zero_le _, by show (y 1).val < 0 + 128; omega⟩
    | ⟨2, _⟩ => exact ⟨Nat.zero_le _, by show (y 2).val < 0 + 256; omega⟩
  rcases (by omega : (y 0).val = 3 ∨ (y 0).val = 2 ∨ (y 0).val = 1 ∨ (y 0).val = 0) with h | h | h | h
  · exact ⟨_, List.mem_cons_self, key 3 inb_S4x128x256_S1x128x256_3_0_0 h⟩
  · exact ⟨_, List.mem_cons_of_mem _ List.mem_cons_self, key 2 inb_S4x128x256_S1x128x256_2_0_0 h⟩
  · exact ⟨_, List.mem_cons_of_mem _ (List.mem_cons_of_mem _ List.mem_cons_self), key 1 inb_S4x128x256_S1x128x256_1_0_0 h⟩
  · exact ⟨_, List.mem_cons_of_mem _ (List.mem_cons_of_mem _ (List.mem_cons_of_mem _ List.mem_cons_self)), key 0 inb_S4x128x256_S1x128x256_0_0_0 h⟩

/-- What head 0 stores as its gradient of the keys is the one formula of its loads. -/
theorem keys_0 (q : Vec Ideal S256x128 .bf16) (v : Vec Ideal S256x256 .bf16) (d : Vec Ideal S256x256 .bf16) (t : Vec Ideal S256x128 .bf16) (w : Vec Ideal S1x128x128 .f32) (b : Vec Ideal S1x1x128 .f32) (cm : Vec Ideal S256x256 .f32) (mk : Vec Ideal S256x256 .f32) (a : Vec Ideal S1x128x256 .f32) :
    (k0_pay109 (k0_pay95 (k0_pay33 (k0_pay10 q) (k0_pay23 (k0_pay8 cm) (k0_pay15 t w b) (k0_pay16 t w b))) (k0_pay34 (k0_pay23 (k0_pay8 cm) (k0_pay15 t w b) (k0_pay16 t w b))) (k0_pay36 (k0_pay23 (k0_pay8 cm) (k0_pay15 t w b) (k0_pay16 t w b)) (k0_pay28 (k0_pay15 t w b) (k0_pay16 t w b)) (k0_pay29 (k0_pay15 t w b) (k0_pay16 t w b)) (k0_pay30 (k0_pay15 t w b) (k0_pay16 t w b)) (k0_pay31 (k0_pay15 t w b) (k0_pay16 t w b))) (k0_pay38 (k0_pay9 mk)) (k0_pay85 (k0_pay44 (k0_pay12 v)) (k0_pay46 (k0_pay10 q) (k0_pay23 (k0_pay8 cm) (k0_pay15 t w b) (k0_pay16 t w b))) (k0_pay48 (k0_pay25 (k0_pay15 t w b) (k0_pay16 t w b))) (k0_pay64 d) (k0_pay77 (k0_pay52 (k0_pay10 q) (k0_pay23 (k0_pay8 cm) (k0_pay15 t w b) (k0_pay16 t w b))) (k0_pay54 (k0_pay26 (k0_pay15 t w b) (k0_pay16 t w b))) (k0_pay65 d) (k0_pay72 (k0_pay27 (k0_pay15 t w b) (k0_pay16 t w b)) (k0_pay33 (k0_pay10 q) (k0_pay23 (k0_pay8 cm) (k0_pay15 t w b) (k0_pay16 t w b))) d a)) (k0_pay80 (k0_pay50 (k0_pay12 v)) (k0_pay52 (k0_pay10 q) (k0_pay23 (k0_pay8 cm) (k0_pay15 t w b) (k0_pay16 t w b))) (k0_pay54 (k0_pay26 (k0_pay15 t w b) (k0_pay16 t w b))) (k0_pay65 d) (k0_pay70 (k0_pay12 v) a) (k0_pay72 (k0_pay27 (k0_pay15 t w b) (k0_pay16 t w b)) (k0_pay33 (k0_pay10 q) (k0_pay23 (k0_pay8 cm) (k0_pay15 t w b) (k0_pay16 t w b))) d a) (k0_pay74 (k0_pay27 (k0_pay15 t w b) (k0_pay16 t w b)) (k0_pay33 (k0_pay10 q) (k0_pay23 (k0_pay8 cm) (k0_pay15 t w b) (k0_pay16 t w b))) (k0_pay57 (k0_pay12 v)) d a))) (k0_pay89 (k0_pay61 d)) (k0_pay90 (k0_pay12 v)))) = kKeys q v d t w b cm mk a := rfl

/-- What head 1 stores as its gradient of the keys is the one formula of its loads. -/
theorem keys_1 (q : Vec Ideal S256x128 .bf16) (v : Vec Ideal S256x256 .bf16) (d : Vec Ideal S256x256 .bf16) (t : Vec Ideal S256x128 .bf16) (w : Vec Ideal S1x128x128 .f32) (b : Vec Ideal S1x1x128 .f32) (cm : Vec Ideal S256x256 .f32) (mk : Vec Ideal S256x256 .f32) (a : Vec Ideal S1x128x256 .f32) :
    (k0_pay218 (k0_pay204 (k0_pay140 (k0_pay138 (k0_pay8 cm) (k0_pay116 q) (k0_pay121 (k0_pay7 t) w b) (k0_pay122 (k0_pay7 t) w b)) k0_pay139) (k0_pay141 (k0_pay131 (k0_pay8 cm) (k0_pay121 (k0_pay7 t) w b) (k0_pay122 (k0_pay7 t) w b))) (k0_pay143 (k0_pay131 (k0_pay8 cm) (k0_pay121 (k0_pay7 t) w b) (k0_pay122 (k0_pay7 t) w b)) (k0_pay136 (k0_pay121 (k0_pay7 t) w b) (k0_pay122 (k0_pay7 t) w b))) (k0_pay145 (k0_pay9 mk)) (k0_pay194 (k0_pay151 (k0_pay118 v)) (k0_pay153 (k0_pay138 (k0_pay8 cm) (k0_pay116 q) (k0_pay121 (k0_pay7 t) w b) (k0_pay122 (k0_pay7 t) w b)) k0_pay139) (k0_pay173 d) (k0_pay189 (k0_pay157 (k0_pay118 v)) (k0_pay159 (k0_pay138 (k0_pay8 cm) (k0_pay116 q) (k0_pay121 (k0_pay7 t) w b) (k0_pay122 (k0_pay7 t) w b)) k0_pay139) (k0_pay161 (k0_pay134 (k0_pay121 (k0_pay7 t) w b) (k0_pay122 (k0_pay7 t) w b))) (k0_pay174 d) (k0_pay179 (k0_pay169 (k0_pay118 v)) a) (k0_pay181 (k0_pay165 (k0_pay138 (k0_pay8 cm) (k0_pay116 q) (k0_pay121 (k0_pay7 t) w b) (k0_pay122 (k0_pay7 t) w b)) k0_pay139) (k0_pay167 (k0_pay135 (k0_pay121 (k0_pay7 t) w b) (k0_pay122 (k0_pay7 t) w b))) d a) (k0_pay183 (k0_pay163 (k0_pay118 v)) (k0_pay165 (k0_pay138 (k0_pay8 cm) (k0_pay116 q) (k0_pay121 (k0_pay7 t) w b) (k0_pay122 (k0_pay7 t) w b)) k0_pay139) (k0_pay167 (k0_pay135 (k0_pay121 (k0_pay7 t) w b) (k0_pay122 (k0_pay7 t) w b))) d a)) (k0_pay190 (k0_pay155 (k0_pay133 (k0_pay121 (k0_pay7 t) w b) (k0_pay122 (k0_pay7 t) w b))) (k0_pay159 (k0_pay138 (k0_pay8 cm) (k0_pay116 q) (k0_pay121 (k0_pay7 t) w b) (k0_pay122 (k0_pay7 t) w b)) k0_pay139) (k0_pay161 (k0_pay134 (k0_pay121 (k0_pay7 t) w b) (k0_pay122 (k0_pay7 t) w b))) (k0_pay174 d) (k0_pay181 (k0_pay165 (k0_pay138 (k0_pay8 cm) (k0_pay116 q) (k0_pay121 (k0_pay7 t) w b) (k0_pay122 (k0_pay7 t) w b)) k0_pay139) (k0_pay167 (k0_pay135 (k0_pay121 (k0_pay7 t) w b) (k0_pay122 (k0_pay7 t) w b))) d a))) (k0_pay198 (k0_pay118 v) (k0_pay170 d)))) = kKeys q v d t w b cm mk a := rfl

/-- What head 2 stores as its gradient of the keys is the one formula of its loads. -/
theorem keys_2 (q : Vec Ideal S256x128 .bf16) (v : Vec Ideal S256x256 .bf16) (d : Vec Ideal S256x256 .bf16) (t : Vec Ideal S256x128 .bf16) (w : Vec Ideal S1x128x128 .f32) (b : Vec Ideal S1x1x128 .f32) (cm : Vec Ideal S256x256 .f32) (mk : Vec Ideal S256x256 .f32) (a : Vec Ideal S1x128x256 .f32) :
    (k0_pay322 (k0_pay309 (k0_pay244 (k0_pay8 cm) (k0_pay224 q) (k0_pay230 (k0_pay7 t) w b) (k0_pay232 (k0_pay7 t) w b)) (k0_pay245 (k0_pay8 cm) (k0_pay230 (k0_pay7 t) w b) (k0_pay232 (k0_pay7 t) w b)) (k0_pay247 (k0_pay237 (k0_pay8 cm) (k0_pay230 (k0_pay7 t) w b) (k0_pay232 (k0_pay7 t) w b)) (k0_pay242 (k0_pay230 (k0_pay7 t) w b) (k0_pay232 (k0_pay7 t) w b))) (k0_pay299 (k0_pay255 (k0_pay226 v)) (k0_pay292 (k0_pay261 (k0_pay226 v)) (k0_pay263 (k0_pay244 (k0_pay8 cm) (k0_pay224 q) (k0_pay230 (k0_pay7 t) w b) (k0_pay232 (k0_pay7 t) w b))) (k0_pay265 (k0_pay240 (k0_pay230 (k0_pay7 t) w b) (k0_pay232 (k0_pay7 t) w b))) (k0_pay278 (k0_pay274 d)) (k0_pay282 (k0_pay273 (k0_pay226 v)) a) (k0_pay284 (k0_pay269 (k0_pay244 (k0_pay8 cm) (k0_pay224 q) (k0_pay230 (k0_pay7 t) w b) (k0_pay232 (k0_pay7 t) w b))) (k0_pay271 (k0_pay241 (k0_pay230 (k0_pay7 t) w b) (k0_pay232 (k0_pay7 t) w b))) (k0_pay274 d) a) (FloatOps.ofBits FTy.f32 0#32) (k0_pay287 (k0_pay267 (k0_pay226 v)) (k0_pay269 (k0_pay244 (k0_pay8 cm) (k0_pay224 q) (k0_pay230 (k0_pay7 t) w b) (k0_pay232 (k0_pay7 t) w b))) (k0_pay271 (k0_pay241 (k0_pay230 (k0_pay7 t) w b) (k0_pay232 (k0_pay7 t) w b))) (k0_pay274 d) a)) (k0_pay293 (k0_pay259 (k0_pay239 (k0_pay230 (k0_pay7 t) w b) (k0_pay232 (k0_pay7 t) w b))) (k0_pay263 (k0_pay244 (k0_pay8 cm) (k0_pay224 q) (k0_pay230 (k0_pay7 t) w b) (k0_pay232 (k0_pay7 t) w b))) (k0_pay265 (k0_pay240 (k0_pay230 (k0_pay7 t) w b) (k0_pay232 (k0_pay7 t) w b))) (k0_pay278 (k0_pay274 d)) (k0_pay284 (k0_pay269 (k0_pay244 (k0_pay8 cm) (k0_pay224 q) (k0_pay230 (k0_pay7 t) w b) (k0_pay232 (k0_pay7 t) w b))) (k0_pay271 (k0_pay241 (k0_pay230 (k0_pay7 t) w b) (k0_pay232 (k0_pay7 t) w b))) (k0_pay274 d) a)) (k0_pay296 (k0_pay257 (k0_pay244 (k0_pay8 cm) (k0_pay224 q) (k0_pay230 (k0_pay7 t) w b) (k0_pay232 (k0_pay7 t) w b)))) (k0_pay297 (k0_pay277 (k0_pay274 d)))) (k0_pay304 (k0_pay226 v) (k0_pay249 (k0_pay9 mk)) (k0_pay274 d)))) = kKeys q v d t w b cm mk a := rfl

/-- What head 3 stores as its gradient of the keys is the one formula of its loads. -/
theorem keys_3 (q : Vec Ideal S256x128 .bf16) (v : Vec Ideal S256x256 .bf16) (d : Vec Ideal S256x256 .bf16) (t : Vec Ideal S256x128 .bf16) (w : Vec Ideal S1x128x128 .f32) (b : Vec Ideal S1x1x128 .f32) (cm : Vec Ideal S256x256 .f32) (mk : Vec Ideal S256x256 .f32) (a : Vec Ideal S1x128x256 .f32) :
    (k0_pay420 (k0_pay408 (k0_pay348 (k0_pay8 cm) (k0_pay334 (k0_pay7 t) w b) (k0_pay337 (k0_pay7 t) w b)) (k0_pay350 (k0_pay8 cm) (k0_pay334 (k0_pay7 t) w b) (k0_pay337 (k0_pay7 t) w b)) (k0_pay399 (k0_pay358 (k0_pay330 v)) (k0_pay395 (k0_pay364 (k0_pay330 v)) (k0_pay366 (k0_pay347 (k0_pay8 cm) (k0_pay328 q) (k0_pay334 (k0_pay7 t) w b) (k0_pay337 (k0_pay7 t) w b))) (k0_pay368 (k0_pay344 (k0_pay334 (k0_pay7 t) w b) (k0_pay337 (k0_pay7 t) w b))) (k0_pay381 d) (k0_pay386 (k0_pay372 (k0_pay347 (k0_pay8 cm) (k0_pay328 q) (k0_pay334 (k0_pay7 t) w b) (k0_pay337 (k0_pay7 t) w b))) (k0_pay374 (k0_pay345 (k0_pay334 (k0_pay7 t) w b) (k0_pay337 (k0_pay7 t) w b))) (k0_pay377 d) (k0_pay378 a)) (k0_pay389 (k0_pay370 (k0_pay330 v)) (k0_pay372 (k0_pay347 (k0_pay8 cm) (k0_pay328 q) (k0_pay334 (k0_pay7 t) w b) (k0_pay337 (k0_pay7 t) w b))) (k0_pay374 (k0_pay345 (k0_pay334 (k0_pay7 t) w b) (k0_pay337 (k0_pay7 t) w b))) (k0_pay376 (k0_pay330 v)) (k0_pay377 d) (k0_pay378 a))) (k0_pay397 (k0_pay360 (k0_pay347 (k0_pay8 cm) (k0_pay328 q) (k0_pay334 (k0_pay7 t) w b) (k0_pay337 (k0_pay7 t) w b))) (k0_pay362 (k0_pay343 (k0_pay334 (k0_pay7 t) w b) (k0_pay337 (k0_pay7 t) w b))) (k0_pay366 (k0_pay347 (k0_pay8 cm) (k0_pay328 q) (k0_pay334 (k0_pay7 t) w b) (k0_pay337 (k0_pay7 t) w b))) (k0_pay368 (k0_pay344 (k0_pay334 (k0_pay7 t) w b) (k0_pay337 (k0_pay7 t) w b))) (k0_pay380 d) (k0_pay381 d) (k0_pay386 (k0_pay372 (k0_pay347 (k0_pay8 cm) (k0_pay328 q) (k0_pay334 (k0_pay7 t) w b) (k0_pay337 (k0_pay7 t) w b))) (k0_pay374 (k0_pay345 (k0_pay334 (k0_pay7 t) w b) (k0_pay337 (k0_pay7 t) w b))) (k0_pay377 d) (k0_pay378 a)))) (k0_pay406 (k0_pay330 v) (k0_pay347 (k0_pay8 cm) (k0_pay328 q) (k0_pay334 (k0_pay7 t) w b) (k0_pay337 (k0_pay7 t) w b)) (k0_pay352 (k0_pay9 mk)) (k0_pay377 d)))) = kKeys q v d t w b cm mk a := rfl

/-- What head 0 stores as its gradient of the values is the one formula of its loads. -/
theorem values_0 (q : Vec Ideal S256x128 .bf16) (k : Vec Ideal S256x128 .bf16) (d : Vec Ideal S256x256 .bf16) (t : Vec Ideal S256x128 .bf16) (w : Vec Ideal S1x128x128 .f32) (b : Vec Ideal S1x1x128 .f32) (cm : Vec Ideal S256x256 .f32) (mk : Vec Ideal S256x256 .f32) (a : Vec Ideal S1x128x256 .f32) :
    (k0_pay110 (k0_pay91 (k0_pay39 (k0_pay9 mk) (k0_pay10 q) (k0_pay11 k) (k0_pay23 (k0_pay8 cm) (k0_pay15 t w b) (k0_pay16 t w b))) (k0_pay61 d) (k0_pay84 (k0_pay43 (k0_pay11 k) (k0_pay23 (k0_pay8 cm) (k0_pay15 t w b) (k0_pay16 t w b)) (k0_pay28 (k0_pay15 t w b) (k0_pay16 t w b)) (k0_pay29 (k0_pay15 t w b) (k0_pay16 t w b)) (k0_pay30 (k0_pay15 t w b) (k0_pay16 t w b)) (k0_pay31 (k0_pay15 t w b) (k0_pay16 t w b))) (k0_pay46 (k0_pay10 q) (k0_pay23 (k0_pay8 cm) (k0_pay15 t w b) (k0_pay16 t w b))) (k0_pay48 (k0_pay25 (k0_pay15 t w b) (k0_pay16 t w b))) (k0_pay64 d) (k0_pay77 (k0_pay52 (k0_pay10 q) (k0_pay23 (k0_pay8 cm) (k0_pay15 t w b) (k0_pay16 t w b))) (k0_pay54 (k0_pay26 (k0_pay15 t w b) (k0_pay16 t w b))) (k0_pay65 d) (k0_pay72 (k0_pay27 (k0_pay15 t w b) (k0_pay16 t w b)) (k0_pay33 (k0_pay10 q) (k0_pay23 (k0_pay8 cm) (k0_pay15 t w b) (k0_pay16 t w b))) d a)) (k0_pay79 (k0_pay49 (k0_pay11 k) (k0_pay23 (k0_pay8 cm) (k0_pay15 t w b) (k0_pay16 t w b)) (k0_pay28 (k0_pay15 t w b) (k0_pay16 t w b)) (k0_pay29 (k0_pay15 t w b) (k0_pay16 t w b)) (k0_pay30 (k0_pay15 t w b) (k0_pay16 t w b)) (k0_pay31 (k0_pay15 t w b) (k0_pay16 t w b))) (k0_pay52 (k0_pay10 q) (k0_pay23 (k0_pay8 cm) (k0_pay15 t w b) (k0_pay16 t w b))) (k0_pay54 (k0_pay26 (k0_pay15 t w b) (k0_pay16 t w b))) (k0_pay65 d) (k0_pay69 (k0_pay37 (k0_pay11 k) (k0_pay23 (k0_pay8 cm) (k0_pay15 t w b) (k0_pay16 t w b)) (k0_pay28 (k0_pay15 t w b) (k0_pay16 t w b)) (k0_pay29 (k0_pay15 t w b) (k0_pay16 t w b)) (k0_pay30 (k0_pay15 t w b) (k0_pay16 t w b)) (k0_pay31 (k0_pay15 t w b) (k0_pay16 t w b))) a) (k0_pay72 (k0_pay27 (k0_pay15 t w b) (k0_pay16 t w b)) (k0_pay33 (k0_pay10 q) (k0_pay23 (k0_pay8 cm) (k0_pay15 t w b) (k0_pay16 t w b))) d a) (k0_pay75 (k0_pay56 (k0_pay11 k) (k0_pay23 (k0_pay8 cm) (k0_pay15 t w b) (k0_pay16 t w b)) (k0_pay28 (k0_pay15 t w b) (k0_pay16 t w b)) (k0_pay29 (k0_pay15 t w b) (k0_pay16 t w b)) (k0_pay30 (k0_pay15 t w b) (k0_pay16 t w b)) (k0_pay31 (k0_pay15 t w b) (k0_pay16 t w b)))))))) = kValues q k d t w b cm mk a := rfl

/-- What head 1 stores as its gradient of the values is the one formula of its loads. -/
theorem values_1 (q : Vec Ideal S256x128 .bf16) (k : Vec Ideal S256x128 .bf16) (d : Vec Ideal S256x256 .bf16) (t : Vec Ideal S256x128 .bf16) (w : Vec Ideal S1x128x128 .f32) (b : Vec Ideal S1x1x128 .f32) (cm : Vec Ideal S256x256 .f32) (mk : Vec Ideal S256x256 .f32) (a : Vec Ideal S1x128x256 .f32) :
    (k0_pay219 (k0_pay200 (k0_pay193 (k0_pay150 (k0_pay117 k) (k0_pay131 (k0_pay8 cm) (k0_pay121 (k0_pay7 t) w b) (k0_pay122 (k0_pay7 t) w b)) (k0_pay136 (k0_pay121 (k0_pay7 t) w b) (k0_pay122 (k0_pay7 t) w b))) (k0_pay153 (k0_pay138 (k0_pay8 cm) (k0_pay116 q) (k0_pay121 (k0_pay7 t) w b) (k0_pay122 (k0_pay7 t) w b)) k0_pay139) (k0_pay173 d) (k0_pay188 (k0_pay156 (k0_pay117 k) (k0_pay131 (k0_pay8 cm) (k0_pay121 (k0_pay7 t) w b) (k0_pay122 (k0_pay7 t) w b)) (k0_pay136 (k0_pay121 (k0_pay7 t) w b) (k0_pay122 (k0_pay7 t) w b))) (k0_pay159 (k0_pay138 (k0_pay8 cm) (k0_pay116 q) (k0_pay121 (k0_pay7 t) w b) (k0_pay122 (k0_pay7 t) w b)) k0_pay139) (k0_pay161 (k0_pay134 (k0_pay121 (k0_pay7 t) w b) (k0_pay122 (k0_pay7 t) w b))) (k0_pay174 d) (k0_pay178 (k0_pay168 (k0_pay117 k) (k0_pay131 (k0_pay8 cm) (k0_pay121 (k0_pay7 t) w b) (k0_pay122 (k0_pay7 t) w b)) (k0_pay136 (k0_pay121 (k0_pay7 t) w b) (k0_pay122 (k0_pay7 t) w b))) a) (k0_pay181 (k0_pay165 (k0_pay138 (k0_pay8 cm) (k0_pay116 q) (k0_pay121 (k0_pay7 t) w b) (k0_pay122 (k0_pay7 t) w b)) k0_pay139) (k0_pay167 (k0_pay135 (k0_pay121 (k0_pay7 t) w b) (k0_pay122 (k0_pay7 t) w b))) d a) (FloatOps.ofBits FTy.f32 0#32) (k0_pay184 (k0_pay162 (k0_pay117 k) (k0_pay131 (k0_pay8 cm) (k0_pay121 (k0_pay7 t) w b) (k0_pay122 (k0_pay7 t) w b)) (k0_pay136 (k0_pay121 (k0_pay7 t) w b) (k0_pay122 (k0_pay7 t) w b))) (k0_pay165 (k0_pay138 (k0_pay8 cm) (k0_pay116 q) (k0_pay121 (k0_pay7 t) w b) (k0_pay122 (k0_pay7 t) w b)) k0_pay139) (k0_pay167 (k0_pay135 (k0_pay121 (k0_pay7 t) w b) (k0_pay122 (k0_pay7 t) w b))) d a)) (k0_pay190 (k0_pay155 (k0_pay133 (k0_pay121 (k0_pay7 t) w b) (k0_pay122 (k0_pay7 t) w b))) (k0_pay159 (k0_pay138 (k0_pay8 cm) (k0_pay116 q) (k0_pay121 (k0_pay7 t) w b) (k0_pay122 (k0_pay7 t) w b)) k0_pay139) (k0_pay161 (k0_pay134 (k0_pay121 (k0_pay7 t) w b) (k0_pay122 (k0_pay7 t) w b))) (k0_pay174 d) (k0_pay181 (k0_pay165 (k0_pay138 (k0_pay8 cm) (k0_pay116 q) (k0_pay121 (k0_pay7 t) w b) (k0_pay122 (k0_pay7 t) w b)) k0_pay139) (k0_pay167 (k0_pay135 (k0_pay121 (k0_pay7 t) w b) (k0_pay122 (k0_pay7 t) w b))) d a))) (k0_pay199 (k0_pay146 (k0_pay9 mk) (k0_pay117 k) (k0_pay131 (k0_pay8 cm) (k0_pay121 (k0_pay7 t) w b) (k0_pay122 (k0_pay7 t) w b)) (k0_pay138 (k0_pay8 cm) (k0_pay116 q) (k0_pay121 (k0_pay7 t) w b) (k0_pay122 (k0_pay7 t) w b)) k0_pay139) (k0_pay170 d)))) = kValues q k d t w b cm mk a := rfl

/-- What head 2 stores as its gradient of the values is the one formula of its loads. -/
theorem values_2 (q : Vec Ideal S256x128 .bf16) (k : Vec Ideal S256x128 .bf16) (d : Vec Ideal S256x256 .bf16) (t : Vec Ideal S256x128 .bf16) (w : Vec Ideal S1x128x128 .f32) (b : Vec Ideal S1x1x128 .f32) (cm : Vec Ideal S256x256 .f32) (mk : Vec Ideal S256x256 .f32) (a : Vec Ideal S1x128x256 .f32) :
    (k0_pay323 (k0_pay303 (k0_pay250 (k0_pay9 mk) (k0_pay244 (k0_pay8 cm) (k0_pay224 q) (k0_pay230 (k0_pay7 t) w b) (k0_pay232 (k0_pay7 t) w b)) (k0_pay246 (k0_pay8 cm) (k0_pay225 k) (k0_pay230 (k0_pay7 t) w b) (k0_pay232 (k0_pay7 t) w b))) (k0_pay254 (k0_pay225 k) (k0_pay237 (k0_pay8 cm) (k0_pay230 (k0_pay7 t) w b) (k0_pay232 (k0_pay7 t) w b)) (k0_pay242 (k0_pay230 (k0_pay7 t) w b) (k0_pay232 (k0_pay7 t) w b))) (k0_pay274 d) (k0_pay291 (k0_pay260 (k0_pay225 k) (k0_pay237 (k0_pay8 cm) (k0_pay230 (k0_pay7 t) w b) (k0_pay232 (k0_pay7 t) w b)) (k0_pay242 (k0_pay230 (k0_pay7 t) w b) (k0_pay232 (k0_pay7 t) w b))) (k0_pay263 (k0_pay244 (k0_pay8 cm) (k0_pay224 q) (k0_pay230 (k0_pay7 t) w b) (k0_pay232 (k0_pay7 t) w b))) (k0_pay265 (k0_pay240 (k0_pay230 (k0_pay7 t) w b) (k0_pay232 (k0_pay7 t) w b))) (k0_pay278 (k0_pay274 d)) (k0_pay284 (k0_pay269 (k0_pay244 (k0_pay8 cm) (k0_pay224 q) (k0_pay230 (k0_pay7 t) w b) (k0_pay232 (k0_pay7 t) w b))) (k0_pay271 (k0_pay241 (k0_pay230 (k0_pay7 t) w b) (k0_pay232 (k0_pay7 t) w b))) (k0_pay274 d) a) (k0_pay286 (k0_pay266 (k0_pay225 k) (k0_pay237 (k0_pay8 cm) (k0_pay230 (k0_pay7 t) w b) (k0_pay232 (k0_pay7 t) w b)) (k0_pay242 (k0_pay230 (k0_pay7 t) w b) (k0_pay232 (k0_pay7 t) w b))) (k0_pay269 (k0_pay244 (k0_pay8 cm) (k0_pay224 q) (k0_pay230 (k0_pay7 t) w b) (k0_pay232 (k0_pay7 t) w b))) (k0_pay271 (k0_pay241 (k0_pay230 (k0_pay7 t) w b) (k0_pay232 (k0_pay7 t) w b))) (k0_pay272 (k0_pay225 k) (k0_pay237 (k0_pay8 cm) (k0_pay230 (k0_pay7 t) w b) (k0_pay232 (k0_pay7 t) w b)) (k0_pay242 (k0_pay230 (k0_pay7 t) w b) (k0_pay232 (k0_pay7 t) w b))) (k0_pay274 d) a)) (k0_pay293 (k0_pay259 (k0_pay239 (k0_pay230 (k0_pay7 t) w b) (k0_pay232 (k0_pay7 t) w b))) (k0_pay263 (k0_pay244 (k0_pay8 cm) (k0_pay224 q) (k0_pay230 (k0_pay7 t) w b) (k0_pay232 (k0_pay7 t) w b))) (k0_pay265 (k0_pay240 (k0_pay230 (k0_pay7 t) w b) (k0_pay232 (k0_pay7 t) w b))) (k0_pay278 (k0_pay274 d)) (k0_pay284 (k0_pay269 (k0_pay244 (k0_pay8 cm) (k0_pay224 q) (k0_pay230 (k0_pay7 t) w b) (k0_pay232 (k0_pay7 t) w b))) (k0_pay271 (k0_pay241 (k0_pay230 (k0_pay7 t) w b) (k0_pay232 (k0_pay7 t) w b))) (k0_pay274 d) a)) (k0_pay296 (k0_pay257 (k0_pay244 (k0_pay8 cm) (k0_pay224 q) (k0_pay230 (k0_pay7 t) w b) (k0_pay232 (k0_pay7 t) w b)))) (k0_pay297 (k0_pay277 (k0_pay274 d))))) = kValues q k d t w b cm mk a := rfl

/-- What head 3 stores as its gradient of the values is the one formula of its loads. -/
theorem values_3 (q : Vec Ideal S256x128 .bf16) (k : Vec Ideal S256x128 .bf16) (d : Vec Ideal S256x256 .bf16) (t : Vec Ideal S256x128 .bf16) (w : Vec Ideal S1x128x128 .f32) (b : Vec Ideal S1x1x128 .f32) (cm : Vec Ideal S256x256 .f32) (mk : Vec Ideal S256x256 .f32) (a : Vec Ideal S1x128x256 .f32) :
    (k0_pay421 (k0_pay403 (k0_pay353 (k0_pay347 (k0_pay8 cm) (k0_pay328 q) (k0_pay334 (k0_pay7 t) w b) (k0_pay337 (k0_pay7 t) w b)) (k0_pay349 (k0_pay8 cm) (k0_pay329 k) (k0_pay334 (k0_pay7 t) w b) (k0_pay337 (k0_pay7 t) w b)) (k0_pay352 (k0_pay9 mk))) (k0_pay357 (k0_pay351 (k0_pay8 cm) (k0_pay329 k) (k0_pay334 (k0_pay7 t) w b) (k0_pay337 (k0_pay7 t) w b))) (k0_pay377 d) (k0_pay394 (k0_pay363 (k0_pay351 (k0_pay8 cm) (k0_pay329 k) (k0_pay334 (k0_pay7 t) w b) (k0_pay337 (k0_pay7 t) w b))) (k0_pay366 (k0_pay347 (k0_pay8 cm) (k0_pay328 q) (k0_pay334 (k0_pay7 t) w b) (k0_pay337 (k0_pay7 t) w b))) (k0_pay368 (k0_pay344 (k0_pay334 (k0_pay7 t) w b) (k0_pay337 (k0_pay7 t) w b))) (k0_pay381 d) (k0_pay386 (k0_pay372 (k0_pay347 (k0_pay8 cm) (k0_pay328 q) (k0_pay334 (k0_pay7 t) w b) (k0_pay337 (k0_pay7 t) w b))) (k0_pay374 (k0_pay345 (k0_pay334 (k0_pay7 t) w b) (k0_pay337 (k0_pay7 t) w b))) (k0_pay377 d) (k0_pay378 a)) (k0_pay388 (k0_pay369 (k0_pay351 (k0_pay8 cm) (k0_pay329 k) (k0_pay334 (k0_pay7 t) w b) (k0_pay337 (k0_pay7 t) w b))) (k0_pay372 (k0_pay347 (k0_pay8 cm) (k0_pay328 q) (k0_pay334 (k0_pay7 t) w b) (k0_pay337 (k0_pay7 t) w b))) (k0_pay374 (k0_pay345 (k0_pay334 (k0_pay7 t) w b) (k0_pay337 (k0_pay7 t) w b))) (k0_pay375 (k0_pay351 (k0_pay8 cm) (k0_pay329 k) (k0_pay334 (k0_pay7 t) w b) (k0_pay337 (k0_pay7 t) w b))) (k0_pay377 d) (k0_pay378 a))) (k0_pay397 (k0_pay360 (k0_pay347 (k0_pay8 cm) (k0_pay328 q) (k0_pay334 (k0_pay7 t) w b) (k0_pay337 (k0_pay7 t) w b))) (k0_pay362 (k0_pay343 (k0_pay334 (k0_pay7 t) w b) (k0_pay337 (k0_pay7 t) w b))) (k0_pay366 (k0_pay347 (k0_pay8 cm) (k0_pay328 q) (k0_pay334 (k0_pay7 t) w b) (k0_pay337 (k0_pay7 t) w b))) (k0_pay368 (k0_pay344 (k0_pay334 (k0_pay7 t) w b) (k0_pay337 (k0_pay7 t) w b))) (k0_pay380 d) (k0_pay381 d) (k0_pay386 (k0_pay372 (k0_pay347 (k0_pay8 cm) (k0_pay328 q) (k0_pay334 (k0_pay7 t) w b) (k0_pay337 (k0_pay7 t) w b))) (k0_pay374 (k0_pay345 (k0_pay334 (k0_pay7 t) w b) (k0_pay337 (k0_pay7 t) w b))) (k0_pay377 d) (k0_pay378 a))))) = kValues q k d t w b cm mk a := rfl

/-- What head 0 stores as its state's gradient is the one formula of its loads. -/
theorem state_0 (q : Vec Ideal S256x128 .bf16) (d : Vec Ideal S256x256 .bf16) (t : Vec Ideal S256x128 .bf16) (w : Vec Ideal S1x128x128 .f32) (b : Vec Ideal S1x1x128 .f32) (cm : Vec Ideal S256x256 .f32) (a : Vec Ideal S1x128x256 .f32) :
    (k0_pay115 (k0_pay87 (k0_pay40 (k0_pay10 q) (k0_pay23 (k0_pay8 cm) (k0_pay15 t w b) (k0_pay16 t w b))) (k0_pay42 (k0_pay24 (k0_pay15 t w b) (k0_pay16 t w b))) (k0_pay46 (k0_pay10 q) (k0_pay23 (k0_pay8 cm) (k0_pay15 t w b) (k0_pay16 t w b))) (k0_pay48 (k0_pay25 (k0_pay15 t w b) (k0_pay16 t w b))) (k0_pay63 d) (k0_pay64 d) (k0_pay77 (k0_pay52 (k0_pay10 q) (k0_pay23 (k0_pay8 cm) (k0_pay15 t w b) (k0_pay16 t w b))) (k0_pay54 (k0_pay26 (k0_pay15 t w b) (k0_pay16 t w b))) (k0_pay65 d) (k0_pay72 (k0_pay27 (k0_pay15 t w b) (k0_pay16 t w b)) (k0_pay33 (k0_pay10 q) (k0_pay23 (k0_pay8 cm) (k0_pay15 t w b) (k0_pay16 t w b))) d a)))) = kState q d t w b cm a := rfl

/-- What head 1 stores as its state's gradient is the one formula of its loads. -/
theorem state_1 (q : Vec Ideal S256x128 .bf16) (d : Vec Ideal S256x256 .bf16) (t : Vec Ideal S256x128 .bf16) (w : Vec Ideal S1x128x128 .f32) (b : Vec Ideal S1x1x128 .f32) (cm : Vec Ideal S256x256 .f32) (a : Vec Ideal S1x128x256 .f32) :
    (k0_pay223 (k0_pay196 (k0_pay147 (k0_pay138 (k0_pay8 cm) (k0_pay116 q) (k0_pay121 (k0_pay7 t) w b) (k0_pay122 (k0_pay7 t) w b)) k0_pay139) (k0_pay149 (k0_pay132 (k0_pay121 (k0_pay7 t) w b) (k0_pay122 (k0_pay7 t) w b))) (k0_pay153 (k0_pay138 (k0_pay8 cm) (k0_pay116 q) (k0_pay121 (k0_pay7 t) w b) (k0_pay122 (k0_pay7 t) w b)) k0_pay139) (k0_pay172 d) (k0_pay173 d) (k0_pay190 (k0_pay155 (k0_pay133 (k0_pay121 (k0_pay7 t) w b) (k0_pay122 (k0_pay7 t) w b))) (k0_pay159 (k0_pay138 (k0_pay8 cm) (k0_pay116 q) (k0_pay121 (k0_pay7 t) w b) (k0_pay122 (k0_pay7 t) w b)) k0_pay139) (k0_pay161 (k0_pay134 (k0_pay121 (k0_pay7 t) w b) (k0_pay122 (k0_pay7 t) w b))) (k0_pay174 d) (k0_pay181 (k0_pay165 (k0_pay138 (k0_pay8 cm) (k0_pay116 q) (k0_pay121 (k0_pay7 t) w b) (k0_pay122 (k0_pay7 t) w b)) k0_pay139) (k0_pay167 (k0_pay135 (k0_pay121 (k0_pay7 t) w b) (k0_pay122 (k0_pay7 t) w b))) d a)))) = kState q d t w b cm a := rfl

/-- What head 2 stores as its state's gradient is the one formula of its loads. -/
theorem state_2 (q : Vec Ideal S256x128 .bf16) (d : Vec Ideal S256x256 .bf16) (t : Vec Ideal S256x128 .bf16) (w : Vec Ideal S1x128x128 .f32) (b : Vec Ideal S1x1x128 .f32) (cm : Vec Ideal S256x256 .f32) (a : Vec Ideal S1x128x256 .f32) :
    (k0_pay327 (k0_pay301 (k0_pay251 (k0_pay244 (k0_pay8 cm) (k0_pay224 q) (k0_pay230 (k0_pay7 t) w b) (k0_pay232 (k0_pay7 t) w b))) (k0_pay253 (k0_pay238 (k0_pay230 (k0_pay7 t) w b) (k0_pay232 (k0_pay7 t) w b))) (k0_pay276 (k0_pay274 d)) (k0_pay293 (k0_pay259 (k0_pay239 (k0_pay230 (k0_pay7 t) w b) (k0_pay232 (k0_pay7 t) w b))) (k0_pay263 (k0_pay244 (k0_pay8 cm) (k0_pay224 q) (k0_pay230 (k0_pay7 t) w b) (k0_pay232 (k0_pay7 t) w b))) (k0_pay265 (k0_pay240 (k0_pay230 (k0_pay7 t) w b) (k0_pay232 (k0_pay7 t) w b))) (k0_pay278 (k0_pay274 d)) (k0_pay284 (k0_pay269 (k0_pay244 (k0_pay8 cm) (k0_pay224 q) (k0_pay230 (k0_pay7 t) w b) (k0_pay232 (k0_pay7 t) w b))) (k0_pay271 (k0_pay241 (k0_pay230 (k0_pay7 t) w b) (k0_pay232 (k0_pay7 t) w b))) (k0_pay274 d) a)) (k0_pay296 (k0_pay257 (k0_pay244 (k0_pay8 cm) (k0_pay224 q) (k0_pay230 (k0_pay7 t) w b) (k0_pay232 (k0_pay7 t) w b)))) (k0_pay297 (k0_pay277 (k0_pay274 d))))) = kState q d t w b cm a := rfl

/-- What head 3 stores as its state's gradient is the one formula of its loads. -/
theorem state_3 (q : Vec Ideal S256x128 .bf16) (d : Vec Ideal S256x256 .bf16) (t : Vec Ideal S256x128 .bf16) (w : Vec Ideal S1x128x128 .f32) (b : Vec Ideal S1x1x128 .f32) (cm : Vec Ideal S256x256 .f32) (a : Vec Ideal S1x128x256 .f32) :
    (k0_pay3 (k0_pay401 (k0_pay354 (k0_pay347 (k0_pay8 cm) (k0_pay328 q) (k0_pay334 (k0_pay7 t) w b) (k0_pay337 (k0_pay7 t) w b))) (k0_pay356 (k0_pay342 (k0_pay334 (k0_pay7 t) w b) (k0_pay337 (k0_pay7 t) w b))) (k0_pay379 d) (k0_pay397 (k0_pay360 (k0_pay347 (k0_pay8 cm) (k0_pay328 q) (k0_pay334 (k0_pay7 t) w b) (k0_pay337 (k0_pay7 t) w b))) (k0_pay362 (k0_pay343 (k0_pay334 (k0_pay7 t) w b) (k0_pay337 (k0_pay7 t) w b))) (k0_pay366 (k0_pay347 (k0_pay8 cm) (k0_pay328 q) (k0_pay334 (k0_pay7 t) w b) (k0_pay337 (k0_pay7 t) w b))) (k0_pay368 (k0_pay344 (k0_pay334 (k0_pay7 t) w b) (k0_pay337 (k0_pay7 t) w b))) (k0_pay380 d) (k0_pay381 d) (k0_pay386 (k0_pay372 (k0_pay347 (k0_pay8 cm) (k0_pay328 q) (k0_pay334 (k0_pay7 t) w b) (k0_pay337 (k0_pay7 t) w b))) (k0_pay374 (k0_pay345 (k0_pay334 (k0_pay7 t) w b) (k0_pay337 (k0_pay7 t) w b))) (k0_pay377 d) (k0_pay378 a))))) = kState q d t w b cm a := rfl

variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x128 .bf16) (harg5 : arg5.IsWhole) (arg6 : Memref sig .tc .vmem S4x128x128 .f32) (harg6 : arg6.IsWhole) (arg7 : Memref sig .tc .vmem S4x1x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S4x1x128x256 .f32) (harg10 : arg10.IsWhole) (arg11 : Memref sig .tc .vmem S256x1024 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x1024 .bf16) (harg14 : arg14.IsWhole) (arg15 : Memref sig .tc .vmem S4x256x128 .bf16) (harg15 : arg15.IsWhole) (arg16 : Memref sig .tc .vmem S4x128x128 .f32) (harg16 : arg16.IsWhole) (arg17 : Memref sig .tc .vmem S4x1x128 .f32) (harg17 : arg17.IsWhole) (arg18 : Memref sig .tc .vmem S4x128x256 .f32) (harg18 : arg18.IsWhole)
    (x8 : Vec Ideal S4x1x128x256 .f32) (xo14 : Vec Ideal S4x128x128 .f32) (xo15 : Vec Ideal S4x1x128 .f32)

/-- The block of the gradient of the keys, at the last group, where nothing has been carried yet. -/
theorem outA_keys (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = blockKeys x0 x2 x3 x4 x5 x6 x7 x9 (k0_pay4 (F := Ideal)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  funext y
  refine View.canon_apply_of_pieces _ _ (View.PiecesOf.mem ?_) y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 y)
  unfold kernelRun0_A
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero, View.ld_unit_zero (S := S256x256) off_zero]
  exact ⟨fun x => (congrFun (keys_3 _ _ _ _ _ _ _ _ _) x).trans (pieceKeys x0 x2 x3 x4 x5 x6 x7 x9 (k0_pay4 (F := Ideal)) 3 384 rfl inb_S256x512_S256x128_0_384 x), fun x => (congrFun (keys_2 _ _ _ _ _ _ _ _ _) x).trans (pieceKeys x0 x2 x3 x4 x5 x6 x7 x9 (k0_pay4 (F := Ideal)) 2 256 rfl inb_S256x512_S256x128_0_256 x), fun x => (congrFun (keys_1 _ _ _ _ _ _ _ _ _) x).trans (pieceKeys x0 x2 x3 x4 x5 x6 x7 x9 (k0_pay4 (F := Ideal)) 1 128 rfl inb_S256x512_S256x128_0_128 x), fun x => (congrFun (keys_0 _ _ _ _ _ _ _ _ _) x).trans (pieceKeys x0 x2 x3 x4 x5 x6 x7 x9 (k0_pay4 (F := Ideal)) 0 0 rfl inb_S256x512_S256x128_0_0 x), trivial⟩

/-- The block of the gradient of the values, at the last group, where nothing has been carried yet. -/
theorem outA_values (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = blockValues x0 x1 x3 x4 x5 x6 x7 x9 (k0_pay4 (F := Ideal)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  funext y
  refine View.canon_apply_of_pieces _ _ (View.PiecesOf.mem ?_) y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 y)
  unfold kernelRun0_A
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero, View.ld_unit_zero (S := S256x256) off_zero]
  exact ⟨fun x => (congrFun (values_3 _ _ _ _ _ _ _ _ _) x).trans (pieceValues x0 x1 x3 x4 x5 x6 x7 x9 (k0_pay4 (F := Ideal)) 3 768 rfl inb_S256x1024_S256x256_0_768 x), fun x => (congrFun (values_2 _ _ _ _ _ _ _ _ _) x).trans (pieceValues x0 x1 x3 x4 x5 x6 x7 x9 (k0_pay4 (F := Ideal)) 2 512 rfl inb_S256x1024_S256x256_0_512 x), fun x => (congrFun (values_1 _ _ _ _ _ _ _ _ _) x).trans (pieceValues x0 x1 x3 x4 x5 x6 x7 x9 (k0_pay4 (F := Ideal)) 1 256 rfl inb_S256x1024_S256x256_0_256 x), fun x => (congrFun (values_0 _ _ _ _ _ _ _ _ _) x).trans (pieceValues x0 x1 x3 x4 x5 x6 x7 x9 (k0_pay4 (F := Ideal)) 0 0 rfl inb_S256x1024_S256x256_0_0 x), trivial⟩

/-- The state's gradient carried on, at the last group, where nothing has been carried yet. -/
theorem outA_state (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 = blockState x0 x3 x4 x5 x6 x9 (k0_pay4 (F := Ideal)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9)]
  unfold kernelRun0_A
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero]
  exact heads_state _ _ _ _ _ _ (fun x => (congrFun (state_3 _ _ _ _ _ _ _) x).trans (pieceState x0 x3 x4 x5 x6 x9 (k0_pay4 (F := Ideal)) 3 3 rfl inb_S4x128x256_S1x128x256_3_0_0 x)) (fun x => (congrFun (state_2 _ _ _ _ _ _ _) x).trans (pieceState x0 x3 x4 x5 x6 x9 (k0_pay4 (F := Ideal)) 2 2 rfl inb_S4x128x256_S1x128x256_2_0_0 x)) (fun x => (congrFun (state_1 _ _ _ _ _ _ _) x).trans (pieceState x0 x3 x4 x5 x6 x9 (k0_pay4 (F := Ideal)) 1 1 rfl inb_S4x128x256_S1x128x256_1_0_0 x)) (fun x => (congrFun (state_0 _ _ _ _ _ _ _) x).trans (pieceState x0 x3 x4 x5 x6 x9 (k0_pay4 (F := Ideal)) 0 0 rfl inb_S4x128x256_S1x128x256_0_0_0 x))

/-- The block of the gradient of the keys, at an earlier group. -/
theorem outB_keys (hc0 : ¬cond0_0 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo14 xo15 a = blockKeys x0 x2 x3 x4 x5 x6 x7 x9 a := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo14 xo15 a)]
  funext y
  refine View.canon_apply_of_pieces _ _ (View.PiecesOf.mem ?_) y (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo14 xo15 a y)
  unfold kernelRun0_B
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero, View.ld_unit_zero (S := S256x256) off_zero]
  exact ⟨fun x => (congrFun (keys_3 _ _ _ _ _ _ _ _ _) x).trans (pieceKeys x0 x2 x3 x4 x5 x6 x7 x9 a 3 384 rfl inb_S256x512_S256x128_0_384 x), fun x => (congrFun (keys_2 _ _ _ _ _ _ _ _ _) x).trans (pieceKeys x0 x2 x3 x4 x5 x6 x7 x9 a 2 256 rfl inb_S256x512_S256x128_0_256 x), fun x => (congrFun (keys_1 _ _ _ _ _ _ _ _ _) x).trans (pieceKeys x0 x2 x3 x4 x5 x6 x7 x9 a 1 128 rfl inb_S256x512_S256x128_0_128 x), fun x => (congrFun (keys_0 _ _ _ _ _ _ _ _ _) x).trans (pieceKeys x0 x2 x3 x4 x5 x6 x7 x9 a 0 0 rfl inb_S256x512_S256x128_0_0 x), trivial⟩

/-- The block of the gradient of the values, at an earlier group. -/
theorem outB_values (hc0 : ¬cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo14 xo15 a = blockValues x0 x1 x3 x4 x5 x6 x7 x9 a := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo14 xo15 a)]
  funext y
  refine View.canon_apply_of_pieces _ _ (View.PiecesOf.mem ?_) y (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo14 xo15 a y)
  unfold kernelRun0_B
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero, View.ld_unit_zero (S := S256x256) off_zero]
  exact ⟨fun x => (congrFun (values_3 _ _ _ _ _ _ _ _ _) x).trans (pieceValues x0 x1 x3 x4 x5 x6 x7 x9 a 3 768 rfl inb_S256x1024_S256x256_0_768 x), fun x => (congrFun (values_2 _ _ _ _ _ _ _ _ _) x).trans (pieceValues x0 x1 x3 x4 x5 x6 x7 x9 a 2 512 rfl inb_S256x1024_S256x256_0_512 x), fun x => (congrFun (values_1 _ _ _ _ _ _ _ _ _) x).trans (pieceValues x0 x1 x3 x4 x5 x6 x7 x9 a 1 256 rfl inb_S256x1024_S256x256_0_256 x), fun x => (congrFun (values_0 _ _ _ _ _ _ _ _ _) x).trans (pieceValues x0 x1 x3 x4 x5 x6 x7 x9 a 0 0 rfl inb_S256x1024_S256x256_0_0 x), trivial⟩

/-- The state's gradient carried on, at an earlier group. -/
theorem outB_state (hc0 : ¬cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo14 xo15 a = blockState x0 x3 x4 x5 x6 x9 a := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xo14 xo15 a)]
  unfold kernelRun0_B
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero]
  exact heads_state _ _ _ _ _ _ (fun x => (congrFun (state_3 _ _ _ _ _ _ _) x).trans (pieceState x0 x3 x4 x5 x6 x9 a 3 3 rfl inb_S4x128x256_S1x128x256_3_0_0 x)) (fun x => (congrFun (state_2 _ _ _ _ _ _ _) x).trans (pieceState x0 x3 x4 x5 x6 x9 a 2 2 rfl inb_S4x128x256_S1x128x256_2_0_0 x)) (fun x => (congrFun (state_1 _ _ _ _ _ _ _) x).trans (pieceState x0 x3 x4 x5 x6 x9 a 1 1 rfl inb_S4x128x256_S1x128x256_1_0_0 x)) (fun x => (congrFun (state_0 _ _ _ _ _ _ _) x).trans (pieceState x0 x3 x4 x5 x6 x9 a 0 0 rfl inb_S4x128x256_S1x128x256_0_0_0 x))

/-- The zero state the sweep starts from. -/
theorem zero_apply (y : S4x128x256.Idx) : k0_pay4 (F := Ideal) y = 0 := by pointwise [k0_pay4]

end Cert.Gla

end
-- ==== Proof.GlaSpec.lean ====
/-
  The gradients of the keys and of the values of the gated linear attention over all tokens and heads, as formulas in the four
  argument arrays.
-/
module

public import proofs.«01_k».proof.Proof.GlaChunk
public import proofs.«01_k».proof.Proof.GlaBlock

@[expose] public section

set_option maxRecDepth 16384

noncomputable section

open Idealize.ShloMosaic

namespace Cert.Gla

/-- The arrays of the statement: the projections, the gates' weight and bias, the incoming gradient. -/
abbrev ArrP := (⟨2, ![8192, 5376]⟩ : Shape).Idx → EReal
abbrev ArrW := (⟨2, ![16, 512]⟩ : Shape).Idx → EReal
abbrev ArrB := (⟨1, ![512]⟩ : Shape).Idx → EReal
abbrev ArrD := (⟨2, ![8192, 1024]⟩ : Shape).Idx → EReal

/-- Token `i` of chunk `n`; the chunk of a token, and its place in it. -/
def tok (n : Fin 128) (i : Fin 64) : Fin 8192 := ⟨64 * n.val + i.val, by omega⟩
def chunkOf (r : Fin 8192) : Fin 128 := ⟨r.val / 64, by omega⟩
def placeOf (r : Fin 8192) : Fin 64 := ⟨r.val % 64, by omega⟩

theorem chunkOf_tok (n : Fin 128) (i : Fin 64) : chunkOf (tok n i) = n := Fin.ext (by simp only [chunkOf, tok]; omega)
theorem placeOf_tok (n : Fin 128) (i : Fin 64) : placeOf (tok n i) = i := Fin.ext (by simp only [placeOf, tok]; omega)
theorem tok_eta (r : Fin 8192) : tok (chunkOf r) (placeOf r) = r := Fin.ext (by simp only [tok, chunkOf, placeOf]; omega)

variable (P : ArrP) (W : ArrW) (B : ArrB) (D : ArrD)

/-- One head's queries, keys, values, incoming gradient and gates' logarithms. -/
def qOf (h : Fin 4) : Chunks 128 := fun n i j => P (ix2 (tok n i) ⟨128 * h.val + j.val, by omega⟩)
def kOf (h : Fin 4) : Chunks 128 := fun n i j => P (ix2 (tok n i) ⟨512 + (128 * h.val + j.val), by omega⟩)
def vOf (h : Fin 4) : Chunks 256 := fun n i e => P (ix2 (tok n i) ⟨1024 + (256 * h.val + e.val), by omega⟩)
def dOf (h : Fin 4) : Chunks 256 := fun n i e => D (ix2 (tok n i) (colV h e))
def lOf (h : Fin 4) : Chunks 128 := fun n i j =>
  gateLog (∑ x : Fin 16, P (ix2 (tok n i) ⟨5120 + x.val, by omega⟩) * W (ix2 x (colK h j)) + B (ix1 (colK h j)))

theorem lOf_ne_top (h : Fin 4) (n : Fin 128) (i : Fin 64) (j : Fin 128) : lOf P W B h n i j ≠ ⊤ := gateLog_ne_top _

/-- The gradient of the keys. -/
def gradKeys : (⟨2, ![8192, 512]⟩ : Shape).Idx → EReal := fun y =>
  keysGrad (qOf P (headK (y 1))) (lOf P W B (headK (y 1))) (vOf P (headK (y 1))) (dOf D (headK (y 1))) (chunkOf (y 0)) (placeOf (y 0)) (laneK (y 1))

/-- The gradient of the values. -/
def gradValues : (⟨2, ![8192, 1024]⟩ : Shape).Idx → EReal := fun y =>
  valuesGrad (qOf P (headV (y 1))) (kOf P (headV (y 1))) (lOf P W B (headV (y 1))) (dOf D (headV (y 1))) (chunkOf (y 0)) (placeOf (y 0)) (laneV (y 1))

end Cert.Gla

end
-- ==== Proof.GlaArray.lean ====
/-
  What the gated linear attention's backward kernel leaves in the arrays of the gradients of the keys and of the values, entry by
  entry: the state's gradient is carried from group to group, from the last to the first.
-/
module

public import proofs.«01_k».proof.Proof.GlaSpec
public import Idealize.ShloMosaic.Lib.Pipeline.ValueKit
public import Idealize.ShloMosaic.Lib.Tactic
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Gla

open Cert.GlaIdeal Cert.GlaIdeal.Gen

variable (m : (ℓ : Loc nD τ sig) → Buf (Elt Ideal) ℓ) (c : Dev nD)

/-- The four arguments, as arrays. -/
abbrev argP : Vec Ideal S8192x5376 .bf16 := m ((c.tc : Thread nD τ).loc main_arg0)
abbrev argW : Vec Ideal S16x512 .f32 := m ((c.tc : Thread nD τ).loc main_arg1)
abbrev argB : Vec Ideal S512 .f32 := m ((c.tc : Thread nD τ).loc main_arg2)
abbrev argD : Vec Ideal S8192x1024 .bf16 := m ((c.tc : Thread nD τ).loc main_arg4)

/-- The gates' weight as the host prepares it: head by head, with rows of zeros below. -/
theorem hostW (h : Fin 4) (x j : Fin 128) : (show Vec Ideal S4x128x128 .f32 from V m c main_v2) (ix3 h x j)
    = if hx : x.val < 16 then argW m c (ix2 ⟨x.val, hx⟩ (colK h j)) else 0 := by
  have e : V m c main_v2 = pad S4x128x128 ![0, 0, 0] ![0, 112, 0] ![0, 0, 0] (transpose S4x16x128 [1, 0, 2] (shapeCast S16x4x128 (m ((c.tc : Thread nD τ).loc main_arg1)) shapeCasts_S16x512_S16x4x128) transposes_S16x4x128_S4x16x128_1_0_2)
      (sitofp (F := Ideal) .f32 (constantI S_ 32 0#32)) pads_S4x16x128_S4x128x128_000_01120_000 h_S_ := by
    unfold V; simp only [hostOps0, hostOps0_1, hostOps0_2, List.flatten_cons, List.flatten_nil, List.append_nil, List.cons_append, List.nil_append]; after_results <;> rfl
  rw [e]
  pointwise
  split
  · exact congrArg (argW m c) (congrArg (ix2 _) (Fin.ext (by show h.val * 128 + j.val = 128 * h.val + j.val; omega)))
  · simp [FloatOps.sitofp]

/-- The gates' bias as the host prepares it: head by head. -/
theorem hostB (h : Fin 4) (j : Fin 128) : (show Vec Ideal S4x1x128 .f32 from V m c main_v3) (ix3 h 0 j) = argB m c (ix1 (colK h j)) := by
  have e : V m c main_v3 = shapeCast S4x1x128 (m ((c.tc : Thread nD τ).loc main_arg2)) shapeCasts_S512_S4x1x128 := by
    unfold V; simp only [hostOps0, hostOps0_1, hostOps0_2, List.flatten_cons, List.flatten_nil, List.append_nil, List.cons_append, List.nil_append]; after_results <;> rfl
  rw [e]
  pointwise
  exact congrArg (argB m c) (congrArg ix1 (Fin.ext (by show h.val * 128 + j.val = 128 * h.val + j.val; omega)))

/-- The host's matrix of zeros and ones sums up to a token within its chunk. -/
theorem hostC : Lower (mat (show Vec Ideal S256x256 .f32 from V m c main_v19)) := by
  intro g i g' i'
  have e : V m c main_v19 = uitofp (F := Ideal) .f32 (andi (cmpi .eq (broadcastInDim S256x256 ![0, 1] bcast_S256x1_S256x256_0_1 (broadcastInDim S256x1 ![0] bcast_S256_S256x1_0 (shapeCast S256 (broadcastInDim S4x64 ![0] bcast_S4_S4x64_0 (iotaInDim S4 32 0)) shapeCasts_S4x64_S256))) (broadcastInDim S256x256 ![0, 1] bcast_S1x256_S256x256_0_1 (broadcastInDim S1x256 ![1] bcast_S256_S1x256_1 (shapeCast S256 (broadcastInDim S4x64 ![0] bcast_S4_S4x64_0 (iotaInDim S4 32 0)) shapeCasts_S4x64_S256)))) (cmpi .sle (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0))))) := by
    unfold V; simp only [hostOps0, hostOps0_1, hostOps0_2, List.flatten_cons, List.flatten_nil, List.append_nil, List.cons_append, List.nil_append]; after_results <;> rfl
  show (show Vec Ideal S256x256 .f32 from V m c main_v19) (ix2 (row g i) (row g' i')) = _
  rw [e]
  pointwise
  have hi := i.isLt
  have hi' := i'.isLt
  have hg := g.isLt
  have hg' := g'.isLt
  have e1 : (row g i).val / 64 = g.val := by rw [row_val]; omega
  have e2 : (row g' i').val / 64 = g'.val := by rw [row_val]; omega
  rw [e1, e2, WordCmp.cmpi_eq_ofNat (by omega) (by omega), WordCmp.cmpi_sle_ofNat (by rw [row_val]; omega) (by rw [row_val]; omega), row_val, row_val]
  by_cases hh : g = g' ∧ i' ≤ i
  · obtain ⟨rfl, h⟩ := hh
    have h' : 64 * g.val + i'.val ≤ 64 * g.val + i.val := by have : i'.val ≤ i.val := h; omega
    rw [if_pos ⟨rfl, h⟩, decide_eq_true rfl, decide_eq_true h']
    simp [FloatOps.uitofp, IntOp.andi]
  · rw [if_neg hh]
    have : decide (g.val = g'.val) = false ∨ decide (64 * g'.val + i'.val ≤ 64 * g.val + i.val) = false := by
      by_cases hgg : g.val = g'.val
      · refine Or.inr (decide_eq_false fun h => hh ⟨Fin.ext hgg, ?_⟩)
        show i'.val ≤ i.val
        omega
      · exact Or.inl (decide_eq_false hgg)
    rcases this with h | h <;> rw [h] <;> simp [FloatOps.uitofp, IntOp.andi]

theorem idx0 : ∀ t : Fin cfg0.N, win0_0.index t = ![31 - t.val, 0] := (by decide +kernel : ∀ t : Fin grid0.N, win0_0.index t = ![31 - t.val, 0])
theorem idx1 : ∀ t : Fin cfg0.N, win0_1.index t = ![31 - t.val, 1] := (by decide +kernel : ∀ t : Fin grid0.N, win0_1.index t = ![31 - t.val, 1])
theorem idx2 : ∀ t : Fin cfg0.N, win0_2.index t = ![31 - t.val, 1] := (by decide +kernel : ∀ t : Fin grid0.N, win0_2.index t = ![31 - t.val, 1])
theorem idx3 : ∀ t : Fin cfg0.N, win0_3.index t = ![31 - t.val, 40] := (by decide +kernel : ∀ t : Fin grid0.N, win0_3.index t = ![31 - t.val, 40])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx9 : ∀ t : Fin cfg0.N, win0_9.index t = ![31 - t.val, 0] := (by decide +kernel : ∀ t : Fin grid0.N, win0_9.index t = ![31 - t.val, 0])
theorem idx11 : ∀ t : Fin cfg0.N, win0_11.index t = ![31 - t.val, 0] := (by decide +kernel : ∀ t : Fin grid0.N, win0_11.index t = ![31 - t.val, 0])
theorem idx12 : ∀ t : Fin cfg0.N, win0_12.index t = ![31 - t.val, 0] := (by decide +kernel : ∀ t : Fin grid0.N, win0_12.index t = ![31 - t.val, 0])

/-- A grid point as a step number, and the token at a row of its group. -/
def stepNo (t : Fin cfg0.N) : Fin 32 := ⟨t.val, by have := t.isLt; have : cfg0.N = 32 := N_0; omega⟩
def rowTok (t : Fin 32) (r : Fin 256) : Fin 8192 := ⟨256 * (31 - t.val) + r.val, by omega⟩

theorem rowTok_row (t : Fin 32) (g : Fin 4) (i : Fin 64) : rowTok t (row g i) = tok (chunkNo t g) i :=
  Fin.ext (by show 256 * (31 - t.val) + (64 * g.val + i.val) = 64 * (4 * (31 - t.val) + g.val) + i.val; omega)

variable (t : Fin cfg0.N)

theorem blockQ (r : Fin 256) (j : Fin 512) : (X0_0 m c t : Vec Ideal S256x512 .bf16) (ix2 r j) = argP m c (ix2 (rowTok (stepNo t) r) ⟨j.val, by omega⟩) := by
  unfold X0_0 Pipeline.Window.fill
  rw [dif_pos (moved0_0 t _)]
  blk_simp [iblk]
  rw [V_main_arg0]
  congr 1
  blk_ext [idx0, rowTok, stepNo]

theorem blockT (r : Fin 256) (x : Fin 128) : (iblk m c 3 t : Vec Ideal S256x128 .bf16) (ix2 r x) = argP m c (ix2 (rowTok (stepNo t) r) ⟨5120 + x.val, by omega⟩) := by
  blk_simp [iblk]
  rw [V_main_arg0]
  congr 1
  blk_ext [idx3, rowTok, stepNo]

theorem blockW : (iblk m c 4 t : Vec Ideal S4x128x128 .f32) = V m c main_v2 := by
  funext y
  blk_simp [iblk]
  congr 1
  blk_ext [idx4]

theorem blockK (r : Fin 256) (j : Fin 512) : (X0_1 m c t : Vec Ideal S256x512 .bf16) (ix2 r j) = argP m c (ix2 (rowTok (stepNo t) r) ⟨512 + j.val, by omega⟩) := by
  unfold X0_1 Pipeline.Window.fill
  rw [dif_pos (moved0_1 t _)]
  blk_simp [iblk]
  rw [V_main_arg0]
  congr 1
  blk_ext [idx1, rowTok, stepNo]

theorem blockV (r : Fin 256) (e : Fin 1024) : (X0_2 m c t : Vec Ideal S256x1024 .bf16) (ix2 r e) = argP m c (ix2 (rowTok (stepNo t) r) ⟨1024 + e.val, by omega⟩) := by
  unfold X0_2 Pipeline.Window.fill
  rw [dif_pos (moved0_2 t _)]
  blk_simp [iblk]
  rw [V_main_arg0]
  congr 1
  blk_ext [idx2, rowTok, stepNo]

theorem blockD (r : Fin 256) (e : Fin 1024) : (iblk m c 9 t : Vec Ideal S256x1024 .bf16) (ix2 r e) = argD m c (ix2 (rowTok (stepNo t) r) e) := by
  blk_simp [iblk]
  rw [V_main_arg4]
  congr 1
  blk_ext [idx9, rowTok, stepNo]

theorem blockB : (iblk m c 5 t : Vec Ideal S4x1x128 .f32) = V m c main_v3 := by
  funext y
  blk_simp [iblk]
  congr 1
  blk_ext [idx5]

theorem blockC : (iblk m c 6 t : Vec Ideal S256x256 .f32) = V m c main_v19 := by
  funext y
  blk_simp [iblk]
  congr 1
  blk_ext [idx6]

theorem blockM : (iblk m c 7 t : Vec Ideal S256x256 .f32) = V m c main_v19 := by
  funext y
  blk_simp [iblk]
  congr 1
  blk_ext [idx7]

/-- A sum of products with weights that are nothing past the sixteenth. -/
theorem sum_padded (f : Fin 128 → EReal) (g : Fin 16 → EReal) :
    ∑ x : Fin 128, f x * (if h : x.val < 16 then g ⟨x.val, h⟩ else 0) = ∑ x : Fin 16, f ⟨x.val, by omega⟩ * g x := by
  refine (Fin.sum_univ_add (a := 16) (b := 112) fun x : Fin (16 + 112) => f x * (if h : x.val < 16 then g ⟨x.val, h⟩ else 0)).trans ?_
  rw [Finset.sum_eq_zero (s := (Finset.univ : Finset (Fin 112))) fun x _ => ?_, add_zero]
  · refine Finset.sum_congr rfl fun x _ => ?_
    rw [dif_pos (show (Fin.castAdd 112 x).val < 16 from x.isLt)]
    rfl
  · rw [dif_neg (show ¬(Fin.natAdd 16 x).val < 16 by simp), mul_zero]

/-- One head's gates' logarithms over the step's group. -/
theorem is_logs (h : Fin 4) : Is (stepNo t) (logs (iblk m c 3 t) (cutW (iblk m c 4 t) h) (cutB (iblk m c 5 t) h)) (lOf (argP m c) (argW m c) (argB m c) h) := by
  intro g i j
  unfold logs lOf
  rw [blockW, blockB]
  refine congrArg gateLog (congrArg₂ (fun a b : EReal => a + b) ?_ (hostB m c h j))
  refine Eq.trans (Finset.sum_congr rfl fun x _ => ?_) (sum_padded (fun x => argP m c (ix2 (tok (chunkNo (stepNo t) g) i) ⟨5120 + x.val, by omega⟩)) (fun x => argW m c (ix2 x (colK h j))))
  exact congrArg₂ (fun a b : EReal => a * b) ((blockT m c t (row g i) x).trans (by rw [rowTok_row])) (hostW m c h x j)

theorem is_q (h : Fin 4) : Is (stepNo t) (mat (cutK (X0_0 m c t) h)) (qOf (argP m c) h) := fun g i j =>
  (blockQ m c t (row g i) (colK h j)).trans (by rw [rowTok_row]; rfl)

theorem is_k (h : Fin 4) : Is (stepNo t) (mat (cutK (X0_1 m c t) h)) (kOf (argP m c) h) := fun g i j =>
  (blockK m c t (row g i) (colK h j)).trans (by rw [rowTok_row]; rfl)

theorem is_v (h : Fin 4) : Is (stepNo t) (mat (cutV (X0_2 m c t) h)) (vOf (argP m c) h) := fun g i e =>
  (blockV m c t (row g i) (colV h e)).trans (by rw [rowTok_row]; rfl)

theorem is_d (h : Fin 4) : Is (stepNo t) (mat (cutV (iblk m c 9 t) h)) (dOf (argD m c) h) := fun g i e =>
  (blockD m c t (row g i) (colV h e)).trans (by rw [rowTok_row]; rfl)

theorem lower_c : Lower (mat (iblk m c 6 t : Vec Ideal S256x256 .f32)) := by rw [blockC]; exact hostC m c
theorem lower_m : Lower (mat (iblk m c 7 t : Vec Ideal S256x256 .f32)) := by rw [blockM]; exact hostC m c

/-- One head's state gradient after the last `n` chunks. -/
abbrev stateOf (h : Fin 4) (n : ℕ) : Grid 128 256 := carried (qOf (argP m c) h) (lOf (argP m c) (argW m c) (argB m c) h) (dOf (argD m c) h) n

variable (a : Vec Ideal S4x128x256 .f32) (ha : ∀ h j e, a (ix3 h j e) = stateOf m c h (4 * t.val) j e)

include ha in
theorem block_state (y : S4x128x256.Idx) :
    blockState (X0_0 m c t) (iblk m c 3 t) (iblk m c 4 t) (iblk m c 5 t) (iblk m c 6 t) (iblk m c 9 t) a y = stateOf m c (y 0) (4 * (t.val + 1)) (y 1) (y 2) := by
  refine (kState_apply _ _ _ _ _ _ _ (y 1) (y 2)).trans ?_
  exact congrFun (congrFun (held_eq (lower_c m c t) (is_logs m c t (y 0)) (lOf_ne_top _ _ _ _) (is_q m c t (y 0)) (is_d m c t (y 0))
    (sA (cutS a (y 0))) (funext fun j => funext fun e => ha (y 0) j e) 4 le_rfl) (y 1)) (y 2)

theorem row_eta (r : Fin 256) : row ⟨r.val / 64, by omega⟩ ⟨r.val % 64, by omega⟩ = r := Fin.ext (by show 64 * (r.val / 64) + r.val % 64 = r.val; omega)

include ha in
theorem block_keys (y : S256x512.Idx) :
    blockKeys (X0_0 m c t) (X0_2 m c t) (iblk m c 3 t) (iblk m c 4 t) (iblk m c 5 t) (iblk m c 6 t) (iblk m c 7 t) (iblk m c 9 t) a y
      = gradKeys (argP m c) (argW m c) (argB m c) (argD m c) (ix2 (rowTok (stepNo t) (y 0)) (y 1)) := by
  obtain ⟨g, i, e⟩ : ∃ g i, y 0 = row g i := ⟨_, _, (row_eta (y 0)).symm⟩
  unfold blockKeys
  rw [e]
  refine (kKeys_apply _ _ _ _ _ _ _ _ _ g i (laneK (y 1))).trans ?_
  refine (keyOf_eq (lower_c m c t) (is_logs m c t (headK (y 1))) (lOf_ne_top _ _ _ _) (is_q m c t (headK (y 1))) (is_d m c t (headK (y 1)))
    (lower_m m c t) (is_v m c t (headK (y 1))) (sA (cutS a (headK (y 1)))) (funext fun j => funext fun e => ha (headK (y 1)) j e) g i (laneK (y 1))).trans ?_
  show _ = keysGrad _ _ _ _ (chunkOf (rowTok (stepNo t) (row g i))) (placeOf (rowTok (stepNo t) (row g i))) _
  rw [rowTok_row, chunkOf_tok, placeOf_tok]
  rfl

include ha in
theorem block_values (y : S256x1024.Idx) :
    blockValues (X0_0 m c t) (X0_1 m c t) (iblk m c 3 t) (iblk m c 4 t) (iblk m c 5 t) (iblk m c 6 t) (iblk m c 7 t) (iblk m c 9 t) a y
      = gradValues (argP m c) (argW m c) (argB m c) (argD m c) (ix2 (rowTok (stepNo t) (y 0)) (y 1)) := by
  obtain ⟨g, i, e⟩ : ∃ g i, y 0 = row g i := ⟨_, _, (row_eta (y 0)).symm⟩
  unfold blockValues
  rw [e]
  refine (kValues_apply _ _ _ _ _ _ _ _ _ g i (laneV (y 1))).trans ?_
  refine (valueOf_eq (lower_c m c t) (is_logs m c t (headV (y 1))) (lOf_ne_top _ _ _ _) (is_q m c t (headV (y 1))) (is_d m c t (headV (y 1)))
    (lower_m m c t) (is_k m c t (headV (y 1))) (sA (cutS a (headV (y 1)))) (funext fun j => funext fun e => ha (headV (y 1)) j e) g i (laneV (y 1))).trans ?_
  show _ = valuesGrad _ _ _ _ (chunkOf (rowTok (stepNo t) (row g i))) (placeOf (rowTok (stepNo t) (row g i))) _
  rw [rowTok_row, chunkOf_tok, placeOf_tok]
  rfl

/-- The zero state is the state's gradient after no chunk. -/
theorem zero_state (t : Fin cfg0.N) (h0 : t.val = 0) (h : Fin 4) (j : Fin 128) (e : Fin 256) : k0_pay4 (F := Ideal) (ix3 h j e) = stateOf m c h (4 * t.val) j e := by
  rw [zero_apply, h0]
  rfl

/-- What the carried state holds after a step. -/
theorem scratch_eq : ∀ (n : ℕ) (hn : n < cfg0.N) (y : S4x128x256.Idx),
    (outsAt0 m c n hn).2.2.2.2.2.2 y = stateOf m c (y 0) (4 * (n + 1)) (y 1) (y 2)
  | 0, hn, y => by
    rw [outsAt0_A m c ⟨0, hn⟩ rfl]
    dsimp only
    rw [outA_state]
    exact block_state m c ⟨0, hn⟩ _ (zero_state m c ⟨0, hn⟩ rfl) y
  | n + 1, hn, y => by
    have hN : cfg0.N = 32 := N_0
    rw [outsAt0_B m c ⟨n + 1, hn⟩ (by dsimp only; omega)]
    dsimp only
    rw [outB_state]
    exact block_state m c ⟨n + 1, hn⟩ _ (fun h j e => scratch_eq n (by omega) (ix3 h j e)) y

/-- What a step leaves in the block of the gradient of the keys, and of the values. -/
theorem keys_eq (y : S256x512.Idx) : (outsAt0 m c t.val t.isLt).2.1 y
    = gradKeys (argP m c) (argW m c) (argB m c) (argD m c) (ix2 (rowTok (stepNo t) (y 0)) (y 1)) := by
  have hN : cfg0.N = 32 := N_0
  have ht := t.isLt
  by_cases h0 : t.val % 32 = 0
  · rw [outsAt0_A m c t h0]
    dsimp only
    rw [outA_keys]
    exact block_keys m c t _ (zero_state m c t (by omega)) y
  · rw [outsAt0_B m c t h0]
    dsimp only
    rw [outB_keys]
    refine block_keys m c t _ (fun h j e => (scratch_eq m c (t.val - 1) (by omega) (ix3 h j e)).trans ?_) y
    rw [show t.val - 1 + 1 = t.val by omega]
    rfl

theorem values_eq (y : S256x1024.Idx) : (outsAt0 m c t.val t.isLt).2.2.1 y
    = gradValues (argP m c) (argW m c) (argB m c) (argD m c) (ix2 (rowTok (stepNo t) (y 0)) (y 1)) := by
  have hN : cfg0.N = 32 := N_0
  have ht := t.isLt
  by_cases h0 : t.val % 32 = 0
  · rw [outsAt0_A m c t h0]
    dsimp only
    rw [outA_values]
    exact block_values m c t _ (zero_state m c t (by omega)) y
  · rw [outsAt0_B m c t h0]
    dsimp only
    rw [outB_values]
    refine block_values m c t _ (fun h j e => (scratch_eq m c (t.val - 1) (by omega) (ix3 h j e)).trans ?_) y
    rw [show t.val - 1 + 1 = t.val by omega]
    rfl

/-- The array of the gradient of the keys after the run. -/
theorem final_keys : (dats m 0 c).arrAt 11 cfg0.N = gradKeys (argP m c) (argW m c) (argB m c) (argD m c) := by
  refine (dats m 0 c).arrAt_eq_of_covers 11 _ (by decide +kernel) fun t hf y => ?_
  blk_simp
  rw [after0_11]
  refine (keys_eq m c t _).trans ?_
  congr 1
  blk_ext [idx11, stepNo, rowTok]

/-- The array of the gradient of the values after the run. -/
theorem final_values : (dats m 0 c).arrAt 12 cfg0.N = gradValues (argP m c) (argW m c) (argB m c) (argD m c) := by
  refine (dats m 0 c).arrAt_eq_of_covers 12 _ (by decide +kernel) fun t hf y => ?_
  blk_simp
  rw [after0_12]
  refine (values_eq m c t _).trans ?_
  congr 1
  blk_ext [idx12, stepNo, rowTok]

end Cert.Gla

end
-- ==== Proof.GlaRun.lean ====
/-
  The reference's loop over the chunks of tokens: what the program leaves, as the results its operations after the loop
  make of the state after 128 trips.
-/
module

public import proofs.«01_k».proof.Proof.Gen.GlaReferenceIdeal.Run
public import proofs.«01_k».proof.Proof.Gen.GlaReferenceIdeal.Step
public import Idealize.ShloMosaic.Lib.Pointwise

@[expose] public section

set_option maxRecDepth 65536

noncomputable section

namespace Cert.GlaRun

open Idealize.ShloMosaic Idealize.ShloMosaic.TcCoe Idealize.SL.Sem Idealize.ShloMosaic.StableHlo
open Cert.GlaReferenceIdeal Cert.GlaReferenceIdeal.Gen Cert.GlaReferenceIdeal.Value
open Cert.GlaReferenceIdeal.Step (State step init)

/-- What a valuation holds at the four buffers the loop reads or writes. -/
def stateOf (V : Valuation τ sig (Elt Ideal)) : State Ideal :=
  ⟨V (Proc.devRef .tc main_v38_3), V (Proc.devRef .tc main_v38_4), V (Proc.devRef .tc main_v38_0), V (Proc.devRef .tc main_v38_1)⟩

/-- The counter holds the number of trips done. -/
def Counts (V : Valuation τ sig (Elt Ideal)) (n : ℕ) : Prop := V (Proc.devRef .tc main_v38_2) = constantI S_ 32 (BitVec.ofNat 32 n)

theorem counts_next (V : Valuation τ sig (Elt Ideal)) (n : ℕ) (h : Counts V n) : Counts (STEP V) (n + 1) := by
  unfold Counts at h ⊢
  rw [STEP_main_v38_2]
  unfold step_main_v38_2
  rw [h]
  funext i
  exact (BitVec.ofNat_add (n := 32) n 1).symm

/-- The place in the arrays that a trip reads and writes. -/
theorem place_next (V : Valuation τ sig (Elt Ideal)) (n : ℕ) (h : Counts V n) (s : State Ideal) :
    res_main_while0b_v116 V = Cert.GlaReferenceIdeal.Step.b3 n s := by
  unfold Counts at h
  unfold res_main_while0b_v116
  rw [h]
  rfl

theorem state_next (V : Valuation τ sig (Elt Ideal)) (n : ℕ) (h : Counts V n) : stateOf (STEP V) = step n (stateOf V) := by
  have h3 : step_main_v38_3 V = Cert.GlaReferenceIdeal.Step.b16 n (stateOf V) := by
    unfold step_main_v38_3
    rw [place_next V n h (stateOf V)]
    rfl
  have h4 : step_main_v38_4 V = Cert.GlaReferenceIdeal.Step.b21 n (stateOf V) := by
    unfold step_main_v38_4
    rw [place_next V n h (stateOf V)]
    rfl
  unfold stateOf at h3 h4 ⊢
  rw [STEP_main_v38_3, STEP_main_v38_4, STEP_main_v38_0, STEP_main_v38_1, h3, h4]
  rfl

variable (m : (ℓ : Loc nD τ sig) → Buf (Elt Ideal) ℓ) (c : Dev nD)

/-- The state the first trip finds. -/
def start : State Ideal :=
  init (m ((c.tc : Thread nD τ).loc main_arg0)) (m ((c.tc : Thread nD τ).loc main_arg1)) (m ((c.tc : Thread nD τ).loc main_arg2)) (m ((c.tc : Thread nD τ).loc main_arg4))

/-- The state after `n` trips. -/
def trips : ℕ → State Ideal
  | 0 => start m c
  | n + 1 => step n (trips n)

set_option maxHeartbeats 300000 in
theorem entry_state : stateOf (entryContents preI m c) = start m c := by
  unfold stateOf start init
  congr 1 <;> (simp only [entryContents, afterL_cons, afterL_nil]; after_reads_simp) <;> rfl

theorem trips_state : ∀ n, stateOf (STEP^[n] (entryContents preI m c)) = trips m c n ∧ Counts (STEP^[n] (entryContents preI m c)) n
  | 0 => ⟨entry_state m c, ctr_entry m c⟩
  | n + 1 => by
    obtain ⟨h1, h2⟩ := trips_state n
    rw [Function.iterate_succ_apply']
    exact ⟨(state_next _ n h2).trans (congrArg (step n) h1), counts_next _ n h2⟩

/-- The gradient of the keys, as made of a state and the arguments a valuation holds. -/
theorem keys_of (V : Valuation τ sig (Elt Ideal)) (s : State Ideal) (h : V (Proc.devRef .tc main_v38_4) = s.main_v38_4) (a0 a1 a2 a4)
    (h0 : V (Proc.devRef .tc main_arg0) = a0) (h1 : V (Proc.devRef .tc main_arg1) = a1) (h2 : V (Proc.devRef .tc main_arg2) = a2)
    (h4 : V (Proc.devRef .tc main_arg4) = a4) : out_main_v113 V = Cert.GlaReferenceIdeal.Step.R_main_v113 s a0 a1 a2 a4 := by
  subst h0 h1 h2 h4
  unfold out_main_v113 Cert.GlaReferenceIdeal.Step.R_main_v113
  rw [h]
  rfl

/-- The gradient of the values, likewise. -/
theorem values_of (V : Valuation τ sig (Elt Ideal)) (s : State Ideal) (h : V (Proc.devRef .tc main_v38_4) = s.main_v38_4) (a0 a1 a2 a4)
    (h0 : V (Proc.devRef .tc main_arg0) = a0) (h1 : V (Proc.devRef .tc main_arg1) = a1) (h2 : V (Proc.devRef .tc main_arg2) = a2)
    (h4 : V (Proc.devRef .tc main_arg4) = a4) : out_main_v114 V = Cert.GlaReferenceIdeal.Step.R_main_v114 s a0 a1 a2 a4 := by
  subst h0 h1 h2 h4
  unfold out_main_v114 Cert.GlaReferenceIdeal.Step.R_main_v114
  rw [h]
  rfl

theorem keys_at (n : ℕ) : out_main_v113 (STEP^[n] (entryContents preI m c)) = Cert.GlaReferenceIdeal.Step.R_main_v113 (trips m c n) (m ((c.tc : Thread nD τ).loc main_arg0)) (m ((c.tc : Thread nD τ).loc main_arg1)) (m ((c.tc : Thread nD τ).loc main_arg2)) (m ((c.tc : Thread nD τ).loc main_arg4)) :=
  keys_of _ _ (congrArg (fun s : State Ideal => s.main_v38_4) (trips_state m c n).1) _ _ _ _ (iter_main_arg0 m c n) (iter_main_arg1 m c n) (iter_main_arg2 m c n) (iter_main_arg4 m c n)

theorem values_at (n : ℕ) : out_main_v114 (STEP^[n] (entryContents preI m c)) = Cert.GlaReferenceIdeal.Step.R_main_v114 (trips m c n) (m ((c.tc : Thread nD τ).loc main_arg0)) (m ((c.tc : Thread nD τ).loc main_arg1)) (m ((c.tc : Thread nD τ).loc main_arg2)) (m ((c.tc : Thread nD τ).loc main_arg4)) :=
  values_of _ _ (congrArg (fun s : State Ideal => s.main_v38_4) (trips_state m c n).1) _ _ _ _ (iter_main_arg0 m c n) (iter_main_arg1 m c n) (iter_main_arg2 m c n) (iter_main_arg4 m c n)

/-- Every execution of the reference ends with its two results as made of the state after 128 trips, and with its arguments unchanged. -/
theorem run_trips (ρ : Dev nD → PrngReg) :
    θ_run (defs (F := Ideal)) (onTc (τ := τ) (main (F := Ideal))) ⟨m, fun _ => 0, ρ⟩ fun r => ∀ c : Dev nD,
      r.2.mem ((c.tc : Thread nD τ).loc main_v113) = Cert.GlaReferenceIdeal.Step.R_main_v113 (trips m c 128) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v114) = Cert.GlaReferenceIdeal.Step.R_main_v114 (trips m c 128) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h1, h2, h3⟩ := h c
  exact ⟨h1.trans (keys_at m c 128), h2.trans (values_at m c 128), h3⟩

end Cert.GlaRun

end
-- ==== Proof.GlaSum.lean ====
/-
  A running sum along the tokens of a chunk, and the logarithm of a gate by way of the softplus function.
-/
module

public import proofs.«01_k».proof.Proof.GlaSpec

@[expose] public section

set_option maxRecDepth 16384

noncomputable section

open Idealize.ShloMosaic Idealize.ShloMosaic.StableHlo

namespace Cert.Gla

/-- The shape of the chunks of all heads, and that of one window. -/
abbrev ShC : Shape := ⟨4, ![4, 128, 64, 128]⟩
abbrev ShW : Shape := ⟨4, ![1, 1, 64, 1]⟩

theorem foldl_list {n : ℕ} (f : Fin n → EReal) : ∀ (l : List (Fin n)) (v : EReal), l.foldl (fun r k => r + f k) v = v + (l.map f).sum
  | [], v => (add_zero v).symm
  | k :: l, v => by rw [List.foldl_cons, foldl_list f l, List.map_cons, List.sum_cons, add_assoc]

/-- Adding up one after another is the sum. -/
theorem foldl_sum {n : ℕ} (f : Fin n → EReal) (v : EReal) : (List.finRange n).foldl (fun r k => r + f k) v = v + ∑ k, f k := by
  rw [foldl_list, Fin.sum_univ_def]

/-- The indices of a window are those along the tokens. -/
def winEquiv : Fin 64 ≃ ShW.Idx where
  toFun k := ix4 0 0 k 0
  invFun w := w 2
  left_inv k := rfl
  right_inv w := by
    funext a
    match a with
    | ⟨0, _⟩ => exact (Subsingleton.elim (α := Fin 1) _ _)
    | ⟨1, _⟩ => exact (Subsingleton.elim (α := Fin 1) _ _)
    | ⟨2, _⟩ => rfl
    | ⟨3, _⟩ => exact (Subsingleton.elim (α := Fin 1) _ _)

/-- A sum over the places of a window that ends at `i`. -/
theorem sum_window64 (f : Fin 64 → EReal) (i : Fin 64) :
    ∑ k : Fin 64, (if h : 63 ≤ i.val + k.val then f ⟨i.val + k.val - 63, by omega⟩ else 0) = ∑ x : Fin 64, if x ≤ i then f x else 0 := by
  rw [← Equiv.sum_comp (Equiv.addRight (i + 1)) fun x : Fin 64 => if x ≤ i then f x else 0]
  refine Finset.sum_congr (M := EReal) rfl fun k _ => ?_
  have hk := k.isLt
  have hi := i.isLt
  have e : (Equiv.addRight (i + 1) k).val = (k.val + (i.val + 1)) % 64 := by
    rw [Equiv.coe_addRight, Fin.val_add, Fin.val_add]
    show (k.val + (i.val + 1) % 64) % 64 = _
    omega
  by_cases h : 63 ≤ i.val + k.val
  · rw [dif_pos h, if_pos (Fin.le_def.mpr (show (Equiv.addRight (i + 1) k).val ≤ i.val by omega))]
    exact congrArg f (Fin.ext (by rw [e]; show i.val + k.val - 63 = _; omega))
  · rw [dif_neg h, if_neg (fun q => absurd (Fin.le_def.mp q) (show ¬(Equiv.addRight (i + 1) k).val ≤ i.val by omega))]

/-- The sum over a window of 64 tokens padded low by 63 is the sum up to the token. -/
theorem running (x : ShC.Idx → EReal) (h : ShC.ReduceWindows ![1, 1, 64, 1] ![1, 1, 1, 1] ![0, 0, 63, 0] ![0, 0, 0, 0] ShC)
    (hu : 0 < (⟨0, ![]⟩ : Shape).numel) (a : Fin 4) (n : Fin 128) (i : Fin 64) (j : Fin 128) :
    Host.reduceWindow (u := ⟨0, ![]⟩) (fun p q : EReal => p + q) ![1, 1, 64, 1] ![1, 1, 1, 1] ![0, 0, 63, 0] ![0, 0, 0, 0] x (fun _ => 0) h hu (ix4 a n i j)
      = ∑ i' : Fin 64, if i' ≤ i then x (ix4 a n i' j) else 0 := by
  have ha := a.isLt
  have hn := n.isLt
  have hi := i.isLt
  have hj := j.isLt
  unfold Host.reduceWindow
  refine (foldl_sum _ _).trans ((zero_add _).trans ?_)
  rw [← sum_window64 (fun i' => x (ix4 a n i' j)) i]
  refine Fintype.sum_equiv (ShW.rowMajor.symm.trans winEquiv.symm) _ _ fun p => ?_
  obtain ⟨k, hk⟩ : ∃ k, winEquiv k = ShW.rowMajor.symm p := ⟨_, winEquiv.apply_symm_apply _⟩
  have e : (ShW.rowMajor.symm.trans winEquiv.symm) p = k := by
    rw [Equiv.trans_apply, ← hk, Equiv.symm_apply_apply]
  rw [e]
  have w0 : ((ShW.rowMajor.symm p) 0).val = 0 := by rw [← hk]; rfl
  have w1 : ((ShW.rowMajor.symm p) 1).val = 0 := by rw [← hk]; rfl
  have w2 : ((ShW.rowMajor.symm p) 2).val = k.val := by rw [← hk]; rfl
  have w3 : ((ShW.rowMajor.symm p) 3).val = 0 := by rw [← hk]; rfl
  have hk := k.isLt
  by_cases h63 : 63 ≤ i.val + k.val
  · rw [dif_pos h63, dif_pos fun b => by
      match b with
      | ⟨0, _⟩ => exact ⟨Nat.zero_le _, show a.val * 1 + ((ShW.rowMajor.symm p) 0).val - 0 < 4 by omega⟩
      | ⟨1, _⟩ => exact ⟨Nat.zero_le _, show n.val * 1 + ((ShW.rowMajor.symm p) 1).val - 0 < 128 by omega⟩
      | ⟨2, _⟩ => exact ⟨show 63 ≤ i.val * 1 + ((ShW.rowMajor.symm p) 2).val by omega, show i.val * 1 + ((ShW.rowMajor.symm p) 2).val - 63 < 64 by omega⟩
      | ⟨3, _⟩ => exact ⟨Nat.zero_le _, show j.val * 1 + ((ShW.rowMajor.symm p) 3).val - 0 < 128 by omega⟩]
    refine congrArg x (funext fun b => Fin.ext ?_)
    match b with
    | ⟨0, _⟩ => show a.val * 1 + ((ShW.rowMajor.symm p) 0).val - 0 = a.val; omega
    | ⟨1, _⟩ => show n.val * 1 + ((ShW.rowMajor.symm p) 1).val - 0 = n.val; omega
    | ⟨2, _⟩ => show i.val * 1 + ((ShW.rowMajor.symm p) 2).val - 63 = i.val + k.val - 63; omega
    | ⟨3, _⟩ => show j.val * 1 + ((ShW.rowMajor.symm p) 3).val - 0 = j.val; omega
  · rw [dif_neg h63, dif_neg fun hin => h63 (by
      have h2 : 63 ≤ i.val * 1 + ((ShW.rowMajor.symm p) 2).val := (hin 2).1
      omega)]

/-- The gate's logarithm by way of softplus, as the reference writes it. -/
theorem softplus_gate (z : EReal) :
    Ideal.div (-(max (-z) 0 + Ideal.log1p (Ideal.exp (-(max (-z) (-(-z))))))) (Ideal.ofBits FTy.f32 1098907648#32) = gateLog z := by
  have hc : Ideal.ofBits FTy.f32 1031798784#32 = ((1 / 16 : ℝ) : EReal) := by
    simp [Ideal.ofBits, Ideal.ieee, -EReal.coe_mul]; norm_num
  have hd : Ideal.ofBits FTy.f32 1098907648#32 = ((16 : ℝ) : EReal) := by
    simp [Ideal.ofBits, Ideal.ieee, -EReal.coe_mul]; norm_num
  have hl : Ideal.log 1 = 0 := by rw [← EReal.coe_one, Ideal.log_coe, if_neg (by norm_num), Real.log_one, EReal.coe_zero]
  have h16 : ((16 : ℝ) : EReal) ≠ 0 := by rw [← EReal.coe_zero]; exact fun h => by norm_num at h
  unfold gateLog Ideal.div Ideal.log1p
  rw [hc, hd, if_neg h16, ← EReal.coe_inv, neg_neg, zero_sub, max_comm (-z) z, show ((16 : ℝ)⁻¹) = 1 / 16 by norm_num]
  refine congrArg (fun x : EReal => x * _) ?_
  induction z with
  | bot => simp [hl]
  | top => simp [hl]
  | coe r =>
    have h1 : max (r : EReal) (-(r : EReal)) = ((|r| : ℝ) : EReal) := by
      rw [← EReal.coe_neg, abs_eq_max_neg]; exact (EReal.coe_strictMono.monotone.map_max).symm
    have h2 : min (r : EReal) 0 = ((min r 0 : ℝ) : EReal) := by
      rw [← EReal.coe_zero]; exact (EReal.coe_strictMono.monotone.map_min).symm
    have h3 : max (-(r : EReal)) 0 = ((max (-r) 0 : ℝ) : EReal) := by
      rw [← EReal.coe_neg, ← EReal.coe_zero]; exact (EReal.coe_strictMono.monotone.map_max).symm
    rw [h1, h2, h3, ← EReal.coe_neg, Ideal.exp_coe, ← EReal.coe_one, ← EReal.coe_add, Ideal.log_coe,
      if_neg (by have := Real.exp_pos (-|r|); linarith), ← EReal.coe_sub, ← EReal.coe_add, ← EReal.coe_neg, neg_add]
    refine congrArg (fun x : ℝ => (x : EReal)) ?_
    rcases le_total r 0 with h | h
    · rw [max_eq_left (by linarith), min_eq_left h]; ring
    · rw [max_eq_right (by linarith), min_eq_right h]; ring

theorem upTo_last (l : Chunks 128) (n : Fin 128) (j : Fin 128) : upTo l n 63 j = whole l n j :=
  Finset.sum_congr rfl fun x _ => if_pos (Fin.le_def.mpr (by show x.val ≤ 63; omega))

end Cert.Gla

end
-- ==== Proof.GlaReference.lean ====
/-
  What the reference of the gated linear attention's gradient computes.
-/
module

public import proofs.«01_k».proof.Proof.GlaRun
public import proofs.«01_k».proof.Proof.GlaSum
public import Idealize.ShloMosaic.Lib.Tactic
public import Idealize.ShloMosaic.Lib.WordCmp

@[expose] public section

set_option maxRecDepth 65536

noncomputable section

namespace Cert.GlaRef

open Idealize.ShloMosaic Idealize.ShloMosaic.TcCoe Idealize.SL.Sem Idealize.ShloMosaic.StableHlo
open Cert.GlaReferenceIdeal Cert.GlaReferenceIdeal.Gen Cert.GlaReferenceIdeal.Step
open Cert.Gla

variable (P : (⟨S8192x5376, .bf16⟩ : BufTy).Contents (Elt Ideal)) (W : (⟨S16x512, .f32⟩ : BufTy).Contents (Elt Ideal))
  (B : (⟨S512, .f32⟩ : BufTy).Contents (Elt Ideal)) (D : (⟨S8192x1024, .bf16⟩ : BufTy).Contents (Elt Ideal))

theorem tok_form (n : Fin 128) (i : Fin 64) (h) : (⟨n.val * 64 + i.val, h⟩ : Fin 8192) = tok n i := Fin.ext (by show n.val * 64 + i.val = 64 * n.val + i.val; omega)
theorem colK_form (h : Fin 4) (j : Fin 128) (q) : (⟨h.val * 128 + j.val, q⟩ : Fin 512) = colK h j := Fin.ext (by show h.val * 128 + j.val = 128 * h.val + j.val; omega)
theorem colV_form (h : Fin 4) (e : Fin 256) (q) : (⟨h.val * 256 + e.val, q⟩ : Fin 1024) = colV h e := Fin.ext (by show h.val * 256 + e.val = 256 * h.val + e.val; omega)

theorem gate_in (r : Fin 8192) (l : Fin 512) : A_main_v5 P W B D (ix2 r l)
    = ∑ x : Fin 16, P (ix2 r ⟨5120 + x.val, by omega⟩) * W (ix2 x l) + B (ix1 l) := by
  pointwise [A_main_v0, A_main_v1, A_main_v2, A_main_v3, A_main_v4, A_main_v5]

/-- The word of nought. -/
theorem zero_cst (i : S_.Idx) : K_main_call0_cst (F := Ideal) i = 0 := by
  show Ideal.ofBits FTy.f32 0#32 = 0
  simp [Ideal.ofBits, Ideal.ieee]

theorem gate_out (r : Fin 8192) (l : Fin 512) : A_main_v10 P W B D (ix2 r l) = gateLog (A_main_v5 P W B D (ix2 r l)) := by
  pointwise [A_main_v6, A_main_call0_v1, A_main_call0_v3, A_main_call0_v4, A_main_call0_v6, A_main_call0_v7, A_main_call0_v8, A_main_call0_v9, A_main_call0_v10, A_main_call0_v11, A_main_v7, A_main_v8, A_main_v10, K_main_call0_v0, K_main_call0_v2, K_main_call0_v5, K_main_v9, K_main_cst]
  rw [if_neg (fun h => h rfl), zero_cst, sub_zero]
  exact softplus_gate _

theorem logs_at (h : Fin 4) (n : Fin 128) (i : Fin 64) (j : Fin 128) : A_main_v13 P W B D (ix4 h n i j) = lOf P W B h n i j := by
  pointwise [A_main_v11, A_main_v12, A_main_v13]
  rw [gate_out, gate_in, tok_form, colK_form]
  rfl

/-- The running sums of the gates' logarithms. -/
theorem cum_at (h : Fin 4) (n : Fin 128) (i : Fin 64) (j : Fin 128) : A_main_v14 P W B D (ix4 h n i j) = upTo (lOf P W B h) n i j := by
  have e : A_main_v14 P W B D = Host.reduceWindow (u := ⟨0, ![]⟩) (fun p q : EReal => p + q) ![1, 1, 64, 1] ![1, 1, 1, 1] ![0, 0, 63, 0] ![0, 0, 0, 0] (A_main_v13 P W B D) (fun _ => 0)
      reduceWindows_S4x128x64x128_S4x128x64x128_w1s1p0_0_w1s1p0_0_w64s1p63_0_w1s1p0_0 h_S_ := by
    refine Eq.trans ?_ (congrArg (fun z : EReal => Host.reduceWindow (u := ⟨0, ![]⟩) (fun p q : EReal => p + q) ![1, 1, 64, 1] ![1, 1, 1, 1] ![0, 0, 63, 0] ![0, 0, 0, 0] (A_main_v13 P W B D) (fun _ => z)
      reduceWindows_S4x128x64x128_S4x128x64x128_w1s1p0_0_w1s1p0_0_w64s1p63_0_w1s1p0_0 h_S_) (zero_cst ix0))
    rfl
  rw [e, running]
  exact Finset.sum_congr rfl fun x _ => by rw [logs_at]

theorem query_at (h : Fin 4) (n : Fin 128) (i : Fin 64) (j : Fin 128) : A_main_v24 P W B D (ix4 h n i j) = gated (qOf P h) (lOf P W B h) n i j := by
  pointwise [A_main_v15, A_main_v16, A_main_v18, A_main_v19, K_main_v20, K_main_cst_0, A_main_v21, A_main_v22, A_main_v23, A_main_v24]
  rw [cum_at, tok_form, mul_right_comm]
  exact congrArg (fun x : EReal => x * _ * _) (congrArg (fun l => P (ix2 (tok n i) l)) (Fin.ext (by show h.val * 128 + j.val = 128 * h.val + j.val; omega)))

theorem decay_at (h : Fin 4) (n : Fin 128) (j : Fin 128) : A_main_v28 P W B D (ix4 n h j 0) = Ideal.exp (whole (lOf P W B h) n j) := by
  pointwise [A_main_v17, A_main_v25, A_main_v26, A_main_v27, A_main_v28]
  rw [cum_at, upTo_last]

/-- The incoming gradient, chunk by chunk. -/
theorem out_at (h : Fin 4) (n : Fin 128) (i : Fin 64) (e : Fin 256) : A_main_v33 P W B D (ix4 h n i e) = dOf D h n i e := by
  pointwise [A_main_v30, A_main_v31, A_main_v32, A_main_v33]
  rw [tok_form, colV_form]
  rfl

theorem term_at (h : Fin 4) (n : Fin 128) (j : Fin 128) (e : Fin 256) : A_main_v35 P W B D (ix4 n h j e) = ∑ i, gated (qOf P h) (lOf P W B h) n i j * dOf D h n i e := by
  pointwise [A_main_v34, A_main_v35, query_at, out_at]
  exact Finset.sum_congr rfl fun x _ => mul_comm _ _

section loop

variable (s : State Ideal)

/-- The chunk a trip deals with, counted from the last. -/
theorem place_int (n : ℕ) (hn : n < 128) : (b3 n s (Shape.Idx.first h_S_)).toInt = ((127 - n : ℕ) : ℤ) :=
  (by decide +kernel : ∀ n : Fin 128, ((128#32 - BitVec.ofNat 32 n.val) - 1#32).toInt = ((127 - n.val : ℕ) : ℤ)) ⟨n, hn⟩

theorem zero_int : ((0#32 : BitVec 32)).toInt = ((0 : ℕ) : ℤ) := rfl

theorem chunk_term (n : ℕ) (hn : n < 128) (h : Fin 4) (j : Fin 128) (e : Fin 256) : b8 n s (ix3 h j e) = s.main_v38_0 (ix4 ⟨127 - n, by omega⟩ h j e) := by
  have c : b8 n s (ix3 h j e) = b7 n s (ix4 0 h j e) := by pointwise [b8]
  have e0 := Host.clampedStart_of_le (s := S128x4x128x256) (t := S1x4x128x256) rfl (fun k => (((![(b3 n s), (b4 n s), (b5 n s), (b6 n s)] : Fin 4 → (⟨S_, .i32⟩ : BufTy).Contents (Elt Ideal))) k (Shape.Idx.first h_S_)).toInt) 0 (127 - n) (place_int s n hn) (by show 127 - n + 1 ≤ 128; omega)
  have e1 := Host.clampedStart_of_le (s := S128x4x128x256) (t := S1x4x128x256) rfl (fun k => (((![(b3 n s), (b4 n s), (b5 n s), (b6 n s)] : Fin 4 → (⟨S_, .i32⟩ : BufTy).Contents (Elt Ideal))) k (Shape.Idx.first h_S_)).toInt) 1 0 rfl (by decide)
  have e2 := Host.clampedStart_of_le (s := S128x4x128x256) (t := S1x4x128x256) rfl (fun k => (((![(b3 n s), (b4 n s), (b5 n s), (b6 n s)] : Fin 4 → (⟨S_, .i32⟩ : BufTy).Contents (Elt Ideal))) k (Shape.Idx.first h_S_)).toInt) 2 0 rfl (by decide)
  have e3 := Host.clampedStart_of_le (s := S128x4x128x256) (t := S1x4x128x256) rfl (fun k => (((![(b3 n s), (b4 n s), (b5 n s), (b6 n s)] : Fin 4 → (⟨S_, .i32⟩ : BufTy).Contents (Elt Ideal))) k (Shape.Idx.first h_S_)).toInt) 3 0 rfl (by decide)
  rw [c]
  unfold b7
  rw [Host.dynamicSlice_apply]
  refine congrArg s.main_v38_0 (funext fun a => Fin.ext ?_)
  match a with
  | ⟨0, _⟩ => exact congrArg (fun x => x + 0) e0
  | ⟨1, _⟩ => exact (congrArg (fun x => x + h.val) e1).trans (zero_add _)
  | ⟨2, _⟩ => exact (congrArg (fun x => x + j.val) e2).trans (zero_add _)
  | ⟨3, _⟩ => exact (congrArg (fun x => x + e.val) e3).trans (zero_add _)

theorem chunk_decay (n : ℕ) (hn : n < 128) (h : Fin 4) (j : Fin 128) (e : Fin 256) : b14 n s (ix3 h j e) = s.main_v38_1 (ix4 ⟨127 - n, by omega⟩ h j 0) := by
  have c : b14 n s (ix3 h j e) = b12 n s (ix4 0 h j 0) := by pointwise [b14, b13]
  have e0 := Host.clampedStart_of_le (s := S128x4x128x1) (t := S1x4x128x1) rfl (fun k => (((![(b3 n s), (b9 n s), (b10 n s), (b11 n s)] : Fin 4 → (⟨S_, .i32⟩ : BufTy).Contents (Elt Ideal))) k (Shape.Idx.first h_S_)).toInt) 0 (127 - n) (place_int s n hn) (by show 127 - n + 1 ≤ 128; omega)
  have e1 := Host.clampedStart_of_le (s := S128x4x128x1) (t := S1x4x128x1) rfl (fun k => (((![(b3 n s), (b9 n s), (b10 n s), (b11 n s)] : Fin 4 → (⟨S_, .i32⟩ : BufTy).Contents (Elt Ideal))) k (Shape.Idx.first h_S_)).toInt) 1 0 rfl (by decide)
  have e2 := Host.clampedStart_of_le (s := S128x4x128x1) (t := S1x4x128x1) rfl (fun k => (((![(b3 n s), (b9 n s), (b10 n s), (b11 n s)] : Fin 4 → (⟨S_, .i32⟩ : BufTy).Contents (Elt Ideal))) k (Shape.Idx.first h_S_)).toInt) 2 0 rfl (by decide)
  have e3 := Host.clampedStart_of_le (s := S128x4x128x1) (t := S1x4x128x1) rfl (fun k => (((![(b3 n s), (b9 n s), (b10 n s), (b11 n s)] : Fin 4 → (⟨S_, .i32⟩ : BufTy).Contents (Elt Ideal))) k (Shape.Idx.first h_S_)).toInt) 3 0 rfl (by decide)
  rw [c]
  unfold b12
  rw [Host.dynamicSlice_apply]
  refine congrArg s.main_v38_1 (funext fun a => Fin.ext ?_)
  match a with
  | ⟨0, _⟩ => exact congrArg (fun x => x + 0) e0
  | ⟨1, _⟩ => exact (congrArg (fun x => x + h.val) e1).trans (zero_add _)
  | ⟨2, _⟩ => exact (congrArg (fun x => x + j.val) e2).trans (zero_add _)
  | ⟨3, _⟩ => exact (congrArg (fun x => x + 0) e3).trans (zero_add _)

theorem chunk_store (n : ℕ) (hn : n < 128) (x : Fin 128) (h : Fin 4) (j : Fin 128) (e : Fin 256) :
    b21 n s (ix4 x h j e) = if x.val = 127 - n then s.main_v38_3 (ix3 h j e) else s.main_v38_4 (ix4 x h j e) := by
  have hx := x.isLt
  have hh := h.isLt
  have hj := j.isLt
  have he := e.isLt
  have e0 := Host.clampedStart_of_le (s := S128x4x128x256) (t := S1x4x128x256) rfl (fun k => (((![(b3 n s), (b18 n s), (b19 n s), (b20 n s)] : Fin 4 → (⟨S_, .i32⟩ : BufTy).Contents (Elt Ideal))) k (Shape.Idx.first h_S_)).toInt) 0 (127 - n) (place_int s n hn) (by show 127 - n + 1 ≤ 128; omega)
  have e1 := Host.clampedStart_of_le (s := S128x4x128x256) (t := S1x4x128x256) rfl (fun k => (((![(b3 n s), (b18 n s), (b19 n s), (b20 n s)] : Fin 4 → (⟨S_, .i32⟩ : BufTy).Contents (Elt Ideal))) k (Shape.Idx.first h_S_)).toInt) 1 0 rfl (by decide)
  have e2 := Host.clampedStart_of_le (s := S128x4x128x256) (t := S1x4x128x256) rfl (fun k => (((![(b3 n s), (b18 n s), (b19 n s), (b20 n s)] : Fin 4 → (⟨S_, .i32⟩ : BufTy).Contents (Elt Ideal))) k (Shape.Idx.first h_S_)).toInt) 2 0 rfl (by decide)
  have e3 := Host.clampedStart_of_le (s := S128x4x128x256) (t := S1x4x128x256) rfl (fun k => (((![(b3 n s), (b18 n s), (b19 n s), (b20 n s)] : Fin 4 → (⟨S_, .i32⟩ : BufTy).Contents (Elt Ideal))) k (Shape.Idx.first h_S_)).toInt) 3 0 rfl (by decide)
  unfold b21
  rw [Host.dynamicUpdateSlice_apply]
  by_cases hq : x.val = 127 - n
  · rw [if_pos hq, dif_pos fun a => by
      match a with
      | ⟨0, _⟩ => exact ⟨e0.trans_le hq.ge, by rw [show (⟨0, _⟩ : Fin 4) = 0 from rfl, e0]; show x.val < 127 - n + 1; omega⟩
      | ⟨1, _⟩ => exact ⟨e1.trans_le (Nat.zero_le _), by rw [show (⟨1, _⟩ : Fin 4) = 1 from rfl, e1]; show h.val < 0 + 4; omega⟩
      | ⟨2, _⟩ => exact ⟨e2.trans_le (Nat.zero_le _), by rw [show (⟨2, _⟩ : Fin 4) = 2 from rfl, e2]; show j.val < 0 + 128; omega⟩
      | ⟨3, _⟩ => exact ⟨e3.trans_le (Nat.zero_le _), by rw [show (⟨3, _⟩ : Fin 4) = 3 from rfl, e3]; show e.val < 0 + 256; omega⟩]
    refine congrArg s.main_v38_3 (funext fun a => Fin.ext ?_)
    match a with
    | ⟨0, _⟩ => exact (congrArg (fun z => h.val - z) e1).trans (Nat.sub_zero _)
    | ⟨1, _⟩ => exact (congrArg (fun z => j.val - z) e2).trans (Nat.sub_zero _)
    | ⟨2, _⟩ => exact (congrArg (fun z => e.val - z) e3).trans (Nat.sub_zero _)
  · rw [if_neg hq, dif_neg fun hin => hq (by
      have h0 := hin 0
      rw [e0] at h0
      have h1 : 127 - n ≤ x.val := h0.1
      have h2 : x.val < 127 - n + 1 := h0.2
      omega)]

end loop

section trips

variable (m : (ℓ : Loc nD τ sig) → Buf (Elt Ideal) ℓ) (c : Dev nD)

/-- The arguments. -/
abbrev aP : ArrP := m ((c.tc : Thread nD τ).loc main_arg0)
abbrev aW : ArrW := m ((c.tc : Thread nD τ).loc main_arg1)
abbrev aB : ArrB := m ((c.tc : Thread nD τ).loc main_arg2)
abbrev aD : ArrD := m ((c.tc : Thread nD τ).loc main_arg4)

open Cert.GlaRun

theorem trips_term : ∀ n, (trips m c n).main_v38_0 = A_main_v35 (F := Ideal) (aP m c) (aW m c) (aB m c) (aD m c)
  | 0 => rfl
  | n + 1 => (show (step n (trips m c n)).main_v38_0 = (trips m c n).main_v38_0 by unfold step; rfl).trans (trips_term n)

theorem trips_decay : ∀ n, (trips m c n).main_v38_1 = A_main_v28 (F := Ideal) (aP m c) (aW m c) (aB m c) (aD m c)
  | 0 => rfl
  | n + 1 => (show (step n (trips m c n)).main_v38_1 = (trips m c n).main_v38_1 by unfold step; rfl).trans (trips_decay n)

/-- The state's gradient of one head. -/
abbrev stateOf (h : Fin 4) (n : ℕ) : Grid 128 256 := carried (qOf (aP m c) h) (lOf (aP m c) (aW m c) (aB m c) h) (dOf (aD m c) h) n

/-- What a trip finds carried. -/
theorem trips_carry : ∀ (n : ℕ) (_ : n ≤ 128) (h : Fin 4) (j : Fin 128) (e : Fin 256), (trips m c n).main_v38_3 (ix3 h j e) = stateOf m c h n j e
  | 0, _, h, j, e => zero_cst ix0
  | n + 1, hn, h, j, e => by
    refine (congrFun (step_main_v38_3 n (trips m c n)) (ix3 h j e)).trans ?_
    have c1 : b16 n (trips m c n) (ix3 h j e) = b8 n (trips m c n) (ix3 h j e) + b14 n (trips m c n) (ix3 h j e) * (trips m c n).main_v38_3 (ix3 h j e) := by
      pointwise [b16, b15]
    rw [c1, chunk_term _ n (by omega), chunk_decay _ n (by omega), trips_carry n (by omega), trips_term, trips_decay, term_at, decay_at, add_comm, mul_comm]
    rfl

/-- What the trips have left in the list of states. -/
theorem trips_out : ∀ (n : ℕ) (_ : n ≤ 128) (x : Fin 128) (_ : 127 - x.val < n) (h : Fin 4) (j : Fin 128) (e : Fin 256),
    (trips m c n).main_v38_4 (ix4 x h j e) = stateOf m c h (127 - x.val) j e
  | 0, _, _, hx, _, _, _ => absurd hx (Nat.not_lt_zero _)
  | n + 1, hn, x, hx, h, j, e => by
    refine (congrFun (step_main_v38_4 n (trips m c n)) (ix4 x h j e)).trans ?_
    rw [chunk_store _ n (by omega)]
    by_cases hq : x.val = 127 - n
    · rw [if_pos hq, trips_carry m c n (by omega), show 127 - x.val = n by omega]
    · rw [if_neg hq]
      exact trips_out n (by omega) x (by omega) h j e

end trips

variable (s : State Ideal) (hs : ∀ (x : Fin 128) (h : Fin 4) (j : Fin 128) (e : Fin 256),
  s.main_v38_4 (ix4 x h j e) = carried (qOf P h) (lOf P W B h) (dOf D h) (127 - x.val) j e)

/-- A key, a value, by the token and the column of the projections. -/
theorem key_at (r : Fin 8192) (h : Fin 4) (x : Fin 128) (q) : P (ix2 r ⟨512 + (h.val * 128 + x.val), q⟩) = kOf P h (chunkOf r) (placeOf r) x :=
  congrArg₂ (fun a b => P (ix2 a b)) (tok_eta r).symm (Fin.ext (by show 512 + (h.val * 128 + x.val) = 512 + (128 * h.val + x.val); omega))

theorem value_at (r : Fin 8192) (h : Fin 4) (x : Fin 256) (q) : P (ix2 r ⟨1024 + (h.val * 256 + x.val), q⟩) = vOf P h (chunkOf r) (placeOf r) x :=
  congrArg₂ (fun a b => P (ix2 a b)) (tok_eta r).symm (Fin.ext (by show 1024 + (h.val * 256 + x.val) = 1024 + (256 * h.val + x.val); omega))

/-- The mask of the later tokens. -/
theorem mask_at (x i : Fin 64) (a z : EReal) (hz : z = 0) :
    Scalar.select (Scalar.select (IntOp.cmpi CmpIPredicate.sge (IntOp.addi (BitVec.ofNat 32 x.val) 0#32) (BitVec.ofNat 32 i.val)) 1#1 0#1) a z = if i ≤ x then a else 0 := by
  have e : IntOp.addi (BitVec.ofNat 32 x.val) 0#32 = BitVec.ofNat 32 x.val := BitVec.add_zero _
  rw [e, WordCmp.cmpi_sge_ofNat (by omega) (by omega), hz]
  by_cases h : i ≤ x
  · rw [if_pos h, decide_eq_true (Fin.le_def.mp h)]
    rfl
  · rw [if_neg h, decide_eq_false (fun q => h (Fin.le_def.mpr q))]
    rfl

include hs

theorem keys_form (r : Fin 8192) (l : Fin 512) : R_main_v113 s P W B D (ix2 r l) = gradKeys P W B D (ix2 r l) := by
  have e : R_main_v113 s P W B D = truncf .bf16 (shapeCast _ (transpose S8192x4x128 [1, 0, 2] (shapeCast _ (addf (mulf (transpose S4x128x64x128 [1, 0, 3, 2] (Host.dotGeneral dot_S128x4x128x256_S4x128x64x256_S128x4x128x64_3_3_2_2_01_10 none (s.main_v38_4) (shapeCast _ (transpose S4x8192x256 [1, 0, 2] (shapeCast _ (extf .f32 (extractStridedSlice S8192x1024 ![0, 1024] P slices_S8192x5376_S8192x1024_0_1024) bitsLt_bf16_f32) shapeCasts_S8192x1024_S8192x4x256) transposes_S8192x4x256_S4x8192x256_1_0_2) shapeCasts_S4x8192x256_S4x128x64x256)) transposes_S128x4x128x64_S4x128x64x128_1_0_3_2) (Host.exp (subf (broadcastInDim S4x128x64x128 ![0, 1, 2, 3] bcast_S4x128x1x128_S4x128x64x128_0_1_2_3 (extractStridedSlice S4x128x1x128 ![0, 0, 63, 0] (A_main_v14 P W B D) slices_S4x128x64x128_S4x128x1x128_0_0_63_0)) (A_main_v14 P W B D)))) (mulf (Host.dotGeneral dot_S4x128x64x64_S4x128x64x128_S4x128x64x128_2_2_3_3_01_01 none (select (broadcastInDim S4x128x64x64 ![2, 3] bcast_S64x64_S4x128x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x128x64x256_S4x128x64x256_S4x128x64x64_3_3_2_2_01_01 none (A_main_v33 P W B D) (shapeCast _ (transpose S4x8192x256 [1, 0, 2] (shapeCast _ (extf .f32 (extractStridedSlice S8192x1024 ![0, 1024] P slices_S8192x5376_S8192x1024_0_1024) bitsLt_bf16_f32) shapeCasts_S8192x1024_S8192x4x256) transposes_S8192x4x256_S4x8192x256_1_0_2) shapeCasts_S4x8192x256_S4x128x64x256)) (broadcastInDim S4x128x64x64 ![] bcast_S_S4x128x64x64 (constant S_ .f32 0x00000000#32))) (A_main_v24 P W B D)) (Host.exp (Host.negf (A_main_v14 P W B D))))) shapeCasts_S4x128x64x128_S4x8192x128) transposes_S4x8192x128_S8192x4x128_1_0_2) shapeCasts_S8192x4x128_S8192x512) bitsLt_bf16_f32 := rfl
  rw [e]
  pointwise
  refine congrArg₂ (fun a b : EReal => a + b) (congrArg₂ (fun a b : EReal => a * b) (Finset.sum_congr rfl fun x _ => ?_) ?_)
    (congrArg₂ (fun a b : EReal => a * b) (Finset.sum_congr rfl fun x _ => ?_) (congrArg (fun a : EReal => Ideal.exp (-a)) (cum_at P W B D _ _ _ _)))
  · exact (congrArg₂ (fun a b : EReal => a * b) (hs _ _ _ _) (value_at P r (headK l) x (by show 1024 + (l.val / 128 * 256 + x.val) < 5376; omega))).trans (mul_comm _ _)
  · exact congrArg₂ (fun a b : EReal => Ideal.exp (a - b)) ((cum_at P W B D _ _ _ _).trans (upTo_last _ _ _)) (cum_at P W B D _ _ _ _)
  · refine (mask_at x (placeOf r) _ _ rfl).trans (Eq.trans ?_ (ite_zero_mul _ _ _).symm)
    refine if_congr Iff.rfl (congrArg₂ (fun a b : EReal => a * b) (Finset.sum_congr rfl fun y _ => ?_) (query_at P W B D _ _ _ _)) rfl
    exact congrArg₂ (fun a b : EReal => a * b) (out_at P W B D _ _ _ _) (value_at P r (headK l) y (by show 1024 + (l.val / 128 * 256 + y.val) < 5376; omega))

theorem values_form (r : Fin 8192) (l : Fin 1024) : R_main_v114 s P W B D (ix2 r l) = gradValues P W B D (ix2 r l) := by
  have e : R_main_v114 s P W B D = truncf .bf16 (shapeCast _ (transpose S8192x4x256 [1, 0, 2] (shapeCast _ (addf (transpose S4x128x64x256 [1, 0, 3, 2] (Host.dotGeneral dot_S128x4x128x256_S4x128x64x128_S128x4x256x64_2_3_3_2_01_10 none (s.main_v38_4) (mulf (shapeCast _ (transpose S4x8192x128 [1, 0, 2] (shapeCast _ (extf .f32 (extractStridedSlice S8192x512 ![0, 512] P slices_S8192x5376_S8192x512_0_512) bitsLt_bf16_f32) shapeCasts_S8192x512_S8192x4x128) transposes_S8192x4x128_S4x8192x128_1_0_2) shapeCasts_S4x8192x128_S4x128x64x128) (Host.exp (subf (broadcastInDim S4x128x64x128 ![0, 1, 2, 3] bcast_S4x128x1x128_S4x128x64x128_0_1_2_3 (extractStridedSlice S4x128x1x128 ![0, 0, 63, 0] (A_main_v14 P W B D) slices_S4x128x64x128_S4x128x1x128_0_0_63_0)) (A_main_v14 P W B D))))) transposes_S128x4x256x64_S4x128x64x256_1_0_3_2) (transpose S4x128x64x256 [0, 1, 3, 2] (Host.dotGeneral dot_S4x128x64x256_S4x128x64x64_S4x128x256x64_2_2_3_3_01_01 none (A_main_v33 P W B D) (select (broadcastInDim S4x128x64x64 ![2, 3] bcast_S64x64_S4x128x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x128x64x128_S4x128x64x128_S4x128x64x64_3_3_2_2_01_01 none (A_main_v24 P W B D) (mulf (shapeCast _ (transpose S4x8192x128 [1, 0, 2] (shapeCast _ (extf .f32 (extractStridedSlice S8192x512 ![0, 512] P slices_S8192x5376_S8192x512_0_512) bitsLt_bf16_f32) shapeCasts_S8192x512_S8192x4x128) transposes_S8192x4x128_S4x8192x128_1_0_2) shapeCasts_S4x8192x128_S4x128x64x128) (Host.exp (Host.negf (A_main_v14 P W B D))))) (broadcastInDim S4x128x64x64 ![] bcast_S_S4x128x64x64 (id (constant S_ .f32 0x00000000#32))))) transposes_S4x128x256x64_S4x128x64x256_0_1_3_2)) shapeCasts_S4x128x64x256_S4x8192x256) transposes_S4x8192x256_S8192x4x256_1_0_2) shapeCasts_S8192x4x256_S8192x1024) bitsLt_bf16_f32 := rfl
  rw [e]
  pointwise
  refine congrArg₂ (fun a b : EReal => a + b) (Finset.sum_congr rfl fun x _ => ?_) (Finset.sum_congr rfl fun x _ => ?_)
  · exact (congrArg₂ (fun a b : EReal => a * b) (hs _ _ _ _) (congrArg₂ (fun a b : EReal => a * b) (key_at P r (headV l) x (by show 512 + (l.val / 256 * 128 + x.val) < 5376; omega))
      (congrArg₂ (fun a b : EReal => Ideal.exp (a - b)) ((cum_at P W B D _ _ _ _).trans (upTo_last _ _ _)) (cum_at P W B D _ _ _ _)))).trans (mul_comm _ _)
  · refine (congrArg₂ (fun a b : EReal => a * b) (out_at P W B D _ _ _ _) ((mask_at x (placeOf r) _ _ (zero_cst ix0)).trans (if_congr Iff.rfl (Finset.sum_congr rfl fun y _ => ?_) rfl))).trans (mul_comm _ _)
    exact congrArg₂ (fun a b : EReal => a * b) (query_at P W B D _ _ _ _) (congrArg₂ (fun a b : EReal => a * b) (key_at P r (headV l) y (by show 512 + (l.val / 256 * 128 + y.val) < 5376; omega))
      (congrArg (fun a : EReal => Ideal.exp (-a)) (cum_at P W B D _ _ _ _)))

end Cert.GlaRef

end
-- ==== Proof.GlaClaims.lean ====
/-
  The claims about the gradients of the keys and of the values of the gated linear attention.
-/
module

public import proofs.«01_k».proof.Defs
public import proofs.«01_k».proof.Proof.SwigluClaims
public import proofs.«01_k».proof.Proof.GlaArray
public import proofs.«01_k».proof.Proof.GlaReference
public import proofs.«01_k».proof.Proof.Gen.Gla.Frame
public import Idealize.ShloMosaic.Adequacy
public import Idealize.ShloMosaic.Init

@[expose] public section

set_option maxRecDepth 16384

noncomputable section

open Idealize.ShloMosaic Idealize.ShloMosaic.TcCoe Idealize.SL.Sem

namespace Cert.GlaProof

/-- The kernel, on its own words, runs and leaves its arguments as they were. -/
theorem frame_kernel : Cert.quiescent_Gla := fun m ρ _ => Cert.Gla.Gen.frame m ρ

/-- The kernel over the extended reals runs and leaves its arguments as they were. -/
theorem frame_ideal : Cert.quiescent_GlaIdeal := fun m ρ _ => Cert.GlaIdeal.Gen.frame m ρ

/-- The reference runs and leaves its arguments as they were. -/
theorem frame_reference : Cert.quiescent_GlaReferenceIdeal := fun m ρ _ =>
  (θ_run Cert.GlaReferenceIdeal.defs _ _).mono (fun r h => ⟨fun c => (h c).2.2, sem_eq_zero_of_no_sems (by decide) r.2⟩)
    (Cert.GlaRun.run_trips m ρ)

/-- The reference's gradient of the keys, after its 128 trips. -/
theorem reference_keys (m : (ℓ : Loc Cert.GlaReferenceIdeal.nD Cert.GlaReferenceIdeal.τ Cert.GlaReferenceIdeal.sig) → Buf (Elt Ideal) ℓ) (c : Dev Cert.GlaReferenceIdeal.nD) :
    Cert.GlaReferenceIdeal.Step.R_main_v113 (Cert.GlaRun.trips m c 128) (Cert.GlaRef.aP m c) (Cert.GlaRef.aW m c) (Cert.GlaRef.aB m c) (Cert.GlaRef.aD m c)
      = Cert.Gla.gradKeys (Cert.GlaRef.aP m c) (Cert.GlaRef.aW m c) (Cert.GlaRef.aB m c) (Cert.GlaRef.aD m c) := by
  funext y
  obtain ⟨r, l, rfl⟩ : ∃ r l, y = ix2 r l := ⟨y 0, y 1, eq_ix2 y⟩
  exact Cert.GlaRef.keys_form _ _ _ _ _ (fun x h j e => Cert.GlaRef.trips_out m c 128 le_rfl x (by omega) h j e) r l

/-- The reference's gradient of the values, after its 128 trips. -/
theorem reference_values (m : (ℓ : Loc Cert.GlaReferenceIdeal.nD Cert.GlaReferenceIdeal.τ Cert.GlaReferenceIdeal.sig) → Buf (Elt Ideal) ℓ) (c : Dev Cert.GlaReferenceIdeal.nD) :
    Cert.GlaReferenceIdeal.Step.R_main_v114 (Cert.GlaRun.trips m c 128) (Cert.GlaRef.aP m c) (Cert.GlaRef.aW m c) (Cert.GlaRef.aB m c) (Cert.GlaRef.aD m c)
      = Cert.Gla.gradValues (Cert.GlaRef.aP m c) (Cert.GlaRef.aW m c) (Cert.GlaRef.aB m c) (Cert.GlaRef.aD m c) := by
  funext y
  obtain ⟨r, l, rfl⟩ : ∃ r l, y = ix2 r l := ⟨y 0, y 1, eq_ix2 y⟩
  exact Cert.GlaRef.values_form _ _ _ _ _ (fun x h j e => Cert.GlaRef.trips_out m c 128 le_rfl x (by omega) h j e) r l

/-- The kernel's two results are the reference's. -/
theorem algebraic : Cert.algebraic_GlaIdeal_GlaReferenceIdeal := fun m ρ m' ρ' _ hag => by
  refine ⟨fun c => Cert.Gla.gradKeys (Cert.Gla.argP m c) (Cert.Gla.argW m c) (Cert.Gla.argB m c) (Cert.Gla.argD m c),
    fun c => Cert.Gla.gradValues (Cert.Gla.argP m c) (Cert.Gla.argW m c) (Cert.Gla.argB m c) (Cert.Gla.argD m c), ?_, ?_⟩
  · refine (θ_run Cert.GlaIdeal.defs _ _).mono (fun r h c => ?_) (Cert.GlaIdeal.Value.run_blocks (F := Ideal) m ρ)
    obtain ⟨-, h1, h2, -, -, -, hrest⟩ := h c
    exact ⟨h1.trans (Cert.Gla.final_keys m c), h2.trans (Cert.Gla.final_values m c), hrest⟩
  · refine (θ_run Cert.GlaReferenceIdeal.defs _ _).mono (fun r h c => ?_) (Cert.GlaRun.run_trips m' ρ')
    obtain ⟨h1, h2, hrest⟩ := h c
    obtain ⟨a0, a1, a2, a3, a4⟩ := hag c
    refine ⟨h1.trans ((reference_keys m' c).trans ?_), h2.trans ((reference_values m' c).trans ?_), hrest⟩
    · unfold Cert.GlaRef.aP Cert.GlaRef.aW Cert.GlaRef.aB Cert.GlaRef.aD
      rw [a0, a1, a2, a4]
    · unfold Cert.GlaRef.aP Cert.GlaRef.aW Cert.GlaRef.aB Cert.GlaRef.aD
      rw [a0, a1, a2, a4]

end Cert.GlaProof

end
-- ==== Proof.MemKvValue.lean ====
/-
  The keys and values of the memory tokens, as the kernel computes them: the product of the normalised memory and the
  weights, half of the result at each grid point.
-/
module

public import proofs.«01_k».proof.Proof.GlaClaims
public import proofs.«01_k».proof.Proof.Gen.MemKvIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MemKvIdeal.Prod

open Cert.MemKvIdeal Cert.MemKvIdeal.Gen

/-- The memory times the weights. -/
def result (a : Vec Ideal S256x2048 .bf16) (b : Vec Ideal S2048x1024 .bf16) : Vec Ideal S256x1024 .f32 :=
  fun y => ∑ k : Fin 2048, a (ix2 (y 0) k) * b (ix2 k (y 1))

/-- What one point writes is the product of its two blocks. -/
theorem block_apply (a : Vec Ideal S256x2048 .bf16) (b : Vec Ideal S2048x512 .bf16) (y : S256x512.Idx) :
    k0_pay1 (F := Ideal) a b y = ∑ k : Fin 2048, a (ix2 (y 0) k) * b (ix2 k (y 1)) := by pointwise [k0_pay1]

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])

/-- The kernel's result array. -/
theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [block_apply]
  unfold result
  refine Finset.sum_congr (M := EReal) rfl fun k _ => ?_
  congr 1 <;> blk_ext [iblk, V, idx0, idx1, idx2]

end Cert.MemKvIdeal.Prod

end
-- ==== Proof.MemKvClaims.lean ====
/-
  The claims about the product that makes the keys and values of the memory.
-/
module

public import proofs.«01_k».proof.Proof.MemKvValue
public import proofs.«01_k».proof.Proof.Gen.MemKv.Frame
public import proofs.«01_k».proof.Proof.Gen.MemKvReferenceIdeal.Run

@[expose] public section

set_option maxRecDepth 16384

noncomputable section

open Idealize.ShloMosaic Idealize.ShloMosaic.TcCoe Idealize.SL.Sem

namespace Cert.MemKvProof

/-- The kernel, on its own words, runs and leaves its arguments as they were. -/
theorem frame_kernel : Cert.quiescent_MemKv := fun m ρ _ => Cert.MemKv.Gen.frame m ρ

/-- The kernel over the extended reals runs and leaves its arguments as they were. -/
theorem frame_ideal : Cert.quiescent_MemKvIdeal := fun m ρ _ => Cert.MemKvIdeal.Gen.frame m ρ

/-- The reference runs and leaves its arguments as they were. -/
theorem frame_reference : Cert.quiescent_MemKvReferenceIdeal := fun m ρ _ =>
  (θ_run Cert.MemKvReferenceIdeal.defs _ _).mono (fun r h => ⟨fun c => (h c).2, sem_eq_zero_of_no_sems (by decide) r.2⟩)
    (Cert.MemKvReferenceIdeal.Value.run (F := Ideal) m ρ)

open Cert.MemKvReferenceIdeal Cert.MemKvReferenceIdeal.Gen in
/-- The reference's product is the kernel's. -/
theorem reference_eq (a : Vec Ideal S256x2048 .bf16) (b : Vec Ideal S2048x1024 .bf16) :
    Host.dotGeneral (F := Ideal) dot_S256x2048_S2048x1024_S256x1024_1_0_0_1_n_n none (extf .f32 a bitsLt_bf16_f32) (extf .f32 b bitsLt_bf16_f32)
      = Cert.MemKvIdeal.Prod.result a b := by
  funext y
  unfold Cert.MemKvIdeal.Prod.result
  pointwise

/-- The kernel's result is the reference's. -/
theorem algebraic : Cert.algebraic_MemKvIdeal_MemKvReferenceIdeal := fun m ρ m' ρ' _ hag => by
  refine ⟨fun c => Cert.MemKvIdeal.Prod.result (m ((c.tc : Thread _ _).loc Cert.MemKvIdeal.main_arg0)) (m ((c.tc : Thread _ _).loc Cert.MemKvIdeal.main_arg1)), ?_, ?_⟩
  · refine (θ_run Cert.MemKvIdeal.defs _ _).mono (fun r h c => ?_) (Cert.MemKvIdeal.Value.run_blocks (F := Ideal) m ρ)
    exact ⟨(h c).1.trans (Cert.MemKvIdeal.Prod.final m c), (h c).2⟩
  · refine (θ_run Cert.MemKvReferenceIdeal.defs _ _).mono (fun r h c => ?_) (Cert.MemKvReferenceIdeal.Value.run (F := Ideal) m' ρ')
    obtain ⟨a0, a1⟩ := hag c
    refine ⟨(h c).1.trans ?_, (h c).2⟩
    rw [a0, a1]
    exact reference_eq _ _

end Cert.MemKvProof

end
-- ==== Proof.KvWeightGradValue.lean ====
/-
  The gradient of the memory's key and value weights, as the kernel computes it: the product of the transposed memory and
  the incoming gradient, at one grid point.
-/
module

public import proofs.«01_k».proof.Proof.MemKvClaims
public import proofs.«01_k».proof.Proof.Gen.KvWeightGradIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KvWeightGradIdeal.Prod

open Cert.KvWeightGradIdeal Cert.KvWeightGradIdeal.Gen

/-- The transposed memory times the incoming gradient. -/
def result (a : Vec Ideal S256x2048 .bf16) (b : Vec Ideal S256x1024 .bf16) : Vec Ideal S2048x1024 .bf16 :=
  fun y => ∑ k : Fin 256, a (ix2 k (y 0)) * b (ix2 k (y 1))

/-- What one point writes is the product of its two blocks. -/
theorem block_apply (a : Vec Ideal S256x2048 .bf16) (b : Vec Ideal S256x1024 .bf16) (y : S2048x1024.Idx) :
    k0_pay1 (F := Ideal) a b y = ∑ k : Fin 256, a (ix2 k (y 0)) * b (ix2 k (y 1)) := by pointwise [k0_pay1]

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])

/-- The kernel's result array. -/
theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [block_apply]
  unfold result
  refine Finset.sum_congr (M := EReal) rfl fun k _ => ?_
  congr 1 <;> blk_ext [iblk, V, idx0, idx1, idx2]

end Cert.KvWeightGradIdeal.Prod

end
-- ==== Proof.KvWeightGradClaims.lean ====
/-
  The claims about the gradient of the memory's key and value weights.
-/
module

public import proofs.«01_k».proof.Proof.KvWeightGradValue
public import proofs.«01_k».proof.Proof.Gen.KvWeightGrad.Frame
public import proofs.«01_k».proof.Proof.Gen.KvWeightGradReferenceIdeal.Run

@[expose] public section

set_option maxRecDepth 16384

noncomputable section

open Idealize.ShloMosaic Idealize.ShloMosaic.TcCoe Idealize.SL.Sem

namespace Cert.KvWeightGradProof

/-- The kernel, on its own words, runs and leaves its arguments as they were. -/
theorem frame_kernel : Cert.quiescent_KvWeightGrad := fun m ρ _ => Cert.KvWeightGrad.Gen.frame m ρ

/-- The kernel over the extended reals runs and leaves its arguments as they were. -/
theorem frame_ideal : Cert.quiescent_KvWeightGradIdeal := fun m ρ _ => Cert.KvWeightGradIdeal.Gen.frame m ρ

/-- The reference runs and leaves its arguments as they were. -/
theorem frame_reference : Cert.quiescent_KvWeightGradReferenceIdeal := fun m ρ _ =>
  (θ_run Cert.KvWeightGradReferenceIdeal.defs _ _).mono (fun r h => ⟨fun c => (h c).2, sem_eq_zero_of_no_sems (by decide) r.2⟩)
    (Cert.KvWeightGradReferenceIdeal.Value.run (F := Ideal) m ρ)

open Cert.KvWeightGradReferenceIdeal Cert.KvWeightGradReferenceIdeal.Gen in
/-- The reference's product is the kernel's. -/
theorem reference_eq (a : Vec Ideal S256x2048 .bf16) (b : Vec Ideal S256x1024 .bf16) :
    truncf (F := Ideal) .bf16 (transpose S2048x1024 [1, 0] (Host.dotGeneral dot_S256x1024_S256x2048_S1024x2048_0_0_1_1_n_n none (extf .f32 b bitsLt_bf16_f32) (extf .f32 a bitsLt_bf16_f32)) transposes_S1024x2048_S2048x1024_1_0) bitsLt_bf16_f32
      = Cert.KvWeightGradIdeal.Prod.result a b := by
  funext y
  unfold Cert.KvWeightGradIdeal.Prod.result
  pointwise
  exact Finset.sum_congr rfl fun k _ => mul_comm _ _

/-- The kernel's result is the reference's. -/
theorem algebraic : Cert.algebraic_KvWeightGradIdeal_KvWeightGradReferenceIdeal := fun m ρ m' ρ' _ hag => by
  refine ⟨fun c => Cert.KvWeightGradIdeal.Prod.result (m ((c.tc : Thread _ _).loc Cert.KvWeightGradIdeal.main_arg0)) (m ((c.tc : Thread _ _).loc Cert.KvWeightGradIdeal.main_arg1)), ?_, ?_⟩
  · refine (θ_run Cert.KvWeightGradIdeal.defs _ _).mono (fun r h c => ?_) (Cert.KvWeightGradIdeal.Value.run_blocks (F := Ideal) m ρ)
    exact ⟨(h c).1.trans (Cert.KvWeightGradIdeal.Prod.final m c), (h c).2⟩
  · refine (θ_run Cert.KvWeightGradReferenceIdeal.defs _ _).mono (fun r h c => ?_) (Cert.KvWeightGradReferenceIdeal.Value.run (F := Ideal) m' ρ')
    obtain ⟨a0, a1⟩ := hag c
    refine ⟨(h c).1.trans ?_, (h c).2⟩
    rw [a0, a1]
    exact reference_eq _ _

end Cert.KvWeightGradProof

end
-- ==== Proof.KvInputGradValue.lean ====
/-
  The gradient of the normalised memory, as the kernel computes it: the product of the incoming gradient and the transposed
  weights, half of the result at each grid point.
-/
module

public import proofs.«01_k».proof.Proof.KvWeightGradClaims
public import proofs.«01_k».proof.Proof.Gen.KvInputGradIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KvInputGradIdeal.Prod

open Cert.KvInputGradIdeal Cert.KvInputGradIdeal.Gen

/-- The incoming gradient times the transposed weights. -/
def result (a : Vec Ideal S256x1024 .bf16) (b : Vec Ideal S2048x1024 .bf16) : Vec Ideal S256x2048 .f32 :=
  fun y => ∑ k : Fin 1024, a (ix2 (y 0) k) * b (ix2 (y 1) k)

/-- What one point writes is the product of its two blocks. -/
theorem block_apply (a : Vec Ideal S256x1024 .bf16) (b : Vec Ideal S1024x1024 .bf16) (y : S256x1024.Idx) :
    k0_pay1 (F := Ideal) a b y = ∑ k : Fin 1024, a (ix2 (y 0) k) * b (ix2 (y 1) k) := by pointwise [k0_pay1]

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val] := (by decide +kernel : ∀ t : Fin grid0.N, win0_2.index t = ![0, t.val])

/-- The kernel's result array. -/
theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [block_apply]
  unfold result
  refine Finset.sum_congr (M := EReal) rfl fun k _ => ?_
  congr 1 <;> blk_ext [iblk, V, idx0, idx1, idx2]

end Cert.KvInputGradIdeal.Prod

end
-- ==== Proof.KvInputGradClaims.lean ====
/-
  The claims about the gradient of the normalised memory.
-/
module

public import proofs.«01_k».proof.Proof.KvInputGradValue
public import proofs.«01_k».proof.Proof.Gen.KvInputGrad.Frame
public import proofs.«01_k».proof.Proof.Gen.KvInputGradReferenceIdeal.Run

@[expose] public section

set_option maxRecDepth 16384

noncomputable section

open Idealize.ShloMosaic Idealize.ShloMosaic.TcCoe Idealize.SL.Sem

namespace Cert.KvInputGradProof

/-- The kernel, on its own words, runs and leaves its arguments as they were. -/
theorem frame_kernel : Cert.quiescent_KvInputGrad := fun m ρ _ => Cert.KvInputGrad.Gen.frame m ρ

/-- The kernel over the extended reals runs and leaves its arguments as they were. -/
theorem frame_ideal : Cert.quiescent_KvInputGradIdeal := fun m ρ _ => Cert.KvInputGradIdeal.Gen.frame m ρ

/-- The reference runs and leaves its arguments as they were. -/
theorem frame_reference : Cert.quiescent_KvInputGradReferenceIdeal := fun m ρ _ =>
  (θ_run Cert.KvInputGradReferenceIdeal.defs _ _).mono (fun r h => ⟨fun c => (h c).2, sem_eq_zero_of_no_sems (by decide) r.2⟩)
    (Cert.KvInputGradReferenceIdeal.Value.run (F := Ideal) m ρ)

open Cert.KvInputGradReferenceIdeal Cert.KvInputGradReferenceIdeal.Gen in
/-- The reference's product is the kernel's. -/
theorem reference_eq (a : Vec Ideal S256x1024 .bf16) (b : Vec Ideal S2048x1024 .bf16) :
    Host.dotGeneral (F := Ideal) dot_S256x1024_S2048x1024_S256x2048_1_1_0_0_n_n none (extf .f32 a bitsLt_bf16_f32) (extf .f32 b bitsLt_bf16_f32)
      = Cert.KvInputGradIdeal.Prod.result a b := by
  funext y
  unfold Cert.KvInputGradIdeal.Prod.result
  pointwise

/-- The kernel's result is the reference's. -/
theorem algebraic : Cert.algebraic_KvInputGradIdeal_KvInputGradReferenceIdeal := fun m ρ m' ρ' _ hag => by
  refine ⟨fun c => Cert.KvInputGradIdeal.Prod.result (m ((c.tc : Thread _ _).loc Cert.KvInputGradIdeal.main_arg0)) (m ((c.tc : Thread _ _).loc Cert.KvInputGradIdeal.main_arg1)), ?_, ?_⟩
  · refine (θ_run Cert.KvInputGradIdeal.defs _ _).mono (fun r h c => ?_) (Cert.KvInputGradIdeal.Value.run_blocks (F := Ideal) m ρ)
    exact ⟨(h c).1.trans (Cert.KvInputGradIdeal.Prod.final m c), (h c).2⟩
  · refine (θ_run Cert.KvInputGradReferenceIdeal.defs _ _).mono (fun r h c => ?_) (Cert.KvInputGradReferenceIdeal.Value.run (F := Ideal) m' ρ')
    obtain ⟨a0, a1⟩ := hag c
    refine ⟨(h c).1.trans ?_, (h c).2⟩
    rw [a0, a1]
    exact reference_eq _ _

end Cert.KvInputGradProof

end
-- ==== Proof.GlaForwardHead.lean ====
/-
  One head of the gated linear attention's forward body at one group of tokens: what the three values it stores hold, entry by
  entry, as formulas in the arrays it loads.
-/
module

public import proofs.«01_k».proof.Proof.Gen.GlaForwardIdeal.Skeleton
public import proofs.«01_k».proof.Proof.GlaMath
public import Idealize.ShloMosaic.Lib.Pointwise

@[expose] public section

set_option maxRecDepth 16384

noncomputable section

open Idealize.ShloMosaic Idealize.ShloMosaic.TcCoe Idealize.SL.Sem

namespace Cert.GlaFwd
open Cert.GlaForwardIdeal Cert.GlaForwardIdeal.Gen
open Cert.Gla (Grid row row_val of_four gateLog cumOf totOf queryOf keep)

variable (q k : Vec Ideal S256x128 .bf16) (v : Vec Ideal S256x256 .bf16) (t : Vec Ideal S256x128 .bf16) (w : Vec Ideal S1x128x128 .f32)
  (b : Vec Ideal S1x1x128 .f32) (cm mk : Vec Ideal S256x256 .f32) (a : Vec Ideal S1x128x256 .f32)

/-- A loaded matrix as a matrix of numbers. -/
abbrev mat {n m : ℕ} (x : (⟨2, ![n, m]⟩ : Shape).Idx → EReal) : Grid n m := fun r j => x (ix2 r j)

/-- The logarithms of the gates. -/
def logs : Grid 256 128 := fun r j => gateLog (∑ x, t (ix2 r x) * w (ix3 0 x j) + b (ix3 0 0 j))

/-- The keys with the decay from a token to the end of its chunk. -/
def decayed (k c : Grid 256 128) (s : Grid 4 128) : Fin 4 → Fin 64 → Fin 128 → EReal :=
  fun g i j => k (row g i) j * Ideal.exp (s g j - c (row g i) j)

/-- The state on entering the group, and after each of its chunks. -/
def after (z : Fin 4 → Fin 64 → Fin 128 → EReal) (v : Grid 256 256) (s : Grid 4 128) (a : Grid 128 256) : ℕ → Grid 128 256
  | 0 => a
  | n + 1 => fun j e => after z v s a n j e * Ideal.exp (s ⟨min n 3, by omega⟩ j) + ∑ i, z ⟨min n 3, by omega⟩ i j * v (row ⟨min n 3, by omega⟩ i) e

/-- The output at token `i` of chunk `g`: what the chunk's own tokens up to it give, and what the state gives. -/
def outOf (mk : Grid 256 256) (x c k : Grid 256 128) (v : Grid 256 256) (S : Grid 128 256) (g : Fin 4) (i : Fin 64) (e : Fin 256) : EReal :=
  ∑ r, keep (mk (row g i) r) (∑ j, x (row g i) j * (k r j * Ideal.exp (0 - c r j))) * v r e + ∑ j, x (row g i) j * S j e

/-- The kernel's values for the two parts of a gate, for the running sums of the logarithms and for their sums over the chunks. -/
abbrev kZ := k0_pay12 t w
abbrev kB := k0_pay13 b
abbrev kC := k0_pay15 (k0_pay5 cm) (kZ t w) (kB b)

abbrev sC : Grid 256 128 := cumOf (mat cm) (logs t w b)
abbrev sQ : Grid 256 128 := queryOf (mat q) (sC t w b cm)
abbrev sT : Grid 4 128 := totOf (logs t w b)
abbrev sA : Grid 128 256 := fun j e => a (ix3 0 j e)
abbrev sE : Fin 4 → Fin 64 → Fin 128 → EReal := decayed (mat k) (sC t w b cm) (sT t w b)
abbrev sS : ℕ → Grid 128 256 := after (sE k t w b cm) (mat v) (sT t w b) (sA a)

/-- The values as the kernel reads them, and the state it finds. -/
theorem kV_apply (r : Fin 256) (e : Fin 256) : k0_pay11 v (ix2 r e) = v (ix2 r e) := by pointwise [k0_pay11]
theorem kA_apply (j : Fin 128) (e : Fin 256) : k0_pay7 a (ix2 j e) = a (ix3 0 j e) := by pointwise [k0_pay7]

theorem kLog_apply (r : Fin 256) (j : Fin 128) : k0_pay14 (kZ t w) (kB b) (ix2 r j) = logs t w b r j := by
  pointwise [k0_pay14, k0_pay12, k0_pay13, k0_pay4]
  rfl

theorem kC_apply (r : Fin 256) (j : Fin 128) : kC t w b cm (ix2 r j) = sC t w b cm r j := by
  pointwise [k0_pay15, kLog_apply, k0_pay5]
  rfl

theorem kTot_0 (j : Fin 128) : k0_pay16 (kZ t w) (kB b) (ix2 0 j) = sT t w b 0 j := by
  pointwise [k0_pay16, kLog_apply]
  exact Finset.sum_congr rfl fun i _ => congrArg (fun r => logs t w b r j) (Fin.ext (by simp [row]))

theorem kTot_1 (j : Fin 128) : k0_pay17 (kZ t w) (kB b) (ix2 0 j) = sT t w b 1 j := by
  pointwise [k0_pay17, kLog_apply]
  rfl

theorem kTot_2 (j : Fin 128) : k0_pay18 (kZ t w) (kB b) (ix2 0 j) = sT t w b 2 j := by
  pointwise [k0_pay18, kLog_apply]
  rfl

theorem kTot_3 (j : Fin 128) : k0_pay19 (kZ t w) (kB b) (ix2 0 j) = sT t w b 3 j := by
  pointwise [k0_pay19, kLog_apply]
  rfl

/-- The sum over a token's chunk, at each token. -/
abbrev kL := k0_pay20 (kZ t w) (kB b)

theorem kL_apply (g : Fin 4) (i : Fin 64) (j : Fin 128) : kL t w b (ix2 (row g i) j) = sT t w b g j := by
  have hi := i.isLt
  pointwise [k0_pay20, kTot_0, kTot_1, kTot_2, kTot_3]
  revert g
  refine of_four ?_ ?_ ?_ ?_
  · have h : (row 0 i).val = 0 + i.val := by simp [row]
    rw [dif_pos (by omega)]
  · have h : (row 1 i).val = 64 + i.val := rfl
    rw [dif_neg (by omega), dif_pos (by omega)]
  · have h : (row 2 i).val = 128 + i.val := rfl
    rw [dif_neg (by omega), dif_neg (by omega), dif_pos (by omega)]
  · have h : (row 3 i).val = 192 + i.val := rfl
    rw [dif_neg (by omega), dif_neg (by omega), dif_neg (by omega)]

/-- The queries with the gates up to the token. -/
abbrev kQ := k0_pay21 (k0_pay5 cm) (k0_pay9 q) (kZ t w) (kB b)

theorem kQ_apply (r : Fin 256) (j : Fin 128) : kQ q t w b cm (ix2 r j) = sQ q t w b cm r j := by
  pointwise [k0_pay21, k0_pay9, kC_apply]
  rfl

/-- The keys with the decay to the end of the chunk. -/
abbrev kE := k0_pay23 (k0_pay10 k) (kC t w b cm) (kL t w b)

theorem kE_apply (g : Fin 4) (i : Fin 64) (j : Fin 128) : kE k t w b cm (ix2 (row g i) j) = sE k t w b cm g i j := by
  pointwise [k0_pay23, k0_pay10, kL_apply, kC_apply]
  rfl

/-- The states after chunks 0, 1, 2 and 3. -/
abbrev kS1 := k0_pay26 (k0_pay7 a) (k0_pay10 k) (k0_pay11 v) (kC t w b cm) (k0_pay16 (kZ t w) (kB b)) (kL t w b)
abbrev kS2 := k0_pay28 (k0_pay7 a) (k0_pay10 k) (k0_pay11 v) (kC t w b cm) (k0_pay16 (kZ t w) (kB b)) (k0_pay17 (kZ t w) (kB b)) (kL t w b)
abbrev kM3 := k0_pay30 (k0_pay7 a) (k0_pay10 k) (k0_pay11 v) (kC t w b cm) (k0_pay16 (kZ t w) (kB b)) (k0_pay17 (kZ t w) (kB b)) (k0_pay18 (kZ t w) (kB b)) (kL t w b)
abbrev kS3 := k0_pay31 (k0_pay11 v) (kE k t w b cm) (kM3 k v t w b cm a)

theorem kS1_apply (j : Fin 128) (e : Fin 256) : kS1 k v t w b cm a (ix2 j e) = sS k v t w b cm a 1 j e := by
  pointwise [k0_pay26, kA_apply, kV_apply, kTot_0]
  refine congrArg₂ (fun x y : EReal => x + y) rfl (Finset.sum_congr rfl fun i _ => ?_)
  refine congrArg₂ (fun x y : EReal => x * y) (Eq.trans ?_ (kE_apply k t w b cm 0 i j)) ?_
  · exact congrArg (fun r => kE k t w b cm (ix2 r j)) (Fin.ext (by simp [row]))
  · exact congrArg (fun r => v (ix2 r e)) (Fin.ext (by simp [row]))

theorem kS2_apply (j : Fin 128) (e : Fin 256) : kS2 k v t w b cm a (ix2 j e) = sS k v t w b cm a 2 j e := by
  pointwise [k0_pay28, kS1_apply, kV_apply, kTot_1]
  exact congrArg₂ (fun x y : EReal => x + y) rfl (Finset.sum_congr rfl fun i _ => congrArg (fun x : EReal => x * v (ix2 (row 1 i) e)) (kE_apply k t w b cm 1 i j))

theorem kS3_apply (j : Fin 128) (e : Fin 256) : kS3 k v t w b cm a (ix2 j e) = sS k v t w b cm a 3 j e := by
  pointwise [k0_pay31, k0_pay30, kS2_apply, kV_apply, kTot_2]
  exact congrArg₂ (fun x y : EReal => x + y) rfl (Finset.sum_congr rfl fun i _ => congrArg (fun x : EReal => x * v (ix2 (row 2 i) e)) (kE_apply k t w b cm 2 i j))

/-- The head's new state, as it is stored. -/
def kState : Vec Ideal S1x128x256 .f32 := k0_pay33 (k0_pay11 v) (k0_pay19 (kZ t w) (kB b)) (kE k t w b cm) (kM3 k v t w b cm a)

theorem kState_apply (j : Fin 128) (e : Fin 256) : kState k v t w b cm a (ix3 0 j e) = sS k v t w b cm a 4 j e := by
  rw [kState]
  pointwise [k0_pay33, kS3_apply, kV_apply, kTot_3]
  exact congrArg₂ (fun x y : EReal => x + y) rfl (Finset.sum_congr rfl fun i _ => congrArg (fun x : EReal => x * v (ix2 (row 3 i) e)) (kE_apply k t w b cm 3 i j))

/-- The head's state on entering the group, as it is stored. -/
def kSaved : Vec Ideal S1x1x128x256 .f32 := k0_pay8 a

theorem kSaved_apply (j : Fin 128) (e : Fin 256) : kSaved a (ix4 0 0 j e) = a (ix3 0 j e) := by
  rw [kSaved]
  pointwise [k0_pay8, kA_apply]

/-- The part of the output that comes from the chunk's own tokens. -/
abbrev kI := k0_pay24 (k0_pay6 mk) (k0_pay10 k) (k0_pay11 v) (kQ q t w b cm) (k0_pay22 (k0_pay5 cm) (kZ t w) (kB b))

theorem kI_apply (r : Fin 256) (e : Fin 256) : kI q k v t w b cm mk (ix2 r e)
    = ∑ x, keep (mat mk r x) (∑ j, sQ q t w b cm r j * (mat k x j * Ideal.exp (0 - sC t w b cm x j))) * mat v x e := by
  pointwise [k0_pay24, k0_pay22, k0_pay6, k0_pay10, kV_apply, kQ_apply, kC_apply]
  rfl

/-- The head's output, as it is stored. -/
def kOut : Vec Ideal S256x256 .f32 := k0_pay32 (k0_pay11 v) (kQ q t w b cm) (kE k t w b cm) (kI q k v t w b cm mk)
  (k0_pay25 (k0_pay7 a) (kQ q t w b cm))
  (k0_pay27 (k0_pay7 a) (k0_pay10 k) (k0_pay11 v) (kC t w b cm) (k0_pay16 (kZ t w) (kB b)) (kL t w b) (kQ q t w b cm))
  (k0_pay29 (k0_pay7 a) (k0_pay10 k) (k0_pay11 v) (kC t w b cm) (k0_pay16 (kZ t w) (kB b)) (k0_pay17 (kZ t w) (kB b)) (kL t w b) (kQ q t w b cm))
  (kM3 k v t w b cm a)

theorem kOut_apply (g : Fin 4) (i : Fin 64) (e : Fin 256) : kOut q k v t w b cm mk a (ix2 (row g i) e)
    = outOf (mat mk) (sQ q t w b cm) (sC t w b cm) (mat k) (mat v) (sS k v t w b cm a g.val) g i e := by
  have hi := i.isLt
  rw [kOut]
  unfold outOf
  rw [← kI_apply]
  pointwise [k0_pay32, k0_pay25, k0_pay27, k0_pay29, kA_apply, kS1_apply, kS2_apply, kS3_apply, kQ_apply]
  refine congrArg₂ (fun x y : EReal => x + y) rfl ?_
  revert g
  refine of_four ?_ ?_ ?_ ?_
  · have h : (row 0 i).val = 0 + i.val := by simp [row]
    have h64 : (row 0 i).val < 64 := by omega
    have h128 : (row 0 i).val < 128 := by omega
    have h192 : (row 0 i).val < 192 := by omega
    simp only [h64, h128, h192, ↓reduceDIte]
    exact Finset.sum_congr rfl fun x _ => congrArg (fun y => sQ q t w b cm y x * a (ix3 0 x e)) (Fin.ext (by simp [row]))
  · have h : (row 1 i).val = 64 + i.val := rfl
    have h64 : ¬ (row 1 i).val < 64 := by omega
    have h128 : (row 1 i).val < 128 := by omega
    have h192 : (row 1 i).val < 192 := by omega
    have h1 : (row 1 i).val - 64 < 64 := by omega
    simp only [h64, h1, ↓reduceDIte]
    exact Finset.sum_congr rfl fun x _ => congrArg (fun y => sQ q t w b cm y x * sS k v t w b cm a 1 x e) (Fin.ext (by show 64 + ((row 1 i).val - 64) = (row 1 i).val; omega))
  · have h : (row 2 i).val = 128 + i.val := rfl
    have h64 : ¬ (row 2 i).val < 64 := by omega
    have h128 : ¬ (row 2 i).val < 128 := by omega
    have h192 : (row 2 i).val < 192 := by omega
    have h1 : ¬ (row 2 i).val - 64 < 64 := by omega
    have h2 : (row 2 i).val - 64 - 64 < 64 := by omega
    simp only [h64, h1, h2, ↓reduceDIte]
    exact Finset.sum_congr rfl fun x _ => congrArg (fun y => sQ q t w b cm y x * sS k v t w b cm a 2 x e) (Fin.ext (by show 128 + ((row 2 i).val - 64 - 64) = (row 2 i).val; omega))
  · have h : (row 3 i).val = 192 + i.val := rfl
    have h64 : ¬ (row 3 i).val < 64 := by omega
    have h128 : ¬ (row 3 i).val < 128 := by omega
    have h192 : ¬ (row 3 i).val < 192 := by omega
    have h1 : ¬ (row 3 i).val - 64 < 64 := by omega
    have h2 : ¬ (row 3 i).val - 64 - 64 < 64 := by omega
    simp only [h64, h1, h2, ↓reduceDIte]
    exact Finset.sum_congr rfl fun x _ => congrArg (fun y => sQ q t w b cm y x * sS k v t w b cm a 3 x e) (Fin.ext (by show 192 + ((row 3 i).val - 64 - 64 - 64) = (row 3 i).val; omega))

end Cert.GlaFwd

end
-- ==== Proof.GlaForwardBlock.lean ====
/-
  What the forward body of the gated linear attention leaves at one group of tokens, over all four heads: the block of the output,
  that of the saved states, and the states carried to the next group.
-/
module

public import proofs.«01_k».proof.Proof.GlaForwardHead
public import proofs.«01_k».proof.Proof.GlaBlock
public import proofs.«01_k».proof.Proof.Gen.GlaForwardIdeal.Value
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem

namespace Cert.GlaFwd

open Cert.GlaForwardIdeal Cert.GlaForwardIdeal.Gen
open Cert.Gla (colK colV headV laneV headV_colV laneV_colV cutK cutV cutW cutB cutS ld_cutK ld_cutV ld_cutW ld_cutB ld_cutS off_zero heads_state)

variable (x0 x1 : Vec Ideal S256x512 .bf16) (x2 : Vec Ideal S256x1024 .bf16) (x3 : Vec Ideal S256x128 .bf16) (x4 : Vec Ideal S4x128x128 .f32)
  (x5 : Vec Ideal S4x1x128 .f32) (x6 x7 : Vec Ideal S256x256 .f32) (a : Vec Ideal S4x128x256 .f32)

/-- The block of the output. -/
def blockOut : Vec Ideal S256x1024 .f32 := fun y =>
  kOut (cutK x0 (headV (y 1))) (cutK x1 (headV (y 1))) (cutV x2 (headV (y 1))) x3 (cutW x4 (headV (y 1))) (cutB x5 (headV (y 1))) x6 x7 (cutS a (headV (y 1)))
    (ix2 (y 0) (laneV (y 1)))

/-- The block of the saved states. -/
def blockSaved : Vec Ideal S4x1x128x256 .f32 := fun y => kSaved (cutS a (y 0)) (ix4 0 0 (y 2) (y 3))

/-- The states carried on. -/
def blockState : Vec Ideal S4x128x256 .f32 := fun y =>
  kState (cutK x1 (y 0)) (cutV x2 (y 0)) x3 (cutW x4 (y 0)) (cutB x5 (y 0)) x6 (cutS a (y 0)) (ix3 0 (y 1) (y 2))

/-- A store of one head's output is a piece of the block. -/
theorem pieceOut (h : Fin 4) (o : ℕ) (ho : o = 256 * h.val) (inb : ∀ a, (![0, o] : Fin 2 → ℕ) a + S256x256.size a ≤ S256x1024.size a) :
    ∀ x : S256x256.Idx, kOut (cutK x0 h) (cutK x1 h) (cutV x2 h) x3 (cutW x4 h) (cutB x5 h) x6 x7 (cutS a h) x
      = blockOut x0 x1 x2 x3 x4 x5 x6 x7 a ((Rect.unit (s := S256x1024) ![0, o] S256x256.size inb).emb x) := by
  intro x
  obtain ⟨r, j, rfl⟩ : ∃ (r j : Fin 256), x = ix2 r j := ⟨x 0, x 1, (ix2_eta x).symm⟩
  have e : (Rect.unit (s := S256x1024) ![0, o] S256x256.size inb).emb (ix2 r j) = ix2 r (colV h j) := by
    refine funext fun a => Fin.ext ?_
    match a with
    | ⟨0, _⟩ => show 0 + 1 * r.val = r.val; omega
    | ⟨1, _⟩ => show o + 1 * j.val = 256 * h.val + j.val; omega
  rw [e]
  show _ = kOut (cutK x0 (headV (colV h j))) (cutK x1 (headV (colV h j))) (cutV x2 (headV (colV h j))) x3 (cutW x4 (headV (colV h j))) (cutB x5 (headV (colV h j))) x6 x7 (cutS a (headV (colV h j)))
    (ix2 r (laneV (colV h j)))
  rw [headV_colV, laneV_colV]

/-- A store of one head's saved state is a piece of the block. -/
theorem pieceSaved (h : Fin 4) (o : ℕ) (ho : o = h.val) (inb : ∀ a, (![o, 0, 0, 0] : Fin 4 → ℕ) a + S1x1x128x256.size a ≤ S4x1x128x256.size a) :
    ∀ x : S1x1x128x256.Idx, kSaved (cutS a h) x = blockSaved a ((Rect.unit (s := S4x1x128x256) ![o, 0, 0, 0] S1x1x128x256.size inb).emb x) := by
  intro x
  obtain ⟨z, z', j, k, rfl⟩ : ∃ (z z' : Fin 1) (j : Fin 128) (k : Fin 256), x = ix4 z z' j k := ⟨x 0, x 1, x 2, x 3, (ix4_eta x).symm⟩
  obtain rfl : z = 0 := Subsingleton.elim _ _
  obtain rfl : z' = 0 := Subsingleton.elim _ _
  have e : (Rect.unit (s := S4x1x128x256) ![o, 0, 0, 0] S1x1x128x256.size inb).emb (ix4 0 0 j k) = ix4 h 0 j k := by
    refine funext fun a => Fin.ext ?_
    match a with
    | ⟨0, _⟩ => show o + 1 * 0 = h.val; omega
    | ⟨1, _⟩ => rfl
    | ⟨2, _⟩ => show 0 + 1 * j.val = j.val; omega
    | ⟨3, _⟩ => show 0 + 1 * k.val = k.val; omega
  rw [e]
  rfl

/-- A store of one head's state is a piece of what is carried. -/
theorem pieceState (h : Fin 4) (o : ℕ) (ho : o = h.val) (inb : ∀ a, (![o, 0, 0] : Fin 3 → ℕ) a + S1x128x256.size a ≤ S4x128x256.size a) :
    ∀ x : S1x128x256.Idx, kState (cutK x1 h) (cutV x2 h) x3 (cutW x4 h) (cutB x5 h) x6 (cutS a h) x
      = blockState x1 x2 x3 x4 x5 x6 a ((Rect.unit (s := S4x128x256) ![o, 0, 0] S1x128x256.size inb).emb x) := by
  intro x
  obtain ⟨z, j, k, rfl⟩ : ∃ (z : Fin 1) (j : Fin 128) (k : Fin 256), x = ix3 z j k := ⟨x 0, x 1, x 2, (ix3_eta x).symm⟩
  obtain rfl : z = 0 := Subsingleton.elim _ _
  have e : (Rect.unit (s := S4x128x256) ![o, 0, 0] S1x128x256.size inb).emb (ix3 0 j k) = ix3 h j k := by
    refine funext fun a => Fin.ext ?_
    match a with
    | ⟨0, _⟩ => show o + 1 * 0 = h.val; omega
    | ⟨1, _⟩ => show 0 + 1 * j.val = j.val; omega
    | ⟨2, _⟩ => show 0 + 1 * k.val = k.val; omega
  rw [e]
  rfl

variable (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x128 .bf16) (harg5 : arg5.IsWhole) (arg6 : Memref sig .tc .vmem S4x128x128 .f32) (harg6 : arg6.IsWhole) (arg7 : Memref sig .tc .vmem S4x1x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x1024 .f32) (harg10 : arg10.IsWhole) (arg11 : Memref sig .tc .vmem S4x1x128x256 .f32) (harg11 : arg11.IsWhole) (arg12 : Memref sig .tc .vmem S4x128x256 .f32) (harg12 : arg12.IsWhole)

/-- The block of the output, at the first group, where nothing has been carried yet. -/
theorem outA_out (hc0 : cond0_0 i) : out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = blockOut x0 x1 x2 x3 x4 x5 x6 x7 (k0_pay3 (F := Ideal)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  funext y
  refine View.canon_apply_of_pieces _ _ (View.PiecesOf.mem ?_) y (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7 y)
  unfold kernelRun0_A
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero, View.ld_unit_zero (S := S256x256) off_zero]
  exact ⟨pieceOut x0 x1 x2 x3 x4 x5 x6 x7 (k0_pay3 (F := Ideal)) 3 768 rfl inb_S256x1024_S256x256_0_768, pieceOut x0 x1 x2 x3 x4 x5 x6 x7 (k0_pay3 (F := Ideal)) 2 512 rfl inb_S256x1024_S256x256_0_512, pieceOut x0 x1 x2 x3 x4 x5 x6 x7 (k0_pay3 (F := Ideal)) 1 256 rfl inb_S256x1024_S256x256_0_256, pieceOut x0 x1 x2 x3 x4 x5 x6 x7 (k0_pay3 (F := Ideal)) 0 0 rfl inb_S256x1024_S256x256_0_0, trivial⟩

/-- The block of the saved states, at the first group, where nothing has been carried yet. -/
theorem outA_saved (hc0 : cond0_0 i) : out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 = blockSaved (k0_pay3 (F := Ideal)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  funext y
  refine View.canon_apply_of_pieces _ _ (View.PiecesOf.mem ?_) y (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 y)
  unfold kernelRun0_A
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  exact ⟨pieceSaved (k0_pay3 (F := Ideal)) 3 3 rfl inb_S4x1x128x256_S1x1x128x256_3_0_0_0, pieceSaved (k0_pay3 (F := Ideal)) 2 2 rfl inb_S4x1x128x256_S1x1x128x256_2_0_0_0, pieceSaved (k0_pay3 (F := Ideal)) 1 1 rfl inb_S4x1x128x256_S1x1x128x256_1_0_0_0, pieceSaved (k0_pay3 (F := Ideal)) 0 0 rfl inb_S4x1x128x256_S1x1x128x256_0_0_0_0, trivial⟩

/-- The states carried on, at the first group, where nothing has been carried yet. -/
theorem outA_state (hc0 : cond0_0 i) : sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = blockState x1 x2 x3 x4 x5 x6 (k0_pay3 (F := Ideal)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero]
  exact heads_state _ _ _ _ _ _ (pieceState x1 x2 x3 x4 x5 x6 (k0_pay3 (F := Ideal)) 3 3 rfl inb_S4x128x256_S1x128x256_3_0_0) (pieceState x1 x2 x3 x4 x5 x6 (k0_pay3 (F := Ideal)) 2 2 rfl inb_S4x128x256_S1x128x256_2_0_0) (pieceState x1 x2 x3 x4 x5 x6 (k0_pay3 (F := Ideal)) 1 1 rfl inb_S4x128x256_S1x128x256_1_0_0) (pieceState x1 x2 x3 x4 x5 x6 (k0_pay3 (F := Ideal)) 0 0 rfl inb_S4x128x256_S1x128x256_0_0_0)

/-- The block of the output, at a later group. -/
theorem outB_out (hc0 : ¬cond0_0 i) : out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 a = blockOut x0 x1 x2 x3 x4 x5 x6 x7 a := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 a)]
  funext y
  refine View.canon_apply_of_pieces _ _ (View.PiecesOf.mem ?_) y (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 a y)
  unfold kernelRun0_B
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero, View.ld_unit_zero (S := S256x256) off_zero]
  exact ⟨pieceOut x0 x1 x2 x3 x4 x5 x6 x7 a 3 768 rfl inb_S256x1024_S256x256_0_768, pieceOut x0 x1 x2 x3 x4 x5 x6 x7 a 2 512 rfl inb_S256x1024_S256x256_0_512, pieceOut x0 x1 x2 x3 x4 x5 x6 x7 a 1 256 rfl inb_S256x1024_S256x256_0_256, pieceOut x0 x1 x2 x3 x4 x5 x6 x7 a 0 0 rfl inb_S256x1024_S256x256_0_0, trivial⟩

/-- The block of the saved states, at a later group. -/
theorem outB_saved (hc0 : ¬cond0_0 i) : out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 a = blockSaved a := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 a)]
  funext y
  refine View.canon_apply_of_pieces _ _ (View.PiecesOf.mem ?_) y (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 a y)
  unfold kernelRun0_B
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  exact ⟨pieceSaved a 3 3 rfl inb_S4x1x128x256_S1x1x128x256_3_0_0_0, pieceSaved a 2 2 rfl inb_S4x1x128x256_S1x1x128x256_2_0_0_0, pieceSaved a 1 1 rfl inb_S4x1x128x256_S1x1x128x256_1_0_0_0, pieceSaved a 0 0 rfl inb_S4x1x128x256_S1x1x128x256_0_0_0_0, trivial⟩

/-- The states carried on, at a later group. -/
theorem outB_state (hc0 : ¬cond0_0 i) : sout0_B_0 c i arg2 harg2 arg3 harg3 arg4 harg4 arg5 harg5 arg6 harg6 arg7 harg7 arg8 harg8 arg9 harg9 arg10 harg10 arg11 harg11 arg12 harg12 hc0 x0 x1 x2 x3 x4 x5 x6 x7 a = blockState x1 x2 x3 x4 x5 x6 a := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 x0 x1 x2 x3 x4 x5 x6 x7 a)]
  unfold kernelRun0_B
  dsimp only
  sl_unfold_words
  simp (disch := decide) only [View.readCov_skip, View.readCov_fill, View.readAt_eq_ld, Memref.IsWhole.read_unread, ld_cutK _ 3 384 rfl, ld_cutV _ 3 768 rfl, ld_cutW _ 3 3 rfl, ld_cutB _ 3 3 rfl, ld_cutS _ 3 3 rfl, ld_cutK _ 2 256 rfl, ld_cutV _ 2 512 rfl, ld_cutW _ 2 2 rfl, ld_cutB _ 2 2 rfl, ld_cutS _ 2 2 rfl, ld_cutK _ 1 128 rfl, ld_cutV _ 1 256 rfl, ld_cutW _ 1 1 rfl, ld_cutB _ 1 1 rfl, ld_cutS _ 1 1 rfl, ld_cutK _ 0 0 rfl, ld_cutV _ 0 0 rfl, ld_cutW _ 0 0 rfl, ld_cutB _ 0 0 rfl, ld_cutS _ 0 0 rfl]
  rw [View.ld_unit_zero (S := S256x128) off_zero, View.ld_unit_zero (S := S256x256) off_zero]
  exact heads_state _ _ _ _ _ _ (pieceState x1 x2 x3 x4 x5 x6 a 3 3 rfl inb_S4x128x256_S1x128x256_3_0_0) (pieceState x1 x2 x3 x4 x5 x6 a 2 2 rfl inb_S4x128x256_S1x128x256_2_0_0) (pieceState x1 x2 x3 x4 x5 x6 a 1 1 rfl inb_S4x128x256_S1x128x256_1_0_0) (pieceState x1 x2 x3 x4 x5 x6 a 0 0 rfl inb_S4x128x256_S1x128x256_0_0_0)

/-- The zero state the sweep starts from. -/
theorem zero_apply (y : S4x128x256.Idx) : k0_pay3 (F := Ideal) y = 0 := by pointwise [k0_pay3]

end Cert.GlaFwd

end
-- ==== Proof.GlaForwardChunk.lean ====
/-
  The gated linear attention, forward, chunk by chunk: the states before the chunks and the output, as sums over the chunk's
  tokens, and one group's formulas in these terms.
-/
module

public import proofs.«01_k».proof.Proof.GlaForwardHead
public import proofs.«01_k».proof.Proof.GlaSpec

@[expose] public section

set_option maxRecDepth 16384

noncomputable section

open Idealize.ShloMosaic

namespace Cert.GlaFwd

open Cert.Gla (Grid row row_val of_four gateLog cumOf totOf queryOf keep Chunks upTo whole gated chunkNo Is Lower is_cum is_tot is_query half_lt sum_rows
  ArrP ArrW ArrB qOf kOf vOf lOf headV laneV chunkOf placeOf)

/-- The state before chunk `n`: nothing before the first; then the state before, decayed, and the chunk's own term. -/
def before (k l : Chunks 128) (v : Chunks 256) : ℕ → Grid 128 256
  | 0 => fun _ _ => 0
  | n + 1 => fun j e => before k l v n j e * Ideal.exp (whole l ⟨min n 127, by omega⟩ j)
      + ∑ i, (k ⟨min n 127, by omega⟩ i j * Ideal.exp (whole l ⟨min n 127, by omega⟩ j - upTo l ⟨min n 127, by omega⟩ i j)) * v ⟨min n 127, by omega⟩ i e

/-- The output. -/
def outputs (q k l : Chunks 128) (v : Chunks 256) : Chunks 256 := fun n i e =>
  ∑ r : Fin 64, (if r ≤ i then ∑ j, gated q l n i j * (k n r j * Ideal.exp (-upTo l n r j)) else 0) * v n r e
    + ∑ j, gated q l n i j * before k l v n.val j e

section
variable {t : Fin 32} {cm : Grid 256 256} (hcm : Lower cm) {l : Grid 256 128} {L : Chunks 128} (hl : Is t l L) (hL : ∀ n i j, L n i j ≠ ⊤)
  {q : Grid 256 128} {Q : Chunks 128} (hq : Is t q Q) {k : Grid 256 128} {K : Chunks 128} (hk : Is t k K) {v : Grid 256 256} {X : Chunks 256} (hv : Is t v X)

include hcm hl hL hk hv in
/-- Within a group the state is that before each of its chunks. -/
theorem after_eq (a : Grid 128 256) (ha : a = before K L X (4 * (31 - t.val))) :
    ∀ n ≤ 4, after (decayed k (cumOf cm l) (totOf l)) v (totOf l) a n = before K L X (4 * (31 - t.val) + n)
  | 0, _ => ha
  | n + 1, h => by
    have ht := t.isLt
    have e : chunkNo t ⟨min n 3, by omega⟩ = ⟨min (4 * (31 - t.val) + n) 127, by omega⟩ :=
      Fin.ext (by show 4 * (31 - t.val) + min n 3 = min (4 * (31 - t.val) + n) 127; omega)
    funext j f
    show after _ v _ a n j f * Ideal.exp (totOf l ⟨min n 3, _⟩ j) + ∑ i, decayed k (cumOf cm l) (totOf l) ⟨min n 3, _⟩ i j * v (row ⟨min n 3, _⟩ i) f
      = before K L X (4 * (31 - t.val) + n) j f * Ideal.exp (whole L ⟨min (4 * (31 - t.val) + n) 127, _⟩ j)
        + ∑ i, (K ⟨min (4 * (31 - t.val) + n) 127, _⟩ i j * Ideal.exp (whole L ⟨min (4 * (31 - t.val) + n) 127, _⟩ j - upTo L ⟨min (4 * (31 - t.val) + n) 127, _⟩ i j))
          * X ⟨min (4 * (31 - t.val) + n) 127, _⟩ i f
    rw [after_eq a ha n (by omega)]
    unfold decayed
    rw [is_tot hl, e]
    refine congrArg₂ (fun x y : EReal => x + y) rfl (Finset.sum_congr rfl fun i _ => ?_)
    rw [is_cum hcm hl hL, hk, hv, e]

variable {mk : Grid 256 256} (hmk : Lower mk)

include hmk in
/-- A masked sum over a group's tokens is one over the chunk's tokens up to that token. -/
theorem sum_kept (g : Fin 4) (i : Fin 64) (f h : Fin 256 → EReal) :
    ∑ r, keep (mk (row g i) r) (f r) * h r = ∑ x : Fin 64, (if x ≤ i then f (row g x) else 0) * h (row g x) := by
  rw [sum_rows, Finset.sum_eq_single g]
  · refine Finset.sum_congr rfl fun x _ => congrArg (· * h (row g x)) ?_
    unfold keep
    rw [hmk]
    by_cases hx : x ≤ i
    · rw [if_pos (⟨rfl, hx⟩ : g = g ∧ x ≤ i), if_pos half_lt.1, if_pos hx]
    · rw [if_neg (fun h' => hx h'.2 : ¬(g = g ∧ x ≤ i)), if_neg half_lt.2, if_neg hx]
  · intro g' _ hg
    refine Finset.sum_eq_zero fun x _ => ?_
    unfold keep
    rw [hmk, if_neg (fun h' => hg h'.1.symm : ¬(g = g' ∧ x ≤ i)), if_neg half_lt.2, zero_mul]
  · intro h; exact absurd (Finset.mem_univ _) h

include hcm hl hL hq hk hv hmk in
/-- The output, as a group works it out. -/
theorem outOf_eq (a : Grid 128 256) (ha : a = before K L X (4 * (31 - t.val))) (g : Fin 4) (i : Fin 64) (e : Fin 256) :
    outOf mk (queryOf q (cumOf cm l)) (cumOf cm l) k v (after (decayed k (cumOf cm l) (totOf l)) v (totOf l) a g.val) g i e
      = outputs Q K L X (chunkNo t g) i e := by
  unfold outOf outputs
  rw [after_eq hcm hl hL hk hv a ha _ (by omega),
    sum_kept hmk g i (fun r => ∑ j, queryOf q (cumOf cm l) (row g i) j * (k r j * Ideal.exp (0 - cumOf cm l r j))) (fun r => v r e)]
  refine congrArg₂ (fun a b : EReal => a + b) (Finset.sum_congr rfl fun x _ => ?_) (Finset.sum_congr rfl fun j _ => by rw [is_query hcm hl hL hq]; rfl)
  rw [hv]
  refine congrArg (fun z : EReal => (if x ≤ i then z else 0) * _) (Finset.sum_congr rfl fun j _ => ?_)
  rw [is_query hcm hl hL hq, hk, is_cum hcm hl hL, zero_sub]

end

variable (P : ArrP) (W : ArrW) (B : ArrB)

/-- One head's state before chunk `n`. -/
abbrev stateOf (h : Fin 4) (n : ℕ) : Grid 128 256 := before (kOf P h) (lOf P W B h) (vOf P h) n

/-- The array of the output. -/
def output : (⟨2, ![8192, 1024]⟩ : Shape).Idx → EReal := fun y =>
  outputs (qOf P (headV (y 1))) (kOf P (headV (y 1))) (lOf P W B (headV (y 1))) (vOf P (headV (y 1))) (chunkOf (y 0)) (placeOf (y 0)) (laneV (y 1))

/-- The array of the states before the groups of chunks. -/
def saved : (⟨4, ![4, 32, 128, 256]⟩ : Shape).Idx → EReal := fun y => stateOf P W B (y 0) (4 * (y 1).val) (y 2) (y 3)

end Cert.GlaFwd

end
-- ==== Proof.GlaForwardArray.lean ====
/-
  What the gated linear attention's forward kernel leaves in the arrays of the output and of the saved states, entry by entry: the
  states are carried from group to group, from the first to the last.
-/
module

public import proofs.«01_k».proof.Proof.GlaForwardBlock
public import proofs.«01_k».proof.Proof.GlaForwardChunk
public import proofs.«01_k».proof.Proof.GlaArray
public import Idealize.ShloMosaic.Lib.Pipeline.ValueKit
public import Idealize.ShloMosaic.Lib.Tactic
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.GlaFwd

open Cert.GlaForwardIdeal Cert.GlaForwardIdeal.Gen
open Cert.Gla (Grid row row_val gateLog keep Chunks upTo whole chunkNo Is Lower ArrP ArrW ArrB qOf kOf vOf lOf lOf_ne_top tok chunkOf placeOf chunkOf_tok placeOf_tok
  colK colV headV laneV cutK cutV cutW cutB cutS)

variable (m : (ℓ : Loc nD τ sig) → Buf (Elt Ideal) ℓ) (c : Dev nD)

/-- The three arguments, as arrays. -/
abbrev argP : Vec Ideal S8192x5376 .bf16 := m ((c.tc : Thread nD τ).loc main_arg0)
abbrev argW : Vec Ideal S16x512 .f32 := m ((c.tc : Thread nD τ).loc main_arg1)
abbrev argB : Vec Ideal S512 .f32 := m ((c.tc : Thread nD τ).loc main_arg2)

/-- The gates' weight as the host prepares it: head by head, with rows of zeros below. -/
theorem hostW (h : Fin 4) (x j : Fin 128) : (show Vec Ideal S4x128x128 .f32 from V m c main_v2) (ix3 h x j)
    = if hx : x.val < 16 then argW m c (ix2 ⟨x.val, hx⟩ (colK h j)) else 0 := by
  have e : V m c main_v2 = pad S4x128x128 ![0, 0, 0] ![0, 112, 0] ![0, 0, 0] (transpose S4x16x128 [1, 0, 2] (shapeCast S16x4x128 (m ((c.tc : Thread nD τ).loc main_arg1)) shapeCasts_S16x512_S16x4x128) transposes_S16x4x128_S4x16x128_1_0_2)
      (sitofp (F := Ideal) .f32 (constantI S_ 32 0#32)) pads_S4x16x128_S4x128x128_000_01120_000 h_S_ := by
    unfold V; simp only [hostOps0, hostOps0_1, hostOps0_2, List.flatten_cons, List.flatten_nil, List.append_nil, List.cons_append, List.nil_append]; after_results <;> rfl
  rw [e]
  pointwise
  split
  · exact congrArg (argW m c) (congrArg (ix2 _) (Fin.ext (by show h.val * 128 + j.val = 128 * h.val + j.val; omega)))
  · simp [FloatOps.sitofp]

/-- The gates' bias as the host prepares it: head by head. -/
theorem hostB (h : Fin 4) (j : Fin 128) : (show Vec Ideal S4x1x128 .f32 from V m c main_v3) (ix3 h 0 j) = argB m c (ix1 (colK h j)) := by
  have e : V m c main_v3 = shapeCast S4x1x128 (m ((c.tc : Thread nD τ).loc main_arg2)) shapeCasts_S512_S4x1x128 := by
    unfold V; simp only [hostOps0, hostOps0_1, hostOps0_2, List.flatten_cons, List.flatten_nil, List.append_nil, List.cons_append, List.nil_append]; after_results <;> rfl
  rw [e]
  pointwise
  exact congrArg (argB m c) (congrArg ix1 (Fin.ext (by show h.val * 128 + j.val = 128 * h.val + j.val; omega)))

/-- The host's matrix of zeros and ones sums up to a token within its chunk. -/
theorem hostC : Lower (mat (show Vec Ideal S256x256 .f32 from V m c main_v19)) := by
  intro g i g' i'
  have e : V m c main_v19 = uitofp (F := Ideal) .f32 (andi (cmpi .eq (broadcastInDim S256x256 ![0, 1] bcast_S256x1_S256x256_0_1 (broadcastInDim S256x1 ![0] bcast_S256_S256x1_0 (shapeCast S256 (broadcastInDim S4x64 ![0] bcast_S4_S4x64_0 (iotaInDim S4 32 0)) shapeCasts_S4x64_S256))) (broadcastInDim S256x256 ![0, 1] bcast_S1x256_S256x256_0_1 (broadcastInDim S1x256 ![1] bcast_S256_S1x256_1 (shapeCast S256 (broadcastInDim S4x64 ![0] bcast_S4_S4x64_0 (iotaInDim S4 32 0)) shapeCasts_S4x64_S256)))) (cmpi .sle (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0))))) := by
    unfold V; simp only [hostOps0, hostOps0_1, hostOps0_2, List.flatten_cons, List.flatten_nil, List.append_nil, List.cons_append, List.nil_append]; after_results <;> rfl
  show (show Vec Ideal S256x256 .f32 from V m c main_v19) (ix2 (row g i) (row g' i')) = _
  rw [e]
  pointwise
  have hi := i.isLt
  have hi' := i'.isLt
  have hg := g.isLt
  have hg' := g'.isLt
  have e1 : (row g i).val / 64 = g.val := by rw [row_val]; omega
  have e2 : (row g' i').val / 64 = g'.val := by rw [row_val]; omega
  rw [e1, e2, WordCmp.cmpi_eq_ofNat (by omega) (by omega), WordCmp.cmpi_sle_ofNat (by rw [row_val]; omega) (by rw [row_val]; omega), row_val, row_val]
  by_cases hh : g = g' ∧ i' ≤ i
  · obtain ⟨rfl, h⟩ := hh
    have h' : 64 * g.val + i'.val ≤ 64 * g.val + i.val := by have : i'.val ≤ i.val := h; omega
    rw [if_pos ⟨rfl, h⟩, decide_eq_true rfl, decide_eq_true h']
    simp [FloatOps.uitofp, IntOp.andi]
  · rw [if_neg hh]
    have : decide (g.val = g'.val) = false ∨ decide (64 * g'.val + i'.val ≤ 64 * g.val + i.val) = false := by
      by_cases hgg : g.val = g'.val
      · refine Or.inr (decide_eq_false fun h => hh ⟨Fin.ext hgg, ?_⟩)
        show i'.val ≤ i.val
        omega
      · exact Or.inl (decide_eq_false hgg)
    rcases this with h | h <;> rw [h] <;> simp [FloatOps.uitofp, IntOp.andi]

theorem idx0 : ∀ t : Fin cfg0.N, win0_0.index t = ![t.val, 0] := (by decide +kernel : ∀ t : Fin grid0.N, win0_0.index t = ![t.val, 0])
theorem idx1 : ∀ t : Fin cfg0.N, win0_1.index t = ![t.val, 1] := (by decide +kernel : ∀ t : Fin grid0.N, win0_1.index t = ![t.val, 1])
theorem idx2 : ∀ t : Fin cfg0.N, win0_2.index t = ![t.val, 1] := (by decide +kernel : ∀ t : Fin grid0.N, win0_2.index t = ![t.val, 1])
theorem idx3 : ∀ t : Fin cfg0.N, win0_3.index t = ![t.val, 40] := (by decide +kernel : ∀ t : Fin grid0.N, win0_3.index t = ![t.val, 40])
theorem idx4 : ∀ t : Fin cfg0.N, win0_4.index t = ![0, 0, 0] := (by decide +kernel : ∀ t : Fin grid0.N, win0_4.index t = ![0, 0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val, 0] := (by decide +kernel : ∀ t : Fin grid0.N, win0_8.index t = ![t.val, 0])
theorem idx9 : ∀ t : Fin cfg0.N, win0_9.index t = ![0, t.val, 0, 0] := (by decide +kernel : ∀ t : Fin grid0.N, win0_9.index t = ![0, t.val, 0, 0])

/-- A grid point as a step number counted from the last, and the token at a row of its group. -/
def stepNo (t : Fin cfg0.N) : Fin 32 := ⟨31 - t.val, by omega⟩
def rowTok (t : Fin cfg0.N) (r : Fin 256) : Fin 8192 := ⟨256 * t.val + r.val, by have := t.isLt; have : cfg0.N = 32 := N_0; omega⟩

theorem left_eq (t : Fin cfg0.N) : 31 - (stepNo t).val = t.val := by
  have := t.isLt
  have : cfg0.N = 32 := N_0
  show 31 - (31 - t.val) = t.val
  omega

theorem rowTok_row (t : Fin cfg0.N) (g : Fin 4) (i : Fin 64) : rowTok t (row g i) = tok (chunkNo (stepNo t) g) i := by
  have e := left_eq t
  exact Fin.ext (by show 256 * t.val + (64 * g.val + i.val) = 64 * (4 * (31 - (stepNo t).val) + g.val) + i.val; omega)

variable (t : Fin cfg0.N)

theorem blockQ (r : Fin 256) (j : Fin 512) : (X0_0 m c t : Vec Ideal S256x512 .bf16) (ix2 r j) = argP m c (ix2 (rowTok t r) ⟨j.val, by omega⟩) := by
  unfold X0_0 Pipeline.Window.fill
  rw [dif_pos (moved0_0 t _)]
  blk_simp [iblk]
  rw [V_main_arg0]
  congr 1
  blk_ext [idx0, rowTok]

theorem blockT (r : Fin 256) (x : Fin 128) : (iblk m c 3 t : Vec Ideal S256x128 .bf16) (ix2 r x) = argP m c (ix2 (rowTok t r) ⟨5120 + x.val, by omega⟩) := by
  blk_simp [iblk]
  rw [V_main_arg0]
  congr 1
  blk_ext [idx3, rowTok]

theorem blockW : (iblk m c 4 t : Vec Ideal S4x128x128 .f32) = V m c main_v2 := by
  funext y
  blk_simp [iblk]
  congr 1
  blk_ext [idx4]

theorem blockK (r : Fin 256) (j : Fin 512) : (X0_1 m c t : Vec Ideal S256x512 .bf16) (ix2 r j) = argP m c (ix2 (rowTok t r) ⟨512 + j.val, by omega⟩) := by
  unfold X0_1 Pipeline.Window.fill
  rw [dif_pos (moved0_1 t _)]
  blk_simp [iblk]
  rw [V_main_arg0]
  congr 1
  blk_ext [idx1, rowTok]

theorem blockV (r : Fin 256) (e : Fin 1024) : (X0_2 m c t : Vec Ideal S256x1024 .bf16) (ix2 r e) = argP m c (ix2 (rowTok t r) ⟨1024 + e.val, by omega⟩) := by
  unfold X0_2 Pipeline.Window.fill
  rw [dif_pos (moved0_2 t _)]
  blk_simp [iblk]
  rw [V_main_arg0]
  congr 1
  blk_ext [idx2, rowTok]

theorem blockB : (iblk m c 5 t : Vec Ideal S4x1x128 .f32) = V m c main_v3 := by
  funext y
  blk_simp [iblk]
  congr 1
  blk_ext [idx5]

theorem blockC : (iblk m c 6 t : Vec Ideal S256x256 .f32) = V m c main_v19 := by
  funext y
  blk_simp [iblk]
  congr 1
  blk_ext [idx6]

theorem blockM : (iblk m c 7 t : Vec Ideal S256x256 .f32) = V m c main_v19 := by
  funext y
  blk_simp [iblk]
  congr 1
  blk_ext [idx7]

/-- One head's gates' logarithms over the step's group. -/
theorem is_logs (h : Fin 4) : Is (stepNo t) (logs (iblk m c 3 t) (cutW (iblk m c 4 t) h) (cutB (iblk m c 5 t) h)) (lOf (argP m c) (argW m c) (argB m c) h) := by
  intro g i j
  unfold logs lOf
  rw [blockW, blockB]
  refine congrArg gateLog (congrArg₂ (fun a b : EReal => a + b) ?_ (hostB m c h j))
  refine Eq.trans (Finset.sum_congr rfl fun x _ => ?_) (Cert.Gla.sum_padded (fun x => argP m c (ix2 (tok (chunkNo (stepNo t) g) i) ⟨5120 + x.val, by omega⟩)) (fun x => argW m c (ix2 x (colK h j))))
  exact congrArg₂ (fun a b : EReal => a * b) ((blockT m c t (row g i) x).trans (by rw [rowTok_row])) (hostW m c h x j)

theorem is_q (h : Fin 4) : Is (stepNo t) (mat (cutK (X0_0 m c t) h)) (qOf (argP m c) h) := fun g i j =>
  (blockQ m c t (row g i) (colK h j)).trans (by rw [rowTok_row]; rfl)

theorem is_k (h : Fin 4) : Is (stepNo t) (mat (cutK (X0_1 m c t) h)) (kOf (argP m c) h) := fun g i j =>
  (blockK m c t (row g i) (colK h j)).trans (by rw [rowTok_row]; rfl)

theorem is_v (h : Fin 4) : Is (stepNo t) (mat (cutV (X0_2 m c t) h)) (vOf (argP m c) h) := fun g i e =>
  (blockV m c t (row g i) (colV h e)).trans (by rw [rowTok_row]; rfl)

theorem lower_c : Lower (mat (iblk m c 6 t : Vec Ideal S256x256 .f32)) := by rw [blockC]; exact hostC m c
theorem lower_m : Lower (mat (iblk m c 7 t : Vec Ideal S256x256 .f32)) := by rw [blockM]; exact hostC m c

variable (a : Vec Ideal S4x128x256 .f32) (ha : ∀ h j e, a (ix3 h j e) = stateOf (argP m c) (argW m c) (argB m c) h (4 * t.val) j e)

include ha in
/-- What a head finds, in the terms of the chunks. -/
theorem found (h : Fin 4) : (sA (cutS a h) : Grid 128 256) = before (kOf (argP m c) h) (lOf (argP m c) (argW m c) (argB m c) h) (vOf (argP m c) h) (4 * (31 - (stepNo t).val)) := by
  rw [left_eq]
  exact funext fun j => funext fun e => ha h j e

include ha in
theorem block_state (y : S4x128x256.Idx) :
    blockState (X0_1 m c t) (X0_2 m c t) (iblk m c 3 t) (iblk m c 4 t) (iblk m c 5 t) (iblk m c 6 t) a y = stateOf (argP m c) (argW m c) (argB m c) (y 0) (4 * (t.val + 1)) (y 1) (y 2) := by
  refine (kState_apply _ _ _ _ _ _ _ (y 1) (y 2)).trans ?_
  refine (congrFun (congrFun (after_eq (lower_c m c t) (is_logs m c t (y 0)) (lOf_ne_top _ _ _ _) (is_k m c t (y 0)) (is_v m c t (y 0))
    (sA (cutS a (y 0))) (found m c t a ha (y 0)) 4 le_rfl) (y 1)) (y 2)).trans ?_
  rw [left_eq]
  rfl

include ha in
theorem block_saved (y : S4x1x128x256.Idx) : blockSaved a y = stateOf (argP m c) (argW m c) (argB m c) (y 0) (4 * t.val) (y 2) (y 3) :=
  (kSaved_apply (cutS a (y 0)) (y 2) (y 3)).trans (ha (y 0) (y 2) (y 3))

theorem row_eta (r : Fin 256) : row ⟨r.val / 64, by omega⟩ ⟨r.val % 64, by omega⟩ = r := Fin.ext (by show 64 * (r.val / 64) + r.val % 64 = r.val; omega)

include ha in
theorem block_out (y : S256x1024.Idx) :
    blockOut (X0_0 m c t) (X0_1 m c t) (X0_2 m c t) (iblk m c 3 t) (iblk m c 4 t) (iblk m c 5 t) (iblk m c 6 t) (iblk m c 7 t) a y
      = output (argP m c) (argW m c) (argB m c) (ix2 (rowTok t (y 0)) (y 1)) := by
  obtain ⟨g, i, e⟩ : ∃ g i, y 0 = row g i := ⟨_, _, (row_eta (y 0)).symm⟩
  unfold blockOut
  rw [e]
  refine (kOut_apply _ _ _ _ _ _ _ _ _ g i (laneV (y 1))).trans ?_
  refine (outOf_eq (lower_c m c t) (is_logs m c t (headV (y 1))) (lOf_ne_top _ _ _ _) (is_q m c t (headV (y 1))) (is_k m c t (headV (y 1))) (is_v m c t (headV (y 1)))
    (lower_m m c t) (sA (cutS a (headV (y 1)))) (found m c t a ha (headV (y 1))) g i (laneV (y 1))).trans ?_
  show _ = outputs _ _ _ _ (chunkOf (rowTok t (row g i))) (placeOf (rowTok t (row g i))) _
  rw [rowTok_row, chunkOf_tok, placeOf_tok]
  rfl

/-- The zero state is the state before the first chunk. -/
theorem zero_state (t : Fin cfg0.N) (h0 : t.val = 0) (h : Fin 4) (j : Fin 128) (e : Fin 256) :
    k0_pay3 (F := Ideal) (ix3 h j e) = stateOf (argP m c) (argW m c) (argB m c) h (4 * t.val) j e := by
  rw [zero_apply, h0]
  rfl

/-- What the carried states hold after a step. -/
theorem scratch_eq : ∀ (n : ℕ) (hn : n < cfg0.N) (y : S4x128x256.Idx),
    (outsAt0 m c n hn).2.2 y = stateOf (argP m c) (argW m c) (argB m c) (y 0) (4 * (n + 1)) (y 1) (y 2)
  | 0, hn, y => by
    rw [outsAt0_A m c ⟨0, hn⟩ rfl]
    dsimp only
    rw [outA_state]
    exact block_state m c ⟨0, hn⟩ _ (zero_state m c ⟨0, hn⟩ rfl) y
  | n + 1, hn, y => by
    have hN : cfg0.N = 32 := N_0
    rw [outsAt0_B m c ⟨n + 1, hn⟩ (by dsimp only; omega)]
    dsimp only
    rw [outB_state]
    exact block_state m c ⟨n + 1, hn⟩ _ (fun h j e => scratch_eq n (by omega) (ix3 h j e)) y

/-- What a step leaves in the block of the output. -/
theorem out_eq (y : S256x1024.Idx) : (outsAt0 m c t.val t.isLt).1 y = output (argP m c) (argW m c) (argB m c) (ix2 (rowTok t (y 0)) (y 1)) := by
  have hN : cfg0.N = 32 := N_0
  have ht := t.isLt
  by_cases h0 : t.val % 32 = 0
  · rw [outsAt0_A m c t h0]
    dsimp only
    rw [outA_out]
    exact block_out m c t _ (zero_state m c t (by omega)) y
  · rw [outsAt0_B m c t h0]
    dsimp only
    rw [outB_out]
    refine block_out m c t _ (fun h j e => (scratch_eq m c (t.val - 1) (by omega) (ix3 h j e)).trans ?_) y
    rw [show t.val - 1 + 1 = t.val by omega]
    rfl

/-- What a step leaves in the block of the saved states. -/
theorem saved_eq (y : S4x1x128x256.Idx) : (outsAt0 m c t.val t.isLt).2.1 y = stateOf (argP m c) (argW m c) (argB m c) (y 0) (4 * t.val) (y 2) (y 3) := by
  have hN : cfg0.N = 32 := N_0
  have ht := t.isLt
  by_cases h0 : t.val % 32 = 0
  · rw [outsAt0_A m c t h0]
    dsimp only
    rw [outA_saved]
    exact block_saved m c t _ (zero_state m c t (by omega)) y
  · rw [outsAt0_B m c t h0]
    dsimp only
    rw [outB_saved]
    refine block_saved m c t _ (fun h j e => (scratch_eq m c (t.val - 1) (by omega) (ix3 h j e)).trans ?_) y
    rw [show t.val - 1 + 1 = t.val by omega]
    rfl

/-- The array of the output after the run. -/
theorem final_out : (dats m 0 c).arrAt 8 cfg0.N = output (argP m c) (argW m c) (argB m c) := by
  refine (dats m 0 c).arrAt_eq_of_covers 8 _ (by decide +kernel) fun t hf y => ?_
  blk_simp
  rw [after0_8]
  refine (out_eq m c t _).trans ?_
  congr 1
  blk_ext [idx8, rowTok]

/-- The array of the saved states after the run. -/
theorem final_saved : (dats m 0 c).arrAt 9 cfg0.N = saved (argP m c) (argW m c) (argB m c) := by
  refine (dats m 0 c).arrAt_eq_of_covers 9 _ (by decide +kernel) fun t hf y => ?_
  blk_simp
  rw [after0_9]
  refine (saved_eq m c t _).trans ?_
  show saved (argP m c) (argW m c) (argB m c) (ix4 (y 0) ⟨t.val, lt_of_lt_of_eq t.isLt N_0⟩ (y 2) (y 3)) = _
  congr 1
  blk_ext [idx9]

end Cert.GlaFwd

end
-- ==== Proof.GlaForwardRun.lean ====
/-
  The reference's loop over the chunks of tokens: what the program leaves, as the results its operations after the loop
  make of the state after 128 trips.
-/
module

public import proofs.«01_k».proof.Proof.Gen.GlaForwardReferenceIdeal.Run
public import proofs.«01_k».proof.Proof.Gen.GlaForwardReferenceIdeal.Step
public import Idealize.ShloMosaic.Lib.Pointwise

@[expose] public section

set_option maxRecDepth 65536

noncomputable section

namespace Cert.GlaFwdRun

open Idealize.ShloMosaic Idealize.ShloMosaic.TcCoe Idealize.SL.Sem Idealize.ShloMosaic.StableHlo
open Cert.GlaForwardReferenceIdeal Cert.GlaForwardReferenceIdeal.Gen Cert.GlaForwardReferenceIdeal.Value
open Cert.GlaForwardReferenceIdeal.Step (State step init)

/-- What a valuation holds at the four buffers the loop reads or writes. -/
def stateOf (V : Valuation τ sig (Elt Ideal)) : State Ideal :=
  ⟨V (Proc.devRef .tc main_v45_3), V (Proc.devRef .tc main_v45_4), V (Proc.devRef .tc main_v45_0), V (Proc.devRef .tc main_v45_1)⟩

/-- The counter holds the number of trips done. -/
def Counts (V : Valuation τ sig (Elt Ideal)) (n : ℕ) : Prop := V (Proc.devRef .tc main_v45_2) = constantI S_ 32 (BitVec.ofNat 32 n)

theorem counts_next (V : Valuation τ sig (Elt Ideal)) (n : ℕ) (h : Counts V n) : Counts (STEP V) (n + 1) := by
  unfold Counts at h ⊢
  rw [STEP_main_v45_2]
  unfold step_main_v45_2
  rw [h]
  funext i
  exact (BitVec.ofNat_add (n := 32) n 1).symm

theorem state_next (V : Valuation τ sig (Elt Ideal)) (n : ℕ) (h : Counts V n) : stateOf (STEP V) = step n (stateOf V) := by
  unfold Counts at h
  have h3 : step_main_v45_3 V = Cert.GlaForwardReferenceIdeal.Step.b12 n (stateOf V) := by
    unfold step_main_v45_3
    rw [h]
    rfl
  have h4 : step_main_v45_4 V = Cert.GlaForwardReferenceIdeal.Step.b17 n (stateOf V) := by
    unfold step_main_v45_4
    rw [h]
    rfl
  unfold stateOf at h3 h4 ⊢
  rw [STEP_main_v45_3, STEP_main_v45_4, STEP_main_v45_0, STEP_main_v45_1, h3, h4]
  rfl

variable (m : (ℓ : Loc nD τ sig) → Buf (Elt Ideal) ℓ) (c : Dev nD)

/-- The state the first trip finds. -/
def start : State Ideal :=
  init (m ((c.tc : Thread nD τ).loc main_arg0)) (m ((c.tc : Thread nD τ).loc main_arg1)) (m ((c.tc : Thread nD τ).loc main_arg2))

/-- The state after `n` trips. -/
def trips : ℕ → State Ideal
  | 0 => start m c
  | n + 1 => step n (trips n)

set_option maxHeartbeats 300000 in
theorem entry_state : stateOf (entryContents preI m c) = start m c := by
  unfold stateOf start init
  congr 1 <;> (simp only [entryContents, afterL_cons, afterL_nil]; after_reads_simp) <;> rfl

theorem trips_state : ∀ n, stateOf (STEP^[n] (entryContents preI m c)) = trips m c n ∧ Counts (STEP^[n] (entryContents preI m c)) n
  | 0 => ⟨entry_state m c, ctr_entry m c⟩
  | n + 1 => by
    obtain ⟨h1, h2⟩ := trips_state n
    rw [Function.iterate_succ_apply']
    exact ⟨(state_next _ n h2).trans (congrArg (step n) h1), counts_next _ n h2⟩

/-- The output, as made of a state and the arguments a valuation holds. -/
theorem output_of (V : Valuation τ sig (Elt Ideal)) (s : State Ideal) (h : V (Proc.devRef .tc main_v45_4) = s.main_v45_4) (a0 a1 a2)
    (h0 : V (Proc.devRef .tc main_arg0) = a0) (h1 : V (Proc.devRef .tc main_arg1) = a1) (h2 : V (Proc.devRef .tc main_arg2) = a2) :
    out_main_v93 V = Cert.GlaForwardReferenceIdeal.Step.R_main_v93 s a0 a1 a2 := by
  subst h0 h1 h2
  unfold out_main_v93 Cert.GlaForwardReferenceIdeal.Step.R_main_v93
  rw [h]
  rfl

/-- The saved states, likewise. -/
theorem saved_of (V : Valuation τ sig (Elt Ideal)) (s : State Ideal) (h : V (Proc.devRef .tc main_v45_4) = s.main_v45_4) :
    out_main_v97 V = Cert.GlaForwardReferenceIdeal.Step.R_main_v97 s := by
  unfold out_main_v97 Cert.GlaForwardReferenceIdeal.Step.R_main_v97
  rw [h]

theorem output_at (n : ℕ) : out_main_v93 (STEP^[n] (entryContents preI m c)) = Cert.GlaForwardReferenceIdeal.Step.R_main_v93 (trips m c n) (m ((c.tc : Thread nD τ).loc main_arg0)) (m ((c.tc : Thread nD τ).loc main_arg1)) (m ((c.tc : Thread nD τ).loc main_arg2)) :=
  output_of _ _ (congrArg (fun s : State Ideal => s.main_v45_4) (trips_state m c n).1) _ _ _ (iter_main_arg0 m c n) (iter_main_arg1 m c n) (iter_main_arg2 m c n)

theorem saved_at (n : ℕ) : out_main_v97 (STEP^[n] (entryContents preI m c)) = Cert.GlaForwardReferenceIdeal.Step.R_main_v97 (trips m c n) :=
  saved_of _ _ (congrArg (fun s : State Ideal => s.main_v45_4) (trips_state m c n).1)

/-- Every execution of the reference ends with its two results as made of the state after 128 trips, and with its arguments unchanged. -/
theorem run_trips (ρ : Dev nD → PrngReg) :
    θ_run (defs (F := Ideal)) (onTc (τ := τ) (main (F := Ideal))) ⟨m, fun _ => 0, ρ⟩ fun r => ∀ c : Dev nD,
      r.2.mem ((c.tc : Thread nD τ).loc main_v93) = Cert.GlaForwardReferenceIdeal.Step.R_main_v93 (trips m c 128) (m ((c.tc : Thread nD τ).loc main_arg0)) (m ((c.tc : Thread nD τ).loc main_arg1)) (m ((c.tc : Thread nD τ).loc main_arg2))
      ∧ r.2.mem ((c.tc : Thread nD τ).loc main_v97) = Cert.GlaForwardReferenceIdeal.Step.R_main_v97 (trips m c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h1, h2, h3⟩ := h c
  exact ⟨h1.trans (output_at m c 128), h2.trans (saved_at m c 128), h3⟩

end Cert.GlaFwdRun

end
-- ==== Proof.GlaForwardReference.lean ====
/-
  What the reference of the forward gated linear attention computes.
-/
module

public import proofs.«01_k».proof.Proof.GlaForwardRun
public import proofs.«01_k».proof.Proof.GlaForwardChunk
public import proofs.«01_k».proof.Proof.GlaSum
public import Idealize.ShloMosaic.Lib.Tactic
public import Idealize.ShloMosaic.Lib.WordCmp

@[expose] public section

set_option maxRecDepth 65536

noncomputable section

namespace Cert.GlaFwdRef

open Idealize.ShloMosaic Idealize.ShloMosaic.TcCoe Idealize.SL.Sem Idealize.ShloMosaic.StableHlo
open Cert.GlaForwardReferenceIdeal Cert.GlaForwardReferenceIdeal.Gen Cert.GlaForwardReferenceIdeal.Step
open Cert.Gla (Grid row gateLog softplus_gate running keep Chunks upTo upTo_last whole gated tok tok_eta colK colV headV laneV ArrP ArrW ArrB qOf kOf vOf lOf chunkOf placeOf)
open Cert.GlaFwd

variable (P : (⟨S8192x5376, .bf16⟩ : BufTy).Contents (Elt Ideal)) (W : (⟨S16x512, .f32⟩ : BufTy).Contents (Elt Ideal))
  (B : (⟨S512, .f32⟩ : BufTy).Contents (Elt Ideal))

theorem tok_form (n : Fin 128) (i : Fin 64) (h) : (⟨n.val * 64 + i.val, h⟩ : Fin 8192) = tok n i := Fin.ext (by show n.val * 64 + i.val = 64 * n.val + i.val; omega)
theorem colK_form (h : Fin 4) (j : Fin 128) (q) : (⟨h.val * 128 + j.val, q⟩ : Fin 512) = colK h j := Fin.ext (by show h.val * 128 + j.val = 128 * h.val + j.val; omega)
theorem colV_form (h : Fin 4) (e : Fin 256) (q) : (⟨h.val * 256 + e.val, q⟩ : Fin 1024) = colV h e := Fin.ext (by show h.val * 256 + e.val = 256 * h.val + e.val; omega)

theorem gate_in (r : Fin 8192) (l : Fin 512) : A_main_v5 P W B (ix2 r l)
    = ∑ x : Fin 16, P (ix2 r ⟨5120 + x.val, by omega⟩) * W (ix2 x l) + B (ix1 l) := by
  pointwise [A_main_v0, A_main_v1, A_main_v2, A_main_v3, A_main_v4, A_main_v5]

/-- The word of nought. -/
theorem zero_cst (i : S_.Idx) : K_main_call0_cst (F := Ideal) i = 0 := by
  show Ideal.ofBits FTy.f32 0#32 = 0
  simp [Ideal.ofBits, Ideal.ieee]

theorem gate_out (r : Fin 8192) (l : Fin 512) : A_main_v10 P W B (ix2 r l) = gateLog (A_main_v5 P W B (ix2 r l)) := by
  pointwise [A_main_v6, A_main_call0_v1, A_main_call0_v3, A_main_call0_v4, A_main_call0_v6, A_main_call0_v7, A_main_call0_v8, A_main_call0_v9, A_main_call0_v10, A_main_call0_v11, A_main_v7, A_main_v8, A_main_v10, K_main_call0_v0, K_main_call0_v2, K_main_call0_v5, K_main_v9, K_main_cst]
  rw [if_neg (fun h => h rfl), zero_cst, sub_zero]
  exact softplus_gate _

theorem logs_at (h : Fin 4) (n : Fin 128) (i : Fin 64) (j : Fin 128) : A_main_v13 P W B (ix4 h n i j) = lOf P W B h n i j := by
  pointwise [A_main_v11, A_main_v12, A_main_v13]
  rw [gate_out, gate_in, tok_form, colK_form]
  rfl

/-- The running sums of the gates' logarithms. -/
theorem cum_at (h : Fin 4) (n : Fin 128) (i : Fin 64) (j : Fin 128) : A_main_v14 P W B (ix4 h n i j) = upTo (lOf P W B h) n i j := by
  have e : A_main_v14 P W B = Host.reduceWindow (u := ⟨0, ![]⟩) (fun p q : EReal => p + q) ![1, 1, 64, 1] ![1, 1, 1, 1] ![0, 0, 63, 0] ![0, 0, 0, 0] (A_main_v13 P W B) (fun _ => 0)
      reduceWindows_S4x128x64x128_S4x128x64x128_w1s1p0_0_w1s1p0_0_w64s1p63_0_w1s1p0_0 h_S_ := by
    refine Eq.trans ?_ (congrArg (fun z : EReal => Host.reduceWindow (u := ⟨0, ![]⟩) (fun p q : EReal => p + q) ![1, 1, 64, 1] ![1, 1, 1, 1] ![0, 0, 63, 0] ![0, 0, 0, 0] (A_main_v13 P W B) (fun _ => z)
      reduceWindows_S4x128x64x128_S4x128x64x128_w1s1p0_0_w1s1p0_0_w64s1p63_0_w1s1p0_0 h_S_) (zero_cst ix0))
    rfl
  rw [e, running]
  exact Finset.sum_congr rfl fun x _ => by rw [logs_at]

/-- The queries scaled, chunk by chunk. -/
def scaled : FVec Ideal S4x128x64x128 .f32 := shapeCast S4x128x64x128 (mulf (transpose S4x8192x128 [1, 0, 2] (shapeCast _ (extf .f32 (extractStridedSlice S8192x512 ![0, 0] P slices_S8192x5376_S8192x512_0_0) bitsLt_bf16_f32) shapeCasts_S8192x512_S8192x4x128) transposes_S8192x4x128_S4x8192x128_1_0_2) (broadcastInDim S4x8192x128 ![] bcast_S_S4x8192x128 (constant S_ .f32 0x3DB504F3#32))) shapeCasts_S4x8192x128_S4x128x64x128

theorem query_at (h : Fin 4) (n : Fin 128) (i : Fin 64) (j : Fin 128) : scaled P (ix4 h n i j) * Ideal.exp (A_main_v14 P W B (ix4 h n i j)) = gated (qOf P h) (lOf P W B h) n i j := by
  unfold scaled
  pointwise
  rw [cum_at, tok_form, mul_right_comm]
  exact congrArg (fun x : EReal => x * _ * _) (congrArg (fun l => P (ix2 (tok n i) l)) (Fin.ext (by show h.val * 128 + j.val = 128 * h.val + j.val; omega)))

theorem key_at (h : Fin 4) (n : Fin 128) (i : Fin 64) (j : Fin 128) : A_main_v31 P W B (ix4 h n i j) = kOf P h n i j := by
  pointwise [A_main_v25, A_main_v26, A_main_v29, A_main_v30, A_main_v31]
  rw [tok_form]
  exact congrArg (fun l => P (ix2 (tok n i) l)) (Fin.ext (by show 512 + (h.val * 128 + j.val) = 512 + (128 * h.val + j.val); omega))

theorem value_at (h : Fin 4) (n : Fin 128) (i : Fin 64) (e : Fin 256) : A_main_v34 P W B (ix4 h n i e) = vOf P h n i e := by
  pointwise [A_main_v27, A_main_v28, A_main_v32, A_main_v33, A_main_v34]
  rw [tok_form]
  exact congrArg (fun l => P (ix2 (tok n i) l)) (Fin.ext (by show 1024 + (h.val * 256 + e.val) = 1024 + (256 * h.val + e.val); omega))

theorem decay_at (n : Fin 128) (h : Fin 4) (j : Fin 128) : A_main_v42 P W B (ix3 n h j) = Ideal.exp (whole (lOf P W B h) n j) := by
  pointwise [A_main_v17, A_main_v40, A_main_v41, A_main_v42]
  exact congrArg Ideal.exp ((cum_at P W B h n _ j).trans (upTo_last _ _ _))

theorem term_at (n : Fin 128) (h : Fin 4) (j : Fin 128) (e : Fin 256) : A_main_v39 P W B (ix4 n h j e)
    = ∑ i, (kOf P h n i j * Ideal.exp (whole (lOf P W B h) n j - upTo (lOf P W B h) n i j)) * vOf P h n i e := by
  pointwise [A_main_v17, A_main_v35, A_main_v36, A_main_v37, A_main_v38, A_main_v39, key_at, value_at]
  refine Finset.sum_congr rfl fun x _ => ?_
  exact congrArg (fun z : EReal => _ * z * _) (congrArg₂ (fun a b : EReal => Ideal.exp (a - b)) ((cum_at P W B h n _ j).trans (upTo_last _ _ _)) (cum_at P W B h n x j))

section loop

variable (s : State Ideal)

theorem place_int (n : ℕ) (hn : n < 128) : ((BitVec.ofNat 32 n : BitVec 32)).toInt = (n : ℤ) :=
  (by decide +kernel : ∀ n : Fin 128, ((BitVec.ofNat 32 n.val : BitVec 32)).toInt = (n.val : ℤ)) ⟨n, hn⟩

theorem chunk_decay (n : ℕ) (hn : n < 128) (h : Fin 4) (j : Fin 128) (e : Fin 256) : b10 n s (ix3 h j e) = s.main_v45_0 (ix3 ⟨n, hn⟩ h j) := by
  have c : b10 n s (ix3 h j e) = b2 n s (ix3 0 h j) := by pointwise [b10, b9, b3]
  have e0 := Host.clampedStart_of_le (s := S128x4x128) (t := S1x4x128) rfl (fun k => (((![(constantI S_ 32 (BitVec.ofNat 32 n) : (⟨S_, .i32⟩ : BufTy).Contents (Elt Ideal)), (b0 n s), (b1 n s)] : Fin 3 → (⟨S_, .i32⟩ : BufTy).Contents (Elt Ideal))) k (Shape.Idx.first h_S_)).toInt) 0 n (place_int n hn) (by show n + 1 ≤ 128; omega)
  have e1 := Host.clampedStart_of_le (s := S128x4x128) (t := S1x4x128) rfl (fun k => (((![(constantI S_ 32 (BitVec.ofNat 32 n) : (⟨S_, .i32⟩ : BufTy).Contents (Elt Ideal)), (b0 n s), (b1 n s)] : Fin 3 → (⟨S_, .i32⟩ : BufTy).Contents (Elt Ideal))) k (Shape.Idx.first h_S_)).toInt) 1 0 rfl (by decide)
  have e2 := Host.clampedStart_of_le (s := S128x4x128) (t := S1x4x128) rfl (fun k => (((![(constantI S_ 32 (BitVec.ofNat 32 n) : (⟨S_, .i32⟩ : BufTy).Contents (Elt Ideal)), (b0 n s), (b1 n s)] : Fin 3 → (⟨S_, .i32⟩ : BufTy).Contents (Elt Ideal))) k (Shape.Idx.first h_S_)).toInt) 2 0 rfl (by decide)
  rw [c]
  unfold b2
  rw [Host.dynamicSlice_apply]
  refine congrArg s.main_v45_0 (funext fun a => Fin.ext ?_)
  match a with
  | ⟨0, _⟩ => exact congrArg (fun x => x + 0) e0
  | ⟨1, _⟩ => exact (congrArg (fun x => x + h.val) e1).trans (zero_add _)
  | ⟨2, _⟩ => exact (congrArg (fun x => x + j.val) e2).trans (zero_add _)

theorem chunk_term (n : ℕ) (hn : n < 128) (h : Fin 4) (j : Fin 128) (e : Fin 256) : b8 n s (ix3 h j e) = s.main_v45_1 (ix4 ⟨n, hn⟩ h j e) := by
  have c : b8 n s (ix3 h j e) = b7 n s (ix4 0 h j e) := by pointwise [b8]
  have e0 := Host.clampedStart_of_le (s := S128x4x128x256) (t := S1x4x128x256) rfl (fun k => (((![(constantI S_ 32 (BitVec.ofNat 32 n) : (⟨S_, .i32⟩ : BufTy).Contents (Elt Ideal)), (b4 n s), (b5 n s), (b6 n s)] : Fin 4 → (⟨S_, .i32⟩ : BufTy).Contents (Elt Ideal))) k (Shape.Idx.first h_S_)).toInt) 0 n (place_int n hn) (by show n + 1 ≤ 128; omega)
  have e1 := Host.clampedStart_of_le (s := S128x4x128x256) (t := S1x4x128x256) rfl (fun k => (((![(constantI S_ 32 (BitVec.ofNat 32 n) : (⟨S_, .i32⟩ : BufTy).Contents (Elt Ideal)), (b4 n s), (b5 n s), (b6 n s)] : Fin 4 → (⟨S_, .i32⟩ : BufTy).Contents (Elt Ideal))) k (Shape.Idx.first h_S_)).toInt) 1 0 rfl (by decide)
  have e2 := Host.clampedStart_of_le (s := S128x4x128x256) (t := S1x4x128x256) rfl (fun k => (((![(constantI S_ 32 (BitVec.ofNat 32 n) : (⟨S_, .i32⟩ : BufTy).Contents (Elt Ideal)), (b4 n s), (b5 n s), (b6 n s)] : Fin 4 → (⟨S_, .i32⟩ : BufTy).Contents (Elt Ideal))) k (Shape.Idx.first h_S_)).toInt) 2 0 rfl (by decide)
  have e3 := Host.clampedStart_of_le (s := S128x4x128x256) (t := S1x4x128x256) rfl (fun k => (((![(constantI S_ 32 (BitVec.ofNat 32 n) : (⟨S_, .i32⟩ : BufTy).Contents (Elt Ideal)), (b4 n s), (b5 n s), (b6 n s)] : Fin 4 → (⟨S_, .i32⟩ : BufTy).Contents (Elt Ideal))) k (Shape.Idx.first h_S_)).toInt) 3 0 rfl (by decide)
  rw [c]
  unfold b7
  rw [Host.dynamicSlice_apply]
  refine congrArg s.main_v45_1 (funext fun a => Fin.ext ?_)
  match a with
  | ⟨0, _⟩ => exact congrArg (fun x => x + 0) e0
  | ⟨1, _⟩ => exact (congrArg (fun x => x + h.val) e1).trans (zero_add _)
  | ⟨2, _⟩ => exact (congrArg (fun x => x + j.val) e2).trans (zero_add _)
  | ⟨3, _⟩ => exact (congrArg (fun x => x + e.val) e3).trans (zero_add _)

theorem chunk_store (n : ℕ) (hn : n < 128) (x : Fin 128) (h : Fin 4) (j : Fin 128) (e : Fin 256) :
    b17 n s (ix4 x h j e) = if x.val = n then s.main_v45_3 (ix3 h j e) else s.main_v45_4 (ix4 x h j e) := by
  have hx := x.isLt
  have hh := h.isLt
  have hj := j.isLt
  have he := e.isLt
  have e0 := Host.clampedStart_of_le (s := S128x4x128x256) (t := S1x4x128x256) rfl (fun k => (((![(constantI S_ 32 (BitVec.ofNat 32 n) : (⟨S_, .i32⟩ : BufTy).Contents (Elt Ideal)), (b14 n s), (b15 n s), (b16 n s)] : Fin 4 → (⟨S_, .i32⟩ : BufTy).Contents (Elt Ideal))) k (Shape.Idx.first h_S_)).toInt) 0 n (place_int n hn) (by show n + 1 ≤ 128; omega)
  have e1 := Host.clampedStart_of_le (s := S128x4x128x256) (t := S1x4x128x256) rfl (fun k => (((![(constantI S_ 32 (BitVec.ofNat 32 n) : (⟨S_, .i32⟩ : BufTy).Contents (Elt Ideal)), (b14 n s), (b15 n s), (b16 n s)] : Fin 4 → (⟨S_, .i32⟩ : BufTy).Contents (Elt Ideal))) k (Shape.Idx.first h_S_)).toInt) 1 0 rfl (by decide)
  have e2 := Host.clampedStart_of_le (s := S128x4x128x256) (t := S1x4x128x256) rfl (fun k => (((![(constantI S_ 32 (BitVec.ofNat 32 n) : (⟨S_, .i32⟩ : BufTy).Contents (Elt Ideal)), (b14 n s), (b15 n s), (b16 n s)] : Fin 4 → (⟨S_, .i32⟩ : BufTy).Contents (Elt Ideal))) k (Shape.Idx.first h_S_)).toInt) 2 0 rfl (by decide)
  have e3 := Host.clampedStart_of_le (s := S128x4x128x256) (t := S1x4x128x256) rfl (fun k => (((![(constantI S_ 32 (BitVec.ofNat 32 n) : (⟨S_, .i32⟩ : BufTy).Contents (Elt Ideal)), (b14 n s), (b15 n s), (b16 n s)] : Fin 4 → (⟨S_, .i32⟩ : BufTy).Contents (Elt Ideal))) k (Shape.Idx.first h_S_)).toInt) 3 0 rfl (by decide)
  unfold b17
  rw [Host.dynamicUpdateSlice_apply]
  by_cases hq : x.val = n
  · rw [if_pos hq, dif_pos fun a => by
      match a with
      | ⟨0, _⟩ => exact ⟨e0.trans_le hq.ge, by rw [show (⟨0, _⟩ : Fin 4) = 0 from rfl, e0]; show x.val < n + 1; omega⟩
      | ⟨1, _⟩ => exact ⟨e1.trans_le (Nat.zero_le _), by rw [show (⟨1, _⟩ : Fin 4) = 1 from rfl, e1]; show h.val < 0 + 4; omega⟩
      | ⟨2, _⟩ => exact ⟨e2.trans_le (Nat.zero_le _), by rw [show (⟨2, _⟩ : Fin 4) = 2 from rfl, e2]; show j.val < 0 + 128; omega⟩
      | ⟨3, _⟩ => exact ⟨e3.trans_le (Nat.zero_le _), by rw [show (⟨3, _⟩ : Fin 4) = 3 from rfl, e3]; show e.val < 0 + 256; omega⟩]
    refine congrArg s.main_v45_3 (funext fun a => Fin.ext ?_)
    match a with
    | ⟨0, _⟩ => exact (congrArg (fun z => h.val - z) e1).trans (Nat.sub_zero _)
    | ⟨1, _⟩ => exact (congrArg (fun z => j.val - z) e2).trans (Nat.sub_zero _)
    | ⟨2, _⟩ => exact (congrArg (fun z => e.val - z) e3).trans (Nat.sub_zero _)
  · rw [if_neg hq, dif_neg fun hin => hq (by
      have h0 := hin 0
      rw [e0] at h0
      have h1 : n ≤ x.val := h0.1
      have h2 : x.val < n + 1 := h0.2
      omega)]

end loop

section trips

variable (m : (ℓ : Loc nD τ sig) → Buf (Elt Ideal) ℓ) (c : Dev nD)

/-- The arguments. -/
abbrev aP : ArrP := m ((c.tc : Thread nD τ).loc main_arg0)
abbrev aW : ArrW := m ((c.tc : Thread nD τ).loc main_arg1)
abbrev aB : ArrB := m ((c.tc : Thread nD τ).loc main_arg2)

open Cert.GlaFwdRun

theorem trips_term : ∀ n, (trips m c n).main_v45_1 = A_main_v39 (F := Ideal) (aP m c) (aW m c) (aB m c)
  | 0 => rfl
  | n + 1 => (show (step n (trips m c n)).main_v45_1 = (trips m c n).main_v45_1 by unfold step; rfl).trans (trips_term n)

theorem trips_decay : ∀ n, (trips m c n).main_v45_0 = A_main_v42 (F := Ideal) (aP m c) (aW m c) (aB m c)
  | 0 => rfl
  | n + 1 => (show (step n (trips m c n)).main_v45_0 = (trips m c n).main_v45_0 by unfold step; rfl).trans (trips_decay n)

/-- What a trip finds carried. -/
theorem trips_carry : ∀ (n : ℕ) (_ : n ≤ 128) (h : Fin 4) (j : Fin 128) (e : Fin 256), (trips m c n).main_v45_3 (ix3 h j e) = stateOf (aP m c) (aW m c) (aB m c) h n j e
  | 0, _, h, j, e => zero_cst ix0
  | n + 1, hn, h, j, e => by
    refine (congrFun (step_main_v45_3 n (trips m c n)) (ix3 h j e)).trans ?_
    have c1 : b12 n (trips m c n) (ix3 h j e) = b10 n (trips m c n) (ix3 h j e) * (trips m c n).main_v45_3 (ix3 h j e) + b8 n (trips m c n) (ix3 h j e) := by
      pointwise [b12, b11]
    have e0 : (⟨min n 127, by omega⟩ : Fin 128) = ⟨n, by omega⟩ := Fin.ext (by show min n 127 = n; omega)
    rw [c1, chunk_term _ n (by omega), chunk_decay _ n (by omega), trips_carry n (by omega), trips_term, trips_decay, term_at, decay_at, mul_comm, ← e0]
    rfl

/-- What the trips have left in the list of states. -/
theorem trips_out : ∀ (n : ℕ) (_ : n ≤ 128) (x : Fin 128) (_ : x.val < n) (h : Fin 4) (j : Fin 128) (e : Fin 256),
    (trips m c n).main_v45_4 (ix4 x h j e) = stateOf (aP m c) (aW m c) (aB m c) h x.val j e
  | 0, _, _, hx, _, _, _ => absurd hx (Nat.not_lt_zero _)
  | n + 1, hn, x, hx, h, j, e => by
    refine (congrFun (step_main_v45_4 n (trips m c n)) (ix4 x h j e)).trans ?_
    rw [chunk_store _ n (by omega)]
    by_cases hq : x.val = n
    · rw [if_pos hq, trips_carry m c n (by omega), hq]
    · rw [if_neg hq]
      exact trips_out n (by omega) x (by omega) h j e

end trips

variable (s : State Ideal) (hs : ∀ (x : Fin 128) (h : Fin 4) (j : Fin 128) (e : Fin 256), s.main_v45_4 (ix4 x h j e) = stateOf P W B h x.val j e)

/-- The mask of the earlier tokens. -/
theorem mask_at (x i : Fin 64) (a z : EReal) (hz : z = 0) :
    Scalar.select (Scalar.select (IntOp.cmpi CmpIPredicate.sge (IntOp.addi (BitVec.ofNat 32 x.val) 0#32) (BitVec.ofNat 32 i.val)) 1#1 0#1) a z = if i ≤ x then a else 0 := by
  have e : IntOp.addi (BitVec.ofNat 32 x.val) 0#32 = BitVec.ofNat 32 x.val := BitVec.add_zero _
  rw [e, WordCmp.cmpi_sge_ofNat (by omega) (by omega), hz]
  by_cases h : i ≤ x
  · rw [if_pos h, decide_eq_true (Fin.le_def.mp h)]
    rfl
  · rw [if_neg h, decide_eq_false (fun q => h (Fin.le_def.mpr q))]
    rfl

include hs

theorem output_form (r : Fin 8192) (l : Fin 1024) : R_main_v93 s P W B (ix2 r l) = output P W B (ix2 r l) := by
  have e : R_main_v93 s P W B = shapeCast _ (transpose S8192x4x256 [1, 0, 2] (shapeCast _ (addf (Host.dotGeneral dot_S4x128x64x64_S4x128x64x256_S4x128x64x256_3_2_2_3_01_01 none (select (broadcastInDim S4x128x64x64 ![2, 3] bcast_S64x64_S4x128x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x128x64x128_S4x128x64x128_S4x128x64x64_3_3_2_2_01_01 none (mulf (scaled P) (Host.exp (A_main_v14 P W B))) (mulf (A_main_v31 P W B) (Host.exp (Host.negf (A_main_v14 P W B))))) (broadcastInDim S4x128x64x64 ![] bcast_S_S4x128x64x64 (id (constant S_ .f32 0x00000000#32)))) (A_main_v34 P W B)) (Host.dotGeneral dot_S4x128x64x128_S128x4x128x256_S4x128x64x256_3_2_2_3_01_10 none (mulf (scaled P) (Host.exp (A_main_v14 P W B))) (s.main_v45_4))) shapeCasts_S4x128x64x256_S4x8192x256) transposes_S4x8192x256_S8192x4x256_1_0_2) shapeCasts_S8192x4x256_S8192x1024 := rfl
  rw [e]
  pointwise
  refine congrArg₂ (fun a b : EReal => a + b) (Finset.sum_congr rfl fun x _ => ?_) (Finset.sum_congr rfl fun x _ => ?_)
  · refine congrArg₂ (fun a b : EReal => a * b) ((mask_at (placeOf r) x _ _ (zero_cst ix0)).trans (if_congr Iff.rfl (Finset.sum_congr rfl fun y _ => ?_) rfl)) (value_at P W B _ _ _ _)
    exact congrArg₂ (fun a b : EReal => a * b) (query_at P W B (headV l) (chunkOf r) (placeOf r) y)
      (congrArg₂ (fun a b : EReal => a * b) (key_at P W B _ _ _ _) (congrArg (fun a : EReal => Ideal.exp (-a)) (cum_at P W B _ _ _ _)))
  · exact congrArg₂ (fun a b : EReal => a * b) (query_at P W B (headV l) (chunkOf r) (placeOf r) x) (hs _ _ _ _)

theorem saved_form (h : Fin 4) (n : Fin 32) (j : Fin 128) (e : Fin 256) : R_main_v97 s (ix4 h n j e) = saved P W B (ix4 h n j e) := by
  unfold R_main_v97
  pointwise
  refine (hs _ _ _ _).trans ?_
  exact congrArg (fun x => stateOf P W B h x j e) (show n.val * 4 + 0 = 4 * n.val by omega)

end Cert.GlaFwdRef

end
-- ==== Proof.GlaForwardClaims.lean ====
/-
  The claims about the forward pass of the gated linear attention: its output and the states it saves.
-/
module

public import proofs.«01_k».proof.Defs
public import proofs.«01_k».proof.Proof.GlaClaims
public import proofs.«01_k».proof.Proof.GlaForwardArray
public import proofs.«01_k».proof.Proof.GlaForwardReference
public import proofs.«01_k».proof.Proof.Gen.GlaForward.Frame
public import Idealize.ShloMosaic.Adequacy
public import Idealize.ShloMosaic.Init

@[expose] public section

set_option maxRecDepth 16384

noncomputable section

open Idealize.ShloMosaic Idealize.ShloMosaic.TcCoe Idealize.SL.Sem

namespace Cert.GlaForwardProof

/-- The kernel, on its own words, runs and leaves its arguments as they were. -/
theorem frame_kernel : Cert.quiescent_GlaForward := fun m ρ _ => Cert.GlaForward.Gen.frame m ρ

/-- The kernel over the extended reals runs and leaves its arguments as they were. -/
theorem frame_ideal : Cert.quiescent_GlaForwardIdeal := fun m ρ _ => Cert.GlaForwardIdeal.Gen.frame m ρ

/-- The reference runs and leaves its arguments as they were. -/
theorem frame_reference : Cert.quiescent_GlaForwardReferenceIdeal := fun m ρ _ =>
  (θ_run Cert.GlaForwardReferenceIdeal.defs _ _).mono (fun r h => ⟨fun c => (h c).2.2, sem_eq_zero_of_no_sems (by decide) r.2⟩)
    (Cert.GlaFwdRun.run_trips m ρ)

/-- The reference's output, after its 128 trips. -/
theorem reference_output (m : (ℓ : Loc Cert.GlaForwardReferenceIdeal.nD Cert.GlaForwardReferenceIdeal.τ Cert.GlaForwardReferenceIdeal.sig) → Buf (Elt Ideal) ℓ) (c : Dev Cert.GlaForwardReferenceIdeal.nD) :
    Cert.GlaForwardReferenceIdeal.Step.R_main_v93 (Cert.GlaFwdRun.trips m c 128) (Cert.GlaFwdRef.aP m c) (Cert.GlaFwdRef.aW m c) (Cert.GlaFwdRef.aB m c)
      = Cert.GlaFwd.output (Cert.GlaFwdRef.aP m c) (Cert.GlaFwdRef.aW m c) (Cert.GlaFwdRef.aB m c) := by
  funext y
  obtain ⟨r, l, rfl⟩ : ∃ r l, y = ix2 r l := ⟨y 0, y 1, eq_ix2 y⟩
  exact Cert.GlaFwdRef.output_form _ _ _ _ (fun x h j e => Cert.GlaFwdRef.trips_out m c 128 le_rfl x x.isLt h j e) r l

/-- The reference's saved states, after its 128 trips. -/
theorem reference_saved (m : (ℓ : Loc Cert.GlaForwardReferenceIdeal.nD Cert.GlaForwardReferenceIdeal.τ Cert.GlaForwardReferenceIdeal.sig) → Buf (Elt Ideal) ℓ) (c : Dev Cert.GlaForwardReferenceIdeal.nD) :
    Cert.GlaForwardReferenceIdeal.Step.R_main_v97 (Cert.GlaFwdRun.trips m c 128)
      = Cert.GlaFwd.saved (Cert.GlaFwdRef.aP m c) (Cert.GlaFwdRef.aW m c) (Cert.GlaFwdRef.aB m c) := by
  funext y
  obtain ⟨h, n, j, e, rfl⟩ : ∃ h n j e, y = ix4 h n j e := ⟨y 0, y 1, y 2, y 3, (ix4_eta y).symm⟩
  exact Cert.GlaFwdRef.saved_form _ _ _ _ (fun x h j e => Cert.GlaFwdRef.trips_out m c 128 le_rfl x x.isLt h j e) h n j e

/-- The kernel's two results are the reference's. -/
theorem algebraic : Cert.algebraic_GlaForwardIdeal_GlaForwardReferenceIdeal := fun m ρ m' ρ' _ hag => by
  refine ⟨fun c => Cert.GlaFwd.output (Cert.GlaFwd.argP m c) (Cert.GlaFwd.argW m c) (Cert.GlaFwd.argB m c),
    fun c => Cert.GlaFwd.saved (Cert.GlaFwd.argP m c) (Cert.GlaFwd.argW m c) (Cert.GlaFwd.argB m c), ?_, ?_⟩
  · refine (θ_run Cert.GlaForwardIdeal.defs _ _).mono (fun r h c => ?_) (Cert.GlaForwardIdeal.Value.run_blocks (F := Ideal) m ρ)
    obtain ⟨h1, h2, hrest⟩ := h c
    exact ⟨h1.trans (Cert.GlaFwd.final_out m c), h2.trans (Cert.GlaFwd.final_saved m c), hrest⟩
  · refine (θ_run Cert.GlaForwardReferenceIdeal.defs _ _).mono (fun r h c => ?_) (Cert.GlaFwdRun.run_trips m' ρ')
    obtain ⟨h1, h2, hrest⟩ := h c
    obtain ⟨a0, a1, a2⟩ := hag c
    refine ⟨h1.trans ((reference_output m' c).trans ?_), h2.trans ((reference_saved m' c).trans ?_), hrest⟩
    · unfold Cert.GlaFwdRef.aP Cert.GlaFwdRef.aW Cert.GlaFwdRef.aB
      rw [a0, a1, a2]
    · unfold Cert.GlaFwdRef.aP Cert.GlaFwdRef.aW Cert.GlaFwdRef.aB
      rw [a0, a1, a2]

end Cert.GlaForwardProof

end
-- ==== Proof.ForwardMath.lean ====
/-
  One row of softmax attention, over the extended reals: the weighted sum of the values over the sum of the weights, and
  the sum of the values times their probabilities, agree when every logit of the row is a real number.
-/
module

public import proofs.«01_k».proof.Proof.MemMath

@[expose] public section

noncomputable section

open Idealize.ShloMosaic

namespace Cert.Forward

open Cert.Mem

/-- The sum of the values times their weights, over the sum of the weights. -/
def mix {J : ℕ} (L V : Fin J → EReal) : EReal := Ideal.div (∑ j, weight L j * V j) (∑ x, weight L x)

/-- Where every logit of the row is real, the quotient may be taken of each weight, whatever the values are. -/
theorem mix_eq {J : ℕ} (hJ : 0 < J) (L V : Fin J → EReal) (l : Fin J → ℝ) (hL : ∀ j, L j = l j) :
    ∑ j, prob L j * V j = mix L V := by
  obtain ⟨M, hM⟩ := top_real hJ L l hL
  have hw : ∀ x, weight L x = ((Real.exp (l x - M) : ℝ) : EReal) := fun x => by
    unfold weight; rw [hM, hL x, ← EReal.coe_sub]; rfl
  have hs : ∑ x, weight L x = ((∑ x, Real.exp (l x - M) : ℝ) : EReal) := by
    rw [coe_sum]; exact Finset.sum_congr rfl fun x _ => hw x
  have hpos : 0 < ∑ x, Real.exp (l x - M) := Finset.sum_pos (fun x _ => Real.exp_pos _) ⟨⟨0, hJ⟩, Finset.mem_univ _⟩
  unfold mix prob
  rw [hs, Ideal.div_coe hpos.ne', sum_mul_pos _ _ _ (one_div_pos.mpr hpos).le]
  refine Finset.sum_congr rfl fun j _ => ?_
  rw [Ideal.div_coe hpos.ne']
  exact mul_right_comm _ _ _

end Cert.Forward

end
-- ==== Proof.MemForwardValue.lean ====
/-
  The attention over the memory tokens, as the kernel computes it: one block of tokens at each grid point, head by head,
  the weighted sum of the values over the sum of the weights.
-/
module

public import proofs.«01_k».proof.Proof.ForwardMath
public import proofs.«01_k».proof.Proof.MemEquation
public import proofs.«01_k».proof.Proof.Gen.MemForwardIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Forward

open Cert.MemForwardIdeal Cert.MemForwardIdeal.Gen
open Cert.Mem (logit logits cutT cutM ld_tok ld_mem first first_le lane first_lane col col_lane tile)

/-- One head's attention of one token. -/
def head (q : Vec Ideal S512x128 .bf16) (k v : Vec Ideal S256x128 .bf16) (r : Fin 512) (e : Fin 128) : EReal :=
  mix (logit q k r) fun j => v (ix2 j e)

section
variable (q : Vec Ideal S512x128 .bf16) (k v : Vec Ideal S256x128 .bf16) (r : Fin 512) (e : Fin 128)

/-! The first head. -/

theorem pay2_apply : k0_pay2 (F := Ideal) q k v (ix2 r e) = head q k v r e := by
  pointwise [k0_pay2]; rfl

/-! The second head. -/

theorem pay3_apply (j : Fin 256) : k0_pay3 (F := Ideal) q k (ix2 r j) = Cert.Mem.weight (logit q k r) j := by
  pointwise [k0_pay3]; rfl

theorem pay6_apply : k0_pay6 (F := Ideal) (k0_pay4 q k v) (k0_pay5 q k) (ix2 r e) = head q k v r e := by
  pointwise [k0_pay6, k0_pay4, k0_pay5, pay3_apply]; rfl

/-! The third head. -/

theorem pay7_apply : k0_pay7 (F := Ideal) q k v (ix2 r e) = head q k v r e := by
  pointwise [k0_pay7]; rfl

/-! The fourth head. -/

theorem pay8_apply (j : Fin 256) : k0_pay8 (F := Ideal) q k (ix2 r j) = Cert.Mem.weight (logit q k r) j := by
  pointwise [k0_pay8]; rfl

theorem pay1_apply : k0_pay1 (F := Ideal) (k0_pay8 q k) (k0_pay9 q k) v (ix2 r e) = head q k v r e := by
  pointwise [k0_pay1, k0_pay9, pay8_apply]; rfl
end

/-- The attention of one block of tokens. -/
def block (q : Vec Ideal S512x512 .bf16) (k v : Vec Ideal S256x512 .bf16) : Vec Ideal S512x512 .f32 :=
  fun y => head (cutT q (first (y 1)) (first_le _)) (cutM k (first (y 1)) (first_le _)) (cutM v (first (y 1)) (first_le _)) (y 0) (lane (y 1))

section
variable (q : Vec Ideal S512x512 .bf16) (k v : Vec Ideal S256x512 .bf16)

theorem block_at (y : S512x512.Idx) (h o : ℕ) (ho : o + 128 ≤ 512) (hh : o = 128 * h) (r : Fin 512) (e : Fin 128) (h0 : y 0 = r)
    (h1 : (y 1).val = o + e.val) : block q k v y = head (cutT q o ho) (cutM k o ho) (cutM v o ho) r e := by
  obtain ⟨hf, hl⟩ := first_lane (y 1) h e (by omega)
  subst hh h0
  have key : ∀ (o' : ℕ) (ho' : o' + 128 ≤ 512), o' = 128 * h → head (cutT q o' ho') (cutM k o' ho') (cutM v o' ho') (y 0) e
      = head (cutT q (128 * h) ho) (cutM k (128 * h) ho) (cutM v (128 * h) ho) (y 0) e := by
    rintro _ _ rfl; rfl
  unfold block
  rw [hl]
  exact key _ _ hf

/-- A store of one head's attention is a piece of the block. -/
theorem piece (h o : ℕ) (ho : o + 128 ≤ 512) (hh : o = 128 * h) (inb : ∀ a, (![0, o] : Fin 2 → ℕ) a + S512x128.size a ≤ S512x512.size a)
    (w : Vec Ideal S512x128 .f32) (hw : ∀ (r : Fin 512) (e : Fin 128), w (ix2 r e) = head (cutT q o ho) (cutM k o ho) (cutM v o ho) r e) :
    ∀ x : S512x128.Idx, w x = block q k v ((Rect.unit (s := S512x512) ![0, o] S512x128.size inb).emb x) := by
  intro x
  have := hw (x 0) (x 1)
  rw [ix2_eta] at this
  exact this.trans (block_at q k v _ h o ho hh (x 0) (x 1) (Fin.ext (by show 0 + 1 * (x 0).val = (x 0).val; omega)) (by show o + 1 * (x 1).val = o + (x 1).val; omega)).symm

/-- What one point writes. -/
theorem out_eq : out0_3 (F := Ideal) q k v = block q k v := by
  funext y
  unfold out0_3
  refine View.canon_apply_of_pieces _ _ (View.PiecesOf.mem ?_) y (cover0_3 _ _ _ _ y)
  simp (disch := decide) only [ld_tok _ _ _ (by norm_num : 384 + 128 ≤ 512), ld_tok _ _ _ (by norm_num : 256 + 128 ≤ 512), ld_tok _ _ _ (by norm_num : 128 + 128 ≤ 512), ld_tok _ _ _ (by norm_num : 0 + 128 ≤ 512), ld_mem _ _ _ (by norm_num : 384 + 128 ≤ 512), ld_mem _ _ _ (by norm_num : 256 + 128 ≤ 512), ld_mem _ _ _ (by norm_num : 128 + 128 ≤ 512), ld_mem _ _ _ (by norm_num : 0 + 128 ≤ 512)]
  exact ⟨piece q k v 3 _ _ (by norm_num) inb_S512x512_S512x128_0_384 _ fun r e => pay1_apply _ _ _ r e,
    piece q k v 2 _ _ (by norm_num) inb_S512x512_S512x128_0_256 _ fun r e => pay7_apply _ _ _ r e,
    piece q k v 1 _ _ (by norm_num) inb_S512x512_S512x128_0_128 _ fun r e => pay6_apply _ _ _ r e,
    piece q k v 0 _ _ (by norm_num) inb_S512x512_S512x128_0_0 _ fun r e => pay2_apply _ _ _ r e, trivial⟩

end

/-- The attention of all the tokens. -/
def result (q : Vec Ideal S8192x512 .bf16) (k v : Vec Ideal S256x512 .bf16) : Vec Ideal S8192x512 .f32 :=
  fun y => mix (logits q k (y 1) (y 0)) fun j => v (ix2 j (y 1))

/-- A block of the attention is the rows of that block. -/
theorem block_tile (q : Vec Ideal S8192x512 .bf16) (k v : Vec Ideal S256x512 .bf16) (t : Fin 16) (y : S512x512.Idx) :
    block (tile q t) k v y = result q k v (ix2 ⟨t.val * 512 + (y 0).val, by have h0 : (y 0).val < 512 := (y 0).isLt; omega⟩ (y 1)) := by
  unfold block head result
  exact congrArg (mix _) (funext fun j => congrArg (fun l => v (ix2 j l)) (col_lane (y 1)))

variable (m : (ℓ : Loc nD τ sig) → Buf (Elt Ideal) ℓ) (c : Dev nD)

/-- The three arguments, as arrays. -/
abbrev argQ : Vec Ideal S8192x512 .bf16 := m ((c.tc : Thread nD τ).loc main_arg0)
abbrev argK : Vec Ideal S256x512 .bf16 := m ((c.tc : Thread nD τ).loc main_arg1)
abbrev argV : Vec Ideal S256x512 .bf16 := m ((c.tc : Thread nD τ).loc main_arg2)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])

/-- A grid point as a block number. -/
def blockNo (t : Fin cfg0.N) : Fin 16 := ⟨t.val, by have := t.isLt; have : cfg0.N = 16 := N_0; omega⟩

theorem iblk0 (t : Fin cfg0.N) : (iblk m c 0 t : Vec Ideal S512x512 .bf16) = tile (argQ m c) (blockNo t) := by
  funext y
  blk_simp [iblk]
  unfold V tile
  congr 1
  blk_ext [idx0, blockNo]

theorem iblk1 (t : Fin cfg0.N) : (iblk m c 1 t : Vec Ideal S256x512 .bf16) = argK m c := by
  funext y
  blk_simp [iblk]
  unfold V
  congr 1
  blk_ext [idx1]

theorem iblk2 (t : Fin cfg0.N) : (iblk m c 2 t : Vec Ideal S256x512 .bf16) = argV m c := by
  funext y
  blk_simp [iblk]
  unfold V
  congr 1
  blk_ext [idx2]

/-- The kernel's result array. -/
theorem final : (dats m 0 c).arrAt 3 cfg0.N = result (argQ m c) (argK m c) (argV m c) := by
  refine (dats m 0 c).arrAt_eq_of_covers 3 _ (by decide +kernel) fun t hf y => ?_
  blk_simp
  rw [after0_3, out_eq, iblk0, iblk1, iblk2]
  refine (block_tile _ _ _ _ _).trans ?_
  congr 1
  blk_ext [idx3, blockNo]

end Cert.Forward

end
-- ==== Proof.MemForwardClaims.lean ====
/-
  The claims about the attention over the memory tokens: the frames, and the agreement of the result wherever the queries
  and the keys are finite.
-/
module

public import proofs.«01_k».proof.Defs
public import proofs.«01_k».proof.Pre_finite_mem
public import proofs.«01_k».proof.Proof.MemFinite
public import proofs.«01_k».proof.Proof.MemForwardValue
public import proofs.«01_k».proof.Proof.Gen.MemForward.Frame
public import proofs.«01_k».proof.Proof.Gen.MemForwardReferenceIdeal.Run

@[expose] public section

set_option maxRecDepth 16384

noncomputable section

open Idealize.ShloMosaic Idealize.ShloMosaic.TcCoe Idealize.SL.Sem

namespace Cert.Pre_finite_mem

/-- The shape relations the precondition's operations take. -/
instance facts : Cert.Pre_finite_mem.Facts where
  bitsLt_bf16_f32 := by decide
  bcast_S_S8192x512 := by decide
  reducesTo_S8192x512_S_d0_1 := by decide
  h_S_ := by decide
  bcast_S_S256x512 := by decide
  reducesTo_S256x512_S_d0_1 := by decide

instance : Subsingleton S_.Idx := ⟨fun _ _ => funext fun a => a.elim0⟩

/-- The precondition makes the queries and the keys real. -/
theorem real_of_fn (a : FVec Ideal S8192x512 .bf16) (b e : FVec Ideal S256x512 .bf16) (h : fn (F := Ideal) a b e = fun _ => 1#1) :
    (∀ i, ∃ x : ℝ, a i = x) ∧ ∀ i, ∃ x : ℝ, b i = x := by
  have h0 : IntOp.andi _ _ = 1#1 := congrFun h ix0
  obtain ⟨ha, hb⟩ := IntOp.andi_eq_one.1 h0
  exact ⟨fun i => Cert.Pre_finite.real_of_lt _ (Host.reduce_andi_all _ _ _ _ _ ha i), fun i => Cert.Pre_finite.real_of_lt _ (Host.reduce_andi_all _ _ _ _ _ hb i)⟩

end Cert.Pre_finite_mem

namespace Cert.Forward

open Cert.ReferenceIdeal (Stage.tok Stage.slot Stage.head Stage.probs Stage.weights Stage.logits Stage.probs_apply)

/-- The kernel, on its own words, runs and leaves its arguments as they were. -/
theorem frame_kernel : Cert.quiescent_MemForward := fun m ρ _ => Cert.MemForward.Gen.frame m ρ

/-- The kernel over the extended reals runs and leaves its arguments as they were. -/
theorem frame_ideal : Cert.quiescent_MemForwardIdeal := fun m ρ _ => Cert.MemForwardIdeal.Gen.frame m ρ

/-- The same, read under the precondition. -/
theorem frame_ideal_finite : Cert.quiescent_MemForwardIdeal_pre_finite_mem := fun m ρ _ => Cert.MemForwardIdeal.Gen.frame m ρ

/-- The reference runs and leaves its arguments as they were. -/
theorem frame_reference : Cert.quiescent_MemForwardReferenceIdeal := fun m ρ _ =>
  (θ_run Cert.MemForwardReferenceIdeal.defs _ _).mono (fun r h => ⟨fun c => (h c).2, sem_eq_zero_of_no_sems (by decide) r.2⟩)
    (Cert.MemForwardReferenceIdeal.Value.run (F := Ideal) m ρ)

/-- The same, read under the precondition. -/
theorem frame_reference_finite : Cert.quiescent_MemForwardReferenceIdeal_pre_finite_mem := fun m ρ _ => frame_reference m ρ trivial

open Cert.ReferenceIdeal Cert.ReferenceIdeal.Gen Cert.ReferenceIdeal.Facts in
/-- The reference's result, in the stages of the gradient's reference. -/
def stage (q : FVec Ideal S8192x512 .bf16) (k v : FVec Ideal S256x512 .bf16) : FVec Ideal S8192x512 .f32 :=
  shapeCast _ (transpose S8192x4x128 [1, 0, 2] (Host.dotGeneral dot_S4x8192x256_S4x256x128_S4x8192x128_2_1_1_2_0_0 none
    (Stage.probs (Stage.weights (Stage.logits q k))) (Stage.slot v)) transposes_S4x8192x128_S8192x4x128_1_0_2) shapeCasts_S8192x4x128_S8192x512

open Cert.ReferenceIdeal in
theorem stage_apply (q : FVec Ideal S8192x512 .bf16) (k v : FVec Ideal S256x512 .bf16) (r : Fin 8192) (l : Fin 512) :
    stage q k v (ix2 r l) = ∑ x, Stage.probs (Stage.weights (Stage.logits q k)) (ix3 (Stage.head l) r x) * Stage.slot v (ix3 (Stage.head l) x (Cert.Mem.lane l)) := by
  pointwise [stage]
  rfl

open Cert.ReferenceIdeal in
/-- The reference's result is the kernel's, where the queries and the keys are real. -/
theorem stage_eq (q : FVec Ideal S8192x512 .bf16) (k v : FVec Ideal S256x512 .bf16) (hq : ∀ i, ∃ x : ℝ, q i = x) (hk : ∀ i, ∃ x : ℝ, k i = x) :
    stage q k v = result q k v := by
  funext i
  obtain ⟨r, l, rfl⟩ : ∃ (r : Fin 8192) (l : Fin 512), i = ix2 r l := ⟨i 0, i 1, (ix2_eta i).symm⟩
  obtain ⟨f, hf⟩ := Cert.Mem.logits_real q k hq hk l r
  rw [stage_apply]
  refine Eq.trans (Finset.sum_congr rfl fun x _ => ?_) (mix_eq (by norm_num) _ (fun j => v (ix2 j l)) f hf)
  rw [Stage.probs_apply, Cert.Mem.logits_row, Cert.Mem.slot_col]
  rfl

/-- The kernel's result is the reference's, wherever the queries and the keys are finite. -/
theorem algebraic : Cert.algebraic_MemForwardIdeal_MemForwardReferenceIdeal_pre_finite_mem := fun m ρ m' ρ' hpre hag => by
  refine ⟨fun c => result (argQ m c) (argK m c) (argV m c), ?_, ?_⟩
  · refine (θ_run Cert.MemForwardIdeal.defs _ _).mono (fun r h c => ?_) (Cert.MemForwardIdeal.Value.run_blocks (F := Ideal) m ρ)
    exact ⟨(h c).1.trans (final m c), (h c).2⟩
  · refine (θ_run Cert.MemForwardReferenceIdeal.defs _ _).mono (fun r h c => ?_) (Cert.MemForwardReferenceIdeal.Value.run (F := Ideal) m' ρ')
    obtain ⟨hq, hk⟩ := Cert.Pre_finite_mem.real_of_fn _ _ _ (hpre c)
    obtain ⟨a0, a1, a2⟩ := hag c
    refine ⟨(h c).1.trans ?_, (h c).2⟩
    rw [a0, a1, a2]
    exact stage_eq _ _ _ hq hk

end Cert.Forward

end
-- ==== Proof.NormMath.lean ====
/-
  The mathematics of one row of the root-mean-square normalisation and of its gradient, over the extended reals. The
  gradient is computed in two forms, which agree: where the row is real by the algebra of both, and where it has an infinite
  entry because then the row is multiplied by zero and neither form lets anything of it through.
-/
module

public import proofs.«01_k».proof.Proof.MemMath

@[expose] public section

noncomputable section

open Idealize.ShloMosaic

namespace Cert.RowNorm

open Cert.Mem (sum_mul_pos add_mul_pos coe_sum)

/-- The width of a row, as the f32 word both programs carry. -/
abbrev width : EReal := Ideal.ofBits FTy.f32 1157627904#32

/-- What both programs add to the mean square. -/
abbrev floor : EReal := Ideal.ofBits FTy.f32 897988541#32

/-- The factor minus one half, as the reference carries it. -/
abbrev minusHalf : EReal := Ideal.ofBits FTy.f32 3204448256#32

/-- The mean square of a row, and a little more. -/
def power {J : ℕ} (x : Fin J → EReal) : EReal := Ideal.div (∑ j, x j * x j) width + floor

/-- What a row is multiplied by: the reciprocal root of its mean square. -/
def rate {J : ℕ} (x : Fin J → EReal) : EReal := Ideal.rsqrt (power x)

/-- The gradient of an entry of the row, `e` being the gradient of the normalised row and `c` what is added: through the
    deviation of `e` from its mean along the row. -/
def back {J : ℕ} (x e : Fin J → EReal) (c : EReal) (j : Fin J) : EReal :=
  rate x * (e j - x j * rate x * Ideal.div (∑ k, e k * (x k * rate x)) width) + c

/-- The gradient that reaches the squares of a row, as differentiating the reciprocal root gives it. -/
def squares {J : ℕ} (x e : Fin J → EReal) : EReal :=
  Ideal.div ((∑ k, x k * e k) * (minusHalf * Ideal.div (rate x) (power x))) width

/-- The gradient of an entry as differentiating the quotient gives it: directly, and twice through the square. -/
def through {J : ℕ} (x e : Fin J → EReal) (c : EReal) (j : Fin J) : EReal :=
  c + e j * rate x + x j * squares x e + squares x e * x j

theorem width_eq : width = ((2048 : ℝ) : EReal) := by
  simp [width, Ideal.ofBits, Ideal.ieee, -EReal.coe_mul]; norm_num

theorem floor_pos : ∃ s : ℝ, 0 < s ∧ floor = s := by
  refine ⟨_, ?_, by simp [floor, Ideal.ofBits, Ideal.ieee, -EReal.coe_mul]; rfl⟩
  norm_num

theorem minusHalf_eq : minusHalf = ((-1 / 2 : ℝ) : EReal) := by
  simp [minusHalf, Ideal.ofBits, Ideal.ieee, -EReal.coe_mul]; norm_num

/-- Where the row is real its rate is a positive real, the reciprocal root of a positive real. -/
theorem rate_real {J : ℕ} (x : Fin J → EReal) (a : Fin J → ℝ) (hx : ∀ j, x j = a j) :
    ∃ u r : ℝ, 0 < u ∧ 0 < r ∧ power x = u ∧ rate x = r ∧ r * r * u = 1 := by
  obtain ⟨s, hs, hf⟩ := floor_pos
  have hsum : ∑ j, x j * x j = ((∑ j, a j * a j : ℝ) : EReal) := by
    rw [coe_sum]; exact Finset.sum_congr rfl fun j _ => by rw [hx, EReal.coe_mul]
  have hn : 0 ≤ ∑ j, a j * a j := Finset.sum_nonneg fun j _ => mul_self_nonneg _
  obtain ⟨u, hu, hp⟩ : ∃ u : ℝ, 0 < u ∧ power x = u := by
    refine ⟨(∑ j, a j * a j) * (1 / 2048) + s, by positivity, ?_⟩
    unfold power
    rw [hsum, width_eq, Ideal.div_coe (by norm_num), hf, ← EReal.coe_mul, ← EReal.coe_add]
  refine ⟨u, (Real.sqrt u)⁻¹, hu, inv_pos.mpr (Real.sqrt_pos.mpr hu), hp, ?_, ?_⟩
  · unfold rate; rw [hp, Ideal.rsqrt_coe, if_neg (by linarith), if_neg hu.ne']
  · rw [← mul_inv, Real.mul_self_sqrt hu.le, inv_mul_cancel₀ hu.ne']

/-- A value twice. -/
theorem twice (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_add, ← EReal.coe_mul, mul_two]

/-- Where every entry of the row is real, the two forms of the gradient agree, whatever `e` and `c` are. -/
theorem through_eq_of_real {J : ℕ} (x e : Fin J → EReal) (c : EReal) (a : Fin J → ℝ) (hx : ∀ j, x j = a j) (j : Fin J) :
    through x e c j = back x e c j := by
  obtain ⟨u, r, hu, hr, hp, hR, h1⟩ := rate_real x a hx
  have hinv : 1 / u = r * r := by field_simp; linarith
  have hS : ∑ k, e k * (x k * (r : EReal)) = (∑ k, x k * e k) * (r : EReal) := by
    rw [sum_mul_pos _ _ r hr.le]
    exact Finset.sum_congr rfl fun k _ => by rw [← mul_assoc, mul_comm (e k)]
  generalize hT : ∑ k, x k * e k = S at *
  have hB : squares x e = S * ((-1 / 2 * (r * (r * r)) * (1 / 2048) : ℝ) : EReal) := by
    unfold squares
    rw [hT, hR, hp, Ideal.div_coe hu.ne', width_eq, Ideal.div_coe (by norm_num), minusHalf_eq, hinv, ← EReal.coe_mul,
      ← EReal.coe_mul, mul_assoc, ← EReal.coe_mul]
  unfold through back
  rw [hB, hR, hS, width_eq, Ideal.div_coe (by norm_num), hx j]
  have hl : (a j : EReal) * (S * ((-1 / 2 * (r * (r * r)) * (1 / 2048) : ℝ) : EReal))
      = S * ((a j * (-1 / 2 * (r * (r * r)) * (1 / 2048)) : ℝ) : EReal) := by
    rw [EReal.coe_mul (a j)]; exact mul_left_comm _ _ _
  have hm : -((a j : EReal) * (r : EReal) * (S * (r : EReal) * ((1 / 2048 : ℝ) : EReal))) * (r : EReal)
      = S * ((a j * (-1 / 2 * (r * (r * r)) * (1 / 2048)) * 2 : ℝ) : EReal) := by
    rw [show a j * (-1 / 2 * (r * (r * r)) * (1 / 2048)) * 2 = -(a j * r * (r * (1 / 2048)) * r) by ring, EReal.coe_neg,
      mul_comm S (-_), EReal.neg_mul, EReal.neg_mul, EReal.coe_mul, EReal.coe_mul, EReal.coe_mul, EReal.coe_mul]
    congr 1
    ac_rfl
  rw [mul_comm (S * _) (a j : EReal), hl, add_assoc, twice, mul_assoc, ← EReal.coe_mul, mul_comm (r : EReal) (_ - _), sub_eq_add_neg,
    add_mul_pos _ _ r hr.le, hm, add_comm c, add_assoc, add_assoc, add_comm c]

/-- A square is not negative. -/
theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- A value that is no real number has an infinite square. -/
theorem square_infinite (x : EReal) (h : ¬∃ a : ℝ, x = a) : x * x = ⊤ := by
  induction x with
  | bot => exact EReal.bot_mul_bot
  | top => exact EReal.top_mul_top
  | coe r => exact absurd ⟨r, rfl⟩ h

/-- A row with an infinite entry has an infinite mean square. -/
theorem power_infinite {J : ℕ} (x : Fin J → EReal) (k : Fin J) (h : ¬∃ a : ℝ, x k = a) : power x = ⊤ := by
  have hs : ∑ j, x j * x j = ⊤ := top_le_iff.mp <| by
    have := Finset.single_le_sum (f := fun j => x j * x j) (fun j _ => square_nonneg (x j)) (Finset.mem_univ k)
    rwa [show x k * x k = ⊤ from square_infinite _ h] at this
  obtain ⟨s, _, hf⟩ := floor_pos
  unfold power
  rw [hs, width_eq, Ideal.div_coe (by norm_num), EReal.top_mul_coe_of_pos (by norm_num), hf, EReal.top_add_coe]

/-- Such a row is multiplied by zero. -/
theorem rate_infinite {J : ℕ} (x : Fin J → EReal) (k : Fin J) (h : ¬∃ a : ℝ, x k = a) : rate x = 0 := by
  unfold rate; rw [power_infinite x k h]; rfl

/-- Nothing reaches its squares. -/
theorem squares_infinite {J : ℕ} (x e : Fin J → EReal) (k : Fin J) (h : ¬∃ a : ℝ, x k = a) : squares x e = 0 := by
  unfold squares
  rw [rate_infinite x k h, power_infinite x k h, width_eq, Ideal.div_coe (by norm_num),
    show Ideal.div 0 ⊤ = 0 by unfold Ideal.div; rw [if_neg EReal.top_ne_zero, zero_mul], mul_zero, mul_zero, zero_mul]

/-- The two forms of the gradient agree, whatever the row, `e` and `c` are. -/
theorem through_eq {J : ℕ} (x e : Fin J → EReal) (c : EReal) (j : Fin J) : through x e c j = back x e c j := by
  by_cases hx : ∀ k, ∃ a : ℝ, x k = a
  · choose a ha using hx
    exact through_eq_of_real x e c a ha j
  · obtain ⟨k, hk⟩ := not_forall.mp hx
    unfold through back
    rw [squares_infinite x e k hk, rate_infinite x k hk, mul_zero, mul_zero, zero_mul, zero_mul, add_zero, add_zero, add_zero,
      zero_add]

end Cert.RowNorm

end
-- ==== Proof.NormValue.lean ====
/-
  The normalisation of the feed-forward block's input, as the kernel computes it: each row over the root of its mean square,
  times the gains.
-/
module

public import proofs.«01_k».proof.Proof.NormMath
public import proofs.«01_k».proof.Proof.Gen.NormIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.RowNorm

open Cert.NormIdeal Cert.NormIdeal.Gen

/-- Every row times its rate, times the gains. -/
def result (x : Vec Ideal S8192x2048 .f32) (g : Vec Ideal S2048 .f32) : Vec Ideal S8192x2048 .bf16 :=
  fun y => x (ix2 (y 0) (y 1)) * rate (fun k : Fin 2048 => x (ix2 (y 0) k)) * g (ix1 (y 1))

/-- What one point writes. -/
theorem pay1_apply (x : Vec Ideal S512x2048 .f32) (g : Vec Ideal S1x2048 .f32) (r : Fin 512) (j : Fin 2048) :
    k0_pay1 (F := Ideal) x g (ix2 r j) = x (ix2 r j) * rate (fun k : Fin 2048 => x (ix2 r k)) * g (ix2 (0 : Fin 1) j) := by
  pointwise [k0_pay1]
  rfl

variable (m : (ℓ : Loc nD τ sig) → Buf (Elt Ideal) ℓ) (c : Dev nD)

/-- The rows, as launched. -/
abbrev argX : Vec Ideal S8192x2048 .f32 := m ((c.tc : Thread nD τ).loc main_arg0)
/-- The gains, as launched. -/
abbrev argG : Vec Ideal S2048 .f32 := m ((c.tc : Thread nD τ).loc main_arg1)

/-- The gains as the host prepares them: one row. -/
theorem gains (y : S1x2048.Idx) : (show Vec Ideal S1x2048 .f32 from V m c main_v0) y = argG m c (ix1 (y 1)) := by
  have h : V m c main_v0 = shapeCast S1x2048 (m ((c.tc : Thread nD τ).loc main_arg1)) shapeCasts_S2048_S1x2048 := by
    unfold V; after_results <;> rfl
  rw [h]
  pointwise

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

/-- A row of the block that a point reads. -/
theorem row_eq (t : Fin cfg0.N) (r : Fin 512) (k : Fin 2048) (R : Fin 8192) (hR : R.val = t.val * 512 + r.val) :
    (show Vec Ideal S512x2048 .f32 from iblk m c 0 t) (ix2 r k) = argX m c (ix2 R k) := by
  blk_ext [iblk, V, idx0]

/-- The gains that a point reads. -/
theorem gain_eq (t : Fin cfg0.N) (j J : Fin 2048) (hJ : J.val = j.val) :
    (show Vec Ideal S1x2048 .f32 from iblk m c 1 t) (ix2 (0 : Fin 1) j) = argG m c (ix1 J) := by
  refine (gains m c _).trans ?_
  blk_ext [iblk, V, idx1]

/-- The kernel's result array. -/
theorem final : (dats m 0 c).arrAt 2 cfg0.N = result (argX m c) (argG m c) := by
  refine (dats m 0 c).arrAt_eq_of_covers 2 _ (by decide +kernel) fun t hf y => ?_
  blk_simp
  rw [after0_2]
  frame_out
  rw [← ix2_eta y]
  refine (pay1_apply _ _ (y 0) (y 1)).trans ?_
  have e0 : ((win0_2.blk t).view.emb (ix2 (y 0) (y 1)) 0).val = t.val * 512 + (y 0).val := by blk_simp [idx2]
  have e1 : ((win0_2.blk t).view.emb (ix2 (y 0) (y 1)) 1).val = (y 1).val := by blk_simp [idx2]
  have hx := fun k => row_eq m c t (y 0) k _ e0
  have he : (show Fin 2048 from (win0_2.blk t).view.emb (ix2 (y 0) (y 1)) 1) = y 1 := Fin.ext e1
  unfold result
  exact congrArg₂ (fun a b : EReal => a * b) (congrArg₂ (fun a b : EReal => a * b) ((hx (y 1)).trans (congrArg (fun l => argX m c (ix2 _ l)) he.symm))
    (congrArg rate (funext hx))) (gain_eq m c t (y 1) _ e1)

end Cert.RowNorm

end
-- ==== Proof.NormClaims.lean ====
/-
  The claims about the normalisation: the frames, and the agreement of the result with the reference's.
-/
module

public import proofs.«01_k».proof.Defs
public import proofs.«01_k».proof.Proof.NormValue
public import proofs.«01_k».proof.Proof.Gen.Norm.Frame
public import proofs.«01_k».proof.Proof.Gen.NormReferenceIdeal.Run

@[expose] public section

set_option maxRecDepth 16384

noncomputable section

open Idealize.ShloMosaic Idealize.ShloMosaic.TcCoe Idealize.SL.Sem

namespace Cert.RowNorm

/-- The kernel, on its own words, runs and leaves its arguments as they were. -/
theorem frame_kernel : Cert.quiescent_Norm := fun m ρ _ => Cert.Norm.Gen.frame m ρ

/-- The kernel over the extended reals runs and leaves its arguments as they were. -/
theorem frame_ideal : Cert.quiescent_NormIdeal := fun m ρ _ => Cert.NormIdeal.Gen.frame m ρ

/-- The reference runs and leaves its arguments as they were. -/
theorem frame_reference : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

section reference

open Cert.NormReferenceIdeal Cert.NormReferenceIdeal.Gen Cert.NormReferenceIdeal.Facts

/-- The reference's mean squares of the rows, and a little more. -/
def powers (x : FVec Ideal S8192x2048 .f32) : FVec Ideal S8192x1 .f32 :=
  addf (Host.divf (broadcastInDim S8192x1 ![0] bcast_S8192_S8192x1_0 (Host.reduceAdd (mulf x x) (constant (F := Ideal) S_ .f32 0x00000000#32) reducesTo_S8192x2048_S8192_d1 h_S_)) (broadcastInDim S8192x1 ![] bcast_S_S8192x1 (constant (F := Ideal) S_ .f32 0x45000000#32))) (broadcastInDim S8192x1 ![] bcast_S_S8192x1 (constant (F := Ideal) S_ .f32 0x358637BD#32))

/-- The reference's rates of the rows. -/
def rates (x : FVec Ideal S8192x2048 .f32) : FVec Ideal S8192x1 .f32 := Host.rsqrt (powers x)

theorem powers_apply (x : FVec Ideal S8192x2048 .f32) (r : Fin 8192) (z : Fin 1) :
    powers x (ix2 r z) = power fun k : Fin 2048 => x (ix2 r k) := by
  pointwise [powers]
  rfl

theorem rates_apply (x : FVec Ideal S8192x2048 .f32) (r : Fin 8192) (z : Fin 1) :
    rates x (ix2 r z) = rate fun k : Fin 2048 => x (ix2 r k) := by
  pointwise [rates, powers_apply]
  rfl

/-- The reference's result is the kernel's. -/
theorem result_eq (x : FVec Ideal S8192x2048 .f32) (g : FVec Ideal S2048 .f32) :
    truncf (F := Ideal) .bf16 (mulf (mulf x (broadcastInDim S8192x2048 ![0, 1] bcast_S8192x1_S8192x2048_0_1 (rates x))) (broadcastInDim S8192x2048 ![0, 1] bcast_S1x2048_S8192x2048_0_1 (broadcastInDim S1x2048 ![1] bcast_S2048_S1x2048_1 g))) bitsLt_bf16_f32
      = result x g := by
  funext i
  obtain ⟨r, l, rfl⟩ : ∃ (r : Fin 8192) (l : Fin 2048), i = ix2 r l := ⟨i 0, i 1, (ix2_eta i).symm⟩
  pointwise [rates_apply]
  rfl

end reference

/-- The kernel's result is the reference's. -/
theorem algebraic : Cert.algebraic_NormIdeal_NormReferenceIdeal := fun m ρ m' ρ' _ hag => by
  refine ⟨fun c => result (argX m c) (argG m c), ?_, ?_⟩
  · refine (θ_run Cert.NormIdeal.defs _ _).mono (fun r h c => ?_) (Cert.NormIdeal.Value.run_blocks (F := Ideal) m ρ)
    exact ⟨(h c).1.trans (final m c), (h c).2⟩
  · refine (θ_run Cert.NormReferenceIdeal.defs _ _).mono (fun r h c => ?_) (Cert.NormReferenceIdeal.Value.run (F := Ideal) m' ρ')
    obtain ⟨a0, a1⟩ := hag c
    refine ⟨(h c).1.trans ?_, (h c).2⟩
    rw [a0, a1]
    exact result_eq _ _

end Cert.RowNorm

end
-- ==== Proof.NormGradValue.lean ====
/-
  The gradient of the normalisation, as the kernel computes it: one block of rows at each grid point, and the gradient of
  the gains as a running sum over the blocks.
-/
module

public import proofs.«01_k».proof.Proof.NormMath
public import proofs.«01_k».proof.Proof.Gen.NormGradIdeal.Value
public import Idealize.ShloMosaic.Lib.Pipeline.ValueKit
public import Idealize.ShloMosaic.Lib.Pipeline.ValueKit.Acc
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.RowNormGrad

open Cert.NormGradIdeal Cert.NormGradIdeal.Gen
open Cert.RowNorm (rate back)

/-- The gradient of the rows: through the normalisation, plus what reaches them directly. -/
def rows (x : Vec Ideal S8192x2048 .f32) (g : Vec Ideal S2048 .f32) (d c : Vec Ideal S8192x2048 .f32) : Vec Ideal S8192x2048 .f32 :=
  fun y => back (fun k : Fin 2048 => x (ix2 (y 0) k)) (fun k : Fin 2048 => d (ix2 (y 0) k) * g (ix1 k)) (c (ix2 (y 0) (y 1))) (y 1)

/-- The gradient of the gains: the incoming gradient against the normalised rows. -/
def gains (x d : Vec Ideal S8192x2048 .f32) : Vec Ideal S1x2048 .f32 :=
  fun y => ∑ r : Fin 8192, d (ix2 r (y 1)) * (x (ix2 r (y 1)) * rate fun k : Fin 2048 => x (ix2 r k))

section
variable (x d c : Vec Ideal S256x2048 .f32) (g : Vec Ideal S1x2048 .f32)

theorem pay2_apply (r : Fin 256) (z : Fin 1) : k0_pay2 (F := Ideal) x (ix2 r z) = rate fun k : Fin 2048 => x (ix2 r k) := by
  pointwise [k0_pay2]
  rfl

theorem pay3_apply (r : Fin 256) (j : Fin 2048) :
    k0_pay3 (F := Ideal) x (ix2 r j) = x (ix2 r j) * rate fun k : Fin 2048 => x (ix2 r k) := by
  pointwise [k0_pay3, pay2_apply]

/-- What one point writes of the gradient of the rows. -/
theorem pay4_apply (r : Fin 256) (j : Fin 2048) : k0_pay4 (F := Ideal) x d g c (ix2 r j)
    = back (fun k : Fin 2048 => x (ix2 r k)) (fun k : Fin 2048 => d (ix2 r k) * g (ix2 (0 : Fin 1) k)) (c (ix2 r j)) j := by
  pointwise [k0_pay4, pay3_apply, pay2_apply]
  rfl

theorem pay5_eq : k0_pay5 (F := Ideal) x d g c = k0_pay4 (F := Ideal) x d g c := rfl

/-- One block's part of the gradient of the gains. -/
def part (y : S1x2048.Idx) : EReal := ∑ r : Fin 256, d (ix2 r (y 1)) * (x (ix2 r (y 1)) * rate fun k : Fin 2048 => x (ix2 r k))

theorem zero_apply (y : S1x2048.Idx) : k0_pay6 (F := Ideal) y = 0 := by pointwise [k0_pay6]

/-- One step adds the block's part. -/
theorem pay1_apply (a : Vec Ideal S1x2048 .f32) (y : S1x2048.Idx) : k0_pay1 (F := Ideal) d (k0_pay3 x) a y = a y + part x d y := by
  obtain ⟨z, j, rfl⟩ : ∃ (z : Fin 1) (j : Fin 2048), y = ix2 z j := ⟨y 0, y 1, (ix2_eta y).symm⟩
  pointwise [k0_pay1, pay3_apply]
  rfl

end

variable (m : (ℓ : Loc nD τ sig) → Buf (Elt Ideal) ℓ) (c : Dev nD)

/-- The four arguments, as launched: the rows, the gains, the incoming gradient, and what is added. -/
abbrev argX : Vec Ideal S8192x2048 .f32 := m ((c.tc : Thread nD τ).loc main_arg0)
abbrev argG : Vec Ideal S2048 .f32 := m ((c.tc : Thread nD τ).loc main_arg1)
abbrev argD : Vec Ideal S8192x2048 .f32 := m ((c.tc : Thread nD τ).loc main_arg2)
abbrev argC : Vec Ideal S8192x2048 .f32 := m ((c.tc : Thread nD τ).loc main_arg3)

/-- The gains as the host prepares them: one row. -/
theorem hostG (y : S1x2048.Idx) : (show Vec Ideal S1x2048 .f32 from V m c main_v0) y = argG m c (ix1 (y 1)) := by
  have h : V m c main_v0 = shapeCast S1x2048 (m ((c.tc : Thread nD τ).loc main_arg1)) shapeCasts_S2048_S1x2048 := by
    unfold V; after_results <;> rfl
  rw [h]
  pointwise

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])

/-- The blocks that a point reads, as rows of the arguments. -/
theorem x_eq (t : Fin cfg0.N) (r : Fin 256) (k : Fin 2048) (R : Fin 8192) (hR : R.val = t.val * 256 + r.val) :
    (show Vec Ideal S256x2048 .f32 from iblk m c 0 t) (ix2 r k) = argX m c (ix2 R k) := by
  blk_ext [iblk, V, idx0]

theorem d_eq (t : Fin cfg0.N) (r : Fin 256) (k : Fin 2048) (R : Fin 8192) (hR : R.val = t.val * 256 + r.val) :
    (show Vec Ideal S256x2048 .f32 from iblk m c 2 t) (ix2 r k) = argD m c (ix2 R k) := by
  blk_ext [iblk, V, idx2]

theorem c_eq (t : Fin cfg0.N) (r : Fin 256) (k K : Fin 2048) (R : Fin 8192) (hR : R.val = t.val * 256 + r.val) (hK : K.val = k.val) :
    (show Vec Ideal S256x2048 .f32 from iblk m c 3 t) (ix2 r k) = argC m c (ix2 R K) := by
  blk_ext [iblk, V, idx3]

theorem g_eq (t : Fin cfg0.N) (k : Fin 2048) :
    (show Vec Ideal S1x2048 .f32 from iblk m c 1 t) (ix2 (0 : Fin 1) k) = argG m c (ix1 k) := by
  refine (hostG m c _).trans ?_
  blk_ext [iblk, V, idx1]

/-- What a point leaves in the two blocks of the gradient of the rows. -/
theorem out4 (t : Fin cfg0.N) : (outsAt0 m c t.val t.isLt).1 = k0_pay4 (F := Ideal) (iblk m c 0 t) (iblk m c 2 t) (iblk m c 1 t) (iblk m c 3 t) := by
  by_cases h : t.val % 32 = 0
  · rw [outsAt0_A m c t h]; frame_out
  · rw [outsAt0_B m c t h]; frame_out

theorem out5 (t : Fin cfg0.N) : (outsAt0 m c t.val t.isLt).2.1 = k0_pay5 (F := Ideal) (iblk m c 0 t) (iblk m c 2 t) (iblk m c 1 t) (iblk m c 3 t) := by
  by_cases h : t.val % 32 = 0
  · rw [outsAt0_A m c t h]; frame_out
  · rw [outsAt0_B m c t h]; frame_out

/-- A point's block of the gradient of the rows. -/
theorem block_eq (t : Fin cfg0.N) (r : Fin 256) (j J : Fin 2048) (R : Fin 8192) (hR : R.val = t.val * 256 + r.val) (hJ : J.val = j.val) :
    k0_pay4 (F := Ideal) (iblk m c 0 t) (iblk m c 2 t) (iblk m c 1 t) (iblk m c 3 t) (ix2 r j)
      = rows (argX m c) (argG m c) (argD m c) (argC m c) (ix2 R J) := by
  obtain rfl : J = j := Fin.ext hJ
  have hx := funext fun k => x_eq m c t r k R hR
  have he := funext fun k => congrArg₂ (fun a b : EReal => a * b) (d_eq m c t r k R hR) (g_eq m c t k)
  exact (pay4_apply _ _ _ _ r J).trans (congr (congr (congrArg₂ back hx he) (c_eq m c t r J J R hR rfl)) rfl)

/-- A point's row of the gradient of the gains. -/
theorem term_eq (t : Fin cfg0.N) (r : Fin 256) (j J : Fin 2048) (R : Fin 8192) (hR : R.val = t.val * 256 + r.val) (hJ : J.val = j.val) :
    (show Vec Ideal S256x2048 .f32 from iblk m c 2 t) (ix2 r j) * ((show Vec Ideal S256x2048 .f32 from iblk m c 0 t) (ix2 r j)
        * rate fun k : Fin 2048 => (show Vec Ideal S256x2048 .f32 from iblk m c 0 t) (ix2 r k))
      = argD m c (ix2 R J) * (argX m c (ix2 R J) * rate fun k : Fin 2048 => argX m c (ix2 R k)) := by
  obtain rfl : J = j := Fin.ext hJ
  exact congrArg₂ (fun a b : EReal => a * b) (d_eq m c t r J R hR) (congrArg₂ (fun a b : EReal => a * b) (x_eq m c t r J R hR)
    (congrArg rate (funext fun k => x_eq m c t r k R hR)))

/-- The gradient of the rows, after the run. -/
theorem final_rows : (dats m 0 c).arrAt 4 cfg0.N = rows (argX m c) (argG m c) (argD m c) (argC m c) := by
  refine (dats m 0 c).arrAt_eq_of_covers 4 _ (by decide +kernel) fun t hf y => ?_
  blk_simp
  rw [after0_4, out4]
  rw [← ix2_eta y]
  have e0 : ((win0_4.blk t).view.emb (ix2 (y 0) (y 1)) 0).val = t.val * 256 + (y 0).val := by blk_simp [idx4]
  have e1 : ((win0_4.blk t).view.emb (ix2 (y 0) (y 1)) 1).val = (y 1).val := by blk_simp [idx4]
  exact (block_eq m c t (y 0) (y 1) _ _ e0 e1).trans (congrArg _ (ix2_eta _))

/-- Its rounded copy, after the run: over the extended reals the rounding changes nothing. -/
theorem final_rounded : (dats m 0 c).arrAt 5 cfg0.N = rows (argX m c) (argG m c) (argD m c) (argC m c) := by
  refine (dats m 0 c).arrAt_eq_of_covers 5 _ (by decide +kernel) fun t hf y => ?_
  blk_simp
  rw [after0_5, out5, pay5_eq]
  rw [← ix2_eta y]
  have e0 : ((win0_5.blk t).view.emb (ix2 (y 0) (y 1)) 0).val = t.val * 256 + (y 0).val := by blk_simp [idx5]
  have e1 : ((win0_5.blk t).view.emb (ix2 (y 0) (y 1)) 1).val = (y 1).val := by blk_simp [idx5]
  exact (block_eq m c t (y 0) (y 1) _ _ e0 e1).trans (congrArg _ (ix2_eta _))

/-- The gradient of the gains, after the run. -/
theorem final_gains : (dats m 0 c).arrAt 6 cfg0.N = gains (argX m c) (argD m c) := by
  refine (dats m 0 c).arrAt_eq_of_covers 6 _ (by decide +kernel) fun t hf y => ?_
  blk_simp
  have h : t.val % 32 = 31 := (flush0_6 t).mp hf
  rw [after0_6, Pipeline.eq_sum_fin_of_reset_step_apply_of_flush (fun n h => (outsAt0 m c n h).2.2) 32 (fun _ => 0)
    (fun t => part (iblk m c 0 t) (iblk m c 2 t))
    (fun t h y => by rw [outsAt0_A m c t h]; frame_out; rw [pay1_apply, zero_apply])
    (fun t h y => by rw [outsAt0_B m c t h]; frame_out; rw [pay1_apply]) t h, zero_add]
  have ht : t.val / 32 = 0 := by have hl : t.val < cfg0.N := t.isLt; have hN : cfg0.N = 32 := N_0; omega
  have e1 : ((win0_6.blk t).view.emb y 1).val = (y 1).val := by blk_simp [idx6]
  unfold gains part
  refine Fin.sum_mul_add_congr fun s r hl => term_eq m c _ r (y 1) _ ⟨s.val * 256 + r.val, hl⟩ ?_ e1
  show s.val * 256 + r.val = (32 * (t.val / 32) + s.val) * 256 + r.val
  rw [ht]; omega

end Cert.RowNormGrad

end
-- ==== Proof.NormGradClaims.lean ====
/-
  The claims about the gradient of the normalisation: the frames, and the agreement of the results.
-/
module

public import proofs.«01_k».proof.Defs
public import proofs.«01_k».proof.Proof.NormClaims
public import proofs.«01_k».proof.Proof.NormGradValue
public import proofs.«01_k».proof.Proof.Gen.NormGrad.Frame
public import proofs.«01_k».proof.Proof.Gen.NormGradReferenceIdeal.Run

@[expose] public section

set_option maxRecDepth 16384

noncomputable section

open Idealize.ShloMosaic Idealize.ShloMosaic.TcCoe Idealize.SL.Sem

namespace Cert.RowNormGrad

open Cert.RowNorm (power rate back squares through through_eq powers rates powers_apply rates_apply)

/-- The kernel, on its own words, runs and leaves its arguments as they were. -/
theorem frame_kernel : Cert.quiescent_NormGrad := fun m ρ _ => Cert.NormGrad.Gen.frame m ρ

/-- The kernel over the extended reals runs and leaves its arguments as they were. -/
theorem frame_ideal : Cert.quiescent_NormGradIdeal := fun m ρ _ => Cert.NormGradIdeal.Gen.frame m ρ

/-- The reference runs and leaves its arguments as they were. -/
theorem frame_reference : Cert.quiescent_NormGradReferenceIdeal := fun m ρ _ =>
  (θ_run Cert.NormGradReferenceIdeal.defs _ _).mono (fun r h => ⟨fun c => (h c).2.2.2, sem_eq_zero_of_no_sems (by decide) r.2⟩)
    (Cert.NormGradReferenceIdeal.Value.run (F := Ideal) m ρ)

section reference

open Cert.NormGradReferenceIdeal Cert.NormGradReferenceIdeal.Gen Cert.NormGradReferenceIdeal.Facts

variable (x : FVec Ideal S8192x2048 .f32) (g : FVec Ideal S2048 .f32) (d e : FVec Ideal S8192x2048 .f32)

/-- The reference's gradient of the normalised rows: the incoming gradient times the gains. -/
def scaled : FVec Ideal S8192x2048 .f32 :=
  mulf d (broadcastInDim S8192x2048 ![0, 1] bcast_S1x2048_S8192x2048_0_1 (broadcastInDim S1x2048 ![1] bcast_S2048_S1x2048_1 g))

theorem scaled_apply (r : Fin 8192) (j : Fin 2048) : scaled g d (ix2 r j) = d (ix2 r j) * g (ix1 j) := by
  pointwise [scaled]

/-- The reference's gradient of the squares of the rows. -/
def spread : FVec Ideal S8192 .f32 :=
  Host.reduceAdd (Host.divf (mulf (shapeCast S8192x1 (Host.reduceAdd (mulf x (scaled g d)) (constant (F := Ideal) S_ .f32 0x00000000#32) reducesTo_S8192x2048_S8192_d1 h_S_) shapeCasts_S8192_S8192x1) (mulf (broadcastInDim S8192x1 ![] bcast_S_S8192x1 (constant (F := Ideal) S_ .f32 0xBF000000#32)) (Host.divf (rates x) (powers x)))) (broadcastInDim S8192x1 ![] bcast_S_S8192x1 (constant (F := Ideal) S_ .f32 0x45000000#32))) (constant (F := Ideal) S_ .f32 0x00000000#32) reducesTo_S8192x1_S8192_d1 h_S_

theorem spread_apply (r : Fin 8192) :
    spread x g d (ix1 r) = squares (fun k : Fin 2048 => x (ix2 r k)) (fun k : Fin 2048 => d (ix2 r k) * g (ix1 k)) := by
  pointwise [spread, scaled_apply, rates_apply, powers_apply]
  simp only [Finset.univ_unique, Finset.sum_singleton]
  rfl

/-- The reference's gradient of the rows. -/
def rowsR : FVec Ideal S8192x2048 .f32 :=
  addf (addf (addf e (mulf (scaled g d) (broadcastInDim S8192x2048 ![0, 1] bcast_S8192x1_S8192x2048_0_1 (rates x)))) (mulf x (broadcastInDim S8192x2048 ![0] bcast_S8192_S8192x2048_0 (spread x g d)))) (mulf (broadcastInDim S8192x2048 ![0] bcast_S8192_S8192x2048_0 (spread x g d)) x)

/-- It is the kernel's. -/
theorem rows_eq : rowsR x g d e = rows x g d e := by
  funext i
  obtain ⟨r, j, rfl⟩ : ∃ (r : Fin 8192) (j : Fin 2048), i = ix2 r j := ⟨i 0, i 1, (ix2_eta i).symm⟩
  refine Eq.trans ?_ (through_eq (fun k : Fin 2048 => x (ix2 r k)) (fun k : Fin 2048 => d (ix2 r k) * g (ix1 k)) (e (ix2 r j)) j)
  pointwise [rowsR, scaled_apply, rates_apply, spread_apply]
  rfl

/-- The reference's gradient of the gains. -/
def gainsR : FVec Ideal S1x2048 .f32 :=
  shapeCast S1x2048 (Host.reduceAdd (shapeCast S1x2048 (Host.reduceAdd (mulf (mulf x (broadcastInDim S8192x2048 ![0, 1] bcast_S8192x1_S8192x2048_0_1 (rates x))) d) (constant (F := Ideal) S_ .f32 0x00000000#32) reducesTo_S8192x2048_S2048_d0 h_S_) shapeCasts_S2048_S1x2048) (constant (F := Ideal) S_ .f32 0x00000000#32) reducesTo_S1x2048_S2048_d0 h_S_) shapeCasts_S2048_S1x2048

/-- It is the kernel's. -/
theorem gains_eq : gainsR x d = gains x d := by
  funext i
  obtain ⟨z, j, rfl⟩ : ∃ (z : Fin 1) (j : Fin 2048), i = ix2 z j := ⟨i 0, i 1, (ix2_eta i).symm⟩
  pointwise [gainsR, rates_apply]
  simp only [Finset.univ_unique, Finset.sum_singleton]
  exact Finset.sum_congr rfl fun r _ => mul_comm _ _

end reference

/-- The kernel's results are the reference's. -/
theorem algebraic : Cert.algebraic_NormGradIdeal_NormGradReferenceIdeal := fun m ρ m' ρ' _ hag => by
  refine ⟨fun c => rows (argX m c) (argG m c) (argD m c) (argC m c), fun c => rows (argX m c) (argG m c) (argD m c) (argC m c),
    fun c => gains (argX m c) (argD m c), ?_, ?_⟩
  · refine (θ_run Cert.NormGradIdeal.defs _ _).mono (fun r h c => ?_) (Cert.NormGradIdeal.Value.run_blocks (F := Ideal) m ρ)
    exact ⟨(h c).1.trans (final_rows m c), (h c).2.1.trans (final_rounded m c), (h c).2.2.1.trans (final_gains m c), (h c).2.2.2⟩
  · refine (θ_run Cert.NormGradReferenceIdeal.defs _ _).mono (fun r h c => ?_) (Cert.NormGradReferenceIdeal.Value.run (F := Ideal) m' ρ')
    obtain ⟨a0, a1, a2, a3⟩ := hag c
    refine ⟨(h c).1.trans ?_, (h c).2.1.trans ?_, (h c).2.2.1.trans ?_, (h c).2.2.2⟩
    · rw [a0, a1, a2, a3]; exact rows_eq _ _ _ _
    · rw [a0, a1, a2, a3]; exact rows_eq _ _ _ _
    · rw [a0, a2]; exact gains_eq _ _

end Cert.RowNormGrad

end
-- ==== Proof.lean ====
/-
  The certificate: every claim of Defs.lean, each from the module that proves it.
-/
module

public import proofs.«01_k».proof.Proof.Gen.Swiglu.Frame
public import proofs.«01_k».proof.Proof.Gen.SwigluIdeal.Frame
public import proofs.«01_k».proof.Proof.Gen.SwigluIdeal.Value
public import proofs.«01_k».proof.Proof.Gen.SwigluReferenceIdeal.Run
public import proofs.«01_k».proof.Proof.Gen.UpGrad.Frame
public import proofs.«01_k».proof.Proof.Gen.UpGradIdeal.Frame
public import proofs.«01_k».proof.Proof.Gen.UpGradIdeal.Value
public import proofs.«01_k».proof.Proof.Gen.UpGradReferenceIdeal.Run
public import proofs.«01_k».proof.Proof.Gen.HiddenGrad.Frame
public import proofs.«01_k».proof.Proof.Gen.HiddenGradIdeal.Frame
public import proofs.«01_k».proof.Proof.Gen.HiddenGradIdeal.Value
public import proofs.«01_k».proof.Proof.Gen.HiddenGradReferenceIdeal.Run
public import proofs.«01_k».proof.Proof.Gen.DownGrad.Frame
public import proofs.«01_k».proof.Proof.Gen.DownGradIdeal.Frame
public import proofs.«01_k».proof.Proof.Gen.DownGradIdeal.Value
public import proofs.«01_k».proof.Proof.Gen.DownGradReferenceIdeal.Run
public import proofs.«01_k».proof.Proof.Gen.OutGrad.Frame
public import proofs.«01_k».proof.Proof.Gen.OutGradIdeal.Frame
public import proofs.«01_k».proof.Proof.Gen.OutGradIdeal.Value
public import proofs.«01_k».proof.Proof.Gen.OutGradReferenceIdeal.Run
public import proofs.«01_k».proof.Proof.Gen.Up.Frame
public import proofs.«01_k».proof.Proof.Gen.UpIdeal.Frame
public import proofs.«01_k».proof.Proof.Gen.UpIdeal.Value
public import proofs.«01_k».proof.Proof.Gen.UpReferenceIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Gen.Proj.Frame
public import proofs.«01_k».proof.Proof.Gen.ProjIdeal.Frame
public import proofs.«01_k».proof.Proof.Gen.ProjIdeal.Value
public import proofs.«01_k».proof.Proof.Gen.ProjReferenceIdeal.Run
public import proofs.«01_k».proof.Proof.Gen.Out.Frame
public import proofs.«01_k».proof.Proof.Gen.OutIdeal.Frame
public import proofs.«01_k».proof.Proof.Gen.OutIdeal.Value
public import proofs.«01_k».proof.Proof.Gen.OutReferenceIdeal.Run
public import proofs.«01_k».proof.Proof.Gen.Gla.Frame
public import proofs.«01_k».proof.Proof.Gen.GlaIdeal.Frame
public import proofs.«01_k».proof.Proof.Gen.GlaIdeal.Value
public import proofs.«01_k».proof.Proof.Gen.GlaReferenceIdeal.Run
public import proofs.«01_k».proof.Proof.Gen.GlaReferenceIdeal.Step
public import proofs.«01_k».proof.Proof.Gen.MemForward.Frame
public import proofs.«01_k».proof.Proof.Gen.MemForwardIdeal.Frame
public import proofs.«01_k».proof.Proof.Gen.MemForwardIdeal.Value
public import proofs.«01_k».proof.Proof.Gen.MemForwardReferenceIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormReferenceIdeal.Run
public import proofs.«01_k».proof.Proof.Gen.NormGrad.Frame
public import proofs.«01_k».proof.Proof.Gen.NormGradIdeal.Frame
public import proofs.«01_k».proof.Proof.Gen.NormGradIdeal.Value
public import proofs.«01_k».proof.Proof.Gen.NormGradReferenceIdeal.Run
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvReferenceIdeal.Run
public import proofs.«01_k».proof.Proof.Gen.KvWeightGrad.Frame
public import proofs.«01_k».proof.Proof.Gen.KvWeightGradIdeal.Frame
public import proofs.«01_k».proof.Proof.Gen.KvWeightGradIdeal.Value
public import proofs.«01_k».proof.Proof.Gen.KvWeightGradReferenceIdeal.Run
public import proofs.«01_k».proof.Proof.Gen.KvInputGrad.Frame
public import proofs.«01_k».proof.Proof.Gen.KvInputGradIdeal.Frame
public import proofs.«01_k».proof.Proof.Gen.KvInputGradIdeal.Value
public import proofs.«01_k».proof.Proof.Gen.KvInputGradReferenceIdeal.Run
public import proofs.«01_k».proof.Proof.KvInputGradClaims
public import proofs.«01_k».proof.Proof.Gen.GlaForward.Frame
public import proofs.«01_k».proof.Proof.Gen.GlaForwardIdeal.Frame
public import proofs.«01_k».proof.Proof.Gen.GlaForwardIdeal.Value
public import proofs.«01_k».proof.Proof.Gen.GlaForwardReferenceIdeal.Run
public import proofs.«01_k».proof.Proof.Gen.GlaForwardReferenceIdeal.Step
public import proofs.«01_k».proof.Proof.GlaForwardClaims
public import proofs.«01_k».proof.Proof.MemForwardClaims
public import proofs.«01_k».proof.Proof.NormGradClaims

@[expose] public section

noncomputable section

namespace Cert.Proof

/-- Everything claimed. -/
theorem claim : Cert.Claim := ⟨
  Cert.Kernel.Gen.facts, Cert.KernelIdeal.Gen.facts, Cert.ReferenceIdeal.Gen.facts,
  Cert.Swiglu.Gen.facts, Cert.SwigluIdeal.Gen.facts, Cert.SwigluReferenceIdeal.Gen.facts,
  Cert.UpGrad.Gen.facts, Cert.UpGradIdeal.Gen.facts, Cert.UpGradReferenceIdeal.Gen.facts,
  Cert.HiddenGrad.Gen.facts, Cert.HiddenGradIdeal.Gen.facts, Cert.HiddenGradReferenceIdeal.Gen.facts,
  Cert.DownGrad.Gen.facts, Cert.DownGradIdeal.Gen.facts, Cert.DownGradReferenceIdeal.Gen.facts,
  Cert.OutGrad.Gen.facts, Cert.OutGradIdeal.Gen.facts, Cert.OutGradReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Proj.Gen.facts, Cert.ProjIdeal.Gen.facts, Cert.ProjReferenceIdeal.Gen.facts,
  Cert.Out.Gen.facts, Cert.OutIdeal.Gen.facts, Cert.OutReferenceIdeal.Gen.facts,
  Cert.Gla.Gen.facts, Cert.GlaIdeal.Gen.facts, Cert.GlaReferenceIdeal.Gen.facts,
  Cert.MemForward.Gen.facts, Cert.MemForwardIdeal.Gen.facts, Cert.MemForwardReferenceIdeal.Gen.facts,
  Cert.Norm.Gen.facts, Cert.NormIdeal.Gen.facts, Cert.NormReferenceIdeal.Gen.facts,
  Cert.NormGrad.Gen.facts, Cert.NormGradIdeal.Gen.facts, Cert.NormGradReferenceIdeal.Gen.facts,
  Cert.MemKv.Gen.facts, Cert.MemKvIdeal.Gen.facts, Cert.MemKvReferenceIdeal.Gen.facts,
  Cert.KvWeightGrad.Gen.facts, Cert.KvWeightGradIdeal.Gen.facts, Cert.KvWeightGradReferenceIdeal.Gen.facts,
  Cert.KvInputGrad.Gen.facts, Cert.KvInputGradIdeal.Gen.facts, Cert.KvInputGradReferenceIdeal.Gen.facts,
  Cert.GlaForward.Gen.facts, Cert.GlaForwardIdeal.Gen.facts, Cert.GlaForwardReferenceIdeal.Gen.facts,
  Cert.Pre_finite.facts, Cert.Pre_finite_swiglu.facts, Cert.Pre_finite_mem.facts,
  Cert.Mem.frame_kernel, Cert.Mem.frame_ideal, Cert.Mem.frame_ideal_finite, Cert.Mem.frame_reference, Cert.Mem.frame_reference_finite,
  Cert.SwigluProof.frame_kernel, Cert.SwigluProof.frame_ideal, Cert.SwigluProof.frame_ideal_finite, Cert.SwigluProof.frame_reference, Cert.SwigluProof.frame_reference_finite,
  Cert.UpGradProof.frame_kernel, Cert.UpGradProof.frame_ideal, Cert.UpGradProof.frame_reference,
  Cert.HiddenGradProof.frame_kernel, Cert.HiddenGradProof.frame_ideal, Cert.HiddenGradProof.frame_reference,
  Cert.DownGradProof.frame_kernel, Cert.DownGradProof.frame_ideal, Cert.DownGradProof.frame_reference,
  Cert.OutGradProof.frame_kernel, Cert.OutGradProof.frame_ideal, Cert.OutGradProof.frame_reference,
  Cert.UpProof.frame_kernel, Cert.UpProof.frame_ideal, Cert.UpProof.frame_reference,
  Cert.DownProof.frame_kernel, Cert.DownProof.frame_ideal, Cert.DownProof.frame_reference,
  Cert.ProjProof.frame_kernel, Cert.ProjProof.frame_ideal, Cert.ProjProof.frame_reference,
  Cert.OutProof.frame_kernel, Cert.OutProof.frame_ideal, Cert.OutProof.frame_reference,
  Cert.GlaProof.frame_kernel, Cert.GlaProof.frame_ideal, Cert.GlaProof.frame_reference,
  Cert.Forward.frame_kernel, Cert.Forward.frame_ideal, Cert.Forward.frame_ideal_finite, Cert.Forward.frame_reference, Cert.Forward.frame_reference_finite,
  Cert.RowNorm.frame_kernel, Cert.RowNorm.frame_ideal, Cert.RowNorm.frame_reference,
  Cert.RowNormGrad.frame_kernel, Cert.RowNormGrad.frame_ideal, Cert.RowNormGrad.frame_reference,
  Cert.MemKvProof.frame_kernel, Cert.MemKvProof.frame_ideal, Cert.MemKvProof.frame_reference,
  Cert.KvWeightGradProof.frame_kernel, Cert.KvWeightGradProof.frame_ideal, Cert.KvWeightGradProof.frame_reference,
  Cert.KvInputGradProof.frame_kernel, Cert.KvInputGradProof.frame_ideal, Cert.KvInputGradProof.frame_reference,
  Cert.GlaForwardProof.frame_kernel, Cert.GlaForwardProof.frame_ideal, Cert.GlaForwardProof.frame_reference,
  trivial, Cert.Mem.algebraic, trivial, Cert.SwigluProof.algebraic, trivial, Cert.UpGradProof.algebraic,
  trivial, Cert.HiddenGradProof.algebraic, trivial, Cert.DownGradProof.algebraic, trivial, Cert.OutGradProof.algebraic,
  trivial, Cert.UpProof.algebraic, trivial, Cert.DownProof.algebraic, trivial, Cert.ProjProof.algebraic,
  trivial, Cert.OutProof.algebraic, trivial, Cert.GlaProof.algebraic,
  trivial, Cert.Forward.algebraic, trivial, Cert.RowNorm.algebraic, trivial, Cert.RowNormGrad.algebraic,
  trivial, Cert.MemKvProof.algebraic, trivial, Cert.KvWeightGradProof.algebraic, trivial, Cert.KvInputGradProof.algebraic,
  trivial, Cert.GlaForwardProof.algebraic⟩

end Cert.Proof

end
